-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_numbers [hPre_numbers : Cert.Pre_numbers.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_numbers.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).1 = (fun _ => 1#1)
    ∧ (Cert.Pre_numbers.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.1 = (fun _ => 1#1)
    ∧ (Cert.Pre_numbers.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.1 = (fun _ => 1#1)
    ∧ (Cert.Pre_numbers.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_numbers [hPre_numbers : Cert.Pre_numbers.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_numbers.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).1 = (fun _ => 1#1)
    ∧ (Cert.Pre_numbers.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.1 = (fun _ => 1#1)
    ∧ (Cert.Pre_numbers.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.1 = (fun _ => 1#1)
    ∧ (Cert.Pre_numbers.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_numbers [hKernel5Ideal : Cert.Kernel5Ideal.Facts] [hPre_numbers : Cert.Pre_numbers.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_numbers m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_numbers [hReference5Ideal : Cert.Reference5Ideal.Facts] [hPre_numbers : Cert.Pre_numbers.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_numbers m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v8_0)) (v2 : (c : Dev Cert.KernelIdeal.nD) → Buf (Elt Ideal) ((c.tc : Thread Cert.KernelIdeal.nD Cert.KernelIdeal.τ).loc Cert.KernelIdeal.main_v8_1)) (v3 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_v8_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_numbers [hKernel5Ideal : Cert.Kernel5Ideal.Facts] [hReference5Ideal : Cert.Reference5Ideal.Facts] [hPre_numbers : Cert.Pre_numbers.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_numbers m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_6) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v105) = v0 c
          ∧ r.2.mem ((c.tc : Thread Cert.Reference5Ideal.nD Cert.Reference5Ideal.τ).loc Cert.Reference5Ideal.main_v113) = v1 c
          ∧ r.2.mem ((c.tc : Thread Cert.Reference5Ideal.nD Cert.Reference5Ideal.τ).loc Cert.Reference5Ideal.main_v111) = v2 c
          ∧ r.2.mem ((c.tc : Thread Cert.Reference5Ideal.nD Cert.Reference5Ideal.τ).loc Cert.Reference5Ideal.main_v114) = v3 c
          ∧ r.2.mem ((c.tc : Thread Cert.Reference5Ideal.nD Cert.Reference5Ideal.τ).loc Cert.Reference5Ideal.main_v91) = v4 c
          ∧ r.2.mem ((c.tc : Thread Cert.Reference5Ideal.nD Cert.Reference5Ideal.τ).loc Cert.Reference5Ideal.main_v192) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v8) = v2 c
          ∧ r.2.mem ((c.tc : Thread Cert.Reference6Ideal.nD Cert.Reference6Ideal.τ).loc Cert.Reference6Ideal.main_v14) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v7) = v2 c
          ∧ r.2.mem ((c.tc : Thread Cert.Reference7Ideal.nD Cert.Reference7Ideal.τ).loc Cert.Reference7Ideal.main_v13) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v26) = v1 c
          ∧ r.2.mem ((c.tc : Thread Cert.Reference10Ideal.nD Cert.Reference10Ideal.τ).loc Cert.Reference10Ideal.main_v7) = v2 c
          ∧ r.2.mem ((c.tc : Thread Cert.Reference10Ideal.nD Cert.Reference10Ideal.τ).loc Cert.Reference10Ideal.main_v13) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v26) = v1 c
          ∧ r.2.mem ((c.tc : Thread Cert.Reference11Ideal.nD Cert.Reference11Ideal.τ).loc Cert.Reference11Ideal.main_v7) = v2 c
          ∧ r.2.mem ((c.tc : Thread Cert.Reference11Ideal.nD Cert.Reference11Ideal.τ).loc Cert.Reference11Ideal.main_v13) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_numbers : Cert.Pre_numbers.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_numbers (hKernel5Ideal := hKernel5Ideal) (hPre_numbers := hPre_numbers)
    ∧ quiescent_Reference5Ideal (hReference5Ideal := hReference5Ideal)
    ∧ quiescent_Reference5Ideal_pre_numbers (hReference5Ideal := hReference5Ideal) (hPre_numbers := hPre_numbers)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_numbers (hKernel5Ideal := hKernel5Ideal) (hReference5Ideal := hReference5Ideal) (hPre_numbers := hPre_numbers)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8x4096x192 : Shape := ⟨3, ![8, 4096, 192]⟩
abbrev S8x4096x128 : Shape := ⟨3, ![8, 4096, 128]⟩
abbrev S4096x1024 : Shape := ⟨2, ![4096, 1024]⟩
abbrev S_ : Shape := ⟨0, ![]⟩

class Facts : Prop where
  bcast_S_S8x4096x192 : S_.BroadcastsInDim S8x4096x192 (![] : Fin 0 → Fin S8x4096x192.rank)
  bcast_S_S8x4096x128 : S_.BroadcastsInDim S8x4096x128 (![] : Fin 0 → Fin S8x4096x128.rank)
  bcast_S_S4096x1024 : S_.BroadcastsInDim S4096x1024 (![] : Fin 0 → Fin S4096x1024.rank)

variable [Facts]

def fn {F : FTy → Type} [FloatOps F] (main_arg0 : FVec F S8x4096x192 .bf16) (main_arg1 : FVec F S8x4096x192 .bf16) (main_arg2 : FVec F S8x4096x128 .bf16) (main_arg3 : FVec F S4096x1024 .bf16) : IVec S8x4096x192 1 × IVec S8x4096x192 1 × IVec S8x4096x128 1 × IVec S4096x1024 1 :=
  let main_v0 : FVec F S8x4096x192 .bf16 := Host.absf main_arg0
  let main_cst : FVec F S_ .bf16 := constant S_ .bf16 0x7F80#16
  let main_v1 : FVec F S8x4096x192 .bf16 := broadcastInDim S8x4096x192 ![] bcast_S_S8x4096x192 main_cst
  let main_v2 : IVec S8x4096x192 1 := cmpf .olt main_v0 main_v1
  let main_v3 : FVec F S8x4096x192 .bf16 := Host.absf main_arg1
  let main_cst_0 : FVec F S_ .bf16 := constant S_ .bf16 0x7F80#16
  let main_v4 : FVec F S8x4096x192 .bf16 := broadcastInDim S8x4096x192 ![] bcast_S_S8x4096x192 main_cst_0
  let main_v5 : IVec S8x4096x192 1 := cmpf .olt main_v3 main_v4
  let main_v6 : FVec F S8x4096x128 .bf16 := Host.absf main_arg2
  let main_cst_1 : FVec F S_ .bf16 := constant S_ .bf16 0x7F80#16
  let main_v7 : FVec F S8x4096x128 .bf16 := broadcastInDim S8x4096x128 ![] bcast_S_S8x4096x128 main_cst_1
  let main_v8 : IVec S8x4096x128 1 := cmpf .olt main_v6 main_v7
  let main_v9 : FVec F S4096x1024 .bf16 := Host.absf main_arg3
  let main_cst_2 : FVec F S_ .bf16 := constant S_ .bf16 0x7F80#16
  let main_v10 : FVec F S4096x1024 .bf16 := broadcastInDim S4096x1024 ![] bcast_S_S4096x1024 main_cst_2
  let main_v11 : IVec S4096x1024 1 := cmpf .olt main_v9 main_v10
  (main_v2, main_v5, main_v8, main_v11)
-- ==== Pre_numbers.lean ====
abbrev S4096x1024 : Shape := ⟨2, ![4096, 1024]⟩
abbrev S4096x7168 : Shape := ⟨2, ![4096, 7168]⟩
abbrev S8x1024 : Shape := ⟨2, ![8, 1024]⟩
abbrev S1x1024 : Shape := ⟨2, ![1, 1024]⟩
abbrev S8x384x1024 : Shape := ⟨3, ![8, 384, 1024]⟩
abbrev S_ : Shape := ⟨0, ![]⟩
abbrev S8x128x1024 : Shape := ⟨3, ![8, 128, 1024]⟩

class Facts : Prop where
  bcast_S_S4096x1024 : S_.BroadcastsInDim S4096x1024 (![] : Fin 0 → Fin S4096x1024.rank)
  slices_S8x1024_S1x1024_2_0 : S8x1024.Slices ![2, 0] S1x1024
  bcast_S_S1x1024 : S_.BroadcastsInDim S1x1024 (![] : Fin 0 → Fin S1x1024.rank)
  slices_S8x384x1024_S8x128x1024_0_256_0 : S8x384x1024.Slices ![0, 256, 0] S8x128x1024
  bcast_S_S8x128x1024 : S_.BroadcastsInDim S8x128x1024 (![] : Fin 0 → Fin S8x128x1024.rank)

variable [Facts]

def fn {F : FTy → Type} [FloatOps F] (main_arg0 : FVec F S4096x1024 .f32) (main_arg1 : FVec F S4096x1024 .f32) (main_arg2 : FVec F S4096x1024 .bf16) (main_arg3 : FVec F S4096x1024 .f32) (main_arg4 : FVec F S4096x7168 .bf16) (main_arg5 : FVec F S8x1024 .f32) (main_arg6 : FVec F S1x1024 .f32) (main_arg7 : FVec F S8x384x1024 .bf16) : IVec S4096x1024 1 × IVec S1x1024 1 × IVec S1x1024 1 × IVec S8x128x1024 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := (extractStridedSlice S1x1024 ![2, 0] · slices_S8x1024_S1x1024_2_0) main_arg5
  let main_v4 : FVec F S1x1024 .f32 := Host.absf main_v3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S1x1024 .f32 := Host.absf main_arg6
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S8x128x1024 .bf16 := (extractStridedSlice S8x128x1024 ![0, 256, 0] · slices_S8x384x1024_S8x128x1024_0_256_0) main_arg7
  let main_v11 : FVec F S8x128x1024 .bf16 := Host.absf main_v10
  let main_cst_2 : FVec F S_ .bf16 := constant S_ .bf16 0x7F80#16
  let main_v12 : FVec F S8x128x1024 .bf16 := broadcastInDim S8x128x1024 ![] bcast_S_S8x128x1024 main_cst_2
  let main_v13 : IVec S8x128x1024 1 := cmpf .olt main_v11 main_v12
  (main_v2, main_v6, main_v9, main_v13)
-- ==== Kernel.lean ====
abbrev S8x4096x192 : Shape := ⟨3, ![8, 4096, 192]⟩
abbrev S8x4096x128 : Shape := ⟨3, ![8, 4096, 128]⟩
abbrev S4096x1024 : Shape := ⟨2, ![4096, 1024]⟩
abbrev S1x1024x192 : Shape := ⟨3, ![1, 1024, 192]⟩
abbrev S1x4096x192 : Shape := ⟨3, ![1, 4096, 192]⟩
abbrev S1x4096x128 : Shape := ⟨3, ![1, 4096, 128]⟩
abbrev S1024x128 : Shape := ⟨2, ![1024, 128]⟩
abbrev S1x1024x128 : Shape := ⟨3, ![1, 1024, 128]⟩
abbrev S1024x192 : Shape := ⟨2, ![1024, 192]⟩
abbrev S1024x1 : Shape := ⟨2, ![1024, 1]⟩
abbrev S1024x1024 : Shape := ⟨2, ![1024, 1024]⟩
abbrev S1024 : Shape := ⟨1, ![1024]⟩
abbrev S4096x8x128 : Shape := ⟨3, ![4096, 8, 128]⟩
abbrev S_ : Shape := ⟨0, ![]⟩
abbrev S4096x8 : Shape := ⟨2, ![4096, 8]⟩
abbrev S8x4096 : Shape := ⟨2, ![8, 4096]⟩
abbrev S8x4096x1 : Shape := ⟨3, ![8, 4096, 1]⟩
abbrev S4096x128 : Shape := ⟨2, ![4096, 128]⟩
abbrev S1x1024x1 : Shape := ⟨3, ![1, 1024, 1]⟩

abbrev nBuf : Space → Nat
  | .hbm => 17
  | .vmem => 28
  | .smem => 0
  | _ => 0

abbrev bufTy : (tb : Table) → Fin (tcTables nBuf tb) → BufTy
  | .hbm, ⟨0, _⟩ => ⟨S8x4096x192, .bf16⟩
  | .hbm, ⟨1, _⟩ => ⟨S8x4096x192, .bf16⟩
  | .hbm, ⟨2, _⟩ => ⟨S8x4096x128, .bf16⟩
  | .hbm, ⟨3, _⟩ => ⟨S4096x1024, .bf16⟩
  | .hbm, ⟨4, _⟩ => ⟨S4096x1024, .f32⟩
  | .hbm, ⟨5, _⟩ => ⟨S8x4096x128, .f32⟩
  | .hbm, ⟨6, _⟩ => ⟨S4096x1024, .f32⟩
  | .hbm, ⟨7, _⟩ => ⟨S4096x1024, .f32⟩
  | .hbm, ⟨8, _⟩ => ⟨S4096x8x128, .f32⟩
  | .hbm, ⟨9, _⟩ => ⟨S_, .f32⟩
  | .hbm, ⟨10, _⟩ => ⟨S4096x8, .f32⟩
  | .hbm, ⟨11, _⟩ => ⟨S8x4096, .f32⟩
  | .hbm, ⟨12, _⟩ => ⟨S8x4096x1, .f32⟩
  | .hbm, ⟨13, _⟩ => ⟨S8x4096x128, .f32⟩
  | .hbm, ⟨14, _⟩ => ⟨S8x4096x192, .f32⟩
  | .hbm, ⟨15, _⟩ => ⟨S8x4096x192, .f32⟩
  | .hbm, ⟨16, _⟩ => ⟨S8x4096x128, .f32⟩
  | .local _ .vmem, ⟨0, _⟩ => ⟨S1x1024x192, .bf16⟩
  | .local _ .vmem, ⟨1, _⟩ => ⟨S1x1024x192, .bf16⟩
  | .local _ .vmem, ⟨2, _⟩ => ⟨S1x4096x192, .bf16⟩
  | .local _ .vmem, ⟨3, _⟩ => ⟨S1x4096x192, .bf16⟩
  | .local _ .vmem, ⟨4, _⟩ => ⟨S1x4096x128, .bf16⟩
  | .local _ .vmem, ⟨5, _⟩ => ⟨S1x4096x128, .bf16⟩
  | .local _ .vmem, ⟨6, _⟩ => ⟨S1024x128, .f32⟩
  | .local _ .vmem, ⟨7, _⟩ => ⟨S1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x4096x192, .bf16⟩
  | .local _ .vmem, ⟨11, _⟩ => ⟨S1x4096x192, .bf16⟩
  | .local _ .vmem, ⟨12, _⟩ => ⟨S1x1024x192, .bf16⟩
  | .local _ .vmem, ⟨13, _⟩ => ⟨S1x1024x192, .bf16⟩
  | .local _ .vmem, ⟨14, _⟩ => ⟨S1x1024x128, .bf16⟩
  | .local _ .vmem, ⟨15, _⟩ => ⟨S1x1024x128, .bf16⟩
  | .local _ .vmem, ⟨16, _⟩ => ⟨S4096x128, .bf16⟩
  | .local _ .vmem, ⟨17, _⟩ => ⟨S4096x128, .bf16⟩
  | .local _ .vmem, ⟨18, _⟩ => ⟨S1x4096x128, .f32⟩
  | .local _ .vmem, ⟨19, _⟩ => ⟨S1x4096x128, .f32⟩
  | .local _ .vmem, ⟨20, _⟩ => ⟨S1x4096x128, .f32⟩
  | .local _ .vmem, ⟨21, _⟩ => ⟨S1x4096x128, .f32⟩
  | .local _ .vmem, ⟨22, _⟩ => ⟨S1x4096x192, .f32⟩
  | .local _ .vmem, ⟨23, _⟩ => ⟨S1x4096x192, .f32⟩
  | .local _ .vmem, ⟨24, _⟩ => ⟨S1x1024x192, .f32⟩
  | .local _ .vmem, ⟨25, _⟩ => ⟨S1x1024x192, .f32⟩
  | .local _ .vmem, ⟨26, _⟩ => ⟨S1x1024x128, .f32⟩
  | .local _ .vmem, ⟨27, _⟩ => ⟨S1x1024x128, .f32⟩
  | _, _ => ⟨S8x4096x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  ⟨c0_i32, v9, c1_i32_4⟩
def k0_mult1 (i : grid0.Coords) (k0_t1 : Fin (k0_t1_loop i).trips) : BitVec 32 :=
  let c0_i32 : BitVec 32 := 0#32
  let c1_i32_4 : BitVec 32 := 1#32
  let arg7 : BitVec 32 := Scf.iv c0_i32 c1_i32_4 k0_t1
  let c1024_i32_20 : BitVec 32 := 1024#32
  let v53 : BitVec 32 := Scalar.muli arg7 c1024_i32_20
  v53
def k0_off1 (i : grid0.Coords) (k0_t1 : Fin (k0_t1_loop i).trips) : Fin 3 → Nat :=
  let c0_21 : Index := 0#32
  let c0_i32 : BitVec 32 := 0#32
  let c1_i32_4 : BitVec 32 := 1#32
  let arg7 : BitVec 32 := Scf.iv c0_i32 c1_i32_4 k0_t1
  let c1024_i32_20 : BitVec 32 := 1024#32
  let v53 : BitVec 32 := Scalar.muli arg7 c1024_i32_20
  let v54 : BitVec 32 := v53
  let v55 : Index := Scalar.indexCast v54
  let c0_22 : Index := 0#32
  ![0, v55.toNat, 0]
def k0_off2 (i : grid0.Coords) (k0_t1 : Fin (k0_t1_loop i).trips) : Fin 3 → Nat :=
  let c0_26 : Index := 0#32
  let c0_i32 : BitVec 32 := 0#32
  let c1_i32_4 : BitVec 32 := 1#32
  let arg7 : BitVec 32 := Scf.iv c0_i32 c1_i32_4 k0_t1
  let c1024_i32_20 : BitVec 32 := 1024#32
  let v53 : BitVec 32 := Scalar.muli arg7 c1024_i32_20
  let v54 : BitVec 32 := v53
  let v74 : Index := Scalar.indexCast v54
  let c0_27 : Index := 0#32
  ![0, v74.toNat, 0]
@[reducible] def k0_t2_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let v6 : BitVec 32 := Scalar.addi c0_i32 v5
  let c1_i32_5 : BitVec 32 := 1#32
  ⟨v9, v6, c1_i32_5⟩
def k0_mult2 (i : grid0.Coords) (k0_t2 : Fin (k0_t2_loop i).trips) : BitVec 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg7 : BitVec 32 := Scf.iv v9 c1_i32_5 k0_t2
  let c1024_i32_20 : BitVec 32 := 1024#32
  let v53 : BitVec 32 := Scalar.muli arg7 c1024_i32_20
  v53
def k0_off3 (i : grid0.Coords) (k0_t2 : Fin (k0_t2_loop i).trips) : Fin 3 → Nat :=
  let c0_21 : Index := 0#32
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg7 : BitVec 32 := Scf.iv v9 c1_i32_5 k0_t2
  let c1024_i32_20 : BitVec 32 := 1024#32
  let v53 : BitVec 32 := Scalar.muli arg7 c1024_i32_20
  let v54 : BitVec 32 := v53
  let v55 : Index := Scalar.indexCast v54
  let c0_22 : Index := 0#32
  ![0, v55.toNat, 0]
def k0_off4 (i : grid0.Coords) (k0_t2 : Fin (k0_t2_loop i).trips) : Fin 3 → Nat :=
  let c0_26 : Index := 0#32
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg7 : BitVec 32 := Scf.iv v9 c1_i32_5 k0_t2
  let c1024_i32_20 : BitVec 32 := 1024#32
  let v53 : BitVec 32 := Scalar.muli arg7 c1024_i32_20
  let v54 : BitVec 32 := v53
  let v74 : Index := Scalar.indexCast v54
  let c0_27 : Index := 0#32
  ![0, v74.toNat, 0]
def k0_mult3 (i : grid0.Coords) : BitVec 32 :=
  let arg1 : BitVec 32 := BitVec.ofNat 32 (i 1).val
  let c1024_i32 : BitVec 32 := 1024#32
  let v12 : BitVec 32 := Scalar.muli arg1 c1024_i32
  v12
def k0_off5 (i : grid0.Coords) : Fin 3 → Nat :=
  let c0_6 : Index := 0#32
  let arg1 : BitVec 32 := BitVec.ofNat 32 (i 1).val
  let c1024_i32 : BitVec 32 := 1024#32
  let v12 : BitVec 32 := Scalar.muli arg1 c1024_i32
  let v13 : BitVec 32 := v12
  let v14 : Index := Scalar.indexCast v13
  let c0_7 : Index := 0#32
  ![0, v14.toNat, 0]
def k0_off6 (i : grid0.Coords) : Fin 3 → Nat :=
  let c0_12 : Index := 0#32
  let arg1 : BitVec 32 := BitVec.ofNat 32 (i 1).val
  let c1024_i32 : BitVec 32 := 1024#32
  let v12 : BitVec 32 := Scalar.muli arg1 c1024_i32
  let v13 : BitVec 32 := v12
  let v38 : Index := Scalar.indexCast v13
  let c0_13 : Index := 0#32
  ![0, v38.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 4], ![false, false]⟩

def k1_mult1 (i : grid1.Coords) : BitVec 32 :=
  let arg1 : BitVec 32 := BitVec.ofNat 32 (i 1).val
  let c1024_i32 : BitVec 32 := 1024#32
  let v9 : BitVec 32 := Scalar.muli arg1 c1024_i32
  v9
def k1_off1 (i : grid1.Coords) : Fin 3 → Nat :=
  let c0_7 : Index := 0#32
  let arg1 : BitVec 32 := BitVec.ofNat 32 (i 1).val
  let c1024_i32 : BitVec 32 := 1024#32
  let v9 : BitVec 32 := Scalar.muli arg1 c1024_i32
  let v10 : BitVec 32 := v9
  let v11 : Index := Scalar.indexCast v10
  let c0_8 : Index := 0#32
  ![0, v11.toNat, 0]
def k1_off2 (i : grid1.Coords) : Fin 2 → Nat :=
  let arg1 : BitVec 32 := BitVec.ofNat 32 (i 1).val
  let c1024_i32 : BitVec 32 := 1024#32
  let v9 : BitVec 32 := Scalar.muli arg1 c1024_i32
  let v10 : BitVec 32 := v9
  let v14 : Index := Scalar.indexCast v10
  let c0_9 : Index := 0#32
  ![v14.toNat, 0]
def k1_off3 (i : grid1.Coords) : Fin 3 → Nat :=
  let c0_12 : Index := 0#32
  let arg1 : BitVec 32 := BitVec.ofNat 32 (i 1).val
  let c1024_i32 : BitVec 32 := 1024#32
  let v9 : BitVec 32 := Scalar.muli arg1 c1024_i32
  let v10 : BitVec 32 := v9
  let v22 : Index := Scalar.indexCast v10
  let c0_13 : Index := 0#32
  ![0, v22.toNat, 0]
@[reducible] def k1_t1_loop (i : grid1.Coords) : Scf.Loop 32 :=
  let arg1 : BitVec 32 := BitVec.ofNat 32 (i 1).val
  let c1_i32 : BitVec 32 := 1#32
  let v50 : BitVec 32 := Scalar.addi arg1 c1_i32
  let c4_i32 : BitVec 32 := 4#32
  let v51 : BitVec 32 := Scalar.subi c4_i32 v50
  let c1_i32_24 : BitVec 32 := 1#32
  let v53 : BitVec 32 := Scalar.divsi v51 c1_i32_24
  let v54 : BitVec 32 := Scalar.muli v53 c1_i32_24
  let v55 : BitVec 32 := Scalar.addi v50 v54
  let c1_i32_25 : BitVec 32 := 1#32
  ⟨v50, v55, c1_i32_25⟩
def k1_mult2 (i : grid1.Coords) (k1_t1 : Fin (k1_t1_loop i).trips) : BitVec 32 :=
  let arg1 : BitVec 32 := BitVec.ofNat 32 (i 1).val
  let c1_i32 : BitVec 32 := 1#32
  let v50 : BitVec 32 := Scalar.addi arg1 c1_i32
  let c1_i32_25 : BitVec 32 := 1#32
  let arg11 : BitVec 32 := Scf.iv v50 c1_i32_25 k1_t1
  let c1024_i32_33 : BitVec 32 := 1024#32
  let v64 : BitVec 32 := Scalar.muli arg11 c1024_i32_33
  v64
def k1_off4 (i : grid1.Coords) (k1_t1 : Fin (k1_t1_loop i).trips) : Fin 3 → Nat :=
  let c0_34 : Index := 0#32
  let arg1 : BitVec 32 := BitVec.ofNat 32 (i 1).val
  let c1_i32 : BitVec 32 := 1#32
  let v50 : BitVec 32 := Scalar.addi arg1 c1_i32
  let c1_i32_25 : BitVec 32 := 1#32
  let arg11 : BitVec 32 := Scf.iv v50 c1_i32_25 k1_t1
  let c1024_i32_33 : BitVec 32 := 1024#32
  let v64 : BitVec 32 := Scalar.muli arg11 c1024_i32_33
  let v65 : BitVec 32 := v64
  let v66 : Index := Scalar.indexCast v65
  let c0_35 : Index := 0#32
  ![0, v66.toNat, 0]
def k1_off5 (i : grid1.Coords) (k1_t1 : Fin (k1_t1_loop i).trips) : Fin 2 → Nat :=
  let arg1 : BitVec 32 := BitVec.ofNat 32 (i 1).val
  let c1_i32 : BitVec 32 := 1#32
  let v50 : BitVec 32 := Scalar.addi arg1 c1_i32
  let c1_i32_25 : BitVec 32 := 1#32
  let arg11 : BitVec 32 := Scf.iv v50 c1_i32_25 k1_t1
  let c1024_i32_33 : BitVec 32 := 1024#32
  let v64 : BitVec 32 := Scalar.muli arg11 c1024_i32_33
  let v65 : BitVec 32 := v64
  let v69 : Index := Scalar.indexCast v65
  let c0_36 : Index := 0#32
  ![v69.toNat, 0]
def k1_off6 (i : grid1.Coords) (k1_t1 : Fin (k1_t1_loop i).trips) : Fin 3 → Nat :=
  let c0_38 : Index := 0#32
  let arg1 : BitVec 32 := BitVec.ofNat 32 (i 1).val
  let c1_i32 : BitVec 32 := 1#32
  let v50 : BitVec 32 := Scalar.addi arg1 c1_i32
  let c1_i32_25 : BitVec 32 := 1#32
  let arg11 : BitVec 32 := Scf.iv v50 c1_i32_25 k1_t1
  let c1024_i32_33 : BitVec 32 := 1024#32
  let v64 : BitVec 32 := Scalar.muli arg11 c1024_i32_33
  let v65 : BitVec 32 := v64
  let v72 : Index := Scalar.indexCast v65
  let c0_39 : Index := 0#32
  ![0, v72.toNat, 0]
@[reducible] def k1_t2_loop (i : grid1.Coords) : Scf.Loop 32 :=
  let arg1 : BitVec 32 := BitVec.ofNat 32 (i 1).val
  let c1_i32 : BitVec 32 := 1#32
  let v50 : BitVec 32 := Scalar.addi arg1 c1_i32
  let c4_i32 : BitVec 32 := 4#32
  let v51 : BitVec 32 := Scalar.subi c4_i32 v50
  let c1_i32_24 : BitVec 32 := 1#32
  let v53 : BitVec 32 := Scalar.divsi v51 c1_i32_24
  let v54 : BitVec 32 := Scalar.muli v53 c1_i32_24
  let v55 : BitVec 32 := Scalar.addi v50 v54
  let v52 : BitVec 32 := Scalar.addi v50 v51
  let c1_i32_26 : BitVec 32 := 1#32
  ⟨v55, v52, c1_i32_26⟩
def k1_mult3 (i : grid1.Coords) (k1_t2 : Fin (k1_t2_loop i).trips) : BitVec 32 :=
  let arg1 : BitVec 32 := BitVec.ofNat 32 (i 1).val
  let c1_i32 : BitVec 32 := 1#32
  let v50 : BitVec 32 := Scalar.addi arg1 c1_i32
  let c4_i32 : BitVec 32 := 4#32
  let v51 : BitVec 32 := Scalar.subi c4_i32 v50
  let c1_i32_24 : BitVec 32 := 1#32
  let v53 : BitVec 32 := Scalar.divsi v51 c1_i32_24
  let v54 : BitVec 32 := Scalar.muli v53 c1_i32_24
  let v55 : BitVec 32 := Scalar.addi v50 v54
  let c1_i32_26 : BitVec 32 := 1#32
  let arg11 : BitVec 32 := Scf.iv v55 c1_i32_26 k1_t2
  let c1024_i32_33 : BitVec 32 := 1024#32
  let v64 : BitVec 32 := Scalar.muli arg11 c1024_i32_33
  v64
def k1_off7 (i : grid1.Coords) (k1_t2 : Fin (k1_t2_loop i).trips) : Fin 3 → Nat :=
  let c0_34 : Index := 0#32
  let arg1 : BitVec 32 := BitVec.ofNat 32 (i 1).val
  let c1_i32 : BitVec 32 := 1#32
  let v50 : BitVec 32 := Scalar.addi arg1 c1_i32
  let c4_i32 : BitVec 32 := 4#32
  let v51 : BitVec 32 := Scalar.subi c4_i32 v50
  let c1_i32_24 : BitVec 32 := 1#32
  let v53 : BitVec 32 := Scalar.divsi v51 c1_i32_24
  let v54 : BitVec 32 := Scalar.muli v53 c1_i32_24
  let v55 : BitVec 32 := Scalar.addi v50 v54
  let c1_i32_26 : BitVec 32 := 1#32
  let arg11 : BitVec 32 := Scf.iv v55 c1_i32_26 k1_t2
  let c1024_i32_33 : BitVec 32 := 1024#32
  let v64 : BitVec 32 := Scalar.muli arg11 c1024_i32_33
  let v65 : BitVec 32 := v64
  let v66 : Index := Scalar.indexCast v65
  let c0_35 : Index := 0#32
  ![0, v66.toNat, 0]
def k1_off8 (i : grid1.Coords) (k1_t2 : Fin (k1_t2_loop i).trips) : Fin 2 → Nat :=
  let arg1 : BitVec 32 := BitVec.ofNat 32 (i 1).val
  let c1_i32 : BitVec 32 := 1#32
  let v50 : BitVec 32 := Scalar.addi arg1 c1_i32
  let c4_i32 : BitVec 32 := 4#32
  let v51 : BitVec 32 := Scalar.subi c4_i32 v50
  let c1_i32_24 : BitVec 32 := 1#32
  let v53 : BitVec 32 := Scalar.divsi v51 c1_i32_24
  let v54 : BitVec 32 := Scalar.muli v53 c1_i32_24
  let v55 : BitVec 32 := Scalar.addi v50 v54
  let c1_i32_26 : BitVec 32 := 1#32
  let arg11 : BitVec 32 := Scf.iv v55 c1_i32_26 k1_t2
  let c1024_i32_33 : BitVec 32 := 1024#32
  let v64 : BitVec 32 := Scalar.muli arg11 c1024_i32_33
  let v65 : BitVec 32 := v64
  let v69 : Index := Scalar.indexCast v65
  let c0_36 : Index := 0#32
  ![v69.toNat, 0]
def k1_off9 (i : grid1.Coords) (k1_t2 : Fin (k1_t2_loop i).trips) : Fin 3 → Nat :=
  let c0_38 : Index := 0#32
  let arg1 : BitVec 32 := BitVec.ofNat 32 (i 1).val
  let c1_i32 : BitVec 32 := 1#32
  let v50 : BitVec 32 := Scalar.addi arg1 c1_i32
  let c4_i32 : BitVec 32 := 4#32
  let v51 : BitVec 32 := Scalar.subi c4_i32 v50
  let c1_i32_24 : BitVec 32 := 1#32
  let v53 : BitVec 32 := Scalar.divsi v51 c1_i32_24
  let v54 : BitVec 32 := Scalar.muli v53 c1_i32_24
  let v55 : BitVec 32 := Scalar.addi v50 v54
  let c1_i32_26 : BitVec 32 := 1#32
  let arg11 : BitVec 32 := Scf.iv v55 c1_i32_26 k1_t2
  let c1024_i32_33 : BitVec 32 := 1024#32
  let v64 : BitVec 32 := Scalar.muli arg11 c1024_i32_33
  let v65 : BitVec 32 := v64
  let v72 : Index := Scalar.indexCast v65
  let c0_39 : Index := 0#32
  ![0, v72.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x4096x192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1024x192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1024x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== ReferenceIdeal.lean ====
abbrev S8x4096x192 : Shape := ⟨3, ![8, 4096, 192]⟩
abbrev S8x4096x128 : Shape := ⟨3, ![8, 4096, 128]⟩
abbrev S4096x1024 : Shape := ⟨2, ![4096, 1024]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩
abbrev S4096x8x128 : Shape := ⟨3, ![4096, 8, 128]⟩

abbrev nBuf : Space → Nat
  | .hbm => 88
  | .vmem => 0
  | .smem => 0
  | _ => 0

abbrev bufTy : (tb : Table) → Fin (tcTables nBuf tb) → BufTy
  | .hbm, ⟨0, _⟩ => ⟨S8x4096x192, .bf16⟩
  | .hbm, ⟨1, _⟩ => ⟨S8x4096x192, .bf16⟩
  | .hbm, ⟨2, _⟩ => ⟨S8x4096x128, .bf16⟩
  | .hbm, ⟨3, _⟩ => ⟨S4096x1024, .bf16⟩
  | .hbm, ⟨4, _⟩ => ⟨S8x4096x192, .f32⟩
  | .hbm, ⟨5, _⟩ => ⟨S8x4096x192, .f32⟩
  | .hbm, ⟨6, _⟩ => ⟨S8x4096x128, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S1x4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .i1⟩
  | .hbm, ⟨36, _⟩ => ⟨S_, .f32⟩
  | .hbm, ⟨37, _⟩ => ⟨S8x4096, .f32⟩
  | .hbm, ⟨38, _⟩ => ⟨S8x4096, .i1⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x128x4096, .f32⟩
  | .hbm, ⟨61, _⟩ => ⟨S4096x8x128, .f32⟩
  | .hbm, ⟨62, _⟩ => ⟨S4096x1024, .f32⟩
  | .hbm, ⟨63, _⟩ => ⟨S4096x1024, .f32⟩
  | .hbm, ⟨64, _⟩ => ⟨S4096x8x128, .f32⟩
  | .hbm, ⟨65, _⟩ => ⟨S8x128x4096, .f32⟩
  | .hbm, ⟨66, _⟩ => ⟨S8x4096x4096, .f32⟩
  | .hbm, ⟨67, _⟩ => ⟨S8x128x4096, .f32⟩
  | .hbm, ⟨68, _⟩ => ⟨S8x4096x128, .f32⟩
  | .hbm, ⟨69, _⟩ => ⟨S8x4096x4096, .f32⟩
  | .hbm, ⟨70, _⟩ => ⟨S8x4096x4096, .f32⟩
  | .hbm, ⟨71, _⟩ => ⟨S8x4096x4096, .f32⟩
  | .hbm, ⟨72, _⟩ => ⟨S_, .f32⟩
  | .hbm, ⟨73, _⟩ => ⟨S8x4096, .f32⟩
  | .hbm, ⟨74, _⟩ => ⟨S8x4096x1, .f32⟩
  | .hbm, ⟨75, _⟩ => ⟨S8x4096x1, .f32⟩
  | .hbm, ⟨76, _⟩ => ⟨S8x4096x4096, .f32⟩
  | .hbm, ⟨77, _⟩ => ⟨S8x4096x4096, .f32⟩
  | .hbm, ⟨78, _⟩ => ⟨S_, .f32⟩
  | .hbm, ⟨79, _⟩ => ⟨S8x4096, .f32⟩
  | .hbm, ⟨80, _⟩ => ⟨S8x4096x4096, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096x4096, .f32⟩
  | .hbm, ⟨85, _⟩ => ⟨S8x4096x4096, .f32⟩
  | .hbm, ⟨86, _⟩ => ⟨S8x4096x192, .f32⟩
  | .hbm, ⟨87, _⟩ => ⟨S8x4096x192, .f32⟩
  | _, _ => ⟨S8x4096x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_call0_v0 : Ref sig .tc := ⟨.hbm, 16, rfl⟩
abbrev main_v11_1 : Ref sig .tc := ⟨.hbm, 17, rfl⟩
abbrev main_call0_v2 : Ref sig .tc := ⟨.hbm, 18, rfl⟩
abbrev main_v11_0 : Ref sig .tc := ⟨.hbm, 19, rfl⟩
abbrev main_call0_cst : Ref sig .tc := ⟨.hbm, 20, rfl⟩
abbrev main_v11_2 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call1_cst : Ref sig .tc := ⟨.hbm, 83, rfl⟩
abbrev main_call1_v0 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Kernel2.lean ====
abbrev S4096x2048 : Shape := ⟨2, ![4096, 2048]⟩
abbrev S4096x1024 : Shape := ⟨2, ![4096, 1024]⟩
abbrev S4096x3072 : Shape := ⟨2, ![4096, 3072]⟩
abbrev S8x128 : Shape := ⟨2, ![8, 128]⟩
abbrev S7168x1024 : Shape := ⟨2, ![7168, 1024]⟩
abbrev S2048x1024 : Shape := ⟨2, ![2048, 1024]⟩
abbrev S1024x1024 : Shape := ⟨2, ![1024, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x3072, .bf16⟩
  | .hbm, ⟨4, _⟩ => ⟨S4096x1024, .bf16⟩
  | .hbm, ⟨5, _⟩ => ⟨S8x128, .f32⟩
  | .hbm, ⟨6, _⟩ => ⟨S7168x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S8x128, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![7, 2], ![false, false]⟩

def k0_cond6 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 1 := Scalar.cmpi .sge arg0 c0_i32_1
  let c2_i32 : BitVec 32 := 2#32
  let v4 : BitVec 1 := Scalar.cmpi .slt arg0 c2_i32
  let v5 : BitVec 1 := Scalar.andi v3 v4
  let c0_i32_2 : BitVec 32 := 0#32
  let v6 : BitVec 32 := Scalar.select v5 arg1 c0_i32_2
  let c0_i32_3 : BitVec 32 := 0#32
  ![v6.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c2_i32_1 : BitVec 32 := 2#32
  let v3 : BitVec 1 := Scalar.cmpi .sge arg0 c2_i32_1
  let c3_i32 : BitVec 32 := 3#32
  let v4 : BitVec 1 := Scalar.cmpi .slt arg0 c3_i32
  let v5 : BitVec 1 := Scalar.andi v3 v4
  let c0_i32_2 : BitVec 32 := 0#32
  let v6 : BitVec 32 := Scalar.select v5 arg1 c0_i32_2
  let c0_i32_3 : BitVec 32 := 0#32
  ![v6.toNat, v2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg0 c3_i32
  let c0_i32 : BitVec 32 := 0#32
  let c0_i32_0 : BitVec 32 := 0#32
  let v1 : BitVec 32 := Scalar.maxsi c0_i32 v0
  let v2 : BitVec 32 := Scalar.minsi c0_i32_0 v1
  let c3_i32_1 : BitVec 32 := 3#32
  let v3 : BitVec 1 := Scalar.cmpi .sge arg0 c3_i32_1
  let c4_i32 : BitVec 32 := 4#32
  let v4 : BitVec 1 := Scalar.cmpi .slt arg0 c4_i32
  let v5 : BitVec 1 := Scalar.andi v3 v4
  let c0_i32_2 : BitVec 32 := 0#32
  let v6 : BitVec 32 := Scalar.select v5 arg1 c0_i32_2
  let c0_i32_3 : BitVec 32 := 0#32
  ![v6.toNat, v2.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let c2_i32 : BitVec 32 := 2#32
  let v1 : BitVec 32 := Scalar.maxsi c0_i32 v0
  let v2 : BitVec 32 := Scalar.minsi c2_i32 v1
  let c4_i32_0 : BitVec 32 := 4#32
  let v3 : BitVec 1 := Scalar.cmpi .sge arg0 c4_i32_0
  let c7_i32 : BitVec 32 := 7#32
  let v4 : BitVec 1 := Scalar.cmpi .slt arg0 c7_i32
  let v5 : BitVec 1 := Scalar.andi v3 v4
  let c0_i32_1 : BitVec 32 := 0#32
  let v6 : BitVec 32 := Scalar.select v5 arg1 c0_i32_1
  let c0_i32_2 : BitVec 32 := 0#32
  ![v6.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4096x2048 : Shape := ⟨2, ![4096, 2048]⟩
abbrev S4096x1024 : Shape := ⟨2, ![4096, 1024]⟩
abbrev S4096x3072 : Shape := ⟨2, ![4096, 3072]⟩
abbrev S8x128 : Shape := ⟨2, ![8, 128]⟩
abbrev S4096x7168 : Shape := ⟨2, ![4096, 7168]⟩
abbrev S_ : Shape := ⟨0, ![]⟩
abbrev S7168x1024 : Shape := ⟨2, ![7168, 1024]⟩
abbrev S1024x7168 : Shape := ⟨2, ![1024, 7168]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x3072, .bf16⟩
  | .hbm, ⟨4, _⟩ => ⟨S4096x1024, .bf16⟩
  | .hbm, ⟨5, _⟩ => ⟨S8x128, .f32⟩
  | .hbm, ⟨6, _⟩ => ⟨S4096x7168, .bf16⟩
  | .hbm, ⟨7, _⟩ => ⟨S4096x7168, .f32⟩
  | .hbm, ⟨8, _⟩ => ⟨S_, .f32⟩
  | .hbm, ⟨9, _⟩ => ⟨S7168x1024, .f32⟩
  | .hbm, ⟨10, _⟩ => ⟨S4096x1024, .f32⟩
  | .hbm, ⟨11, _⟩ => ⟨S1024x7168, .f32⟩
  | .hbm, ⟨12, _⟩ => ⟨S4096x7168, .f32⟩
  | .hbm, ⟨13, _⟩ => ⟨S7168x1024, .f32⟩
  | .hbm, ⟨14, _⟩ => ⟨S1024x7168, .f32⟩
  | .hbm, ⟨15, _⟩ => ⟨S7168x1024, .f32⟩
  | .hbm, ⟨16, _⟩ => ⟨S7168x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel3.lean ====
abbrev S4096x2048 : Shape := ⟨2, ![4096, 2048]⟩
abbrev S4096x1024 : Shape := ⟨2, ![4096, 1024]⟩
abbrev S4096x3072 : Shape := ⟨2, ![4096, 3072]⟩
abbrev S7168x1024 : Shape := ⟨2, ![7168, 1024]⟩
abbrev S1x1024 : Shape := ⟨2, ![1, 1024]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x3072, .bf16⟩
  | .hbm, ⟨4, _⟩ => ⟨S7168x1024, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S8x1024, .f32⟩
  | .hbm, ⟨9, _⟩ => ⟨S4096x1024, .f32⟩
  | .hbm, ⟨10, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S8x1024, .f32⟩
  | .local _ .vmem, ⟨16, _⟩ => ⟨S1024x1024, .f32⟩
  | .local _ .vmem, ⟨17, _⟩ => ⟨S1024x1024, .f32⟩
  | .local _ .vmem, ⟨18, _⟩ => ⟨S8x1024, .f32⟩
  | .local _ .vmem, ⟨19, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨2, ![4, 7], ![false, false]⟩

def k0_cond7 (i : grid0.Coords) : BitVec 1 :=
  let arg1 : BitVec 32 := BitVec.ofNat 32 (i 1).val
  let c6_i32 : BitVec 32 := 6#32
  let v20 : BitVec 1 := Scalar.cmpi .eq arg1 c6_i32
  let v21 : BitVec 32 := Scalar.extui v20
  let c0_i32_10 : BitVec 32 := 0#32
  let v22 : BitVec 1 := Scalar.cmpi .ne v21 c0_i32_10
  v22

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference3Ideal.lean ====
abbrev S4096x2048 : Shape := ⟨2, ![4096, 2048]⟩
abbrev S4096x1024 : Shape := ⟨2, ![4096, 1024]⟩
abbrev S4096x3072 : Shape := ⟨2, ![4096, 3072]⟩
abbrev S7168x1024 : Shape := ⟨2, ![7168, 1024]⟩
abbrev S1x1024 : Shape := ⟨2, ![1, 1024]⟩
abbrev S8x1024 : Shape := ⟨2, ![8, 1024]⟩
abbrev S4096x7168 : Shape := ⟨2, ![4096, 7168]⟩
abbrev S_ : Shape := ⟨0, ![]⟩
abbrev S4096 : Shape := ⟨1, ![4096]⟩
abbrev S4096x1 : Shape := ⟨2, ![4096, 1]⟩
abbrev S1024x7168 : Shape := ⟨2, ![1024, 7168]⟩
abbrev S1024 : Shape := ⟨1, ![1024]⟩
abbrev S5x1024 : Shape := ⟨2, ![5, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x3072, .bf16⟩
  | .hbm, ⟨4, _⟩ => ⟨S7168x1024, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S8x1024, .f32⟩
  | .hbm, ⟨9, _⟩ => ⟨S4096x7168, .bf16⟩
  | .hbm, ⟨10, _⟩ => ⟨S4096x7168, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S7168x1024, .f32⟩
  | .hbm, ⟨40, _⟩ => ⟨S1024x7168, .f32⟩
  | .hbm, ⟨41, _⟩ => ⟨S4096x7168, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S5x1024, .f32⟩
  | .hbm, ⟨78, _⟩ => ⟨S8x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S8x1024 : Shape := ⟨2, ![8, 1024]⟩
abbrev S7168x1024 : Shape := ⟨2, ![7168, 1024]⟩
abbrev S4096x7168 : Shape := ⟨2, ![4096, 7168]⟩
abbrev S2048x1024 : Shape := ⟨2, ![2048, 1024]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x1024, .f32⟩
  | .hbm, ⟨3, _⟩ => ⟨S7168x1024, .bf16⟩
  | .hbm, ⟨4, _⟩ => ⟨S4096x7168, .bf16⟩
  | .hbm, ⟨5, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S8x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S4096x1024 : Shape := ⟨2, ![4096, 1024]⟩
abbrev S1x1024 : Shape := ⟨2, ![1, 1024]⟩
abbrev S8x1024 : Shape := ⟨2, ![8, 1024]⟩
abbrev S7168x1024 : Shape := ⟨2, ![7168, 1024]⟩
abbrev S_ : Shape := ⟨0, ![]⟩
abbrev S4096 : Shape := ⟨1, ![4096]⟩
abbrev S4096x1 : Shape := ⟨2, ![4096, 1]⟩
abbrev S1024x7168 : Shape := ⟨2, ![1024, 7168]⟩
abbrev S4096x7168 : Shape := ⟨2, ![4096, 7168]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x1024, .f32⟩
  | .hbm, ⟨3, _⟩ => ⟨S7168x1024, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S7168x1024, .f32⟩
  | .hbm, ⟨29, _⟩ => ⟨S1024x7168, .f32⟩
  | .hbm, ⟨30, _⟩ => ⟨S4096x7168, .f32⟩
  | .hbm, ⟨31, _⟩ => ⟨S4096x7168, .bf16⟩
  | .hbm, ⟨32, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel5.lean ====
abbrev S4096x1024 : Shape := ⟨2, ![4096, 1024]⟩
abbrev S4096x7168 : Shape := ⟨2, ![4096, 7168]⟩
abbrev S8x1024 : Shape := ⟨2, ![8, 1024]⟩
abbrev S1x1024 : Shape := ⟨2, ![1, 1024]⟩
abbrev S8x384x1024 : Shape := ⟨3, ![8, 384, 1024]⟩
abbrev S8x4096x128 : Shape := ⟨3, ![8, 4096, 128]⟩
abbrev S4096x3072 : Shape := ⟨2, ![4096, 3072]⟩
abbrev S3x1024x1024 : Shape := ⟨3, ![3, 1024, 1024]⟩
abbrev S256x1024 : Shape := ⟨2, ![256, 1024]⟩
abbrev S8x128x1024 : Shape := ⟨3, ![8, 128, 1024]⟩
abbrev S8x256x128 : Shape := ⟨3, ![8, 256, 128]⟩
abbrev S256x3072 : Shape := ⟨2, ![256, 3072]⟩
abbrev S1024x1024 : Shape := ⟨2, ![1024, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩
abbrev S1x1024x1024 : Shape := ⟨3, ![1, 1024, 1024]⟩
abbrev S256x128 : Shape := ⟨2, ![256, 128]⟩
abbrev S1x256x128 : Shape := ⟨3, ![1, 256, 128]⟩
abbrev S_ : Shape := ⟨0, ![]⟩

abbrev nBuf : Space → Nat
  | .hbm => 15
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S4096x7168, .bf16⟩
  | .hbm, ⟨5, _⟩ => ⟨S8x1024, .f32⟩
  | .hbm, ⟨6, _⟩ => ⟨S1x1024, .f32⟩
  | .hbm, ⟨7, _⟩ => ⟨S8x384x1024, .bf16⟩
  | .hbm, ⟨8, _⟩ => ⟨S4096x1024, .f32⟩
  | .hbm, ⟨9, _⟩ => ⟨S4096x1024, .bf16⟩
  | .hbm, ⟨10, _⟩ => ⟨S8x4096x128, .f32⟩
  | .hbm, ⟨11, _⟩ => ⟨S4096x3072, .bf16⟩
  | .hbm, ⟨12, _⟩ => ⟨S4096x1024, .f32⟩
  | .hbm, ⟨13, _⟩ => ⟨S3x1024x1024, .bf16⟩
  | .hbm, ⟨14, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S8x1024, .f32⟩
  | .local _ .vmem, ⟨15, _⟩ => ⟨S1x1024, .f32⟩
  | .local _ .vmem, ⟨16, _⟩ => ⟨S8x128x1024, .bf16⟩
  | .local _ .vmem, ⟨17, _⟩ => ⟨S8x128x1024, .bf16⟩
  | .local _ .vmem, ⟨18, _⟩ => ⟨S8x128x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S8x256x128, .f32⟩
  | .local _ .vmem, ⟨24, _⟩ => ⟨S8x256x128, .f32⟩
  | .local _ .vmem, ⟨25, _⟩ => ⟨S256x3072, .bf16⟩
  | .local _ .vmem, ⟨26, _⟩ => ⟨S256x3072, .bf16⟩
  | .local _ .vmem, ⟨27, _⟩ => ⟨S256x1024, .f32⟩
  | .local _ .vmem, ⟨28, _⟩ => ⟨S256x1024, .f32⟩
  | .local _ .vmem, ⟨29, _⟩ => ⟨S8x1024, .f32⟩
  | .local _ .vmem, ⟨30, _⟩ => ⟨S3x1024x1024, .f32⟩
  | .local _ .vmem, ⟨31, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_11 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference5Ideal.lean ====
abbrev S4096x1024 : Shape := ⟨2, ![4096, 1024]⟩
abbrev S4096x7168 : Shape := ⟨2, ![4096, 7168]⟩
abbrev S8x1024 : Shape := ⟨2, ![8, 1024]⟩
abbrev S1x1024 : Shape := ⟨2, ![1, 1024]⟩
abbrev S8x384x1024 : Shape := ⟨3, ![8, 384, 1024]⟩
abbrev S8x128x1024 : Shape := ⟨3, ![8, 128, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x8x128 : Shape := ⟨3, ![4096, 8, 128]⟩
abbrev S4096x8 : Shape := ⟨2, ![4096, 8]⟩
abbrev S8x4096 : Shape := ⟨2, ![8, 4096]⟩
abbrev S8x4096x1 : Shape := ⟨3, ![8, 4096, 1]⟩
abbrev S8x4096x128 : Shape := ⟨3, ![8, 4096, 128]⟩
abbrev S4096x3072 : Shape := ⟨2, ![4096, 3072]⟩
abbrev S1024 : Shape := ⟨1, ![1024]⟩
abbrev S3x1024 : Shape := ⟨2, ![3, 1024]⟩

abbrev nBuf : Space → Nat
  | .hbm => 269
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .bf16⟩
  | 3 => ⟨S4096x1024, .f32⟩
  | 4 => ⟨S4096x7168, .bf16⟩
  | 5 => ⟨S8x1024, .f32⟩
  | 6 => ⟨S1x1024, .f32⟩
  | 7 => ⟨S8x384x1024, .bf16⟩
  | 8 => ⟨S4096x1024, .bf16⟩
  | 9 => ⟨S4096x1024, .f32⟩
  | 10 => ⟨S4096x1024, .bf16⟩
  | 11 => ⟨S4096x1024, .f32⟩
  | 12 => ⟨S4096x1024, .bf16⟩
  | 13 => ⟨S4096x1024, .f32⟩
  | 14 => ⟨S8x128x1024, .bf16⟩
  | 15 => ⟨S1024x1024, .bf16⟩
  | 16 => ⟨S1024x1024, .f32⟩
  | 17 => ⟨S8x128x1024, .bf16⟩
  | 18 => ⟨S1024x1024, .bf16⟩
  | 19 => ⟨S1024x1024, .f32⟩
  | 20 => ⟨S8x128x1024, .bf16⟩
  | 21 => ⟨S1024x1024, .bf16⟩
  | 22 => ⟨S1024x1024, .f32⟩
  | 23 => ⟨S4096x1024, .f32⟩
  | 24 => ⟨S1x1024, .f32⟩
  | 25 => ⟨S4096x1024, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S_, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S_, .f32⟩
  | 74 => ⟨S4096, .f32⟩
  | 75 => ⟨S4096x1, .f32⟩
  | 76 => ⟨S_, .f32⟩
  | 77 => ⟨S4096x1, .f32⟩
  | 78 => ⟨S4096x1, .f32⟩
  | 79 => ⟨S_, .f32⟩
  | 80 => ⟨S4096x1, .f32⟩
  | 81 => ⟨S4096x1, .f32⟩
  | 82 => ⟨S4096x1, .f32⟩
  | 83 => ⟨S4096x1, .f32⟩
  | 84 => ⟨S_, .f32⟩
  | 85 => ⟨S4096x1, .f32⟩
  | 86 => ⟨S4096x1, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S_, .f32⟩
  | 94 => ⟨S4096x1024, .f32⟩
  | 95 => ⟨S4096x1024, .f32⟩
  | 96 => ⟨S_, .f32⟩
  | 97 => ⟨S4096, .f32⟩
  | 98 => ⟨S_, .f32⟩
  | 99 => ⟨S4096, .f32⟩
  | 100 => ⟨S4096, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S4096, .f32⟩
  | 109 => ⟨S_, .f32⟩
  | 110 => ⟨S4096, .f32⟩
  | 111 => ⟨S4096, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S_, .f32⟩
  | 118 => ⟨S4096, .f32⟩
  | 119 => ⟨S4096x1, .f32⟩
  | 120 => ⟨S4096x1024, .f32⟩
  | 121 => ⟨S4096x1024, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x8x128, .f32⟩
  | 24 => ⟨S_, .f32⟩
  | 25 => ⟨S4096x8, .f32⟩
  | 26 => ⟨S8x4096, .f32⟩
  | 27 => ⟨S8x4096x1, .f32⟩
  | 28 => ⟨S8x4096x128, .f32⟩
  | 29 => ⟨S4096x3072, .f32⟩
  | 30 => ⟨S4096x1024, .bf16⟩
  | 31 => ⟨S4096x3072, .bf16⟩
  | 32 => ⟨S4096x1024, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1, .f32⟩
  | 78 => ⟨S4096x1, .f32⟩
  | 79 => ⟨S_, .f32⟩
  | 80 => ⟨S4096x1, .f32⟩
  | 81 => ⟨S4096x1, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S_, .f32⟩
  | 89 => ⟨S4096x1024, .f32⟩
  | 90 => ⟨S4096x1024, .f32⟩
  | 91 => ⟨S_, .f32⟩
  | 92 => ⟨S4096, .f32⟩
  | 93 => ⟨S_, .f32⟩
  | 94 => ⟨S4096, .f32⟩
  | 95 => ⟨S4096, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S4096, .f32⟩
  | 104 => ⟨S_, .f32⟩
  | 105 => ⟨S4096, .f32⟩
  | 106 => ⟨S4096, .f32⟩
  | 107 => ⟨S4096x1024, .f32⟩
  | 108 => ⟨S4096x1024, .f32⟩
  | 109 => ⟨S4096x1024, .f32⟩
  | 110 => ⟨S_, .f32⟩
  | 111 => ⟨S1024, .f32⟩
  | 112 => ⟨S1x1024, .f32⟩
  | 113 => ⟨S4096x1024, .f32⟩
  | 114 => ⟨S4096x1024, .f32⟩
  | 115 => ⟨S4096x1024, .f32⟩
  | 116 => ⟨S_, .f32⟩
  | 117 => ⟨S4096, .f32⟩
  | 118 => ⟨S4096x1, .f32⟩
  | 119 => ⟨S4096x1024, .f32⟩
  | 120 => ⟨S4096x1024, .f32⟩
  | 121 => ⟨S4096x1, .f32⟩
  | 122 => ⟨S_, .f32⟩
  | 123 => ⟨S4096x1, .f32⟩
  | 124 => ⟨S4096x1, .f32⟩
  | 125 => ⟨S_, .f32⟩
  | 126 => ⟨S4096, .f32⟩
  | 127 => ⟨S4096x1024, .f32⟩
  | _ => ⟨S4096x1024, .f32⟩

abbrev hbmTy0_2 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S_, .f32⟩
  | 6 => ⟨S1024, .f32⟩
  | 7 => ⟨S1x1024, .f32⟩
  | 8 => ⟨S1x1024, .f32⟩
  | 9 => ⟨S3x1024, .f32⟩
  | 10 => ⟨S_, .i32⟩
  | 11 => ⟨S_, .f32⟩
  | 12 => ⟨S8x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v18_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v18_1 : Ref sig .tc := ⟨.hbm, 37, rfl⟩
abbrev main_v18_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_v24 : Ref sig .tc := ⟨.hbm, 45, rfl⟩
abbrev main_cst_0 : Ref sig .tc := ⟨.hbm, 46, rfl⟩
abbrev main_v25 : Ref sig .tc := ⟨.hbm, 47, rfl⟩
abbrev main_v26 : Ref sig .tc := ⟨.hbm, 48, rfl⟩
abbrev main_cst_1 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_2 : Ref sig .tc := ⟨.hbm, 56, rfl⟩
abbrev main_v33 : Ref sig .tc := ⟨.hbm, 57, rfl⟩
abbrev main_v34 : Ref sig .tc := ⟨.hbm, 58, rfl⟩
abbrev main_cst_3 : Ref sig .tc := ⟨.hbm, 59, rfl⟩
abbrev main_v35 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_8 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_9 : Ref sig .tc := ⟨.hbm, 93, rfl⟩
abbrev main_v63 : Ref sig .tc := ⟨.hbm, 94, rfl⟩
abbrev main_v64 : Ref sig .tc := ⟨.hbm, 95, rfl⟩
abbrev main_cst_10 : Ref sig .tc := ⟨.hbm, 96, rfl⟩
abbrev main_v65 : Ref sig .tc := ⟨.hbm, 97, rfl⟩
abbrev main_cst_11 : Ref sig .tc := ⟨.hbm, 98, rfl⟩
abbrev main_v66 : Ref sig .tc := ⟨.hbm, 99, rfl⟩
abbrev main_v67 : Ref sig .tc := ⟨.hbm, 100, rfl⟩
abbrev main_cst_12 : Ref sig .tc := ⟨.hbm, 101, rfl⟩
abbrev main_v68 : Ref sig .tc := ⟨.hbm, 102, rfl⟩
abbrev main_cst_13 : Ref sig .tc := ⟨.hbm, 103, rfl⟩
abbrev main_v69 : Ref sig .tc := ⟨.hbm, 104, rfl⟩
abbrev main_cst_14 : Ref sig .tc := ⟨.hbm, 105, rfl⟩
abbrev main_cst_15 : Ref sig .tc := ⟨.hbm, 106, rfl⟩
abbrev main_v70 : Ref sig .tc := ⟨.hbm, 107, rfl⟩
abbrev main_v71 : Ref sig .tc := ⟨.hbm, 108, rfl⟩
abbrev main_cst_16 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_17 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_18 : Ref sig .tc := ⟨.hbm, 123, rfl⟩
abbrev main_v84 : Ref sig .tc := ⟨.hbm, 124, rfl⟩
abbrev main_v85 : Ref sig .tc := ⟨.hbm, 125, rfl⟩
abbrev main_cst_19 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_call1_v0 : Ref sig .tc := ⟨.hbm, 145, rfl⟩
abbrev main_call1_v1 : Ref sig .tc := ⟨.hbm, 146, rfl⟩
abbrev main_call1_v2 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_20 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_call2_v0 : Ref sig .tc := ⟨.hbm, 161, rfl⟩
abbrev main_call2_v1 : Ref sig .tc := ⟨.hbm, 162, rfl⟩
abbrev main_call2_cst : Ref sig .tc := ⟨.hbm, 163, rfl⟩
abbrev main_call2_v2 : Ref sig .tc := ⟨.hbm, 164, rfl⟩
abbrev main_call2_v3 : Ref sig .tc := ⟨.hbm, 165, rfl⟩
abbrev main_call2_cst_0 : Ref sig .tc := ⟨.hbm, 166, rfl⟩
abbrev main_call2_v4 : Ref sig .tc := ⟨.hbm, 167, rfl⟩
abbrev main_call2_v5 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_cst_21 : Ref sig .tc := ⟨.hbm, 174, rfl⟩
abbrev main_v121 : Ref sig .tc := ⟨.hbm, 175, rfl⟩
abbrev main_v122 : Ref sig .tc := ⟨.hbm, 176, rfl⟩
abbrev main_cst_22 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_cst_23 : Ref sig .tc := ⟨.hbm, 183, rfl⟩
abbrev main_v128 : Ref sig .tc := ⟨.hbm, 184, rfl⟩
abbrev main_v129 : Ref sig .tc := ⟨.hbm, 185, rfl⟩
abbrev main_cst_24 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_cst_25 : Ref sig .tc := ⟨.hbm, 196, rfl⟩
abbrev main_v139 : Ref sig .tc := ⟨.hbm, 197, rfl⟩
abbrev main_v140 : Ref sig .tc := ⟨.hbm, 198, rfl⟩
abbrev main_cst_26 : Ref sig .tc := ⟨.hbm, 199, rfl⟩
abbrev main_v141 : Ref sig .tc := ⟨.hbm, 200, rfl⟩
abbrev main_v142 : Ref sig .tc := ⟨.hbm, 201, rfl⟩
abbrev main_cst_27 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_cst_28 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_cst_29 : Ref sig .tc := ⟨.hbm, 216, rfl⟩
abbrev main_v155 : Ref sig .tc := ⟨.hbm, 217, rfl⟩
abbrev main_v156 : Ref sig .tc := ⟨.hbm, 218, rfl⟩
abbrev main_cst_30 : Ref sig .tc := ⟨.hbm, 219, rfl⟩
abbrev main_v157 : Ref sig .tc := ⟨.hbm, 220, rfl⟩
abbrev main_cst_31 : Ref sig .tc := ⟨.hbm, 221, rfl⟩
abbrev main_v158 : Ref sig .tc := ⟨.hbm, 222, rfl⟩
abbrev main_v159 : Ref sig .tc := ⟨.hbm, 223, rfl⟩
abbrev main_cst_32 : Ref sig .tc := ⟨.hbm, 224, rfl⟩
abbrev main_v160 : Ref sig .tc := ⟨.hbm, 225, rfl⟩
abbrev main_cst_33 : Ref sig .tc := ⟨.hbm, 226, rfl⟩
abbrev main_v161 : Ref sig .tc := ⟨.hbm, 227, rfl⟩
abbrev main_cst_34 : Ref sig .tc := ⟨.hbm, 228, rfl⟩
abbrev main_cst_35 : Ref sig .tc := ⟨.hbm, 229, rfl⟩
abbrev main_v162 : Ref sig .tc := ⟨.hbm, 230, rfl⟩
abbrev main_v163 : Ref sig .tc := ⟨.hbm, 231, rfl⟩
abbrev main_cst_36 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_cst_37 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_cst_38 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_cst_39 : Ref sig .tc := ⟨.hbm, 250, rfl⟩
abbrev main_v179 : Ref sig .tc := ⟨.hbm, 251, rfl⟩
abbrev main_v180 : Ref sig .tc := ⟨.hbm, 252, rfl⟩
abbrev main_cst_40 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_cst_41 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_c : Ref sig .tc := ⟨.hbm, 266, rfl⟩
abbrev main_call3_v0 : Ref sig .tc := ⟨.hbm, 267, rfl⟩
abbrev main_v192 : Ref sig .tc := ⟨.hbm, 268, rfl⟩

abbrev nD : Nat := 1
abbrev τ : Topo := Topo.v7x

variable {F : FTy → Type} [FloatOps F]
-- ==== Kernel6.lean ====
abbrev S8x1024 : Shape := ⟨2, ![8, 1024]⟩
abbrev S8x384 : Shape := ⟨2, ![8, 384]⟩
abbrev S1024x384 : Shape := ⟨2, ![1024, 384]⟩

abbrev nBuf : Space → Nat
  | .hbm => 9
  | .vmem => 9
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .local _ .vmem, ⟨0, _⟩ => ⟨S8x1024, .f32⟩
  | .local _ .vmem, ⟨1, _⟩ => ⟨S8x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference6Ideal.lean ====
abbrev S8x1024 : Shape := ⟨2, ![8, 1024]⟩
abbrev S8x384 : Shape := ⟨2, ![8, 384]⟩
abbrev S1024x384 : Shape := ⟨2, ![1024, 384]⟩
abbrev S_ : Shape := ⟨0, ![]⟩
abbrev S384x1024 : Shape := ⟨2, ![384, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x384, .f32⟩
  | .hbm, ⟨15, _⟩ => ⟨S384x1024, .f32⟩
  | .hbm, ⟨16, _⟩ => ⟨S1024x384, .f32⟩
  | .hbm, ⟨17, _⟩ => ⟨S_, .f32⟩
  | .hbm, ⟨18, _⟩ => ⟨S1024x384, .f32⟩
  | .hbm, ⟨19, _⟩ => ⟨S1024x384, .f32⟩
  | .hbm, ⟨20, _⟩ => ⟨S_, .f32⟩
  | .hbm, ⟨21, _⟩ => ⟨S1024x384, .f32⟩
  | .hbm, ⟨22, _⟩ => ⟨S1024x384, .f32⟩
  | .hbm, ⟨23, _⟩ => ⟨S1024x384, .f32⟩
  | .hbm, ⟨24, _⟩ => ⟨S_, .f32⟩
  | .hbm, ⟨25, _⟩ => ⟨S1024x384, .f32⟩
  | .hbm, ⟨26, _⟩ => ⟨S1024x384, .f32⟩
  | .hbm, ⟨27, _⟩ => ⟨S1024x384, .f32⟩
  | .hbm, ⟨28, _⟩ => ⟨S_, .f32⟩
  | .hbm, ⟨29, _⟩ => ⟨S1024x384, .f32⟩
  | .hbm, ⟨30, _⟩ => ⟨S1024x384, .f32⟩
  | .hbm, ⟨31, _⟩ => ⟨S1024x384, .f32⟩
  | .hbm, ⟨32, _⟩ => ⟨S_, .f32⟩
  | .hbm, ⟨33, _⟩ => ⟨S1024x384, .f32⟩
  | .hbm, ⟨34, _⟩ => ⟨S1024x384, .f32⟩
  | .hbm, ⟨35, _⟩ => ⟨S_, .f32⟩
  | .hbm, ⟨36, _⟩ => ⟨S1024x384, .f32⟩
  | .hbm, ⟨37, _⟩ => ⟨S1024x384, .f32⟩
  | .hbm, ⟨38, _⟩ => ⟨S1024x384, .f32⟩
  | .hbm, ⟨39, _⟩ => ⟨S_, .f32⟩
  | .hbm, ⟨40, _⟩ => ⟨S1024x384, .f32⟩
  | .hbm, ⟨41, _⟩ => ⟨S1024x384, .f32⟩
  | .hbm, ⟨42, _⟩ => ⟨S1024x384, .f32⟩
  | .hbm, ⟨43, _⟩ => ⟨S_, .f32⟩
  | .hbm, ⟨44, _⟩ => ⟨S1024x384, .f32⟩
  | .hbm, ⟨45, _⟩ => ⟨S1024x384, .f32⟩
  | .hbm, ⟨46, _⟩ => ⟨S1024x384, .f32⟩
  | .hbm, ⟨47, _⟩ => ⟨S_, .f32⟩
  | .hbm, ⟨48, _⟩ => ⟨S1024x384, .f32⟩
  | .hbm, ⟨49, _⟩ => ⟨S1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel7.lean ====
abbrev S4x896x1024 : Shape := ⟨3, ![4, 896, 1024]⟩
abbrev S840x1024 : Shape := ⟨2, ![840, 1024]⟩
abbrev S4x896x256 : Shape := ⟨3, ![4, 896, 256]⟩
abbrev S840x256 : Shape := ⟨2, ![840, 256]⟩
abbrev S1x896x256 : Shape := ⟨3, ![1, 896, 256]⟩
abbrev S896x256 : Shape := ⟨2, ![896, 256]⟩

abbrev nBuf : Space → Nat
  | .hbm => 8
  | .vmem => 16
  | .smem => 0
  | _ => 0

abbrev bufTy : (tb : Table) → Fin (tcTables nBuf tb) → BufTy
  | .hbm, ⟨0, _⟩ => ⟨S4x896x1024, .bf16⟩
  | .hbm, ⟨1, _⟩ => ⟨S840x1024, .f32⟩
  | .hbm, ⟨2, _⟩ => ⟨S840x1024, .f32⟩
  | .hbm, ⟨3, _⟩ => ⟨S840x1024, .f32⟩
  | .hbm, ⟨4, _⟩ => ⟨S840x1024, .f32⟩
  | .hbm, ⟨5, _⟩ => ⟨S840x1024, .f32⟩
  | .hbm, ⟨6, _⟩ => ⟨S840x1024, .f32⟩
  | .hbm, ⟨7, _⟩ => ⟨S840x1024, .f32⟩
  | .local _ .vmem, ⟨0, _⟩ => ⟨S4x896x256, .bf16⟩
  | .local _ .vmem, ⟨1, _⟩ => ⟨S4x896x256, .bf16⟩
  | .local _ .vmem, ⟨2, _⟩ => ⟨S840x256, .f32⟩
  | .local _ .vmem, ⟨3, _⟩ => ⟨S840x256, .f32⟩
  | .local _ .vmem, ⟨4, _⟩ => ⟨S840x256, .f32⟩
  | .local _ .vmem, ⟨5, _⟩ => ⟨S840x256, .f32⟩
  | .local _ .vmem, ⟨6, _⟩ => ⟨S840x256, .f32⟩
  | .local _ .vmem, ⟨7, _⟩ => ⟨S840x256, .f32⟩
  | .local _ .vmem, ⟨8, _⟩ => ⟨S840x256, .f32⟩
  | .local _ .vmem, ⟨9, _⟩ => ⟨S840x256, .f32⟩
  | .local _ .vmem, ⟨10, _⟩ => ⟨S840x256, .f32⟩
  | .local _ .vmem, ⟨11, _⟩ => ⟨S840x256, .f32⟩
  | .local _ .vmem, ⟨12, _⟩ => ⟨S840x256, .f32⟩
  | .local _ .vmem, ⟨13, _⟩ => ⟨S840x256, .f32⟩
  | .local _ .vmem, ⟨14, _⟩ => ⟨S840x256, .f32⟩
  | .local _ .vmem, ⟨15, _⟩ => ⟨S840x256, .f32⟩
  | _, _ => ⟨S4x896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x896x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S840x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S840x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S840x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S840x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S840x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S840x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S840x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S4x896x1024 : Shape := ⟨3, ![4, 896, 1024]⟩
abbrev S840x1024 : Shape := ⟨2, ![840, 1024]⟩
abbrev S4x840x1024 : Shape := ⟨3, ![4, 840, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x896x1024, .bf16⟩
  | .hbm, ⟨1, _⟩ => ⟨S840x1024, .f32⟩
  | .hbm, ⟨2, _⟩ => ⟨S840x1024, .f32⟩
  | .hbm, ⟨3, _⟩ => ⟨S840x1024, .f32⟩
  | .hbm, ⟨4, _⟩ => ⟨S4x840x1024, .bf16⟩
  | .hbm, ⟨5, _⟩ => ⟨S4x840x1024, .f32⟩
  | .hbm, ⟨6, _⟩ => ⟨S_, .f32⟩
  | .hbm, ⟨7, _⟩ => ⟨S840x1024, .f32⟩
  | .hbm, ⟨8, _⟩ => ⟨S_, .f32⟩
  | .hbm, ⟨9, _⟩ => ⟨S840x1024, .f32⟩
  | .hbm, ⟨10, _⟩ => ⟨S840x1024, .f32⟩
  | .hbm, ⟨11, _⟩ => ⟨S_, .f32⟩
  | .hbm, ⟨12, _⟩ => ⟨S840x1024, .f32⟩
  | .hbm, ⟨13, _⟩ => ⟨S840x1024, .f32⟩
  | .hbm, ⟨14, _⟩ => ⟨S840x1024, .f32⟩
  | .hbm, ⟨15, _⟩ => ⟨S_, .f32⟩
  | .hbm, ⟨16, _⟩ => ⟨S840x1024, .f32⟩
  | .hbm, ⟨17, _⟩ => ⟨S840x1024, .f32⟩
  | .hbm, ⟨18, _⟩ => ⟨S840x1024, .f32⟩
  | .hbm, ⟨19, _⟩ => ⟨S_, .f32⟩
  | .hbm, ⟨20, _⟩ => ⟨S840x1024, .f32⟩
  | .hbm, ⟨21, _⟩ => ⟨S840x1024, .f32⟩
  | .hbm, ⟨22, _⟩ => ⟨S840x1024, .f32⟩
  | .hbm, ⟨23, _⟩ => ⟨S_, .f32⟩
  | .hbm, ⟨24, _⟩ => ⟨S840x1024, .f32⟩
  | .hbm, ⟨25, _⟩ => ⟨S840x1024, .f32⟩
  | .hbm, ⟨26, _⟩ => ⟨S_, .f32⟩
  | .hbm, ⟨27, _⟩ => ⟨S840x1024, .f32⟩
  | .hbm, ⟨28, _⟩ => ⟨S840x1024, .f32⟩
  | .hbm, ⟨29, _⟩ => ⟨S840x1024, .f32⟩
  | .hbm, ⟨30, _⟩ => ⟨S_, .f32⟩
  | .hbm, ⟨31, _⟩ => ⟨S840x1024, .f32⟩
  | .hbm, ⟨32, _⟩ => ⟨S840x1024, .f32⟩
  | .hbm, ⟨33, _⟩ => ⟨S840x1024, .f32⟩
  | .hbm, ⟨34, _⟩ => ⟨S_, .f32⟩
  | .hbm, ⟨35, _⟩ => ⟨S840x1024, .f32⟩
  | .hbm, ⟨36, _⟩ => ⟨S840x1024, .f32⟩
  | .hbm, ⟨37, _⟩ => ⟨S840x1024, .f32⟩
  | .hbm, ⟨38, _⟩ => ⟨S_, .f32⟩
  | .hbm, ⟨39, _⟩ => ⟨S840x1024, .f32⟩
  | .hbm, ⟨40, _⟩ => ⟨S840x1024, .f32⟩
  | _, _ => ⟨S4x896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel8.lean ====
abbrev S8x1024 : Shape := ⟨2, ![8, 1024]⟩
abbrev S1024x384 : Shape := ⟨2, ![1024, 384]⟩
abbrev S1x384 : Shape := ⟨2, ![1, 384]⟩
abbrev S8x384 : Shape := ⟨2, ![8, 384]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x384, .f32⟩
  | .hbm, ⟨2, _⟩ => ⟨S1x384, .f32⟩
  | .hbm, ⟨3, _⟩ => ⟨S8x384, .f32⟩
  | .local _ .vmem, ⟨0, _⟩ => ⟨S8x1024, .f32⟩
  | .local _ .vmem, ⟨1, _⟩ => ⟨S1024x384, .f32⟩
  | .local _ .vmem, ⟨2, _⟩ => ⟨S1x384, .f32⟩
  | .local _ .vmem, ⟨3, _⟩ => ⟨S8x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference8Ideal.lean ====
abbrev S8x1024 : Shape := ⟨2, ![8, 1024]⟩
abbrev S1024x384 : Shape := ⟨2, ![1024, 384]⟩
abbrev S1x384 : Shape := ⟨2, ![1, 384]⟩
abbrev S_ : Shape := ⟨0, ![]⟩
abbrev S8x384 : Shape := ⟨2, ![8, 384]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x384, .f32⟩
  | .hbm, ⟨2, _⟩ => ⟨S1x384, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x384, .f32⟩
  | .hbm, ⟨13, _⟩ => ⟨S8x384, .f32⟩
  | .hbm, ⟨14, _⟩ => ⟨S8x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel9.lean ====
abbrev S8x8x1152 : Shape := ⟨3, ![8, 8, 1152]⟩
abbrev S8x1152 : Shape := ⟨2, ![8, 1152]⟩
abbrev S1x8x1152 : Shape := ⟨3, ![1, 8, 1152]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1152, .f32⟩
  | .hbm, ⟨1, _⟩ => ⟨S8x1152, .f32⟩
  | .hbm, ⟨2, _⟩ => ⟨S8x1152, .f32⟩
  | .hbm, ⟨3, _⟩ => ⟨S8x1152, .f32⟩
  | .hbm, ⟨4, _⟩ => ⟨S8x1152, .f32⟩
  | .hbm, ⟨5, _⟩ => ⟨S8x1152, .f32⟩
  | .hbm, ⟨6, _⟩ => ⟨S8x1152, .f32⟩
  | .hbm, ⟨7, _⟩ => ⟨S8x1152, .f32⟩
  | .local _ .vmem, ⟨0, _⟩ => ⟨S8x8x1152, .f32⟩
  | .local _ .vmem, ⟨1, _⟩ => ⟨S8x1152, .f32⟩
  | .local _ .vmem, ⟨2, _⟩ => ⟨S8x1152, .f32⟩
  | .local _ .vmem, ⟨3, _⟩ => ⟨S8x1152, .f32⟩
  | .local _ .vmem, ⟨4, _⟩ => ⟨S8x1152, .f32⟩
  | .local _ .vmem, ⟨5, _⟩ => ⟨S8x1152, .f32⟩
  | .local _ .vmem, ⟨6, _⟩ => ⟨S8x1152, .f32⟩
  | .local _ .vmem, ⟨7, _⟩ => ⟨S8x1152, .f32⟩
  | _, _ => ⟨S8x8x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1152 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference9Ideal.lean ====
abbrev S8x8x1152 : Shape := ⟨3, ![8, 8, 1152]⟩
abbrev S8x1152 : Shape := ⟨2, ![8, 1152]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x1152, .f32⟩
  | .hbm, ⟨1, _⟩ => ⟨S8x1152, .f32⟩
  | .hbm, ⟨2, _⟩ => ⟨S8x1152, .f32⟩
  | .hbm, ⟨3, _⟩ => ⟨S8x1152, .f32⟩
  | .hbm, ⟨4, _⟩ => ⟨S_, .f32⟩
  | .hbm, ⟨5, _⟩ => ⟨S8x1152, .f32⟩
  | .hbm, ⟨6, _⟩ => ⟨S_, .f32⟩
  | .hbm, ⟨7, _⟩ => ⟨S8x1152, .f32⟩
  | .hbm, ⟨8, _⟩ => ⟨S8x1152, .f32⟩
  | .hbm, ⟨9, _⟩ => ⟨S_, .f32⟩
  | .hbm, ⟨10, _⟩ => ⟨S8x1152, .f32⟩
  | .hbm, ⟨11, _⟩ => ⟨S8x1152, .f32⟩
  | .hbm, ⟨12, _⟩ => ⟨S8x1152, .f32⟩
  | .hbm, ⟨13, _⟩ => ⟨S_, .f32⟩
  | .hbm, ⟨14, _⟩ => ⟨S8x1152, .f32⟩
  | .hbm, ⟨15, _⟩ => ⟨S8x1152, .f32⟩
  | .hbm, ⟨16, _⟩ => ⟨S8x1152, .f32⟩
  | .hbm, ⟨17, _⟩ => ⟨S_, .f32⟩
  | .hbm, ⟨18, _⟩ => ⟨S8x1152, .f32⟩
  | .hbm, ⟨19, _⟩ => ⟨S8x1152, .f32⟩
  | .hbm, ⟨20, _⟩ => ⟨S8x1152, .f32⟩
  | .hbm, ⟨21, _⟩ => ⟨S_, .f32⟩
  | .hbm, ⟨22, _⟩ => ⟨S8x1152, .f32⟩
  | .hbm, ⟨23, _⟩ => ⟨S8x1152, .f32⟩
  | .hbm, ⟨24, _⟩ => ⟨S_, .f32⟩
  | .hbm, ⟨25, _⟩ => ⟨S8x1152, .f32⟩
  | .hbm, ⟨26, _⟩ => ⟨S8x1152, .f32⟩
  | .hbm, ⟨27, _⟩ => ⟨S8x1152, .f32⟩
  | .hbm, ⟨28, _⟩ => ⟨S_, .f32⟩
  | .hbm, ⟨29, _⟩ => ⟨S8x1152, .f32⟩
  | .hbm, ⟨30, _⟩ => ⟨S8x1152, .f32⟩
  | .hbm, ⟨31, _⟩ => ⟨S8x1152, .f32⟩
  | .hbm, ⟨32, _⟩ => ⟨S_, .f32⟩
  | .hbm, ⟨33, _⟩ => ⟨S8x1152, .f32⟩
  | .hbm, ⟨34, _⟩ => ⟨S8x1152, .f32⟩
  | .hbm, ⟨35, _⟩ => ⟨S8x1152, .f32⟩
  | .hbm, ⟨36, _⟩ => ⟨S_, .f32⟩
  | .hbm, ⟨37, _⟩ => ⟨S8x1152, .f32⟩
  | .hbm, ⟨38, _⟩ => ⟨S8x1152, .f32⟩
  | _, _ => ⟨S8x8x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel10.lean ====
abbrev S4x512x1024 : Shape := ⟨3, ![4, 512, 1024]⟩
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x512x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S4x512x1024 : Shape := ⟨3, ![4, 512, 1024]⟩
abbrev S128x1024 : Shape := ⟨2, ![128, 1024]⟩
abbrev S4x128x1024 : Shape := ⟨3, ![4, 128, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S4x128x1024, .bf16⟩
  | .hbm, ⟨5, _⟩ => ⟨S4x128x1024, .f32⟩
  | .hbm, ⟨6, _⟩ => ⟨S_, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel11.lean ====
abbrev S4x512x1024 : Shape := ⟨3, ![4, 512, 1024]⟩
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x512x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference11Ideal.lean ====
abbrev S4x512x1024 : Shape := ⟨3, ![4, 512, 1024]⟩
abbrev S128x1024 : Shape := ⟨2, ![128, 1024]⟩
abbrev S4x128x1024 : Shape := ⟨3, ![4, 128, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S4x128x1024, .bf16⟩
  | .hbm, ⟨5, _⟩ => ⟨S4x128x1024, .f32⟩
  | .hbm, ⟨6, _⟩ => ⟨S_, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Body0.lean ====
/- The forward call's body at one grid point: what its two loops carry, as plain recursions over the key blocks, and the triple that says the body leaves the row
   block of the output and the block of log-sum-exps. -/
module

public import proofs.«01_k».proof.Proof.Gen.KernelIdeal.Loops
public import proofs.«01_k».proof.Proof.Gen.KernelIdeal.Points
public import proofs.«01_k».proof.Proof.Gen.KernelIdeal.Launch
public import Idealize.ShloMosaic.Lib.Pipeline.Frame
public import Idealize.ShloMosaic.Lib.Pipeline.FrameBody
public import Idealize.ShloMosaic.Lib.VecWindow
public import Idealize.ShloMosaic.Lib.WholeRead

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows `1024 c` to `1024 c + 1023` of one head's queries, keys or their gradient. -/
def rows192 {e : EltTy} (x : Vec F S1x4096x192 e) (c : Fin 4) : Vec F S1x1024x192 e :=
  VecWindow.window x ![0, 1024 * c.val, 0] S1x1024x192.size (by revert c; decide)

/-- Rows `1024 c` to `1024 c + 1023` of one head's values. -/
def rows128 {e : EltTy} (x : Vec F S1x4096x128 e) (c : Fin 4) : Vec F S1x1024x128 e :=
  VecWindow.window x ![0, 1024 * c.val, 0] S1x1024x128.size (by revert c; decide)

/-- A load of a block of rows reads that block. -/
theorem read_rows192 {e : EltTy} (v : View sig .tc .vmem S1x4096x192 e) (f : v.ty.Contents (Elt F)) (c : Fin 4) {off : Fin 3 → ℕ} (h : off = ![0, 1024 * c.val, 0])
    (inb : ∀ a, off a + S1x1024x192.size a ≤ S1x4096x192.size a) :
    v.readAt (Elt F) (Rect.unit (s := S1x4096x192) off S1x1024x192.size inb).toLoadRect f = rows192 (v.read (Elt F) f) c := by subst h; rfl
theorem read_rows128 {e : EltTy} (v : View sig .tc .vmem S1x4096x128 e) (f : v.ty.Contents (Elt F)) (c : Fin 4) {off : Fin 3 → ℕ} (h : off = ![0, 1024 * c.val, 0])
    (inb : ∀ a, off a + S1x1024x128.size a ≤ S1x4096x128.size a) :
    v.readAt (Elt F) (Rect.unit (s := S1x4096x128) off S1x1024x128.size inb).toLoadRect f = rows128 (v.read (Elt F) f) c := by subst h; rfl

/-- What the forward pass carries from key block to key block: the running maximum, the running sum and the running product. -/
abbrev Carry0 (F : FTy → Type) : Type := FVec F S1024x1 .f32 × FVec F S1024x1 .f32 × FVec F S1024x128 .f32

/-- The carried values after the first `n` key blocks, none of them masked. -/
def fold0 (q : Vec F S1x1024x192 .bf16) (k : Vec F S1x4096x192 .bf16) (v : Vec F S1x4096x128 .bf16) : ℕ → Carry0 F
  | 0 => (k0_pay4, k0_pay5, k0_pay6)
  | n + 1 =>
    (k0_pay8 q (fold0 q k v n).1 (rows192 k (Fin.ofNat 4 n)),
     k0_pay11 q (fold0 q k v n).1 (fold0 q k v n).2.1 (rows192 k (Fin.ofNat 4 n)),
     k0_pay12 q (fold0 q k v n).1 (fold0 q k v n).2.2 (rows192 k (Fin.ofNat 4 n)) (rows128 v (Fin.ofNat 4 n)))

/-- The block of the output: the carried values before the diagonal block, the diagonal block under its mask, and the quotient. -/
def fwdO (j : Fin 4) (q : Vec F S1x1024x192 .bf16) (k : Vec F S1x4096x192 .bf16) (v : Vec F S1x4096x128 .bf16) : Vec F S1024x128 .f32 :=
  k0_pay1 (k0_pay23 q (fold0 q k v j.val).1 (fold0 q k v j.val).2.1 (rows192 k j)) (k0_pay24 q (fold0 q k v j.val).1 (fold0 q k v j.val).2.2 (rows192 k j))
    (k0_pay25 q (fold0 q k v j.val).1 (rows192 k j)) (rows128 v j)

/-- The block of log-sum-exps, each held in every column of its row. -/
def fwdLse (j : Fin 4) (q : Vec F S1x1024x192 .bf16) (k : Vec F S1x4096x192 .bf16) (v : Vec F S1x4096x128 .bf16) : Vec F S1x1024x128 .f32 :=
  k0_pay2 (k0_pay20 q (fold0 q k v j.val).1 (rows192 k j)) (k0_pay23 q (fold0 q k v j.val).1 (fold0 q k v j.val).2.1 (rows192 k j))

/-- The first loop runs once for each key block before the diagonal one. -/
theorem trips0_1 : ∀ i : grid0.Coords, Scf.trips (k0_t1_loop i).lb (k0_t1_loop i).ub (k0_t1_loop i).st = (i 1).val := by decide +kernel
/-- The second loop, the first one's remainder, never runs. -/
theorem trips0_2 : ∀ i : grid0.Coords, Scf.trips (k0_t2_loop i).lb (k0_t2_loop i).ub (k0_t2_loop i).st = 0 := by decide +kernel

section
variable (𝒱 : Variants) (c : Dev nD) (bd : Option 𝒱.V) (i : grid0.Coords) (arg2 : Memref sig .tc .vmem S1x1024x192 .bf16) (harg2 : arg2.IsWhole) (arg3 : Memref sig .tc .vmem S1x4096x192 .bf16) (harg3 : arg3.IsWhole) (arg4 : Memref sig .tc .vmem S1x4096x128 .bf16) (harg4 : arg4.IsWhole) (arg5 : Memref sig .tc .vmem S1024x128 .f32) (harg5 : arg5.IsWhole) (arg6 : Memref sig .tc .vmem S1x1024x128 .f32) (harg6 : arg6.IsWhole)

/-- The first loop's carried values are the recursion's. -/
theorem loop0_eq (q : Vec F S1x1024x192 .bf16) (x1 : Vec F S1x4096x192 .bf16) (x2 : Vec F S1x4096x128 .bf16) (n : ℕ) (hn : n ≤ (k0_t1_loop i).trips) :
    st_k0_t1 (F := F) 𝒱 c bd i arg2 harg2 arg3 harg3 arg4 harg4 arg5 harg5 arg6 harg6 q (harg3.unread x1) (harg4.unread x2) (k0_pay4, k0_pay5, k0_pay6) n = fold0 q x1 x2 n := by
  induction n with
  | zero => rfl
  | succ n ih =>
    have h4 : n < 4 := by have := (k0_t1_abs i).2.1; omega
    have e : Fin.ofNat 4 n = ⟨n, h4⟩ := Fin.ext (Nat.mod_eq_of_lt h4)
    rw [st_k0_t1_succ (k := ⟨n, hn⟩), ih (by omega)]
    unfold tripR_k0_t1 trip_k0_t1
    dsimp only
    rw [read_rows192 _ _ (Fin.ofNat 4 n) ((k0_off1_eq i ⟨n, hn⟩).trans (by rw [e])), read_rows128 _ _ (Fin.ofNat 4 n) ((k0_off2_eq i ⟨n, hn⟩).trans (by rw [e])),
      harg3.read_unread, harg4.read_unread]
    rfl

set_option maxHeartbeats 1000000 in
/-- The body at a point: from the staging memrefs at a block of queries and at the head's keys and values, it leaves those and the two output blocks. -/
theorem body0 (x0 : Vec F S1x1024x192 .bf16) (x1 : Vec F S1x4096x192 .bf16) (x2 : Vec F S1x4096x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (fwdO (i 1) x0 x1 x2) ∗ owns (c : Thread nD τ) arg6 fullShare (fwdLse (i 1) x0 x1 x2)) -∗ K ⟨⟩))
      ⊢ wp frame (wpE (defs₀ (F := F)) Variants.none c none) E (cc0_attn_fwd i arg2 harg2 arg3 harg3 arg4 harg4 arg5 harg5 arg6 harg6) K := by
  simp only [cc0_attn_fwd_eq_skeleton]; unfold cc0_attn_fwd_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_full]
    unfold body0.sl.r_1 body0.sl.r_2 body0.sl.r_3
    (rw [trips0_2, trips0_1, View.readAt_full, harg2.read_unread, read_rows192 _ _ (i 1) (k0_off5_eq i), harg3.read_unread])
    (rw [st_k0_t2_zero, loop0_eq _ _ _ _ _ _ _ _ _ _ _ _ _ _ _ _ _ _ (trips0_1 i).symm.le])
    erw [read_rows128 _ _ (i 1) (k0_off6_eq i), harg4.read_unread]
    rfl
  iexists _; isplitr
  swap; · iexact H4
  ipureintro
  rw [View.read_writes_full]
  unfold body0.sl.r body0.sl.r_1
  (rw [trips0_2, trips0_1, View.readAt_full, harg2.read_unread, read_rows192 _ _ (i 1) (k0_off5_eq i), harg3.read_unread])
  (rw [st_k0_t2_zero, loop0_eq _ _ _ _ _ _ _ _ _ _ _ _ _ _ _ _ _ _ (trips0_1 i).symm.le])
  rfl

end

end Cert.KernelIdeal.Own

end
-- ==== Proof.Region0.lean ====
/- The forward call as a pipeline: what each window holds before and after the body at every grid point, and the body's obligation there. -/
module

public import proofs.«01_k».proof.Proof.Body0
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- What window `w` of the forward call names of its array, entered at `V`, at point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The proof data of the forward call: its arrays at `V`; after the body each operand's block as it was and each result's block at what the body computes. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => fwdO (grid0.coords t 1) (blk0 V c 0 t) (blk0 V c 1 t) (blk0 V c 2 t)
    | ⟨4, _⟩ => fwdLse (grid0.coords t 1) (blk0 V c 0 t) (blk0 V c 1 t) (blk0 V c 2 t)
  Φ _ := Pipeline.ΦA spec0 c
  q _ := fullShare
  owed _ := 0

theorem A0_eq (c : Dev nD) (w : Fin cfg0.W) : (dat0 V c).A w = V c (Proc.devRef .tc (Pipeline.arrRef spec0 w)) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = fwdO (grid0.coords t 1) (blk0 V c 0 t) (blk0 V c 1 t) (blk0 V c 2 t) := by dsimp only [dat0]
theorem after0_4 (c : Dev nD) (t : Fin cfg0.N) : (dat0 V c).after 4 t = fwdLse (grid0.coords t 1) (blk0 V c 0 t) (blk0 V c 1 t) (blk0 V c 2 t) := by dsimp only [dat0]

theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A0_eq]; try rfl) t d).trans
    (by unfold Dat.fetched Dat.blockOf blk0; rw [A0_eq]; try rfl)

/-- What the body is called with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1600000 in
/-- The body at any point, by its triple. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (body0 c (grid0.coords t) _ _ _ _ _ _ _ _ _ _ (blk0 V c 0 t) (blk0 V c 1 t) (blk0 V c 2 t) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body there. -/
theorem row0 (t : Fin cfg0.N) : defs₀ (F := F) .tc cfg0.body (cfg0.bodyArgs t (cfg0.slots t)) = bodyAt0 t := by
  unfold defs₀; rw [Defs.onTc_tc]

/-- The body's obligation at every point. -/
theorem obligation0 (c : Dev nD) : BodyObligation (dat0 V c) (defs₀ (F := F)) Variants.none () Set.univ := fun t => by
  rw [bigSep_W0, bigSep_W0, row0]
  exact triple_restated (sound0 V c t) rfl .rfl fun _ => .rfl

end Cert.KernelIdeal.Own

end
-- ==== Proof.Body1.lean ====
/- The backward call's body at one grid point: its loop over the row blocks below the diagonal as a plain recursion, and the triple that says what the body leaves in
   the three gradients' buffers. -/
module

public import proofs.«01_k».proof.Proof.Body0

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows `1024 c` to `1024 c + 1023` of one head's columns of the output's gradient. -/
def rowsDo {e : EltTy} (x : Vec F S4096x128 e) (c : Fin 4) : Vec F S1024x128 e :=
  VecWindow.window x ![1024 * c.val, 0] S1024x128.size (by revert c; decide)

/-- The first column of rows `1024 c` to `1024 c + 1023`. -/
def col {e : EltTy} (x : Vec F S1x4096x128 e) (c : Fin 4) : Vec F S1x1024x1 e :=
  VecWindow.window x ![0, 1024 * c.val, 0] S1x1024x1.size (by revert c; decide)

/-- One head's queries' gradient with rows `1024 c` to `1024 c + 1023` replaced. -/
def putRows (x : Vec F S1x4096x192 .f32) (c : Fin 4) (w : Vec F S1x1024x192 .f32) : Vec F S1x4096x192 .f32 :=
  VecWindow.put x ![0, 1024 * c.val, 0] S1x1024x192.size w

theorem read_rowsDo {e : EltTy} (v : View sig .tc .vmem S4096x128 e) (f : v.ty.Contents (Elt F)) (c : Fin 4) {off : Fin 2 → ℕ} (h : off = ![1024 * c.val, 0])
    (inb : ∀ a, off a + S1024x128.size a ≤ S4096x128.size a) :
    v.readAt (Elt F) (Rect.unit (s := S4096x128) off S1024x128.size inb).toLoadRect f = rowsDo (v.read (Elt F) f) c := by subst h; rfl
theorem read_col {e : EltTy} (v : View sig .tc .vmem S1x4096x128 e) (f : v.ty.Contents (Elt F)) (c : Fin 4) {off : Fin 3 → ℕ} (h : off = ![0, 1024 * c.val, 0])
    (inb : ∀ a, off a + S1x1024x1.size a ≤ S1x4096x128.size a) :
    v.readAt (Elt F) (Rect.unit (s := S1x4096x128) off S1x1024x1.size inb).toLoadRect f = col (v.read (Elt F) f) c := by subst h; rfl
theorem read_putRows (v : View sig .tc .vmem S1x4096x192 .f32) (f : v.ty.Contents (Elt F)) (c : Fin 4) {off : Fin 3 → ℕ} (h : off = ![0, 1024 * c.val, 0])
    (inb : ∀ a, off a + S1x1024x192.size a ≤ S1x4096x192.size a) (w : Vec F S1x1024x192 .f32) (L : List (View.Piece (Elt F) S1x4096x192 .f32)) :
    v.read (Elt F) (v.writes (Elt F) f (⟨Rect.unit (s := S1x4096x192) off S1x1024x192.size inb, w⟩ :: L)) = putRows (v.read (Elt F) (v.writes (Elt F) f L)) c w :=
  View.read_writes_cons_put v f inb w L h

/-- What the backward pass carries from row block to row block: the gradients of the point's keys and values, and the head's queries' gradient. -/
abbrev Carry1 (F : FTy → Type) : Type := (FVec F S1024x192 .f32 × FVec F S1024x128 .f32) × Vec F S1x4096x192 .f32

section
variable (j : Fin 4) (q : Vec F S1x4096x192 .bf16) (k : Vec F S1x1024x192 .bf16) (v : Vec F S1x1024x128 .bf16) (g : Vec F S4096x128 .bf16) (lse dl : Vec F S1x4096x128 .f32) (d : Vec F S1x4096x192 .f32)

/-- The carried values after the diagonal block and the first `n` row blocks below it. -/
def fold1 : ℕ → Carry1 F
  | 0 =>
    ((k1_pay2 k1_pay21 (k1_pay22 (rows192 q j)) (k1_pay23 k (rows192 q j) (col lse j)) (k1_pay25 v (rowsDo g j)) (k1_pay26 (col dl j)),
      k1_pay24 k (rows192 q j) (rowsDo g j) (col lse j)),
     putRows d j (k1_pay3 (k1_pay19 k) (k1_pay23 k (rows192 q j) (col lse j)) (k1_pay25 v (rowsDo g j)) (k1_pay26 (col dl j)) (rows192 d j)))
  | n + 1 =>
    have c : Fin 4 := Fin.ofNat 4 (j.val + n + 1)
    ((k1_pay8 (k1_pay19 k) (k1_pay20 v) (fold1 n).1.1 (rows192 q c) (rowsDo g c) (col lse c) (col dl c),
      k1_pay6 (k1_pay19 k) (fold1 n).1.2 (rows192 q c) (rowsDo g c) (col lse c)),
     putRows (fold1 n).2 c (k1_pay9 (k1_pay19 k) (k1_pay20 v) (rows192 q c) (rowsDo g c) (col lse c) (col dl c) (rows192 (fold1 n).2 c)))

/-- The gradient of the point's keys. -/
def bwdDk : Vec F S1x1024x192 .f32 := k1_pay16 (fold1 j q k v g lse dl d (3 - j.val)).1.1
/-- The gradient of the point's values. -/
def bwdDv : Vec F S1x1024x128 .f32 := k1_pay17 (fold1 j q k v g lse dl d (3 - j.val)).1.2
/-- The head's queries' gradient after the point, which found `d` there. -/
def bwdDq : Vec F S1x4096x192 .f32 := (fold1 j q k v g lse dl d (3 - j.val)).2

end

/-- The loop runs once for each row block below the diagonal one. -/
theorem trips1_1 : ∀ i : grid1.Coords, Scf.trips (k1_t1_loop i).lb (k1_t1_loop i).ub (k1_t1_loop i).st = 3 - (i 1).val := by decide +kernel
/-- The second loop, the first one's remainder, never runs. -/
theorem trips1_2 : ∀ i : grid1.Coords, Scf.trips (k1_t2_loop i).lb (k1_t2_loop i).ub (k1_t2_loop i).st = 0 := by decide +kernel

/-- The body clears the queries' gradient: at the first key block of a head. -/
abbrev clears (i : grid1.Coords) : Prop := Scalar.cmpi .ne (Scalar.extui (Scalar.cmpi .eq (BitVec.ofNat 32 (i 1).val) 0#32) : BitVec 32) 0#32 = 1#1

theorem clears_iff : ∀ i : grid1.Coords, clears i ↔ (i 1).val = 0 := by decide +kernel

section
variable (𝒱 : Variants) (c : Dev nD) (bd : Option 𝒱.V) (i : grid1.Coords) (arg2 : Memref sig .tc .vmem S1x4096x192 .bf16) (harg2 : arg2.IsWhole) (arg3 : Memref sig .tc .vmem S1x1024x192 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x192 .f32) (harg8 : arg8.IsWhole) (arg9 : Memref sig .tc .vmem S1x1024x192 .f32) (harg9 : arg9.IsWhole) (arg10 : Memref sig .tc .vmem S1x1024x128 .f32) (harg10 : arg10.IsWhole)

/-- The loop's carried values and what its stores leave are the recursion's. -/
theorem loop1_eq (q : Vec F S1x4096x192 .bf16) (k : Vec F S1x1024x192 .bf16) (v : Vec F S1x1024x128 .bf16) (g : Vec F S4096x128 .bf16) (lse dl : Vec F S1x4096x128 .f32) (d : Vec F S1x4096x192 .f32)
    (G : BufTy.Contents (Elt F) arg8.view.ty) (hG : arg8.view.read (Elt F) G = (fold1 (i 1) q k v g lse dl d 0).2) (n : ℕ) (hn : n ≤ (k1_t1_loop i).trips) :
    (st_k1_t1 (F := F) 𝒱 c bd i arg2 harg2 arg3 harg3 arg4 harg4 arg5 harg5 arg6 harg6 arg7 harg7 arg8 harg8 arg9 harg9 arg10 harg10 (k1_pay19 k) (k1_pay20 v) (harg2.unread q) (harg5.unread g) (harg6.unread lse) (harg7.unread dl) G (fold1 (i 1) q k v g lse dl d 0).1 n).1 = (fold1 (i 1) q k v g lse dl d n).1
    ∧ arg8.view.read (Elt F) (arg8.view.writes (Elt F) G (st_k1_t1 (F := F) 𝒱 c bd i arg2 harg2 arg3 harg3 arg4 harg4 arg5 harg5 arg6 harg6 arg7 harg7 arg8 harg8 arg9 harg9 arg10 harg10 (k1_pay19 k) (k1_pay20 v) (harg2.unread q) (harg5.unread g) (harg6.unread lse) (harg7.unread dl) G (fold1 (i 1) q k v g lse dl d 0).1 n).2) = (fold1 (i 1) q k v g lse dl d n).2 := by
  induction n with
  | zero => exact ⟨rfl, hG⟩
  | succ n ih =>
    obtain ⟨ih1, ih2⟩ := ih (by omega)
    have h4 : (i 1).val + n + 1 < 4 := by have := trips1_1 i; have : (k1_t1_loop i).trips = 3 - (i 1).val := this; omega
    have e : (Fin.ofNat 4 ((i 1).val + n + 1)).val = (i 1).val + n + 1 := Nat.mod_eq_of_lt h4
    have e1 : 1024 * (Fin.ofNat 4 ((i 1).val + n + 1)).val = 1024 * (i 1).val + 1024 * n + 1024 := by rw [e]; omega
    rw [st_k1_t1_succ (k := ⟨n, hn⟩)]
    dsimp only
    rw [ih1]
    unfold tripR_k1_t1 tripL_k1_t1 trip_k1_t1
    dsimp only
    have o4 := (k1_off4_eq i ⟨n, hn⟩).trans (by rw [e1] : _ = ![0, 1024 * (Fin.ofNat 4 ((i 1).val + n + 1)).val, 0])
    have o5 := (k1_off5_eq i ⟨n, hn⟩).trans (by rw [e1] : _ = ![1024 * (Fin.ofNat 4 ((i 1).val + n + 1)).val, 0])
    have o6 := (k1_off6_eq i ⟨n, hn⟩).trans (by rw [e1] : _ = ![0, 1024 * (Fin.ofNat 4 ((i 1).val + n + 1)).val, 0])
    have r2 := read_rows192 arg2.view (harg2.unread q) _ o4 (k1_off4_inb i ⟨n, hn⟩)
    have r5 := read_rowsDo arg5.view (harg5.unread g) _ o5 (k1_off5_inb i ⟨n, hn⟩)
    have r6 := read_col arg6.view (harg6.unread lse) _ o6 (k1_off6_inb i ⟨n, hn⟩)
    have r7 := read_col arg7.view (harg7.unread dl) _ o6 (k1_off6_inb i ⟨n, hn⟩)
    rw [harg2.read_unread] at r2; rw [harg5.read_unread] at r5; rw [harg6.read_unread] at r6; rw [harg7.read_unread] at r7
    constructor
    · erw [r2, r5, r6, r7]; rfl
    · erw [List.singleton_append, read_putRows _ _ _ o4, ih2, r2, r5, r6, r7, read_rows192 _ _ _ o4, ih2]; rfl

set_option maxHeartbeats 2000000 in
/-- The body at a point: from the staging memrefs at the six operands' blocks and the queries' gradient at `d`, it leaves the operands and the three gradients. -/
theorem body1 (x0 : Vec F S1x4096x192 .bf16) (x1 : Vec F S1x1024x192 .bf16) (x2 : Vec F S1x1024x128 .bf16) (x3 : Vec F S4096x128 .bf16) (x4 : Vec F S1x4096x128 .f32) (x5 : Vec F S1x4096x128 .f32) (d : Vec F S1x4096x192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (bwdDq (i 1) x0 x1 x2 x3 x4 x5 (if (i 1).val = 0 then k1_pay18 else d)) ∗ owns (c : Thread nD τ) arg9 fullShare (bwdDk (i 1) x0 x1 x2 x3 x4 x5 (if (i 1).val = 0 then k1_pay18 else d)) ∗ owns (c : Thread nD τ) arg10 fullShare (bwdDv (i 1) x0 x1 x2 x3 x4 x5 (if (i 1).val = 0 then k1_pay18 else d))) -∗ K ⟨⟩))
      ⊢ wp frame (wpE (defs₀ (F := F)) Variants.none c none) E (cc1_attn_bwd i arg2 harg2 arg3 harg3 arg4 harg4 arg5 harg5 arg6 harg6 arg7 harg7 arg8 harg8 arg9 harg9 arg10 harg10) K := by
  simp only [cc1_attn_bwd_eq_skeleton]; unfold cc1_attn_bwd_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  sl_step
  have e_r : body1.sl.r c arg3 harg3 x1 = k1_pay19 x1 := by unfold body1.sl.r; rw [View.readAt_full, harg3.read_unread]
  have e_r1 : body1.sl.r_1 c arg4 harg4 x2 = k1_pay20 x2 := by unfold body1.sl.r_1; rw [View.readAt_full, harg4.read_unread]
  have e_q := read_rows192 arg2.view (harg2.unread x0) (i 1) (k1_off1_eq i) (k1_off1_inb i)
  have e_g := read_rowsDo arg5.view (harg5.unread x3) (i 1) (k1_off2_eq i) (k1_off2_inb i)
  have e_l := read_col arg6.view (harg6.unread x4) (i 1) (k1_off3_eq i) (k1_off3_inb i)
  have e_d := read_col arg7.view (harg7.unread x5) (i 1) (k1_off3_eq i) (k1_off3_inb i)
  rw [harg2.read_unread] at e_q; rw [harg5.read_unread] at e_g; rw [harg6.read_unread] at e_l; rw [harg7.read_unread] at e_d
  have e_r2 : body1.sl.r_2 c i arg2 harg2 x0 = k1_pay22 (rows192 x0 (i 1)) := by unfold body1.sl.r_2; erw [e_q]
  have e_r3 : body1.sl.r_3 c i arg2 harg2 arg3 harg3 arg6 harg6 x0 x1 x4 = k1_pay23 x1 (rows192 x0 (i 1)) (col x4 (i 1)) := by
    unfold body1.sl.r_3; erw [e_q, e_l, View.readAt_full, harg3.read_unread]
  have e_r4 : body1.sl.r_4 c i arg2 harg2 arg3 harg3 arg5 harg5 arg6 harg6 x0 x1 x3 x4 = k1_pay24 x1 (rows192 x0 (i 1)) (rowsDo x3 (i 1)) (col x4 (i 1)) := by
    unfold body1.sl.r_4; erw [e_q, e_l, e_g, View.readAt_full, harg3.read_unread]
  have e_r5 : body1.sl.r_5 c i arg4 harg4 arg5 harg5 x2 x3 = k1_pay25 x2 (rowsDo x3 (i 1)) := by
    unfold body1.sl.r_5; erw [e_g, View.readAt_full, harg4.read_unread]
  have e_r6 : body1.sl.r_6 c i arg7 harg7 x5 = k1_pay26 (col x5 (i 1)) := by unfold body1.sl.r_6; erw [e_d]
  generalize hD : (if (i 1).val = 0 then k1_pay18 else d : Vec F S1x4096x192 .f32) = D
  have hG0 : arg8.view.read (Elt F) (if hc : body1.sl.v2 i = 1#1 then
      arg8.view.writes (Elt F) f6 [⟨Rect.unit ![0, 0, 0] S1x4096x192.size inb_S1x4096x192_S1x4096x192_0_0_0, k1_pay18⟩] else f6) = D := by
    rw [← hD]
    by_cases hc : clears i
    · have hc' : body1.sl.v2 i = 1#1 := by unfold body1.sl.v2 body1.sl.v1 body1.sl.v0; exact hc
      rw [dif_pos hc', if_pos ((clears_iff i).mp hc), View.read_writes_full]
    · have hc' : ¬ body1.sl.v2 i = 1#1 := by unfold body1.sl.v2 body1.sl.v1 body1.sl.v0; exact hc
      rw [dif_neg hc', if_neg (fun h => hc ((clears_iff i).mpr h)), hf6]
  have e_v : body1.sl.v42 c i arg8 f6 = rows192 D (i 1) := by
    unfold body1.sl.v42; erw [read_rows192 _ _ (i 1) (k1_off1_eq i), hG0]
  rw [e_r, e_r1, e_r2, e_r3, e_r4, e_r5, e_r6, e_v]
  generalize (if hc : body1.sl.v2 i = 1#1 then
      arg8.view.writes (Elt F) f6 [⟨Rect.unit ![0, 0, 0] S1x4096x192.size inb_S1x4096x192_S1x4096x192_0_0_0, k1_pay18⟩] else f6) = G0 at hG0 ⊢
  have hL := loop1_eq Variants.none c none i arg2 harg2 arg3 harg3 arg4 harg4 arg5 harg5 arg6 harg6 arg7 harg7 arg8 harg8 arg9 harg9 arg10 harg10 x0 x1 x2 x3 x4 x5 D
    (arg8.view.writes (Elt F) G0 [⟨Rect.unit (s := S1x4096x192) (k1_off1 i) S1x1024x192.size (k1_off1_inb i),
      k1_pay3 (k1_pay19 x1) (k1_pay23 x1 (rows192 x0 (i 1)) (col x4 (i 1))) (k1_pay25 x2 (rowsDo x3 (i 1))) (k1_pay26 (col x5 (i 1))) (rows192 D (i 1))⟩])
    (by rw [read_putRows _ _ _ (k1_off1_eq i), View.writes_nil, hG0]; rfl) (3 - (i 1).val) (trips1_1 i).symm.le
  rw [trips1_1, trips1_2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    show arg8.view.read (Elt F) (arg8.view.writes (Elt F) G0 (_ ++ [_])) = _
    rw [View.writes_append]
    exact hL.2
  isplitl [H7]
  · iexists _; isplitr; swap; · iexact H7
    ipureintro
    rw [View.read_writes_full]
    exact congrArg k1_pay16 (congrArg Prod.fst hL.1)
  iexists _; isplitr; swap; · iexact H8
  ipureintro
  rw [View.read_writes_full]
  exact congrArg k1_pay17 (congrArg Prod.snd hL.1)

end

end Cert.KernelIdeal.Own

end
-- ==== Proof.Region1.lean ====
/- The backward call as a pipeline: what each window holds before and after the body at every grid point, and the body's obligation there. -/
module

public import proofs.«01_k».proof.Proof.Body1
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- What window `w` of the backward call names of its array, entered at `V`, at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- Point `n` of the backward call's grid, as a point whatever `n` is. -/
def pt1 (n : ℕ) : Fin cfg1.N := ⟨n % 32, lt_of_lt_of_eq (Nat.mod_lt n (by decide)) N_1.symm⟩

theorem pt1_val (t : Fin cfg1.N) : pt1 t.val = t := Fin.ext (Nat.mod_eq_of_lt (lt_of_lt_of_eq t.isLt N_1))

/-- The queries' gradient the body at a point starts from, the point before having left `d`. -/
def from1 (t : Fin cfg1.N) (d : Vec F S1x4096x192 .f32) : Vec F S1x4096x192 .f32 := if (grid1.coords t 1).val = 0 then k1_pay18 else d

/-- The queries' gradient after the body at point `n`: from zero at a head's first point, from what the point before left otherwise. -/
def dqAt (c : Dev nD) : ℕ → Vec F S1x4096x192 .f32
  | 0 => bwdDq (grid1.coords (pt1 0) 1) (blk1 V c 0 (pt1 0)) (blk1 V c 1 (pt1 0)) (blk1 V c 2 (pt1 0)) (blk1 V c 3 (pt1 0)) (blk1 V c 4 (pt1 0)) (blk1 V c 5 (pt1 0)) (from1 (pt1 0) k1_pay18)
  | n + 1 => bwdDq (grid1.coords (pt1 (n + 1)) 1) (blk1 V c 0 (pt1 (n + 1))) (blk1 V c 1 (pt1 (n + 1))) (blk1 V c 2 (pt1 (n + 1))) (blk1 V c 3 (pt1 (n + 1))) (blk1 V c 4 (pt1 (n + 1))) (blk1 V c 5 (pt1 (n + 1))) (from1 (pt1 (n + 1)) (dqAt c n))

/-- The proof data of the backward call: its arrays at `V`; after the body each operand's block as it was and each result's block at what the body computes. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => dqAt V c t.val
    | ⟨7, _⟩ => bwdDk (grid1.coords t 1) (blk1 V c 0 t) (blk1 V c 1 t) (blk1 V c 2 t) (blk1 V c 3 t) (blk1 V c 4 t) (blk1 V c 5 t) (from1 t (dqAt V c (t.val - 1)))
    | ⟨8, _⟩ => bwdDv (grid1.coords t 1) (blk1 V c 0 t) (blk1 V c 1 t) (blk1 V c 2 t) (blk1 V c 3 t) (blk1 V c 4 t) (blk1 V c 5 t) (from1 t (dqAt V c (t.val - 1)))
  Φ _ := Pipeline.ΦA spec1 c
  q _ := fullShare
  owed _ := 0

theorem A1_eq (c : Dev nD) (w : Fin cfg1.W) : (dat1 V c).A w = V c (Proc.devRef .tc (Pipeline.arrRef spec1 w)) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = dqAt V c t.val := by dsimp only [dat1]
theorem after1_7 (c : Dev nD) (t : Fin cfg1.N) : (dat1 V c).after 7 t = bwdDk (grid1.coords t 1) (blk1 V c 0 t) (blk1 V c 1 t) (blk1 V c 2 t) (blk1 V c 3 t) (blk1 V c 4 t) (blk1 V c 5 t) (from1 t (dqAt V c (t.val - 1))) := by dsimp only [dat1]
theorem after1_8 (c : Dev nD) (t : Fin cfg1.N) : (dat1 V c).after 8 t = bwdDv (grid1.coords t 1) (blk1 V c 0 t) (blk1 V c 1 t) (blk1 V c 2 t) (blk1 V c 3 t) (blk1 V c 4 t) (blk1 V c 5 t) (from1 t (dqAt V c (t.val - 1))) := by dsimp only [dat1]

theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A1_eq]; try rfl) t d).trans
    (by unfold Dat.fetched Dat.blockOf blk1; rw [A1_eq]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A1_eq]; try rfl) t d).trans
    (by unfold Dat.fetched Dat.blockOf blk1; rw [A1_eq]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A1_eq]; try rfl) t d).trans
    (by unfold Dat.fetched Dat.blockOf blk1; rw [A1_eq]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A1_eq]; try rfl) t d).trans
    (by unfold Dat.fetched Dat.blockOf blk1; rw [A1_eq]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A1_eq]; try rfl) t d).trans
    (by unfold Dat.fetched Dat.blockOf blk1; rw [A1_eq]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [A1_eq]; try rfl) t d).trans
    (by unfold Dat.fetched Dat.blockOf blk1; rw [A1_eq]; try rfl)

theorem coord1 (t : Fin cfg1.N) : (grid1.coords t 1).val = t.val % 4 := by
  have e : (grid1.coords t 1).val = t.val / 1 % 4 := Pipeline.Grid.coords_val t 1 (by decide) rfl
  rw [e, Nat.div_one]

/-- What the body starts from at a point is what the point before left, or zero at a head's first point. -/
theorem from1_before (c : Dev nD) (t : Fin cfg1.N) (d) : from1 t ((dat1 V c).before 6 t d) = from1 t (dqAt V c (t.val - 1)) := by
  unfold from1
  rw [coord1]
  by_cases h : t.val % 4 = 0
  · rw [if_pos h, if_pos h]
  · rw [if_neg h, if_neg h]
    have hf : (cfg1.win 6).flush ⟨t.val - 1, Nat.lt_of_le_of_lt (Nat.sub_le _ _) t.isLt⟩ = false := by
      rw [Bool.eq_false_iff]
      intro h'
      have := (flush1_6 ⟨t.val - 1, Nat.lt_of_le_of_lt (Nat.sub_le _ _) t.isLt⟩).mp h'
      simp only at this
      omega
    rw [(dat1 V c).before_out_kept 6 rfl t (by omega) hf (fun _ => rfl) (fun _ _ => rfl), after1_6]

/-- One step of the queries' gradient. -/
theorem dqAt_step (c : Dev nD) (t : Fin cfg1.N) : dqAt V c t.val = bwdDq (grid1.coords t 1) (blk1 V c 0 t) (blk1 V c 1 t) (blk1 V c 2 t) (blk1 V c 3 t) (blk1 V c 4 t) (blk1 V c 5 t) (from1 t (dqAt V c (t.val - 1))) := by
  obtain ⟨n, hn⟩ := t
  cases n with
  | zero =>
    have e : pt1 0 = ⟨0, hn⟩ := pt1_val ⟨0, hn⟩
    show dqAt V c 0 = _
    unfold dqAt
    rw [e]
    unfold from1
    rw [if_pos ((coord1 _).trans (Nat.zero_mod 4)), if_pos ((coord1 _).trans (Nat.zero_mod 4))]
  | succ n =>
    have e : pt1 (n + 1) = ⟨n + 1, hn⟩ := pt1_val ⟨n + 1, hn⟩
    show dqAt V c (n + 1) = _
    rw [dqAt, e]
    rfl

/-- What the body is called with at point `t`, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1600000 in
/-- The body at any point, by its triple. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [dqAt_step, ← from1_before V c t d6]
  iapply (body1 c (grid1.coords t) _ _ _ _ _ _ _ _ _ _ _ _ _ _ _ _ _ _ (blk1 V c 0 t) (blk1 V c 1 t) (blk1 V c 2 t) (blk1 V c 3 t) (blk1 V c 4 t) (blk1 V c 5 t) ((dat1 V c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body there. -/
theorem row1 (t : Fin cfg1.N) : defs₀ (F := F) .tc cfg1.body (cfg1.bodyArgs t (cfg1.slots t)) = bodyAt1 t := by
  unfold defs₀; rw [Defs.onTc_tc]

/-- The body's obligation at every point. -/
theorem obligation1 (c : Dev nD) : BodyObligation (dat1 V c) (defs₀ (F := F)) Variants.none () Set.univ := fun t => by
  rw [bigSep_W1, bigSep_W1, row1]
  exact triple_restated (sound1 V c t) rfl .rfl fun _ => .rfl

end Cert.KernelIdeal.Own

end
-- ==== Proof.Run.lean ====
/- The run of @main: the two calls as regions around the host stretch that computes the rows' sums, and what every buffer holds at the end. -/
module

public import proofs.«01_k».proof.Proof.Region0
public import proofs.«01_k».proof.Proof.Region1
public import proofs.«01_k».proof.Proof.Gen.KernelIdeal.Regions
public import Idealize.ShloMosaic.Lib.Pipeline.RegionArrays

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the forward call leaves in the buffers it writes. -/
def outs0 (r : Ref sig .tc) (c : Dev nD) : Buf (Elt F) ((c : Thread nD τ).loc r) :=
  Function.update (Function.update (fun b => V0 m c b) (Proc.devRef .tc main_v0_0) ((dat0 (V0 m) c).arrAt 3 cfg0.N))
    (Proc.devRef .tc main_v0_1) ((dat0 (V0 m) c).arrAt 4 cfg0.N) (Proc.devRef .tc r)

/-- The buffers' contents when the backward call is entered. -/
def entry1 (c : Dev nD) : Valuation τ sig (Elt F) := V2 m (fun _ => outs0 m) c

/-- What the backward call leaves in the buffers it writes. -/
def outs1 (r : Ref sig .tc) (c : Dev nD) : Buf (Elt F) ((c : Thread nD τ).loc r) :=
  Function.update (Function.update (Function.update (fun b => entry1 m c b) (Proc.devRef .tc main_v8_0) ((dat1 (entry1 m) c).arrAt 6 cfg1.N))
    (Proc.devRef .tc main_v8_1) ((dat1 (entry1 m) c).arrAt 7 cfg1.N)) (Proc.devRef .tc main_v8_2) ((dat1 (entry1 m) c).arrAt 8 cfg1.N) (Proc.devRef .tc r)

/-- What the two calls leave. -/
def outs : Outs (F := F)
  | 1 => outs0 m
  | _ => outs1 m

theorem outs0_o (c : Dev nD) : outs m 1 main_v0_0 c = (dat0 (V0 m) c).arrAt 3 cfg0.N := by
  show outs0 m main_v0_0 c = _
  unfold outs0
  rw [Function.update_of_ne (StableHlo.devRef_ne_of_ne (by decide)), Function.update_self]
theorem outs0_lse (c : Dev nD) : outs m 1 main_v0_1 c = (dat0 (V0 m) c).arrAt 4 cfg0.N := by
  show outs0 m main_v0_1 c = _
  unfold outs0
  rw [Function.update_self]
theorem outs1_dq (c : Dev nD) : outs m 3 main_v8_0 c = (dat1 (entry1 m) c).arrAt 6 cfg1.N := by
  show outs1 m main_v8_0 c = _
  unfold outs1
  rw [Function.update_of_ne (StableHlo.devRef_ne_of_ne (by decide)), Function.update_of_ne (StableHlo.devRef_ne_of_ne (by decide)), Function.update_self]
theorem outs1_dk (c : Dev nD) : outs m 3 main_v8_1 c = (dat1 (entry1 m) c).arrAt 7 cfg1.N := by
  show outs1 m main_v8_1 c = _
  unfold outs1
  rw [Function.update_of_ne (StableHlo.devRef_ne_of_ne (by decide)), Function.update_self]
theorem outs1_dv (c : Dev nD) : outs m 3 main_v8_2 c = (dat1 (entry1 m) c).arrAt 8 cfg1.N := by
  show outs1 m main_v8_2 c = _
  unfold outs1
  rw [Function.update_self]

theorem entry1_eq (c : Dev nD) : V2 m (outs m) c = entry1 m c := rfl

/-- The two calls' proof data. -/
def dats : (p : Fin 2) → (c : Dev nD) → Dat τ (Elt F) Unit ℕ (UR sig nD τ) ℕ (cfgs p) c
  | 0 => dat0 (V0 m)
  | 1 => dat1 (entry1 m)

/-- Every wait is at the one index of the TensorCore's semaphores, all at one level. -/
abbrev L : GSem nD τ sig → Finset Unit := fun g => if g.1.2 = .tc then {()} else ∅
abbrev lv : GSem nD τ sig → Unit → ℕ := fun _ _ => 0

theorem cut (p : Fin 2) : Pipeline.LevelCut (pcfgs (F := F)) adm () L lv p (fun _ => 0) (fun _ => 0) where
  hι c w s := by simp [L]
  hιb c w s := le_refl _
  hD c g i h := absurd h (by simp)

/-- What rides beside the buffers between the items: the generator register and nothing owed. -/
abbrev Ride (c : Dev nD) : sProp 𝕄 := iprop((∃ r, prngReg c r) ∗ ∃ W, owes (c : Thread nD τ) (0 : CellTallies nD τ sig Unit) W)

/-- The buffers a region does not name ride at what it was entered with. -/
theorem held_rest {gr W : ℕ} (win : Fin W → Pipeline.WinSpec sig gr) (V V' : Valuation τ sig (Elt F)) (c : Dev nD)
    (h : ∀ b ∈ Pipeline.ucRefs τ sig \ Pipeline.arrRefs win, V b = V' b) :
    (StableHlo.held (c : Thread nD τ) (Pipeline.ucRefs τ sig \ Pipeline.arrRefs win) V : sProp 𝕄) = StableHlo.held (c : Thread nD τ) (Pipeline.ucRefs τ sig \ Pipeline.arrRefs win) V' :=
  StableHlo.held_congr _ h

theorem sub0 : Pipeline.arrRefs (τ := τ) spec0 ⊆ Pipeline.ucRefs τ sig := Pipeline.arrRefs_sub_ucRefs _ (by decide)
theorem sub1 : Pipeline.arrRefs (τ := τ) spec1 ⊆ Pipeline.ucRefs τ sig := Pipeline.arrRefs_sub_ucRefs _ (by decide)

theorem mem_arrRefs {gr W : ℕ} (win : Fin W → Pipeline.WinSpec sig gr) (w : Fin W) : (Proc.devRef .tc (Pipeline.arrRef win w) : DevRef τ sig) ∈ Pipeline.arrRefs (τ := τ) win :=
  Finset.mem_map.mpr ⟨_, Finset.mem_image.mpr ⟨w, Finset.mem_univ _, rfl⟩, rfl⟩

/-- The forward call changes only its results. -/
theorem V1_rest (c : Dev nD) (b : DevRef τ sig) (hb : b ∈ Pipeline.ucRefs τ sig \ Pipeline.arrRefs spec0) : V0 m c b = V1 m (outs m) c b := by
  have h3 : b ≠ Proc.devRef .tc main_v0_0 := fun h => (Finset.mem_sdiff.mp hb).2 (h ▸ mem_arrRefs spec0 3)
  have h4 : b ≠ Proc.devRef .tc main_v0_1 := fun h => (Finset.mem_sdiff.mp hb).2 (h ▸ mem_arrRefs spec0 4)
  unfold V1
  rw [Function.update_of_ne h4, Function.update_of_ne h3]

theorem V3_rest (c : Dev nD) (b : DevRef τ sig) (hb : b ∈ Pipeline.ucRefs τ sig \ Pipeline.arrRefs spec1) : V2 m (outs m) c b = V3 m (outs m) c b := by
  have h6 : b ≠ Proc.devRef .tc main_v8_0 := fun h => (Finset.mem_sdiff.mp hb).2 (h ▸ mem_arrRefs spec1 6)
  have h7 : b ≠ Proc.devRef .tc main_v8_1 := fun h => (Finset.mem_sdiff.mp hb).2 (h ▸ mem_arrRefs spec1 7)
  have h8 : b ≠ Proc.devRef .tc main_v8_2 := fun h => (Finset.mem_sdiff.mp hb).2 (h ▸ mem_arrRefs spec1 8)
  unfold V3
  rw [Function.update_of_ne h8, Function.update_of_ne h7, Function.update_of_ne h6]

/-- The forward call's arrays at its end are the next valuation's. -/
theorem exit0 (c : Dev nD) (w : Fin cfg0.W) : (dat0 (V0 m) c).arrAt w cfg0.N = V1 m (outs m) c (Proc.devRef .tc (Pipeline.arrRef spec0 w)) := by
  match w with
  | ⟨0, _⟩ => exact ((dat0 (V0 m) c).arrAt_in 0 rfl _).trans (V1_of m (outs m) c main_arg0 (by decide)).symm
  | ⟨1, _⟩ => exact ((dat0 (V0 m) c).arrAt_in 1 rfl _).trans (V1_of m (outs m) c main_arg1 (by decide)).symm
  | ⟨2, _⟩ => exact ((dat0 (V0 m) c).arrAt_in 2 rfl _).trans (V1_of m (outs m) c main_arg2 (by decide)).symm
  | ⟨3, _⟩ =>
    refine (outs0_o m c).symm.trans ?_
    show _ = V1 m (outs m) c (Proc.devRef .tc main_v0_0)
    unfold V1
    rw [Function.update_of_ne (StableHlo.devRef_ne_of_ne (by decide)), Function.update_self]
  | ⟨4, _⟩ =>
    refine (outs0_lse m c).symm.trans ?_
    show _ = V1 m (outs m) c (Proc.devRef .tc main_v0_1)
    unfold V1
    rw [Function.update_self]

theorem exit1 (c : Dev nD) (w : Fin cfg1.W) : (dat1 (entry1 m) c).arrAt w cfg1.N = V3 m (outs m) c (Proc.devRef .tc (Pipeline.arrRef spec1 w)) := by
  match w with
  | ⟨0, _⟩ => exact ((dat1 (entry1 m) c).arrAt_in 0 rfl _).trans (V3_of m (outs m) c main_arg0 (by decide)).symm
  | ⟨1, _⟩ => exact ((dat1 (entry1 m) c).arrAt_in 1 rfl _).trans (V3_of m (outs m) c main_arg1 (by decide)).symm
  | ⟨2, _⟩ => exact ((dat1 (entry1 m) c).arrAt_in 2 rfl _).trans (V3_of m (outs m) c main_arg2 (by decide)).symm
  | ⟨3, _⟩ => exact ((dat1 (entry1 m) c).arrAt_in 3 rfl _).trans (V3_of m (outs m) c main_arg3 (by decide)).symm
  | ⟨4, _⟩ => exact ((dat1 (entry1 m) c).arrAt_in 4 rfl _).trans (V3_of m (outs m) c main_v0_1 (by decide)).symm
  | ⟨5, _⟩ => exact ((dat1 (entry1 m) c).arrAt_in 5 rfl _).trans (V3_of m (outs m) c main_v7 (by decide)).symm
  | ⟨6, _⟩ =>
    refine (outs1_dq m c).symm.trans ?_
    show _ = V3 m (outs m) c (Proc.devRef .tc main_v8_0)
    unfold V3
    rw [Function.update_of_ne (StableHlo.devRef_ne_of_ne (by decide)), Function.update_of_ne (StableHlo.devRef_ne_of_ne (by decide)), Function.update_self]
  | ⟨7, _⟩ =>
    refine (outs1_dk m c).symm.trans ?_
    show _ = V3 m (outs m) c (Proc.devRef .tc main_v8_1)
    unfold V3
    rw [Function.update_of_ne (StableHlo.devRef_ne_of_ne (by decide)), Function.update_self]
  | ⟨8, _⟩ =>
    refine (outs1_dv m c).symm.trans ?_
    show _ = V3 m (outs m) c (Proc.devRef .tc main_v8_2)
    unfold V3
    rw [Function.update_self]

set_option backward.isDefEq.respectTransparency.types false in
/-- The forward call's region. -/
def reg0 : RegionSeg (pcfgs (F := F)) adm (dats m) () defs₀ Variants.none L lv 0 :=
  Pipeline.RegionSeg.ofHeld (pcfgs (F := F)) adm (dats m) () defs₀ Variants.none L lv 0 (fun _ => 0)
    (fun c => iprop(∃ r, prngReg c r)) (fun c => iprop(∃ r, prngReg c r)) launch0.toP rfl
    (fun c => (obligation0 (V0 m) c).loose) (fun _ _ => rfl) (fun _ => rfl) (fun c => (dat0 (V0 m) c).share_full fun _ => rfl)
    (fun c => .rfl) (fun c => .rfl) (fun _ => 0) (cut 0)
    (fun c => StableHlo.held (c : Thread nD τ) (Pipeline.ucRefs τ sig \ Pipeline.arrRefs spec0) (V0 m c))
    (V0 m) (V1 m (outs m)) (fun c w => rfl) (exit0 m)

set_option backward.isDefEq.respectTransparency.types false in
/-- The backward call's region. -/
def reg1 : RegionSeg (pcfgs (F := F)) adm (dats m) () defs₀ Variants.none L lv 1 :=
  Pipeline.RegionSeg.ofHeld (pcfgs (F := F)) adm (dats m) () defs₀ Variants.none L lv 1 (fun _ => 0)
    (fun c => iprop(∃ r, prngReg c r)) (fun c => iprop(∃ r, prngReg c r)) launch1.toP rfl
    (fun c => (obligation1 (entry1 m) c).loose) (fun _ _ => rfl) (fun _ => rfl) (fun c => (dat1 (entry1 m) c).share_full fun _ => rfl)
    (fun c => .rfl) (fun c => .rfl) (fun _ => 0) (cut 1)
    (fun c => StableHlo.held (c : Thread nD τ) (Pipeline.ucRefs τ sig \ Pipeline.arrRefs spec1) (V2 m (outs m) c))
    (V2 m (outs m)) (V3 m (outs m)) (fun c w => rfl) (exit1 m)

theorem enter0 (c : Dev nD) : iprop(StableHlo.held (c : Thread nD τ) (Pipeline.ucRefs τ sig) (V0 m c) ∗ Ride c) ⊢ (reg0 m).pre c := by
  rw [StableHlo.held_sub_split _ sub0]
  show _ ⊢ iprop(StableHlo.held (c : Thread nD τ) (Pipeline.arrRefs spec0) (V0 m c) ∗ (∃ r, prngReg c r) ∗ _ ∗ ∃ Wd, owes (c : Thread nD τ) 0 Wd)
  iintro ⟨⟨Ha, Hr⟩, Hp, Ho⟩
  isplitl [Ha]; · iexact Ha
  isplitl [Hp]; · iexact Hp
  isplitl [Hr]; · iexact Hr
  iexact Ho

theorem leave0 (c : Dev nD) : (reg0 m).post c ⊢ iprop(StableHlo.held (c : Thread nD τ) (Pipeline.ucRefs τ sig) (V1 m (outs m) c) ∗ Ride c) := by
  rw [StableHlo.held_sub_split _ sub0, ← held_rest spec0 _ _ c (V1_rest m c)]
  show iprop(StableHlo.held (c : Thread nD τ) (Pipeline.arrRefs spec0) (V1 m (outs m) c) ∗ (∃ r, prngReg c r) ∗ _ ∗ ∃ Wd, owes (c : Thread nD τ) 0 Wd) ⊢ _
  iintro ⟨Ha, Hp, Hr, Ho⟩
  isplitl [Ha Hr]
  · isplitl [Ha]; · iexact Ha
    iexact Hr
  isplitl [Hp]; · iexact Hp
  iexact Ho

theorem enter1 (c : Dev nD) : iprop(StableHlo.held (c : Thread nD τ) (Pipeline.ucRefs τ sig) (V2 m (outs m) c) ∗ Ride c) ⊢ (reg1 m).pre c := by
  rw [StableHlo.held_sub_split _ sub1]
  show _ ⊢ iprop(StableHlo.held (c : Thread nD τ) (Pipeline.arrRefs spec1) (V2 m (outs m) c) ∗ (∃ r, prngReg c r) ∗ _ ∗ ∃ Wd, owes (c : Thread nD τ) 0 Wd)
  iintro ⟨⟨Ha, Hr⟩, Hp, Ho⟩
  isplitl [Ha]; · iexact Ha
  isplitl [Hp]; · iexact Hp
  isplitl [Hr]; · iexact Hr
  iexact Ho

theorem leave1 (c : Dev nD) : (reg1 m).post c ⊢ iprop(StableHlo.held (c : Thread nD τ) (Pipeline.ucRefs τ sig) (V3 m (outs m) c) ∗ Ride c) := by
  rw [StableHlo.held_sub_split _ sub1, ← held_rest spec1 _ _ c (V3_rest m c)]
  show iprop(StableHlo.held (c : Thread nD τ) (Pipeline.arrRefs spec1) (V3 m (outs m) c) ∗ (∃ r, prngReg c r) ∗ _ ∗ ∃ Wd, owes (c : Thread nD τ) 0 Wd) ⊢ _
  iintro ⟨Ha, Hp, Hr, Ho⟩
  isplitl [Ha Hr]
  · isplitl [Ha]; · iexact Ha
    iexact Hr
  isplitl [Hp]; · iexact Hp
  iexact Ho

/-- The pipeline library's algebra is the whole user algebra. -/
abbrev EP : Emb (URounds (GSem nD τ sig) Unit) 𝕄 := emb₁

set_option backward.isDefEq.respectTransparency.types false in
/-- THE RUN: from any memory with zero counters, every weakly fair execution of @main ends with every unscoped buffer at the last valuation and every counter at zero. -/
theorem run_main : θ_run defs (onTc (τ := τ) (main (F := F))) ⟨m, fun _ => 0, ρ⟩ (fun r => (∀ c : Dev nD, ∀ b ∈ Pipeline.ucRefs τ sig,
      r.2.mem (c, b) = V3 m (outs m) c b) ∧ r.2.sem = fun _ => 0) := by
  refine Pipeline.θ_run_regions_kit_dev_sems (pcfgs (F := F)) adm (dats m) () cellOf_inj EP defs₀ Variants.none L lv m ρ main
    (segs m (outs m) Variants.none L lv (fun _ => Ride) () (dats m) (reg0 m) (reg1 m))
    (fun c Q => by
      rewrite [main_chain c, Seg.run_eq_chain,
        show (segs m (outs m) Variants.none L lv (fun _ => Ride) () (dats m) (reg0 m) (reg1 m) c).map Seg.prog = [
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) (fun _ => 0) (fun g h => if_neg h) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (EP (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ride c))
    (Tₙ := fun c => StableHlo.held (c : Thread nD τ) (Pipeline.ucRefs τ sig) (V3 m (outs m) c))
    (hch := fun c => ⟨enter0 m c, leave0 m c, enter1 m c, (leave1 m c).trans (by
      iintro ⟨Hh, -, Ho⟩
      isplitl [Hh]; · iexact Hh
      iexact Ho)⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (c, b) = V3 m (outs m) c b)
    (hfin := fun c s' => by
      unfold StableHlo.held
      iintro ⟨Hh, HSI⟩
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      imodintro
      isplitr
      · ipureintro; exact h
      · iexact HSI)
    (hQ := fun _ h hz => ⟨h, funext fun g => hz g (.inr (regions_no_unscoped g.2))⟩)

end Cert.KernelIdeal.Own

end
-- ==== Proof.Frames.lean ====
/- What the run leaves in the arguments and in the four results. -/
module

public import proofs.«01_k».proof.Proof.Run

@[expose] public section

set_option maxRecDepth 16384

noncomputable section

namespace Cert.KernelIdeal.Own

open Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem mem_uc (b : Ref sig .tc) (h : b.isScoped = false) : (Proc.devRef .tc b : DevRef τ sig) ∈ Pipeline.ucRefs τ sig :=
  Finset.mem_filter.mpr ⟨StableHlo.devRef_mem_tcRefs b, fun h' => Bool.false_ne_true (h.symm.trans h')⟩

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c _ (mem_uc main_arg0 (by decide))).trans (V3_main_arg0 m (outs m) c),
      (h.1 c _ (mem_uc main_arg1 (by decide))).trans (V3_main_arg1 m (outs m) c),
      (h.1 c _ (mem_uc main_arg2 (by decide))).trans (V3_main_arg2 m (outs m) c),
      (h.1 c _ (mem_uc main_arg3 (by decide))).trans (V3_main_arg3 m (outs m) c)⟩, h.2⟩) (run_main m ρ)

/-- The output and the three gradients end at what the two calls leave. -/
theorem results : θ_run defs (onTc (τ := τ) (main (F := F))) ⟨m, fun _ => 0, ρ⟩ (fun r => ∀ c : Dev nD,
      r.2.mem ((c.tc : Thread nD τ).loc main_v0_0) = (dat0 (V0 m) c).arrAt 3 cfg0.N
      ∧ r.2.mem ((c.tc : Thread nD τ).loc main_v8_0) = (dat1 (entry1 m) c).arrAt 6 cfg1.N
      ∧ r.2.mem ((c.tc : Thread nD τ).loc main_v8_1) = (dat1 (entry1 m) c).arrAt 7 cfg1.N
      ∧ r.2.mem ((c.tc : Thread nD τ).loc main_v8_2) = (dat1 (entry1 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c _ (mem_uc main_v0_0 (by decide))).trans (V3_of m (outs m) c main_v0_0 (by decide))).trans
        ((V2_of m (outs m) c main_v0_0 (by decide)).trans (exit0 m c 3).symm),
      (h.1 c _ (mem_uc main_v8_0 (by decide))).trans (exit1 m c 6).symm,
      (h.1 c _ (mem_uc main_v8_1 (by decide))).trans (exit1 m c 7).symm,
      (h.1 c _ (mem_uc main_v8_2 (by decide))).trans (exit1 m c 8).symm,
      (h.1 c _ (mem_uc main_arg0 (by decide))).trans (V3_main_arg0 m (outs m) c),
      (h.1 c _ (mem_uc main_arg1 (by decide))).trans (V3_main_arg1 m (outs m) c),
      (h.1 c _ (mem_uc main_arg2 (by decide))).trans (V3_main_arg2 m (outs m) c),
      (h.1 c _ (mem_uc main_arg3 (by decide))).trans (V3_main_arg3 m (outs m) c)⟩) (run_main m ρ)

end Cert.KernelIdeal.Own

end
-- ==== Proof.Same.lean ====
/- The kernel and the program read at the reals are the same text: their tables of bodies agree over any float values. -/
module

public import proofs.«01_k».proof.Proof.Gen.Kernel
public import proofs.«01_k».proof.Proof.Gen.KernelIdeal

@[expose] public section

set_option maxRecDepth 16384

noncomputable section

namespace Cert.Proof

open Idealize.ShloMosaic Idealize.SL.Sem

variable (F : FTy → Type) [FloatOps F]

theorem cc0_eq : @Cert.Kernel.cc0_attn_fwd F _ Cert.Kernel.Gen.facts = @Cert.KernelIdeal.cc0_attn_fwd F _ Cert.KernelIdeal.Gen.facts := rfl

theorem cc1_eq : @Cert.Kernel.cc1_attn_bwd F _ Cert.Kernel.Gen.facts = @Cert.KernelIdeal.cc1_attn_bwd F _ Cert.KernelIdeal.Gen.facts := rfl

set_option maxHeartbeats 1600000 in
/-- The two tables, label by label. -/
theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun a => ?_)
  match l, a with
  | ⟨0, _⟩, (t, s) => dsimp only; rw [cc0_eq]; rfl
  | ⟨1, _⟩, (t, s) => dsimp only; rw [cc1_eq]; rfl

theorem defs_eq : @Cert.Kernel.defs F _ Cert.Kernel.Gen.facts = @Cert.KernelIdeal.defs F _ Cert.KernelIdeal.Gen.facts :=
  congrArg (Pipeline.defs Cert.Kernel.pcfgs) (defs₀_eq F)

theorem main_eq : @Cert.Kernel.main F _ Cert.Kernel.Gen.facts = @Cert.KernelIdeal.main F _ Cert.KernelIdeal.Gen.facts := rfl

end Cert.Proof

end
-- ==== Proof.RefRun.lean ====
/- The reference's run, imported where its result is read. -/
module

public import proofs.«01_k».proof.Proof.Gen.ReferenceIdeal
public import proofs.«01_k».proof.Proof.Gen.ReferenceIdeal.Run
public import proofs.«01_k».proof.Proof.Gen.Pre_finite
-- ==== Proof.Math.lean ====
/- Causal attention of one head and its gradient over the real numbers, and how the operations of the extended reals act on real numbers. -/
module

public import Idealize.ShloMosaic.PureOps.Ideal
public import Mathlib.Tactic.Ring
public import Mathlib.Tactic.FieldSimp

@[expose] public section

noncomputable section

namespace Cert.Own

open Idealize.ShloMosaic

/-! ## Extended reals that are real numbers -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x : ℝ) {y : ℝ} (h : y ≠ 0) : Ideal.div (x : EReal) (y : EReal) = ((x / y : ℝ) : EReal) := by
  rw [Ideal.div_coe h, ← EReal.coe_mul, mul_one_div]

theorem log_real {x : ℝ} (h : 0 < x) : Ideal.log (x : EReal) = (Real.log x : EReal) := by
  rw [Ideal.log_coe, if_neg (not_le.mpr h)]

theorem exp_sub_real (x μ : ℝ) : Ideal.exp ((x : EReal) - (μ : EReal)) = ((Real.exp (-μ) * Real.exp x : ℝ) : EReal) := by
  rw [← EReal.coe_sub, Ideal.exp_coe, ← Real.exp_add]
  congr 2
  ring

theorem exp_bot_sub (μ : ℝ) : Ideal.exp (⊥ - (μ : EReal)) = 0 := by
  rw [EReal.bot_sub]; rfl

/-- A score and its weight: a real number and its exponential, or minus infinity and zero. -/
def Weighs (s : EReal) (w : ℝ) : Prop := (∃ x : ℝ, s = x ∧ w = Real.exp x) ∨ (s = ⊥ ∧ w = 0)

theorem Weighs.exp {s : EReal} {w : ℝ} (h : Weighs s w) (μ : ℝ) : Ideal.exp (s - (μ : EReal)) = ((Real.exp (-μ) * w : ℝ) : EReal) := by
  rcases h with ⟨x, rfl, rfl⟩ | ⟨rfl, rfl⟩
  · exact exp_sub_real x μ
  · rw [exp_bot_sub, mul_zero, EReal.coe_zero]

theorem Weighs.lt_top {s : EReal} {w : ℝ} (h : Weighs s w) : s < ⊤ := by
  rcases h with ⟨x, rfl, rfl⟩ | ⟨rfl, rfl⟩
  · exact EReal.coe_lt_top x
  · exact bot_lt_top

theorem Weighs.ite (p : Prop) [Decidable p] (x : ℝ) : Weighs (if p then (x : EReal) else ⊥) (if p then Real.exp x else 0) := by
  by_cases h : p
  · rw [if_pos h, if_pos h]; exact .inl ⟨x, rfl, rfl⟩
  · rw [if_neg h, if_neg h]; exact .inr ⟨rfl, rfl⟩

theorem fold_max_real {n : ℕ} (s : Fin n → EReal) (w : Fin n → ℝ) (h : ∀ j, Weighs (s j) (w j)) (hj : ∃ j, s j ≠ ⊥) (m : EReal) (hm : m < ⊤) :
    ∃ μ : ℝ, max m (Finset.univ.fold max ⊥ s) = μ := by
  have h1 : max m (Finset.univ.fold max ⊥ s) < ⊤ := max_lt hm ((Finset.fold_max_lt _).mpr ⟨bot_lt_top, fun j _ => (h j).lt_top⟩)
  have h2 : ⊥ < max m (Finset.univ.fold max ⊥ s) := lt_max_of_lt_right ((Finset.lt_fold_max _).mpr (.inr (hj.imp fun j hj => ⟨Finset.mem_univ j, bot_lt_iff_ne_bot.mpr hj⟩)))
  exact ⟨_, (EReal.coe_toReal h1.ne h2.ne').symm⟩

/-! ## One row of the forward pass, block of keys by block of keys -/

/-- What a row carries: the maximum `m`, the sum `l` and the products `a`, for the sum of weights `Z` and the weighted sums `A` of the keys met so far. -/
def Carries {D : ℕ} (m l : EReal) (a : Fin D → EReal) (Z : ℝ) (A : Fin D → ℝ) : Prop :=
  (m = ⊥ ∧ l = 0 ∧ (∀ e, a e = 0) ∧ Z = 0 ∧ ∀ e, A e = 0)
    ∨ ∃ μ : ℝ, m = μ ∧ l = ((Real.exp (-μ) * Z : ℝ) : EReal) ∧ ∀ e, a e = ((Real.exp (-μ) * A e : ℝ) : EReal)

theorem Carries.lt_top {D : ℕ} {m l : EReal} {a : Fin D → EReal} {Z : ℝ} {A : Fin D → ℝ} (h : Carries m l a Z A) : m < ⊤ := by
  rcases h with ⟨rfl, -⟩ | ⟨μ, rfl, -⟩
  · exact bot_lt_top
  · exact EReal.coe_lt_top μ

theorem rescale (μ ν x : ℝ) : Ideal.exp ((μ : EReal) - (ν : EReal)) * ((Real.exp (-μ) * x : ℝ) : EReal) = ((Real.exp (-ν) * x : ℝ) : EReal) := by
  rw [exp_sub_real, ← EReal.coe_mul]
  congr 1
  rw [show Real.exp (-ν) * Real.exp μ * (Real.exp (-μ) * x) = Real.exp (-ν) * (Real.exp μ * Real.exp (-μ)) * x by ring, ← Real.exp_add, add_neg_cancel, Real.exp_zero]
  ring

theorem sum_exp {n : ℕ} (s : Fin n → EReal) (w : Fin n → ℝ) (h : ∀ j, Weighs (s j) (w j)) (μ : ℝ) :
    ∑ j, Ideal.exp (s j - (μ : EReal)) = ((Real.exp (-μ) * ∑ j, w j : ℝ) : EReal) := by
  rw [Finset.mul_sum, coe_sum]
  exact Finset.sum_congr rfl fun j _ => (h j).exp μ

theorem sum_exp_mul {n : ℕ} (s : Fin n → EReal) (w : Fin n → ℝ) (h : ∀ j, Weighs (s j) (w j)) (μ : ℝ) (v : Fin n → ℝ) :
    ∑ j, Ideal.exp (s j - (μ : EReal)) * (v j : EReal) = ((Real.exp (-μ) * ∑ j, w j * v j : ℝ) : EReal) := by
  rw [Finset.mul_sum, coe_sum]
  refine Finset.sum_congr rfl fun j _ => ?_
  rw [(h j).exp μ, ← EReal.coe_mul, mul_assoc]

/-- One block of keys more. -/
theorem Carries.step {D n : ℕ} {m l : EReal} {a : Fin D → EReal} {Z : ℝ} {A : Fin D → ℝ} (h : Carries m l a Z A)
    (s : Fin n → EReal) (w : Fin n → ℝ) (hs : ∀ j, Weighs (s j) (w j)) (hj : ∃ j, s j ≠ ⊥) (v : Fin n → Fin D → ℝ) (m' : EReal) (hm : m' = max m (Finset.univ.fold max ⊥ s)) :
    ∃ μ : ℝ, m' = μ
      ∧ Ideal.exp (m - m') * l + ∑ j, Ideal.exp (s j - m') = ((Real.exp (-μ) * (Z + ∑ j, w j) : ℝ) : EReal)
      ∧ ∀ e, Ideal.exp (m - m') * a e + ∑ j, Ideal.exp (s j - m') * (v j e : EReal) = ((Real.exp (-μ) * (A e + ∑ j, w j * v j e) : ℝ) : EReal) := by
  obtain ⟨μ, hμ⟩ := fold_max_real s w hs hj m h.lt_top
  obtain rfl : m' = μ := hm.trans hμ
  refine ⟨μ, rfl, ?_, fun e => ?_⟩
  · rw [sum_exp s w hs, mul_add, EReal.coe_add]
    congr 1
    rcases h with ⟨rfl, rfl, -, rfl, -⟩ | ⟨ν, rfl, rfl, -⟩
    · rw [mul_zero, mul_zero, EReal.coe_zero]
    · exact rescale ν μ Z
  · rw [sum_exp_mul s w hs, mul_add, EReal.coe_add]
    congr 1
    rcases h with ⟨rfl, -, ha, -, hA⟩ | ⟨ν, rfl, -, ha⟩
    · rw [ha, hA, mul_zero, mul_zero, EReal.coe_zero]
    · rw [ha]; exact rescale ν μ (A e)

theorem quotient (μ : ℝ) (A : ℝ) {Z : ℝ} (hZ : 0 < Z) : Ideal.div ((Real.exp (-μ) * A : ℝ) : EReal) ((Real.exp (-μ) * Z : ℝ) : EReal) = ((A / Z : ℝ) : EReal) := by
  have he := (Real.exp_pos (-μ)).ne'
  rw [div_real _ (mul_ne_zero he hZ.ne'), mul_div_mul_left _ _ he]

theorem logsum (μ : ℝ) {Z : ℝ} (hZ : 0 < Z) : (μ : EReal) + Ideal.log ((Real.exp (-μ) * Z : ℝ) : EReal) = (Real.log Z : EReal) := by
  rw [log_real (mul_pos (Real.exp_pos _) hZ), Real.log_mul (Real.exp_pos _).ne' hZ.ne', Real.log_exp, ← EReal.coe_add]
  congr 1
  ring

/-- A weight over the sum of weights, as the backward pass has it. -/
theorem Weighs.prob {s : EReal} {w : ℝ} (h : Weighs s w) {Z : ℝ} (hZ : 0 < Z) : Ideal.exp (s - (Real.log Z : EReal)) = ((w / Z : ℝ) : EReal) := by
  rw [h.exp, Real.exp_neg, Real.exp_log hZ, inv_mul_eq_div]

/-! ## Causal attention of one head -/

section
variable (q k : Fin 4096 → Fin 192 → ℝ) (v g : Fin 4096 → Fin 128 → ℝ)

def score (i j : Fin 4096) : ℝ := ∑ d, q i d * k j d
def wt (i j : Fin 4096) : ℝ := if j ≤ i then Real.exp (score q k i j) else 0
def tot (i : Fin 4096) : ℝ := ∑ j, wt q k i j
def prob (i j : Fin 4096) : ℝ := wt q k i j / tot q k i
def out (i : Fin 4096) (e : Fin 128) : ℝ := ∑ j, prob q k i j * v j e
def dprob (i j : Fin 4096) : ℝ := ∑ e, g i e * v j e
def delta (i : Fin 4096) : ℝ := ∑ e, g i e * out q k v i e
def dscore (i j : Fin 4096) : ℝ := prob q k i j * (dprob v g i j - delta q k v g i)
def gradQ (i : Fin 4096) (d : Fin 192) : ℝ := ∑ j, dscore q k v g i j * k j d
def gradK (j : Fin 4096) (d : Fin 192) : ℝ := ∑ i, dscore q k v g i j * q i d
def gradV (j : Fin 4096) (e : Fin 128) : ℝ := ∑ i, prob q k i j * g i e

theorem wt_nonneg (i j : Fin 4096) : 0 ≤ wt q k i j := by
  unfold wt; split
  · exact (Real.exp_pos _).le
  · exact le_rfl

theorem tot_pos (i : Fin 4096) : 0 < tot q k i :=
  Finset.sum_pos' (fun j _ => wt_nonneg q k i j) ⟨i, Finset.mem_univ i, by unfold wt; rw [if_pos le_rfl]; exact Real.exp_pos _⟩

theorem prob_of_lt {i j : Fin 4096} (h : i < j) : prob q k i j = 0 := by
  unfold prob wt; rw [if_neg (not_le.mpr h), zero_div]

theorem dscore_of_lt {i j : Fin 4096} (h : i < j) : dscore q k v g i j = 0 := by
  unfold dscore; rw [prob_of_lt q k h, zero_mul]

theorem out_eq (i : Fin 4096) (e : Fin 128) : out q k v i e = (∑ j, wt q k i j * v j e) / tot q k i := by
  unfold out prob
  rw [Finset.sum_div]
  exact Finset.sum_congr rfl fun j _ => div_mul_eq_mul_div _ _ _

/-- The row's sum of the output's gradient times the output is the weighted sum of the probabilities' gradient. -/
theorem delta_eq (i : Fin 4096) : delta q k v g i = ∑ j, prob q k i j * dprob v g i j := by
  unfold delta out dprob
  simp only [Finset.mul_sum]
  rw [Finset.sum_comm]
  exact Finset.sum_congr rfl fun j _ => Finset.sum_congr rfl fun e _ => by ring

/-- The reference's spelling of the scores' gradient: the weights `u` are the exponentials less the row's maximum. -/
theorem dscore_ref (i j : Fin 4096) (c : ℝ) (hc : 0 < c) :
    (dprob v g i j / (c * tot q k i) + -(∑ n, dprob v g i n * (1 / (c * tot q k i * (c * tot q k i))) * (c * wt q k i n))) * (c * wt q k i j) = dscore q k v g i j := by
  unfold dscore
  rw [delta_eq]
  have ht := (tot_pos q k i).ne'
  have hs : ∑ n, dprob v g i n * (1 / (c * tot q k i * (c * tot q k i))) * (c * wt q k i n) = (∑ n, prob q k i n * dprob v g i n) / (c * tot q k i) := by
    rw [Finset.sum_div]
    refine Finset.sum_congr rfl fun n _ => ?_
    unfold prob
    have := hc.ne'
    field_simp
  rw [hs]
  unfold prob
  have := hc.ne'
  field_simp
  ring

end

end Cert.Own

end
-- ==== Proof.Pay0.lean ====
/- The forward call's payloads over the extended reals, entry by entry. -/
module

public import proofs.«01_k».proof.Proof.Math
public import proofs.«01_k».proof.Proof.Body1
public import Idealize.ShloMosaic.Lib.Pointwise
public import Idealize.ShloMosaic.Lib.WordCmp

@[expose] public section

set_option maxRecDepth 16384

noncomputable section

namespace Cert.KernelIdeal.Own

open Cert.KernelIdeal.Gen Cert.Own
open Idealize.ShloMosaic Idealize.ShloMosaic.TcCoe Idealize.SL.Sem

/-- Row `b` of the block of rows `c`. -/
def row (c : Fin 4) (b : Fin 1024) : Fin 4096 := ⟨1024 * c.val + b.val, by omega⟩

theorem row_le (j c : Fin 4) (a b : Fin 1024) : row c b ≤ row j a ↔ c < j ∨ (c = j ∧ b ≤ a) := by
  simp only [row, Fin.le_def, Fin.lt_def, Fin.ext_iff]
  omega

/-- Every row is one of a block's. -/
theorem row_surj (i : Fin 4096) : ∃ c b, i = row c b :=
  ⟨⟨i.val / 1024, by omega⟩, ⟨i.val % 1024, by omega⟩, Fin.ext (by simp only [row]; omega)⟩

theorem sum_rows {M : Type} [AddCommMonoid M] (f : Fin 4096 → M) : ∑ i, f i = ∑ c : Fin 4, ∑ b : Fin 1024, f (row c b) := by
  rw [Fin.sum_univ_tiles 4 1024 rfl f]
  refine Finset.sum_congr rfl fun c _ => Finset.sum_congr rfl fun b _ => congrArg f (Fin.ext ?_)
  simp only [row]
  omega

/-- Over the blocks up to the diagonal one. -/
theorem sum_below (F : Fin 4 → ℝ) (j : Fin 4) (h : ∀ c, j < c → F c = 0) : ∑ c, F c = ∑ n ∈ Finset.range j.val, F (Fin.ofNat 4 n) + F j := by
  revert h
  fin_cases j <;> intro h <;> simp only [Fin.sum_univ_four, Finset.sum_range_succ, Finset.sum_range_zero]
  · rw [h 1 (by decide), h 2 (by decide), h 3 (by decide)]; simp
  · rw [h 2 (by decide), h 3 (by decide)]; simp
  · rw [h 3 (by decide)]; simp; rfl
  · simp; rfl

/-- Over the blocks from the diagonal one. -/
theorem sum_above (F : Fin 4 → ℝ) (j : Fin 4) (h : ∀ c, c < j → F c = 0) : ∑ c, F c = F j + ∑ n ∈ Finset.range (3 - j.val), F (Fin.ofNat 4 (j.val + n + 1)) := by
  revert h
  fin_cases j <;> intro h <;> simp only [Fin.sum_univ_four, Finset.sum_range_succ, Finset.sum_range_zero]
  · simp [add_assoc]; rfl
  · rw [h 0 (by decide)]; simp [add_assoc]
  · rw [h 0 (by decide), h 1 (by decide)]; simp
  · rw [h 0 (by decide), h 1 (by decide), h 2 (by decide)]; simp

theorem rows192_at {e : EltTy} (x : Vec Ideal S1x4096x192 e) (c : Fin 4) (z : Fin 1) (b : Fin 1024) (d : Fin 192) :
    rows192 x c (ix3 z b d) = x (ix3 z (row c b) d) := by
  unfold rows192 VecWindow.window row
  congr 1
  idx_ext

theorem rows128_at {e : EltTy} (x : Vec Ideal S1x4096x128 e) (c : Fin 4) (z : Fin 1) (b : Fin 1024) (d : Fin 128) :
    rows128 x c (ix3 z b d) = x (ix3 z (row c b) d) := by
  unfold rows128 VecWindow.window row
  congr 1
  idx_ext

theorem ofBits_bot : Ideal.ofBits .f32 4286578688#32 = ⊥ := by
  simp [Ideal.ofBits, Ideal.ieee]

/-- The mask at an entry. -/
theorem mask_at {α : Type} (a b : Fin 1024) (x y : α) :
    Scalar.select (IntOp.cmpi CmpIPredicate.sle (BitVec.ofNat 32 b.val) (BitVec.ofNat 32 a.val)) x y = if b ≤ a then x else y := by
  have ha := a.isLt
  have hb := b.isLt
  simp only [Fin.le_def]
  word_cmp

theorem pay7_at (q kb : Vec Ideal S1x1024x192 .bf16) (a b : Fin 1024) : k0_pay7 q kb (ix2 a b) = ∑ d : Fin 192, q (ix3 0 a d) * kb (ix3 0 b d) := by
  pointwise [k0_pay7, k0_pay3]

theorem pay8_at (q kb : Vec Ideal S1x1024x192 .bf16) (m : FVec Ideal S1024x1 .f32) (a : Fin 1024) :
    k0_pay8 q m kb (ix2 a 0) = max (m (ix2 a 0)) (Finset.univ.fold max ⊥ fun b : Fin 1024 => k0_pay7 q kb (ix2 a b)) := by
  pointwise [k0_pay8]
  rw [ofBits_bot]

theorem pay11_at (q kb : Vec Ideal S1x1024x192 .bf16) (m l : FVec Ideal S1024x1 .f32) (a : Fin 1024) :
    k0_pay11 q m l kb (ix2 a 0) = Ideal.exp (m (ix2 a 0) - k0_pay8 q m kb (ix2 a 0)) * l (ix2 a 0)
      + ∑ b : Fin 1024, Ideal.exp (k0_pay7 q kb (ix2 a b) - k0_pay8 q m kb (ix2 a 0)) := by
  pointwise [k0_pay11, k0_pay10, k0_pay9]

theorem pay12_at (q kb : Vec Ideal S1x1024x192 .bf16) (m : FVec Ideal S1024x1 .f32) (acc : FVec Ideal S1024x128 .f32) (vb : Vec Ideal S1x1024x128 .bf16) (a : Fin 1024) (e : Fin 128) :
    k0_pay12 q m acc kb vb (ix2 a e) = Ideal.exp (m (ix2 a 0) - k0_pay8 q m kb (ix2 a 0)) * acc (ix2 a e)
      + ∑ b : Fin 1024, Ideal.exp (k0_pay7 q kb (ix2 a b) - k0_pay8 q m kb (ix2 a 0)) * vb (ix3 0 b e) := by
  pointwise [k0_pay12, k0_pay10, k0_pay9]

theorem pay19_at (q kb : Vec Ideal S1x1024x192 .bf16) (a b : Fin 1024) : k0_pay19 q kb (ix2 a b) = if b ≤ a then k0_pay7 q kb (ix2 a b) else ⊥ := by
  rw [pay7_at]
  pointwise [k0_pay19, k0_pay3]
  rw [mask_at, ofBits_bot]

theorem pay20_at (q kb : Vec Ideal S1x1024x192 .bf16) (m : FVec Ideal S1024x1 .f32) (a : Fin 1024) :
    k0_pay20 q m kb (ix2 a 0) = max (m (ix2 a 0)) (Finset.univ.fold max ⊥ fun b : Fin 1024 => k0_pay19 q kb (ix2 a b)) := by
  pointwise [k0_pay20]
  rw [ofBits_bot]

theorem pay23_at (q kb : Vec Ideal S1x1024x192 .bf16) (m l : FVec Ideal S1024x1 .f32) (a : Fin 1024) :
    k0_pay23 q m l kb (ix2 a 0) = Ideal.exp (m (ix2 a 0) - k0_pay20 q m kb (ix2 a 0)) * l (ix2 a 0)
      + ∑ b : Fin 1024, Ideal.exp (k0_pay19 q kb (ix2 a b) - k0_pay20 q m kb (ix2 a 0)) := by
  pointwise [k0_pay23, k0_pay22, k0_pay21]

theorem pay24_at (q kb : Vec Ideal S1x1024x192 .bf16) (m : FVec Ideal S1024x1 .f32) (acc : FVec Ideal S1024x128 .f32) (a : Fin 1024) (e : Fin 128) :
    k0_pay24 q m acc kb (ix2 a e) = Ideal.exp (m (ix2 a 0) - k0_pay20 q m kb (ix2 a 0)) * acc (ix2 a e) := by
  pointwise [k0_pay24, k0_pay21]

theorem pay25_at (q kb : Vec Ideal S1x1024x192 .bf16) (m : FVec Ideal S1024x1 .f32) (a b : Fin 1024) :
    k0_pay25 q m kb (ix2 a b) = Ideal.exp (k0_pay19 q kb (ix2 a b) - k0_pay20 q m kb (ix2 a 0)) := by
  pointwise [k0_pay25, k0_pay22]

theorem pay1_at (l : FVec Ideal S1024x1 .f32) (acc : FVec Ideal S1024x128 .f32) (p : FVec Ideal S1024x1024 .bf16) (vb : Vec Ideal S1x1024x128 .bf16) (a : Fin 1024) (e : Fin 128) :
    k0_pay1 l acc p vb (ix2 a e) = Ideal.div (acc (ix2 a e) + ∑ b : Fin 1024, p (ix2 a b) * vb (ix3 0 b e)) (l (ix2 a 0)) := by
  pointwise [k0_pay1]

theorem pay2_at (m l : FVec Ideal S1024x1 .f32) (z : Fin 1) (a : Fin 1024) (e : Fin 128) :
    k0_pay2 m l (ix3 z a e) = m (ix2 a 0) + Ideal.log (l (ix2 a 0)) := by
  pointwise [k0_pay2]

theorem init0_at (a : Fin 1024) (e : Fin 128) :
    (k0_pay4 (F := Ideal)) (ix2 a 0) = ⊥ ∧ (k0_pay5 (F := Ideal)) (ix2 a 0) = 0 ∧ (k0_pay6 (F := Ideal)) (ix2 a e) = 0 := by
  refine ⟨?_, ?_, ?_⟩
  · pointwise [k0_pay4]; exact ofBits_bot
  · pointwise [k0_pay5]
  · pointwise [k0_pay6]

end Cert.KernelIdeal.Own

end
-- ==== Proof.Pay1.lean ====
/- The backward call's payloads over the extended reals, entry by entry. -/
module

public import proofs.«01_k».proof.Proof.Pay0

@[expose] public section

set_option maxRecDepth 16384

noncomputable section

namespace Cert.KernelIdeal.Own

open Cert.KernelIdeal.Gen Cert.Own
open Idealize.ShloMosaic Idealize.ShloMosaic.TcCoe Idealize.SL.Sem

theorem pay1_19_at (k : Vec Ideal S1x1024x192 .bf16) (b : Fin 1024) (d : Fin 192) : k1_pay19 k (ix2 b d) = k (ix3 0 b d) := by
  pointwise [k1_pay19]
theorem pay1_20_at (v : Vec Ideal S1x1024x128 .bf16) (b : Fin 1024) (e : Fin 128) : k1_pay20 v (ix2 b e) = v (ix3 0 b e) := by
  pointwise [k1_pay20]
theorem pay1_22_at (q : Vec Ideal S1x1024x192 .bf16) (b : Fin 1024) (d : Fin 192) : k1_pay22 q (ix2 b d) = q (ix3 0 b d) := by
  pointwise [k1_pay22]
theorem pay1_26_at (x : Vec Ideal S1x1024x1 .f32) (a : Fin 1024) : k1_pay26 x (ix2 a 0) = x (ix3 0 a 0) := by
  pointwise [k1_pay26]
theorem pay1_16_at (x : FVec Ideal S1024x192 .f32) (z : Fin 1) (b : Fin 1024) (d : Fin 192) : k1_pay16 x (ix3 z b d) = x (ix2 b d) := by
  pointwise [k1_pay16]
theorem pay1_17_at (x : FVec Ideal S1024x128 .f32) (z : Fin 1) (b : Fin 1024) (e : Fin 128) : k1_pay17 x (ix3 z b e) = x (ix2 b e) := by
  pointwise [k1_pay17]
theorem pay1_18_at (z : Fin 1) (i : Fin 4096) (d : Fin 192) : (k1_pay18 (F := Ideal)) (ix3 z i d) = 0 := by
  pointwise [k1_pay18]
theorem pay1_21_at (b : Fin 1024) (d : Fin 192) : (k1_pay21 (F := Ideal)) (ix2 b d) = 0 := by
  pointwise [k1_pay21]

theorem pay1_5_at (kT : FVec Ideal S1024x192 .bf16) (q : Vec Ideal S1x1024x192 .bf16) (l : Vec Ideal S1x1024x1 .f32) (a b : Fin 1024) :
    k1_pay5 kT q l (ix2 a b) = Ideal.exp (∑ d : Fin 192, q (ix3 0 a d) * kT (ix2 b d) - l (ix3 0 a 0)) := by
  pointwise [k1_pay5, k1_pay4]

theorem pay1_6_at (kT : FVec Ideal S1024x192 .bf16) (x : FVec Ideal S1024x128 .f32) (q : Vec Ideal S1x1024x192 .bf16) (g : Vec Ideal S1024x128 .bf16) (l : Vec Ideal S1x1024x1 .f32) (b : Fin 1024) (e : Fin 128) :
    k1_pay6 kT x q g l (ix2 b e) = x (ix2 b e) + ∑ a : Fin 1024, k1_pay5 kT q l (ix2 a b) * g (ix2 a e) := by
  pointwise [k1_pay6]

theorem pay1_7_at (kT : FVec Ideal S1024x192 .bf16) (vT : FVec Ideal S1024x128 .bf16) (q : Vec Ideal S1x1024x192 .bf16) (g : Vec Ideal S1024x128 .bf16) (l dl : Vec Ideal S1x1024x1 .f32) (a b : Fin 1024) :
    k1_pay7 kT vT q g l dl (ix2 a b) = k1_pay5 kT q l (ix2 a b) * (∑ e : Fin 128, g (ix2 a e) * vT (ix2 b e) - dl (ix3 0 a 0)) := by
  pointwise [k1_pay7]

theorem pay1_8_at (kT : FVec Ideal S1024x192 .bf16) (vT : FVec Ideal S1024x128 .bf16) (x : FVec Ideal S1024x192 .f32) (q : Vec Ideal S1x1024x192 .bf16) (g : Vec Ideal S1024x128 .bf16) (l dl : Vec Ideal S1x1024x1 .f32) (b : Fin 1024) (d : Fin 192) :
    k1_pay8 kT vT x q g l dl (ix2 b d) = x (ix2 b d) + ∑ a : Fin 1024, k1_pay7 kT vT q g l dl (ix2 a b) * q (ix3 0 a d) := by
  pointwise [k1_pay8, k1_pay4]

theorem pay1_9_at (kT : FVec Ideal S1024x192 .bf16) (vT : FVec Ideal S1024x128 .bf16) (q : Vec Ideal S1x1024x192 .bf16) (g : Vec Ideal S1024x128 .bf16) (l dl : Vec Ideal S1x1024x1 .f32) (x : Vec Ideal S1x1024x192 .f32) (z : Fin 1) (a : Fin 1024) (d : Fin 192) :
    k1_pay9 kT vT q g l dl x (ix3 z a d) = x (ix3 0 a d) + ∑ b : Fin 1024, k1_pay7 kT vT q g l dl (ix2 a b) * kT (ix2 b d) := by
  pointwise [k1_pay9]

theorem pay1_23_at (k q : Vec Ideal S1x1024x192 .bf16) (l : Vec Ideal S1x1024x1 .f32) (a b : Fin 1024) :
    k1_pay23 k q l (ix2 a b) = Ideal.exp ((if b ≤ a then ∑ d : Fin 192, q (ix3 0 a d) * k (ix3 0 b d) else ⊥) - l (ix3 0 a 0)) := by
  pointwise [k1_pay23, k1_pay22, k1_pay19]
  rw [mask_at, ofBits_bot]

theorem pay1_24_at (k q : Vec Ideal S1x1024x192 .bf16) (g : Vec Ideal S1024x128 .bf16) (l : Vec Ideal S1x1024x1 .f32) (b : Fin 1024) (e : Fin 128) :
    k1_pay24 k q g l (ix2 b e) = ∑ a : Fin 1024, k1_pay23 k q l (ix2 a b) * g (ix2 a e) := by
  pointwise [k1_pay24]

theorem pay1_25_at (v : Vec Ideal S1x1024x128 .bf16) (g : Vec Ideal S1024x128 .bf16) (a b : Fin 1024) :
    k1_pay25 v g (ix2 a b) = ∑ e : Fin 128, g (ix2 a e) * v (ix3 0 b e) := by
  pointwise [k1_pay25, k1_pay20]

theorem pay1_1_at (p dp : FVec Ideal S1024x1024 .f32) (dl : FVec Ideal S1024x1 .f32) (a b : Fin 1024) :
    k1_pay1 p dp dl (ix2 a b) = p (ix2 a b) * (dp (ix2 a b) - dl (ix2 a 0)) := by
  pointwise [k1_pay1]

theorem pay1_2_at (x : FVec Ideal S1024x192 .f32) (q : FVec Ideal S1024x192 .bf16) (p dp : FVec Ideal S1024x1024 .f32) (dl : FVec Ideal S1024x1 .f32) (b : Fin 1024) (d : Fin 192) :
    k1_pay2 x q p dp dl (ix2 b d) = x (ix2 b d) + ∑ a : Fin 1024, k1_pay1 p dp dl (ix2 a b) * q (ix2 a d) := by
  pointwise [k1_pay2]

theorem pay1_3_at (kT : FVec Ideal S1024x192 .bf16) (p dp : FVec Ideal S1024x1024 .f32) (dl : FVec Ideal S1024x1 .f32) (x : Vec Ideal S1x1024x192 .f32) (z : Fin 1) (a : Fin 1024) (d : Fin 192) :
    k1_pay3 kT p dp dl x (ix3 z a d) = x (ix3 0 a d) + ∑ b : Fin 1024, k1_pay1 p dp dl (ix2 a b) * kT (ix2 b d) := by
  pointwise [k1_pay3]

theorem rowsDo_at {e : EltTy} (x : Vec Ideal S4096x128 e) (c : Fin 4) (b : Fin 1024) (d : Fin 128) : rowsDo x c (ix2 b d) = x (ix2 (row c b) d) := by
  unfold rowsDo VecWindow.window row
  congr 1
  idx_ext

theorem col_at {e : EltTy} (x : Vec Ideal S1x4096x128 e) (c : Fin 4) (z : Fin 1) (b : Fin 1024) : col x c (ix3 z b 0) = x (ix3 z (row c b) 0) := by
  unfold col VecWindow.window row
  congr 1
  idx_ext

theorem putRows_same (x : Vec Ideal S1x4096x192 .f32) (c : Fin 4) (w : Vec Ideal S1x1024x192 .f32) (z : Fin 1) (b : Fin 1024) (d : Fin 192) :
    putRows x c w (ix3 z (row c b) d) = w (ix3 z b d) := by
  rw [← rows192_at (putRows x c w) c z b d]
  exact congrFun (VecWindow.window_put_same x ![0, 1024 * c.val, 0] S1x1024x192.size (by revert c; decide) w) (ix3 z b d)

theorem putRows_other (x : Vec Ideal S1x4096x192 .f32) (c c' : Fin 4) (h : c' ≠ c) (w : Vec Ideal S1x1024x192 .f32) (z : Fin 1) (b : Fin 1024) (d : Fin 192) :
    putRows x c w (ix3 z (row c' b) d) = x (ix3 z (row c' b) d) := by
  unfold putRows VecWindow.put
  rw [dif_neg]
  intro h'
  have h1 := h' 1
  have h2 : 1024 * c.val ≤ (row c' b).val ∧ (row c' b).val < 1024 * c.val + 1024 := h1
  simp only [row] at h2
  exact h (Fin.ext (by omega))

end Cert.KernelIdeal.Own

end
-- ==== Proof.Bwd.lean ====
/- The backward call's blocks of gradients, over real arguments. -/
module

public import proofs.«01_k».proof.Proof.Pay1

@[expose] public section

set_option maxRecDepth 16384

noncomputable section

namespace Cert.KernelIdeal.Own

open Cert.KernelIdeal.Gen Cert.Own
open Idealize.ShloMosaic Idealize.ShloMosaic.TcCoe Idealize.SL.Sem

section
variable (Q K : Fin 4096 → Fin 192 → ℝ) (V G : Fin 4096 → Fin 128 → ℝ) (j : Fin 4)
  (q : Vec Ideal S1x4096x192 .bf16) (k : Vec Ideal S1x1024x192 .bf16) (v : Vec Ideal S1x1024x128 .bf16) (g : Vec Ideal S4096x128 .bf16)
  (lse dl : Vec Ideal S1x4096x128 .f32) (x : Vec Ideal S1x4096x192 .f32)
  (hq : ∀ i d, q (ix3 0 i d) = (Q i d : EReal)) (hk : ∀ b d, k (ix3 0 b d) = (K (row j b) d : EReal))
  (hv : ∀ b e, v (ix3 0 b e) = (V (row j b) e : EReal)) (hg : ∀ i e, g (ix2 i e) = (G i e : EReal))
  (hl : ∀ i, lse (ix3 0 i 0) = (Real.log (tot Q K i) : EReal)) (hdl : ∀ i, dl (ix3 0 i 0) = (delta Q K V G i : EReal))

include hq hk in
theorem score_at (c : Fin 4) (a b : Fin 1024) : ∑ d : Fin 192, rows192 q c (ix3 0 a d) * k (ix3 0 b d) = (score Q K (row c a) (row j b) : EReal) := by
  rw [score, coe_sum]
  refine Finset.sum_congr rfl fun d _ => ?_
  rw [rows192_at, hq, hk, EReal.coe_mul]

include hv hg in
theorem dprob_at (c : Fin 4) (a b : Fin 1024) : ∑ e : Fin 128, rowsDo g c (ix2 a e) * v (ix3 0 b e) = (dprob V G (row c a) (row j b) : EReal) := by
  rw [dprob, coe_sum]
  refine Finset.sum_congr rfl fun d _ => ?_
  rw [rowsDo_at, hg, hv, EReal.coe_mul]

include hq hk hl in
/-- The probabilities of a block below the diagonal. -/
theorem prob_at (c : Fin 4) (h : j < c) (a b : Fin 1024) :
    k1_pay5 (k1_pay19 k) (rows192 q c) (col lse c) (ix2 a b) = (prob Q K (row c a) (row j b) : EReal) := by
  rw [pay1_5_at, col_at, hl]
  simp only [pay1_19_at]
  rw [score_at Q K j q k hq hk]
  refine Weighs.prob (.inl ⟨_, rfl, ?_⟩) (tot_pos Q K _)
  unfold wt
  rw [if_pos ((row_le c j a b).mpr (.inl h))]

include hq hk hl in
/-- The probabilities of the diagonal block. -/
theorem prob_diag (a b : Fin 1024) : k1_pay23 k (rows192 q j) (col lse j) (ix2 a b) = (prob Q K (row j a) (row j b) : EReal) := by
  rw [pay1_23_at, col_at, hl, score_at Q K j q k hq hk]
  refine Weighs.prob ?_ (tot_pos Q K _)
  have h : wt Q K (row j a) (row j b) = if b ≤ a then Real.exp (score Q K (row j a) (row j b)) else 0 := by
    unfold wt
    simp only [row_le, lt_irrefl, false_or, true_and]
  rw [h]
  exact Weighs.ite _ _

include hq hk hv hg hl hdl in
/-- The scores' gradient in a block below the diagonal. -/
theorem dscore_at (c : Fin 4) (h : j < c) (a b : Fin 1024) :
    k1_pay7 (k1_pay19 k) (k1_pay20 v) (rows192 q c) (rowsDo g c) (col lse c) (col dl c) (ix2 a b) = (dscore Q K V G (row c a) (row j b) : EReal) := by
  rw [pay1_7_at, prob_at Q K j q k lse hq hk hl c h, col_at, hdl]
  simp only [pay1_20_at]
  rw [dprob_at V G j v g hv hg, dscore, EReal.coe_mul, EReal.coe_sub]

include hq hk hv hg hl hdl in
/-- The scores' gradient in the diagonal block. -/
theorem dscore_diag (a b : Fin 1024) :
    k1_pay1 (k1_pay23 k (rows192 q j) (col lse j)) (k1_pay25 v (rowsDo g j)) (k1_pay26 (col dl j)) (ix2 a b) = (dscore Q K V G (row j a) (row j b) : EReal) := by
  rw [pay1_1_at, prob_diag Q K j q k lse hq hk hl, pay1_25_at, pay1_26_at, col_at, hdl, dprob_at V G j v g hv hg, dscore, EReal.coe_mul, EReal.coe_sub]

/-- The block `m + 1` below the diagonal one. -/
abbrev below (j : Fin 4) (m : ℕ) : Fin 4 := Fin.ofNat 4 (j.val + m + 1)

theorem lt_below (m : ℕ) (h : m + 1 ≤ 3 - j.val) : j < below j m := by
  rw [Fin.lt_def, Fin.val_ofNat, Nat.mod_eq_of_lt (by omega)]
  omega

include hq hk hv hg hl hdl in
theorem fold_dk (n : ℕ) (hn : n ≤ 3 - j.val) (b : Fin 1024) (d : Fin 192) :
    (fold1 j q k v g lse dl x n).1.1 (ix2 b d)
      = ((∑ a, dscore Q K V G (row j a) (row j b) * Q (row j a) d
          + ∑ m ∈ Finset.range n, ∑ a, dscore Q K V G (row (below j m) a) (row j b) * Q (row (below j m) a) d : ℝ) : EReal) := by
  induction n with
  | zero =>
    simp only [fold1]
    rw [pay1_2_at, pay1_21_at, zero_add, Finset.sum_range_zero, add_zero, coe_sum]
    refine Finset.sum_congr rfl fun a _ => ?_
    rw [dscore_diag Q K V G j q k v g lse dl hq hk hv hg hl hdl, pay1_22_at, rows192_at, hq, EReal.coe_mul]
  | succ n ih =>
    simp only [fold1]
    rw [pay1_8_at, ih (by omega), Finset.sum_range_succ, ← add_assoc, EReal.coe_add (_ + _), coe_sum]
    congr 1
    refine Finset.sum_congr rfl fun a _ => ?_
    rw [dscore_at Q K V G j q k v g lse dl hq hk hv hg hl hdl (below j n) (lt_below j n hn), rows192_at, hq, EReal.coe_mul]

include hq hk hg hl in
theorem fold_dv (n : ℕ) (hn : n ≤ 3 - j.val) (b : Fin 1024) (e : Fin 128) :
    (fold1 j q k v g lse dl x n).1.2 (ix2 b e)
      = ((∑ a, prob Q K (row j a) (row j b) * G (row j a) e
          + ∑ m ∈ Finset.range n, ∑ a, prob Q K (row (below j m) a) (row j b) * G (row (below j m) a) e : ℝ) : EReal) := by
  induction n with
  | zero =>
    simp only [fold1]
    rw [pay1_24_at, Finset.sum_range_zero, add_zero, coe_sum]
    refine Finset.sum_congr rfl fun a _ => ?_
    rw [prob_diag Q K j q k lse hq hk hl, rowsDo_at, hg, EReal.coe_mul]
  | succ n ih =>
    simp only [fold1]
    rw [pay1_6_at, ih (by omega), Finset.sum_range_succ, ← add_assoc, EReal.coe_add (_ + _), coe_sum]
    congr 1
    refine Finset.sum_congr rfl fun a _ => ?_
    rw [prob_at Q K j q k lse hq hk hl (below j n) (lt_below j n hn), rowsDo_at, hg, EReal.coe_mul]

include hq hk hv hg hl hdl in
theorem fold_dq (X : Fin 4096 → Fin 192 → ℝ) (hx : ∀ i d, x (ix3 0 i d) = (X i d : EReal)) (n : ℕ) (hn : n ≤ 3 - j.val) (c : Fin 4) (a : Fin 1024) (d : Fin 192) :
    (fold1 j q k v g lse dl x n).2 (ix3 0 (row c a) d)
      = ((X (row c a) d + if j ≤ c ∧ c.val ≤ j.val + n then ∑ b, dscore Q K V G (row c a) (row j b) * K (row j b) d else 0 : ℝ) : EReal) := by
  induction n with
  | zero =>
    simp only [fold1]
    by_cases h : c = j
    · subst h
      rw [putRows_same, pay1_3_at, rows192_at, hx, if_pos ⟨le_rfl, by omega⟩, EReal.coe_add, coe_sum]
      congr 1
      refine Finset.sum_congr rfl fun b _ => ?_
      rw [dscore_diag Q K V G c q k v g lse dl hq hk hv hg hl hdl, pay1_19_at, hk, EReal.coe_mul]
    · rw [putRows_other _ _ _ h, hx, if_neg, add_zero]
      rintro ⟨h1, h2⟩
      exact h (le_antisymm (Fin.le_def.mpr (by omega)) h1)
  | succ n ih =>
    simp only [fold1]
    have ih := ih (by omega)
    have hb : (below j n).val = j.val + n + 1 := by rw [Fin.val_ofNat, Nat.mod_eq_of_lt (by omega)]
    by_cases h : c = below j n
    · rw [show Fin.ofNat 4 (j.val + n + 1) = below j n from rfl, ← h, putRows_same, pay1_9_at, rows192_at, ih, if_neg (by rw [h, hb]; omega), add_zero,
        if_pos ⟨h ▸ (lt_below j n hn).le, by rw [h, hb]; omega⟩, EReal.coe_add, coe_sum]
      congr 1
      refine Finset.sum_congr rfl fun b _ => ?_
      rw [dscore_at Q K V G j q k v g lse dl hq hk hv hg hl hdl c (h ▸ lt_below j n hn), pay1_19_at, hk, EReal.coe_mul]
    · rw [putRows_other _ _ _ h, ih]
      have hne : c.val ≠ j.val + n + 1 := fun h' => h (Fin.ext (h'.trans hb.symm))
      have : (j ≤ c ∧ c.val ≤ j.val + n) ↔ (j ≤ c ∧ c.val ≤ j.val + (n + 1)) := by omega
      simp only [this]

include hq hk hv hg hl hdl in
/-- The block of the keys' gradient. -/
theorem bwdDk_at (z : Fin 1) (b : Fin 1024) (d : Fin 192) : bwdDk j q k v g lse dl x (ix3 z b d) = (gradK Q K V G (row j b) d : EReal) := by
  unfold bwdDk
  rw [pay1_16_at, fold_dk Q K V G j q k v g lse dl x hq hk hv hg hl hdl _ le_rfl, gradK, sum_rows,
    sum_above _ j fun c hc => Finset.sum_eq_zero fun a _ => by rw [dscore_of_lt, zero_mul]; rw [← not_le, row_le]; rintro (h | ⟨rfl, -⟩) <;> omega]

include hq hk hg hl in
/-- The block of the values' gradient. -/
theorem bwdDv_at (z : Fin 1) (b : Fin 1024) (e : Fin 128) : bwdDv j q k v g lse dl x (ix3 z b e) = (gradV Q K G (row j b) e : EReal) := by
  unfold bwdDv
  rw [pay1_17_at, fold_dv Q K G j q k v g lse dl x hq hk hg hl _ le_rfl, gradV, sum_rows,
    sum_above _ j fun c hc => Finset.sum_eq_zero fun a _ => by rw [prob_of_lt, zero_mul]; rw [← not_le, row_le]; rintro (h | ⟨rfl, -⟩) <;> omega]

include hq hk hv hg hl hdl in
/-- What the block adds to the queries' gradient. -/
theorem bwdDq_at (X : Fin 4096 → Fin 192 → ℝ) (hx : ∀ i d, x (ix3 0 i d) = (X i d : EReal)) (i : Fin 4096) (d : Fin 192) :
    bwdDq j q k v g lse dl x (ix3 0 i d) = ((X i d + ∑ b, dscore Q K V G i (row j b) * K (row j b) d : ℝ) : EReal) := by
  obtain ⟨c, a, rfl⟩ := row_surj i
  unfold bwdDq
  rw [fold_dq Q K V G j q k v g lse dl x hq hk hv hg hl hdl X hx _ le_rfl]
  by_cases h : j ≤ c
  · rw [if_pos ⟨h, by omega⟩]
  · rw [if_neg fun h' => h h'.1, Finset.sum_eq_zero fun b _ => by rw [dscore_of_lt, zero_mul]; rw [← not_le, row_le]; rintro (h' | ⟨rfl, -⟩) <;> omega]

end

end Cert.KernelIdeal.Own

end
-- ==== Proof.Fwd.lean ====
/- The forward call's block of the output and of the log-sum-exps, over real arguments. -/
module

public import proofs.«01_k».proof.Proof.Pay0

@[expose] public section

set_option maxRecDepth 16384

noncomputable section

namespace Cert.KernelIdeal.Own

open Cert.KernelIdeal.Gen Cert.Own
open Idealize.ShloMosaic Idealize.ShloMosaic.TcCoe Idealize.SL.Sem

section
variable (Q K : Fin 4096 → Fin 192 → ℝ) (V : Fin 4096 → Fin 128 → ℝ) (j : Fin 4)
  (q : Vec Ideal S1x1024x192 .bf16) (k : Vec Ideal S1x4096x192 .bf16) (v : Vec Ideal S1x4096x128 .bf16)
  (hq : ∀ a d, q (ix3 0 a d) = (Q (row j a) d : EReal)) (hk : ∀ i d, k (ix3 0 i d) = (K i d : EReal)) (hv : ∀ i e, v (ix3 0 i e) = (V i e : EReal))

include hq hk in
theorem block_score (c : Fin 4) (a b : Fin 1024) : k0_pay7 q (rows192 k c) (ix2 a b) = (score Q K (row j a) (row c b) : EReal) := by
  rw [pay7_at, score, coe_sum]
  refine Finset.sum_congr rfl fun d _ => ?_
  rw [hq, rows192_at, hk, EReal.coe_mul]

include hq hk hv in
/-- After `n` blocks of keys a row carries the sums over these blocks. -/
theorem fold_carries (a : Fin 1024) (n : ℕ) :
    Carries ((fold0 q k v n).1 (ix2 a 0)) ((fold0 q k v n).2.1 (ix2 a 0)) (fun e : Fin 128 => (fold0 q k v n).2.2 (ix2 a e))
      (∑ c ∈ Finset.range n, ∑ b, Real.exp (score Q K (row j a) (row (Fin.ofNat 4 c) b)))
      (fun e => ∑ c ∈ Finset.range n, ∑ b, Real.exp (score Q K (row j a) (row (Fin.ofNat 4 c) b)) * V (row (Fin.ofNat 4 c) b) e) := by
  induction n with
  | zero => exact .inl ⟨(init0_at a 0).1, (init0_at a 0).2.1, fun e => (init0_at a e).2.2, Finset.sum_range_zero _, fun e => Finset.sum_range_zero _⟩
  | succ n ih =>
    obtain ⟨μ, h1, h2, h3⟩ := ih.step (fun b => k0_pay7 q (rows192 k (Fin.ofNat 4 n)) (ix2 a b)) (fun b => Real.exp (score Q K (row j a) (row (Fin.ofNat 4 n) b)))
      (fun b => .inl ⟨_, block_score Q K j q k hq hk _ a b, rfl⟩) ⟨0, by rw [block_score Q K j q k hq hk]; exact EReal.coe_ne_bot _⟩
      (fun b e => V (row (Fin.ofNat 4 n) b) e) (k0_pay8 q (fold0 q k v n).1 (rows192 k (Fin.ofNat 4 n)) (ix2 a 0)) (pay8_at _ _ _ a)
    refine .inr ⟨μ, h1, ?_, fun e => ?_⟩
    · simp only [fold0]
      rw [pay11_at, Finset.sum_range_succ]
      exact h2
    · simp only [fold0]
      rw [pay12_at, Finset.sum_range_succ, ← h3 e]
      congr 1
      refine Finset.sum_congr rfl fun b _ => ?_
      rw [rows128_at, hv]

theorem wt_block (c : Fin 4) (h : c < j) (a b : Fin 1024) : wt Q K (row j a) (row c b) = Real.exp (score Q K (row j a) (row c b)) := by
  unfold wt
  rw [if_pos ((row_le j c a b).mpr (.inl h))]

theorem wt_diag (a b : Fin 1024) : wt Q K (row j a) (row j b) = if b ≤ a then Real.exp (score Q K (row j a) (row j b)) else 0 := by
  unfold wt
  simp only [row_le, lt_irrefl, false_or, true_and]

theorem wt_above (c : Fin 4) (h : j < c) (a b : Fin 1024) : wt Q K (row j a) (row c b) = 0 := by
  unfold wt
  rw [if_neg]
  rw [row_le]
  rintro (h' | ⟨rfl, -⟩)
  · exact lt_asymm h h'
  · exact lt_irrefl _ h

/-- A weighted sum over the keys, block by block. -/
theorem wt_sum (a : Fin 1024) (f : Fin 4096 → ℝ) :
    ∑ i, wt Q K (row j a) i * f i = (∑ c ∈ Finset.range j.val, ∑ b, Real.exp (score Q K (row j a) (row (Fin.ofNat 4 c) b)) * f (row (Fin.ofNat 4 c) b))
      + ∑ b, (if b ≤ a then Real.exp (score Q K (row j a) (row j b)) else 0) * f (row j b) := by
  rw [sum_rows, sum_below _ j fun c hc => Finset.sum_eq_zero fun b _ => by rw [wt_above Q K j c hc, zero_mul]]
  congr 1
  · refine Finset.sum_congr rfl fun c hc => Finset.sum_congr rfl fun b _ => ?_
    have h4 := j.isLt
    have hc' := Finset.mem_range.mp hc
    rw [wt_block Q K j (Fin.ofNat 4 c) (by rw [Fin.lt_def, Fin.val_ofNat, Nat.mod_eq_of_lt (by omega)]; exact hc')]
  · exact Finset.sum_congr rfl fun b _ => by rw [wt_diag]

include hq hk hv in
/-- The row after the diagonal block. -/
theorem fwd_row (a : Fin 1024) : ∃ μ : ℝ, k0_pay20 q (fold0 q k v j.val).1 (rows192 k j) (ix2 a 0) = (μ : EReal)
    ∧ k0_pay23 q (fold0 q k v j.val).1 (fold0 q k v j.val).2.1 (rows192 k j) (ix2 a 0) = ((Real.exp (-μ) * tot Q K (row j a) : ℝ) : EReal)
    ∧ ∀ e : Fin 128, k0_pay24 q (fold0 q k v j.val).1 (fold0 q k v j.val).2.2 (rows192 k j) (ix2 a e)
        + ∑ b, k0_pay25 q (fold0 q k v j.val).1 (rows192 k j) (ix2 a b) * rows128 v j (ix3 0 b e)
      = ((Real.exp (-μ) * ∑ i, wt Q K (row j a) i * V i e : ℝ) : EReal) := by
  have hs : ∀ b, k0_pay19 q (rows192 k j) (ix2 a b) = if b ≤ a then (score Q K (row j a) (row j b) : EReal) else ⊥ := fun b => by
    rw [pay19_at, block_score Q K j q k hq hk]
  obtain ⟨μ, h1, h2, h3⟩ := (fold_carries Q K V j q k v hq hk hv a j.val).step (fun b => k0_pay19 q (rows192 k j) (ix2 a b))
    (fun b => if b ≤ a then Real.exp (score Q K (row j a) (row j b)) else 0)
    (fun b => by simp only [hs]; exact Weighs.ite _ _) ⟨a, by simp only [hs, le_refl, if_true]; exact EReal.coe_ne_bot _⟩
    (fun b e => V (row j b) e) (k0_pay20 q (fold0 q k v j.val).1 (rows192 k j) (ix2 a 0)) (pay20_at _ _ _ a)
  refine ⟨μ, h1, ?_, fun e => ?_⟩
  · rw [pay23_at]
    refine h2.trans ?_
    congr 2
    have := wt_sum Q K j a fun _ => 1
    simp only [mul_one] at this
    exact this.symm
  · rw [pay24_at, wt_sum, ← h3 e]
    congr 1
    refine Finset.sum_congr rfl fun b _ => ?_
    rw [pay25_at, rows128_at, hv]

include hq hk hv in
/-- The output's block is the attention's. -/
theorem fwdO_at (a : Fin 1024) (e : Fin 128) : fwdO j q k v (ix2 a e) = (out Q K V (row j a) e : EReal) := by
  obtain ⟨μ, h1, h2, h3⟩ := fwd_row Q K V j q k v hq hk hv a
  unfold fwdO
  rw [pay1_at, h2, h3, quotient _ _ (tot_pos Q K _), out_eq]

include hq hk hv in
/-- The log-sum-exps' block holds the logarithm of the row's sum of weights. -/
theorem fwdLse_at (z : Fin 1) (a : Fin 1024) (e : Fin 128) : fwdLse j q k v (ix3 z a e) = (Real.log (tot Q K (row j a)) : EReal) := by
  obtain ⟨μ, h1, h2, h3⟩ := fwd_row Q K V j q k v hq hk hv a
  unfold fwdLse
  rw [pay2_at, h1, h2, logsum _ (tot_pos Q K _)]

end

end Cert.KernelIdeal.Own

end
-- ==== Proof.ValA.lean ====
/- The arrays the forward call leaves, over real arguments. -/
module

public import proofs.«01_k».proof.Proof.Fwd
public import proofs.«01_k».proof.Proof.Run
public import Idealize.ShloMosaic.Lib.Pipeline.ValueKit

@[expose] public section

set_option maxRecDepth 16384

noncomputable section

namespace Cert.KernelIdeal.Own

open Cert.KernelIdeal.Gen Cert.Own
open Idealize.ShloMosaic Idealize.ShloMosaic.TcCoe Idealize.SL.Sem
open Idealize.ShloMosaic.Pipeline (Dat)

/-- The windows' blocks and the grid's coordinates, point by point. -/
theorem idx0 : ∀ t : Fin cfg0.N, win0_0.index t = ![t.val / 4, t.val % 4, 0] ∧ win0_1.index t = ![t.val / 4, 0, 0] ∧ win0_2.index t = ![t.val / 4, 0, 0]
    ∧ win0_3.index t = ![t.val % 4, t.val / 4] ∧ win0_4.index t = ![t.val / 4, t.val % 4, 0] ∧ t.val / 4 < 8 :=
  (by decide +kernel : ∀ t : Fin grid0.N, _)

theorem coord0 (t : Fin cfg0.N) : (grid0.coords t 1).val = t.val % 4 := by
  have e : (grid0.coords t 1).val = t.val / 1 % 4 := Pipeline.Grid.coords_val t 1 (by decide) rfl
  rw [e, Nat.div_one]

/-- The head of a point of the forward call's grid. -/
def head0 (t : Fin cfg0.N) : Fin 8 := ⟨t.val / 4, (idx0 t).2.2.2.2.2⟩

/-- The column of the output that holds a head's column. -/
def joinCol (h : Fin 8) (e : Fin 128) : Fin 1024 := ⟨128 * h.val + e.val, by omega⟩

/-- The head and the column within the head of a column of the output. -/
def colHead (x : Fin 1024) : Fin 8 := ⟨x.val / 128, by omega⟩
def colLane (x : Fin 1024) : Fin 128 := ⟨x.val % 128, by omega⟩

variable (V : Dev nD → Valuation τ sig (Elt Ideal)) (c : Dev nD)

theorem blk0_0_at (t : Fin cfg0.N) (z : Fin 1) (a : Fin 1024) (d : Fin 192) :
    blk0 V c 0 t (ix3 z a d) = V c (Proc.devRef .tc main_arg0) (ix3 (head0 t) (row (grid0.coords t 1) a) d) := by
  have h := coord0 t
  unfold blk0
  blk_ext [idx0 t, row, head0]

theorem blk0_1_at (t : Fin cfg0.N) (z : Fin 1) (i : Fin 4096) (d : Fin 192) :
    blk0 V c 1 t (ix3 z i d) = V c (Proc.devRef .tc main_arg1) (ix3 (head0 t) i d) := by
  unfold blk0
  blk_ext [idx0 t, row, head0]

theorem blk0_2_at (t : Fin cfg0.N) (z : Fin 1) (i : Fin 4096) (d : Fin 128) :
    blk0 V c 2 t (ix3 z i d) = V c (Proc.devRef .tc main_arg2) (ix3 (head0 t) i d) := by
  unfold blk0
  blk_ext [idx0 t, row, head0]

variable (Q K : Fin 8 → Fin 4096 → Fin 192 → ℝ) (W : Fin 8 → Fin 4096 → Fin 128 → ℝ)
  (hq : ∀ h i d, V c (Proc.devRef .tc main_arg0) (ix3 h i d) = (Q h i d : EReal))
  (hk : ∀ h i d, V c (Proc.devRef .tc main_arg1) (ix3 h i d) = (K h i d : EReal))
  (hv : ∀ h i e, V c (Proc.devRef .tc main_arg2) (ix3 h i e) = (W h i e : EReal))

/-- The attention's output, the heads side by side. -/
def outArr (y : S4096x1024.Idx) : EReal := (out (Q (colHead (y 1))) (K (colHead (y 1))) (W (colHead (y 1))) (y 0) (colLane (y 1)) : EReal)

/-- The logarithms of the rows' sums of weights. -/
def lseArr (y : S8x4096x128.Idx) : EReal := (Real.log (tot (Q (y 0)) (K (y 0)) (y 1)) : EReal)

include hq hk hv in
theorem o_value : (dat0 V c).arrAt 3 cfg0.N = outArr Q K W := by
  refine (dat0 V c).arrAt_eq_of_covers 3 _ (by decide +kernel) fun t _ y => ?_
  blk_simp
  rw [after0_3]
  obtain ⟨a, e, rfl⟩ : ∃ (a : Fin 1024) (e : Fin 128), y = ix2 a e := ⟨y 0, y 1, eq_ix2 y⟩
  refine (fwdO_at (Q (head0 t)) (K (head0 t)) (W (head0 t)) (grid0.coords t 1) _ _ _ (fun a d => (blk0_0_at V c t 0 a d).trans (hq _ _ _))
    (fun i d => (blk0_1_at V c t 0 i d).trans (hk _ _ _)) (fun i e => (blk0_2_at V c t 0 i e).trans (hv _ _ _)) a e).trans ?_
  have hr : (row (grid0.coords t 1) a).val = 1024 * (t.val % 4) + a.val := (congrArg (1024 * · + a.val) (coord0 t))
  unfold outArr
  have h0 : (win0_3.blk t).view.emb (ix2 a e) 0 = row (grid0.coords t 1) a := Fin.ext (Eq.trans (by blk_simp [idx0 t] <;> try omega) hr.symm)
  have h1 : colHead ((win0_3.blk t).view.emb (ix2 a e) 1) = head0 t := Fin.ext (by simp only [colHead, head0]; blk_simp [idx0 t] <;> try omega)
  have h2 : colLane ((win0_3.blk t).view.emb (ix2 a e) 1) = e := Fin.ext (by simp only [colLane]; blk_simp [idx0 t] <;> try omega)
  rw [h0, h1, h2]

include hq hk hv in
theorem lse_value : (dat0 V c).arrAt 4 cfg0.N = lseArr Q K := by
  refine (dat0 V c).arrAt_eq_of_covers 4 _ (by decide +kernel) fun t _ y => ?_
  blk_simp
  rw [after0_4]
  obtain ⟨z, a, e, rfl⟩ : ∃ (z : Fin 1) (a : Fin 1024) (e : Fin 128), y = ix3 z a e := ⟨y 0, y 1, y 2, eq_ix3 y⟩
  refine (fwdLse_at (Q (head0 t)) (K (head0 t)) (W (head0 t)) (grid0.coords t 1) _ _ _ (fun a d => (blk0_0_at V c t 0 a d).trans (hq _ _ _))
    (fun i d => (blk0_1_at V c t 0 i d).trans (hk _ _ _)) (fun i e => (blk0_2_at V c t 0 i e).trans (hv _ _ _)) z a e).trans ?_
  have hr : (row (grid0.coords t 1) a).val = 1024 * (t.val % 4) + a.val := (congrArg (1024 * · + a.val) (coord0 t))
  unfold lseArr
  have h0 : (win0_4.blk t).view.emb (ix3 z a e) 0 = head0 t := Fin.ext (by simp only [head0]; blk_simp [idx0 t] <;> try omega)
  have h1 : (win0_4.blk t).view.emb (ix3 z a e) 1 = row (grid0.coords t 1) a := Fin.ext (Eq.trans (by blk_simp [idx0 t] <;> try omega) hr.symm)
  rw [h0, h1]

end Cert.KernelIdeal.Own

end
-- ==== Proof.ValB.lean ====
/- The arrays the backward call leaves, over real arguments. -/
module

public import proofs.«01_k».proof.Proof.Bwd
public import proofs.«01_k».proof.Proof.ValA
public import Idealize.ShloMosaic.Lib.Pipeline.ValueKit

@[expose] public section

set_option maxRecDepth 16384

noncomputable section

namespace Cert.KernelIdeal.Own

open Cert.KernelIdeal.Gen Cert.Own
open Idealize.ShloMosaic Idealize.ShloMosaic.TcCoe Idealize.SL.Sem
open Idealize.ShloMosaic.Pipeline (Dat)

/-- The windows' blocks and the grid's coordinates, point by point. -/
theorem idx1 : ∀ t : Fin cfg1.N, win1_0.index t = ![t.val / 4, 0, 0] ∧ win1_1.index t = ![t.val / 4, t.val % 4, 0] ∧ win1_2.index t = ![t.val / 4, t.val % 4, 0]
    ∧ win1_3.index t = ![0, t.val / 4] ∧ win1_4.index t = ![t.val / 4, 0, 0] ∧ win1_5.index t = ![t.val / 4, 0, 0]
    ∧ win1_6.index t = ![t.val / 4, 0, 0] ∧ win1_7.index t = ![t.val / 4, t.val % 4, 0] ∧ win1_8.index t = ![t.val / 4, t.val % 4, 0] ∧ t.val / 4 < 8 :=
  (by decide +kernel : ∀ t : Fin grid1.N, _)

/-- The head of a point of the backward call's grid. -/
def head1 (t : Fin cfg1.N) : Fin 8 := ⟨t.val / 4, (idx1 t).2.2.2.2.2.2.2.2.2⟩

variable (V : Dev nD → Valuation τ sig (Elt Ideal)) (c : Dev nD)

theorem blk1_0_at (t : Fin cfg1.N) (z : Fin 1) (i : Fin 4096) (d : Fin 192) :
    blk1 V c 0 t (ix3 z i d) = V c (Proc.devRef .tc main_arg0) (ix3 (head1 t) i d) := by
  unfold blk1
  blk_ext [idx1 t, head1]

theorem blk1_1_at (t : Fin cfg1.N) (z : Fin 1) (b : Fin 1024) (d : Fin 192) :
    blk1 V c 1 t (ix3 z b d) = V c (Proc.devRef .tc main_arg1) (ix3 (head1 t) (row (grid1.coords t 1) b) d) := by
  have h := coord1 t
  unfold blk1
  blk_ext [idx1 t, row, head1]

theorem blk1_2_at (t : Fin cfg1.N) (z : Fin 1) (b : Fin 1024) (d : Fin 128) :
    blk1 V c 2 t (ix3 z b d) = V c (Proc.devRef .tc main_arg2) (ix3 (head1 t) (row (grid1.coords t 1) b) d) := by
  have h := coord1 t
  unfold blk1
  blk_ext [idx1 t, row, head1]

theorem blk1_3_at (t : Fin cfg1.N) (i : Fin 4096) (e : Fin 128) :
    blk1 V c 3 t (ix2 i e) = V c (Proc.devRef .tc main_arg3) (ix2 i (joinCol (head1 t) e)) := by
  unfold blk1
  blk_ext [idx1 t, joinCol, head1]

theorem blk1_4_at (t : Fin cfg1.N) (z : Fin 1) (i : Fin 4096) (e : Fin 128) :
    blk1 V c 4 t (ix3 z i e) = V c (Proc.devRef .tc main_v0_1) (ix3 (head1 t) i e) := by
  unfold blk1
  blk_ext [idx1 t, head1]

theorem blk1_5_at (t : Fin cfg1.N) (z : Fin 1) (i : Fin 4096) (e : Fin 128) :
    blk1 V c 5 t (ix3 z i e) = V c (Proc.devRef .tc main_v7) (ix3 (head1 t) i e) := by
  unfold blk1
  blk_ext [idx1 t, head1]

variable (Q K : Fin 8 → Fin 4096 → Fin 192 → ℝ) (W G : Fin 8 → Fin 4096 → Fin 128 → ℝ)
  (hq : ∀ h i d, V c (Proc.devRef .tc main_arg0) (ix3 h i d) = (Q h i d : EReal))
  (hk : ∀ h i d, V c (Proc.devRef .tc main_arg1) (ix3 h i d) = (K h i d : EReal))
  (hv : ∀ h i e, V c (Proc.devRef .tc main_arg2) (ix3 h i e) = (W h i e : EReal))
  (hg : ∀ h i e, V c (Proc.devRef .tc main_arg3) (ix2 i (joinCol h e)) = (G h i e : EReal))
  (hl : ∀ h i, V c (Proc.devRef .tc main_v0_1) (ix3 h i 0) = (Real.log (tot (Q h) (K h) i) : EReal))
  (hdl : ∀ h i, V c (Proc.devRef .tc main_v7) (ix3 h i 0) = (delta (Q h) (K h) (W h) (G h) i : EReal))

/-- The gradients of the queries, keys and values, head by head. -/
def dqArr (y : S8x4096x192.Idx) : EReal := (gradQ (Q (y 0)) (K (y 0)) (W (y 0)) (G (y 0)) (y 1) (y 2) : EReal)
def dkArr (y : S8x4096x192.Idx) : EReal := (gradK (Q (y 0)) (K (y 0)) (W (y 0)) (G (y 0)) (y 1) (y 2) : EReal)
def dvArr (y : S8x4096x128.Idx) : EReal := (gradV (Q (y 0)) (K (y 0)) (G (y 0)) (y 1) (y 2) : EReal)

include hq hk hv hg hl hdl in
theorem dk_value : (dat1 V c).arrAt 7 cfg1.N = dkArr Q K W G := by
  refine (dat1 V c).arrAt_eq_of_covers 7 _ (by decide +kernel) fun t _ y => ?_
  blk_simp
  rw [after1_7]
  obtain ⟨z, b, d, rfl⟩ : ∃ (z : Fin 1) (b : Fin 1024) (d : Fin 192), y = ix3 z b d := ⟨y 0, y 1, y 2, eq_ix3 y⟩
  refine (bwdDk_at (Q (head1 t)) (K (head1 t)) (W (head1 t)) (G (head1 t)) (grid1.coords t 1) _ _ _ _ _ _ _ (fun i d => (blk1_0_at V c t 0 i d).trans (hq _ _ _))
    (fun i d => (blk1_1_at V c t 0 i d).trans (hk _ _ _)) (fun i e => (blk1_2_at V c t 0 i e).trans (hv _ _ _)) (fun i e => (blk1_3_at V c t i e).trans (hg _ _ _))
    (fun i => (blk1_4_at V c t 0 i 0).trans (hl _ _)) (fun i => (blk1_5_at V c t 0 i 0).trans (hdl _ _)) z b d).trans ?_
  have hr : (row (grid1.coords t 1) b).val = 1024 * (t.val % 4) + b.val := (congrArg (1024 * · + b.val) (coord1 t))
  unfold dkArr
  have h0 : (win1_7.blk t).view.emb (ix3 z b d) 0 = head1 t := Fin.ext (by simp only [head1]; blk_simp [idx1 t] <;> try omega)
  have h1 : (win1_7.blk t).view.emb (ix3 z b d) 1 = row (grid1.coords t 1) b := Fin.ext (Eq.trans (by blk_simp [idx1 t] <;> try omega) hr.symm)
  have h2 : (win1_7.blk t).view.emb (ix3 z b d) 2 = d := Fin.ext (by blk_simp [idx1 t] <;> try omega)
  rw [h0, h1, h2]

include hq hk hg hl in
theorem dv_value : (dat1 V c).arrAt 8 cfg1.N = dvArr Q K G := by
  refine (dat1 V c).arrAt_eq_of_covers 8 _ (by decide +kernel) fun t _ y => ?_
  blk_simp
  rw [after1_8]
  obtain ⟨z, b, d, rfl⟩ : ∃ (z : Fin 1) (b : Fin 1024) (d : Fin 128), y = ix3 z b d := ⟨y 0, y 1, y 2, eq_ix3 y⟩
  refine (bwdDv_at (Q (head1 t)) (K (head1 t)) (G (head1 t)) (grid1.coords t 1) _ _ _ _ _ _ _ (fun i d => (blk1_0_at V c t 0 i d).trans (hq _ _ _))
    (fun i d => (blk1_1_at V c t 0 i d).trans (hk _ _ _)) (fun i e => (blk1_3_at V c t i e).trans (hg _ _ _))
    (fun i => (blk1_4_at V c t 0 i 0).trans (hl _ _)) z b d).trans ?_
  have hr : (row (grid1.coords t 1) b).val = 1024 * (t.val % 4) + b.val := (congrArg (1024 * · + b.val) (coord1 t))
  unfold dvArr
  have h0 : (win1_8.blk t).view.emb (ix3 z b d) 0 = head1 t := Fin.ext (by simp only [head1]; blk_simp [idx1 t] <;> try omega)
  have h1 : (win1_8.blk t).view.emb (ix3 z b d) 1 = row (grid1.coords t 1) b := Fin.ext (Eq.trans (by blk_simp [idx1 t] <;> try omega) hr.symm)
  have h2 : (win1_8.blk t).view.emb (ix3 z b d) 2 = d := Fin.ext (by blk_simp [idx1 t] <;> try omega)
  rw [h0, h1, h2]

/-- What a block of keys adds to the gradient of a query. -/
def dqPart (h : Fin 8) (i : Fin 4096) (d : Fin 192) (m : ℕ) : ℝ :=
  ∑ b, dscore (Q h) (K h) (W h) (G h) i (row (Fin.ofNat 4 m) b) * K h (row (Fin.ofNat 4 m) b) d

include hq hk hv hg hl hdl in
/-- The queries' gradient at a point: the blocks of keys up to the point's. -/
theorem dqAt_at (n : ℕ) (hn : n < cfg1.N) (i : Fin 4096) (d : Fin 192) :
    dqAt V c n (ix3 0 i d) = ((∑ m ∈ Finset.range (n % 4 + 1), dqPart Q K W G (head1 ⟨n, hn⟩) i d m : ℝ) : EReal) := by
  have step : ∀ (t : Fin cfg1.N) (X : Fin 4096 → Fin 192 → ℝ), (∀ i d, from1 t (dqAt V c (t.val - 1)) (ix3 0 i d) = (X i d : EReal)) → ∀ (i : Fin 4096) (d : Fin 192),
      dqAt V c t.val (ix3 0 i d) = ((X i d + dqPart Q K W G (head1 t) i d (t.val % 4) : ℝ) : EReal) := fun t X hX i d => by
    have hc : grid1.coords t 1 = Fin.ofNat 4 (t.val % 4) := Fin.ext (by rw [coord1]; simp)
    rw [dqAt_step]
    refine (bwdDq_at (Q (head1 t)) (K (head1 t)) (W (head1 t)) (G (head1 t)) (grid1.coords t 1) _ _ _ _ _ _ _ (fun i d => (blk1_0_at V c t 0 i d).trans (hq _ _ _))
      (fun i d => (blk1_1_at V c t 0 i d).trans (hk _ _ _)) (fun i e => (blk1_2_at V c t 0 i e).trans (hv _ _ _)) (fun i e => (blk1_3_at V c t i e).trans (hg _ _ _))
      (fun i => (blk1_4_at V c t 0 i 0).trans (hl _ _)) (fun i => (blk1_5_at V c t 0 i 0).trans (hdl _ _)) X hX i d).trans ?_
    unfold dqPart
    rw [hc]
  induction n generalizing i d with
  | zero =>
    refine (step ⟨0, hn⟩ (fun _ _ => 0) (fun i d => ?_) i d).trans ?_
    · unfold from1
      rw [if_pos ((coord1 ⟨0, hn⟩).trans (Nat.zero_mod 4))]
      exact pay1_18_at 0 i d
    · rw [Finset.sum_range_one, zero_add]; rfl
  | succ n ih =>
    have ih := ih (by omega)
    by_cases h : (n + 1) % 4 = 0
    · refine (step ⟨n + 1, hn⟩ (fun _ _ => 0) (fun i d => ?_) i d).trans ?_
      · unfold from1
        rw [if_pos ((coord1 ⟨n + 1, hn⟩).trans h)]
        exact pay1_18_at 0 i d
      · simp only [h]
        rw [Finset.sum_range_one, zero_add]
    · refine (step ⟨n + 1, hn⟩ (fun i d => ∑ m ∈ Finset.range (n % 4 + 1), dqPart Q K W G (head1 ⟨n, by omega⟩) i d m) (fun i d => ?_) i d).trans ?_
      · unfold from1
        rw [if_neg (by rw [coord1]; exact h)]
        exact ih i d
      · have e : (n + 1) % 4 = n % 4 + 1 := by omega
        have eh : head1 ⟨n, by omega⟩ = head1 ⟨n + 1, hn⟩ := Fin.ext (by simp only [head1]; omega)
        simp only [e, eh]
        rw [Finset.sum_range_succ _ (n % 4 + 1)]

include hq hk hv hg hl hdl in
theorem dq_value : (dat1 V c).arrAt 6 cfg1.N = dqArr Q K W G := by
  refine (dat1 V c).arrAt_eq_of_covers 6 _ (by decide +kernel) fun t hf y => ?_
  blk_simp
  rw [after1_6]
  obtain ⟨z, i, d, rfl⟩ : ∃ (z : Fin 1) (i : Fin 4096) (d : Fin 192), y = ix3 z i d := ⟨y 0, y 1, y 2, eq_ix3 y⟩
  obtain rfl : z = 0 := Subsingleton.elim _ _
  have h3 : t.val % 4 = 3 := (flush1_6 t).mp hf
  refine (dqAt_at V c Q K W G hq hk hv hg hl hdl t.val t.isLt i d).trans ?_
  unfold dqArr
  have h0 : (win1_6.blk t).view.emb (ix3 0 i d) 0 = head1 t := Fin.ext (by simp only [head1]; blk_simp [idx1 t] <;> try omega)
  have h1 : (win1_6.blk t).view.emb (ix3 0 i d) 1 = i := Fin.ext (by blk_simp [idx1 t] <;> try omega)
  have h2 : (win1_6.blk t).view.emb (ix3 0 i d) 2 = d := Fin.ext (by blk_simp [idx1 t] <;> try omega)
  rw [h0, h1, h2, h3]
  unfold gradQ
  rw [sum_rows, Fin.sum_univ_four]
  simp only [Finset.sum_range_succ, Finset.sum_range_zero, zero_add]
  rfl

end Cert.KernelIdeal.Own

end
-- ==== Proof.Entry.lean ====
/- What the backward call reads of the forward call: the logarithms of the rows' sums, and the rows' sums of the output times its gradient. -/
module

public import proofs.«01_k».proof.Proof.ValA
public import proofs.«01_k».proof.Proof.Frames
public import Idealize.ShloMosaic.Lib.Pointwise
public import Idealize.ShloMosaic.Lib.Claim

@[expose] public section

set_option maxRecDepth 16384

noncomputable section

namespace Cert.KernelIdeal.Own

open Cert.KernelIdeal.Gen Cert.Own
open Idealize.ShloMosaic Idealize.ShloMosaic.TcCoe Idealize.SL.Sem
open Idealize.ShloMosaic.Pipeline (Dat)

variable (m : (ℓ : Loc nD τ sig) → Buf (Elt Ideal) ℓ) (c : Dev nD)

theorem entry_of (r : Ref sig .tc) (h : r ∉ hostOps1_W) (h' : r ∉ ([main_v0_0, main_v0_1] : List (Ref sig .tc))) :
    entry1 m c (Proc.devRef .tc r) = m ((c.tc : Thread nD τ).loc r) :=
  (V2_of m (fun _ => outs0 m) c r h).trans (V1_of m (fun _ => outs0 m) c r h')

theorem entry_lse : entry1 m c (Proc.devRef .tc main_v0_1) = (dat0 (V0 m) c).arrAt 4 cfg0.N := by
  refine (V2_of m (fun _ => outs0 m) c main_v0_1 (by decide)).trans ?_
  refine Eq.trans ?_ (outs0_lse m c)
  exact Function.update_self _ _ _

/-- The rows' sums of an output times its gradient, head by head, repeated along the lanes. -/
def deltaOf (g : FVec Ideal S4096x1024 .bf16) (o : FVec Ideal S4096x1024 .f32) : FVec Ideal S8x4096x128 .f32 :=
  broadcastInDim S8x4096x128 ![0, 1, 2] bcast_S8x4096x1_S8x4096x128_0_1_2 (broadcastInDim S8x4096x1 ![0, 1] bcast_S8x4096_S8x4096x1_0_1
    (transpose S8x4096 [1, 0] (Host.reduceAdd (shapeCast S4096x8x128 (mulf (extf .f32 g bitsLt_bf16_f32) o) shapeCasts_S4096x1024_S4096x8x128)
      (constant S_ .f32 0x00000000#32) reducesTo_S4096x8x128_S4096x8_d2 h_S_) transposes_S4096x8_S8x4096_1_0))

theorem deltaOf_at (g : FVec Ideal S4096x1024 .bf16) (o : FVec Ideal S4096x1024 .f32) (h : Fin 8) (i : Fin 4096) (z : Fin 128) :
    deltaOf g o (ix3 h i z) = ∑ e : Fin 128, g (ix2 i (joinCol h e)) * o (ix2 i (joinCol h e)) := by
  pointwise [deltaOf, joinCol]
  exact Finset.sum_congr rfl fun e _ => by simp only [Nat.mul_comm h.val 128]

theorem entry_delta : entry1 m c (Proc.devRef .tc main_v7) = deltaOf (m ((c.tc : Thread nD τ).loc main_arg3)) ((dat0 (V0 m) c).arrAt 3 cfg0.N) := by
  have h3 : V1 m (fun _ => outs0 m) c (Proc.devRef .tc main_arg3) = m ((c.tc : Thread nD τ).loc main_arg3) := V1_of m (fun _ => outs0 m) c main_arg3 (by decide)
  have ho : V1 m (fun _ => outs0 m) c (Proc.devRef .tc main_v0_0) = (dat0 (V0 m) c).arrAt 3 cfg0.N := by
    refine Eq.trans ?_ (outs0_o m c)
    exact (Function.update_of_ne (StableHlo.devRef_ne_of_ne (by decide)) _ _).trans (Function.update_self _ _ _)
  rw [← h3, ← ho]
  show StableHlo.after hostOps1 (V1 m (fun _ => outs0 m) c) (Proc.devRef .tc main_v7) = _
  generalize V1 m (fun _ => outs0 m) c = σ
  unfold deltaOf
  after_results
  rfl

end Cert.KernelIdeal.Own

end
-- ==== Proof.Finite.lean ====
/- The precondition, entry by entry: every entry of the arguments is a real number. -/
module

public import proofs.«01_k».proof.Defs
public import proofs.«01_k».proof.Proof.Gen.Pre_finite
public import Idealize.ShloMosaic.Lib.Pointwise

@[expose] public section

set_option maxRecDepth 16384

noncomputable section

namespace Cert.Own

open Idealize.ShloMosaic Idealize.ShloMosaic.TcCoe Idealize.SL.Sem

theorem ofBits_top : Ideal.ofBits .bf16 0x7F80#16 = ⊤ := by
  simp [Ideal.ofBits, Ideal.ieee]

/-- An absolute value below plus infinity is a real number's. -/
theorem real_of_abs (x : EReal) (h : BitVec.ofBool (decide ((FloatOps.absf (F := Ideal) (φ := .bf16) x : EReal) < Ideal.ofBits .bf16 32640#16)) = 1#1) : x = (x.toReal : EReal) := by
  rw [show Ideal.ofBits .bf16 32640#16 = ⊤ from ofBits_top] at h
  have h' : (max x (-x) : EReal) < ⊤ := by
    by_contra hn
    rw [show (FloatOps.absf (F := Ideal) (φ := .bf16) x : EReal) = max x (-x) from rfl, decide_eq_false hn] at h
    exact absurd h (by decide)
  rw [max_lt_iff] at h'
  refine (EReal.coe_toReal h'.1.ne fun hb => ?_).symm
  rw [hb] at h'
  exact absurd h'.2 (by simp)

variable (a0 a1 : FVec Ideal Pre_finite.S8x4096x192 .bf16) (a2 : FVec Ideal Pre_finite.S8x4096x128 .bf16) (a3 : FVec Ideal Pre_finite.S4096x1024 .bf16)

theorem finite0 (h : (@Pre_finite.fn Pre_finite.Gen.facts Ideal _ a0 a1 a2 a3).1 = fun _ => 1#1) (b : Fin 8) (i : Fin 4096) (d : Fin 192) :
    a0 (ix3 b i d) = ((a0 (ix3 b i d)).toReal : EReal) := by
  have h := congrFun h (ix3 b i d)
  revert h
  pointwise [Pre_finite.fn]
  exact real_of_abs _

theorem finite1 (h : (@Pre_finite.fn Pre_finite.Gen.facts Ideal _ a0 a1 a2 a3).2.1 = fun _ => 1#1) (b : Fin 8) (i : Fin 4096) (d : Fin 192) :
    a1 (ix3 b i d) = ((a1 (ix3 b i d)).toReal : EReal) := by
  have h := congrFun h (ix3 b i d)
  revert h
  pointwise [Pre_finite.fn]
  exact real_of_abs _

theorem finite2 (h : (@Pre_finite.fn Pre_finite.Gen.facts Ideal _ a0 a1 a2 a3).2.2.1 = fun _ => 1#1) (b : Fin 8) (i : Fin 4096) (e : Fin 128) :
    a2 (ix3 b i e) = ((a2 (ix3 b i e)).toReal : EReal) := by
  have h := congrFun h (ix3 b i e)
  revert h
  pointwise [Pre_finite.fn]
  exact real_of_abs _

theorem finite3 (h : (@Pre_finite.fn Pre_finite.Gen.facts Ideal _ a0 a1 a2 a3).2.2.2 = fun _ => 1#1) (i : Fin 4096) (x : Fin 1024) :
    a3 (ix2 i x) = ((a3 (ix2 i x)).toReal : EReal) := by
  have h := congrFun h (ix2 i x)
  revert h
  pointwise [Pre_finite.fn]
  exact real_of_abs _

end Cert.Own

end
-- ==== Proof.RefVal.lean ====
/- The reference's results, over real arguments: its term cut into its mathematical steps, each step read at an entry. -/
module

public import proofs.«01_k».proof.Proof.RefRun
public import proofs.«01_k».proof.Proof.Math
public import Idealize.ShloMosaic.Lib.Pointwise
public import Idealize.ShloMosaic.Lib.WordCmp

@[expose] public section

set_option maxRecDepth 16384

noncomputable section

namespace Cert.ReferenceIdeal.Own

open Cert.ReferenceIdeal Cert.ReferenceIdeal.Gen Cert.Own
open Idealize.ShloMosaic Idealize.ShloMosaic.TcCoe Idealize.SL.Sem

section
variable (q k : FVec Ideal S8x4096x192 .bf16) (v : FVec Ideal S8x4096x128 .bf16) (g : FVec Ideal S4096x1024 .bf16)

/-- The mask: keys up to the query. -/
def mask : IVec S8x4096x4096 1 :=
  broadcastInDim S8x4096x4096 ![0, 1, 2] bcast_S1x4096x4096_S8x4096x4096_0_1_2 (broadcastInDim S1x4096x4096 ![1, 2] bcast_S4096x4096_S1x4096x4096_1_2
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0)))))

/-- The masked scores. -/
def scores : FVec Ideal S8x4096x4096 .f32 :=
  select mask (Host.dotGeneral dot_S8x4096x192_S8x4096x192_S8x4096x4096_2_2_1_1_0_0 none (extf .f32 q bitsLt_bf16_f32) (extf .f32 k bitsLt_bf16_f32))
    (broadcastInDim S8x4096x4096 ![] bcast_S_S8x4096x4096 (id (constant S_ .f32 0xFF800000#32)))

/-- The rows' maxima, of any scores and from any start. -/
def topOf (w : FVec Ideal S_ .f32) (s : FVec Ideal S8x4096x4096 .f32) : FVec Ideal S8x4096 .f32 :=
  maximumf (broadcastInDim S8x4096 ![] bcast_S_S8x4096 w) (Host.reduce FloatOps.maximumf s w reducesTo_S8x4096x4096_S8x4096_d2 h_S_)

/-- The rows' maxima. -/
def top : FVec Ideal S8x4096 .f32 := topOf (constant S_ .f32 0xFF800000#32) (scores q k)

/-- The exponentials of the scores less their row's maximum. -/
def expo : FVec Ideal S8x4096x4096 .f32 :=
  Host.exp (subf (scores q k) (broadcastInDim S8x4096x4096 ![0, 1, 2] bcast_S8x4096x1_S8x4096x4096_0_1_2 (broadcastInDim S8x4096x1 ![0, 1] bcast_S8x4096_S8x4096x1_0_1 (top q k))))

/-- The rows' sums of the exponentials. -/
def den : FVec Ideal S8x4096x1 .f32 :=
  broadcastInDim S8x4096x1 ![0, 1] bcast_S8x4096_S8x4096x1_0_1 (Host.reduceAdd (expo q k) (constant S_ .f32 0x00000000#32) reducesTo_S8x4096x4096_S8x4096_d2 h_S_)

/-- The probabilities. -/
def probs : FVec Ideal S8x4096x4096 .f32 :=
  Host.divf (expo q k) (broadcastInDim S8x4096x4096 ![0, 1, 2] bcast_S8x4096x1_S8x4096x4096_0_1_2 (den q k))

/-- The output's gradient, head by head and transposed. -/
def gradT : FVec Ideal S8x128x4096 .f32 :=
  transpose S8x128x4096 [1, 2, 0] (shapeCast _ (extf .f32 g bitsLt_bf16_f32) shapeCasts_S4096x1024_S4096x8x128) transposes_S4096x8x128_S8x128x4096_1_2_0

/-- The probabilities' gradient. -/
def dprobs : FVec Ideal S8x4096x4096 .f32 :=
  Host.dotGeneral dot_S8x128x4096_S8x4096x128_S8x4096x4096_1_2_2_1_0_0 none (gradT g) (extf .f32 v bitsLt_bf16_f32)

/-- The gradient of the rows' sums. -/
def dden : FVec Ideal S8x4096x1 .f32 :=
  Host.negf (shapeCast _ (Host.reduceAdd (mulf (mulf (dprobs v g) (broadcastInDim S8x4096x4096 ![0, 1, 2] bcast_S8x4096x1_S8x4096x4096_0_1_2
      (Host.divf (broadcastInDim S8x4096x1 ![] bcast_S_S8x4096x1 (constant S_ .f32 0x3F800000#32)) (mulf (den q k) (den q k))))) (expo q k))
    (constant S_ .f32 0x00000000#32) reducesTo_S8x4096x4096_S8x4096_d2 h_S_) shapeCasts_S8x4096_S8x4096x1)

/-- The scores' gradient. -/
def dscores : FVec Ideal S8x4096x4096 .f32 :=
  select mask (mulf (addf (Host.divf (dprobs v g) (broadcastInDim S8x4096x4096 ![0, 1, 2] bcast_S8x4096x1_S8x4096x4096_0_1_2 (den q k)))
      (broadcastInDim S8x4096x4096 ![0, 1] bcast_S8x4096_S8x4096x4096_0_1 (Host.reduceAdd (dden q k v g) (constant S_ .f32 0x00000000#32) reducesTo_S8x4096x1_S8x4096_d2 h_S_))) (expo q k))
    (broadcastInDim S8x4096x4096 ![] bcast_S_S8x4096x4096 (constant S_ .f32 0x00000000#32))

/-- The four results. -/
def outR : FVec Ideal S4096x1024 .f32 :=
  shapeCast _ (transpose S4096x8x128 [2, 0, 1] (Host.dotGeneral dot_S8x4096x128_S8x4096x4096_S8x128x4096_1_2_2_1_0_0 none (extf .f32 v bitsLt_bf16_f32) (probs q k)) transposes_S8x128x4096_S4096x8x128_2_0_1) shapeCasts_S4096x8x128_S4096x1024
def dqR : FVec Ideal S8x4096x192 .f32 :=
  Host.dotGeneral dot_S8x4096x4096_S8x4096x192_S8x4096x192_2_1_1_2_0_0 none (dscores q k v g) (extf .f32 k bitsLt_bf16_f32)
def dkR : FVec Ideal S8x4096x192 .f32 :=
  Host.dotGeneral dot_S8x4096x4096_S8x4096x192_S8x4096x192_1_1_2_2_0_0 none (dscores q k v g) (extf .f32 q bitsLt_bf16_f32)
def dvR : FVec Ideal S8x4096x128 .f32 :=
  transpose S8x4096x128 [0, 2, 1] (Host.dotGeneral dot_S8x128x4096_S8x4096x4096_S8x128x4096_2_1_1_2_0_0 none (gradT g) (probs q k)) transposes_S8x128x4096_S8x4096x128_0_2_1

end

/-- A maximum along the last of three axes of any sizes, as a fold. -/
theorem reduceMax_at {n0 n1 n2 : ℕ} (s : FVec Ideal ⟨3, ![n0, n1, n2]⟩ .f32) (w : FVec Ideal S_ .f32) (h : (⟨3, ![n0, n1, n2]⟩ : Shape).ReducesTo [2] ⟨2, ![n0, n1]⟩)
    (hu : 0 < S_.numel) (a : Fin n0) (b : Fin n1) :
    Host.reduce FloatOps.maximumf s w h hu (ix2 a b) = Finset.univ.fold max (w (Shape.Idx.first hu)) fun j : Fin n2 => s (ix3 a b j) := by
  rw [Host.reduce_eq_fold, Shape.ReducesTo.fold_fiber_r3_a2]
  rfl

theorem maximumf_at (w : FVec Ideal S_ .f32) (z : FVec Ideal S8x4096 .f32) (h : Fin 8) (i : Fin 4096) :
    maximumf (broadcastInDim S8x4096 ![] bcast_S_S8x4096 w) z (ix2 h i) = max (w ix0) (z (ix2 h i)) := by
  pointwise

theorem ofBits_bot : Ideal.ofBits FTy.f32 4286578688#32 = ⊥ := by
  simp [Ideal.ofBits, Ideal.ieee]

section
variable (q k : FVec Ideal S8x4096x192 .bf16) (v : FVec Ideal S8x4096x128 .bf16) (g : FVec Ideal S4096x1024 .bf16)

theorem topOf_at (w : FVec Ideal S_ .f32) (s : FVec Ideal S8x4096x4096 .f32) (h : Fin 8) (i : Fin 4096) :
    topOf w s (ix2 h i) = max (w ix0) (Finset.univ.fold max (w (Shape.Idx.first h_S_)) fun j : Fin 4096 => s (ix3 h i j)) := by
  unfold topOf
  rw [maximumf_at, ← reduceMax_at s w reducesTo_S8x4096x4096_S8x4096_d2 h_S_ h i]

theorem top_at (h : Fin 8) (i : Fin 4096) : top q k (ix2 h i) = max ⊥ (Finset.univ.fold max ⊥ fun j : Fin 4096 => scores q k (ix3 h i j)) := by
  have e : ∀ x, constant (F := Ideal) S_ .f32 0xFF800000#32 x = (⊥ : EReal) := fun x => ofBits_bot
  unfold top
  rw [topOf_at, e, e]

theorem mask_at (h : Fin 8) (i j : Fin 4096) : mask (ix3 h i j) = IntOp.cmpi CmpIPredicate.sle (BitVec.ofNat 32 j.val) (BitVec.ofNat 32 i.val) := by
  pointwise [mask]

theorem select_mask {α : Type} (h : Fin 8) (i j : Fin 4096) (x y : α) : Scalar.select (mask (ix3 h i j)) x y = if j ≤ i then x else y := by
  rw [mask_at]
  have hi := i.isLt
  have hj := j.isLt
  simp only [Fin.le_def]
  word_cmp

theorem scores_at (h : Fin 8) (i j : Fin 4096) : scores q k (ix3 h i j) = if j ≤ i then ∑ d : Fin 192, q (ix3 h i d) * k (ix3 h j d) else ⊥ := by
  have e : ∀ x, (id (constant (F := Ideal) S_ .f32 0xFF800000#32) : FVec Ideal S_ .f32) x = (⊥ : EReal) := fun x => ofBits_bot
  pointwise [scores]
  rw [select_mask, e]

theorem gradT_at (h : Fin 8) (i : Fin 4096) (e : Fin 128) : gradT g (ix3 h e i) = g (ix2 i ⟨128 * h.val + e.val, by omega⟩) := by
  pointwise [gradT]
  exact congrArg (fun x => g (ix2 i x)) (Fin.ext (by simp only []; omega))

theorem dscores_at (h : Fin 8) (i j : Fin 4096) : dscores q k v g (ix3 h i j)
    = if j ≤ i then (Ideal.div (dprobs v g (ix3 h i j)) (den q k (ix3 h i 0)) + dden q k v g (ix3 h i 0)) * expo q k (ix3 h i j) else 0 := by
  pointwise [dscores]
  rw [select_mask, Fin.sum_univ_one]

theorem expo_at (h : Fin 8) (i j : Fin 4096) : expo q k (ix3 h i j) = Ideal.exp (scores q k (ix3 h i j) - top q k (ix2 h i)) := by
  pointwise [expo]

theorem den_at (h : Fin 8) (i : Fin 4096) (z : Fin 1) : den q k (ix3 h i z) = ∑ j : Fin 4096, expo q k (ix3 h i j) := by
  pointwise [den]

theorem probs_at (h : Fin 8) (i j : Fin 4096) : probs q k (ix3 h i j) = Ideal.div (expo q k (ix3 h i j)) (den q k (ix3 h i 0)) := by
  pointwise [probs]

theorem dprobs_at (h : Fin 8) (i j : Fin 4096) : dprobs v g (ix3 h i j) = ∑ e : Fin 128, gradT g (ix3 h e i) * v (ix3 h j e) := by
  pointwise [dprobs]

theorem dden_at (h : Fin 8) (i : Fin 4096) (z : Fin 1) : dden q k v g (ix3 h i z)
    = -(∑ j : Fin 4096, dprobs v g (ix3 h i j) * Ideal.div 1 (den q k (ix3 h i 0) * den q k (ix3 h i 0)) * expo q k (ix3 h i j)) := by
  pointwise [dden]

theorem outR_at (h : Fin 8) (i : Fin 4096) (e : Fin 128) : outR q k v (ix2 i ⟨128 * h.val + e.val, by omega⟩) = ∑ j : Fin 4096, v (ix3 h j e) * probs q k (ix3 h i j) := by
  pointwise [outR]

theorem dqR_at (h : Fin 8) (i : Fin 4096) (d : Fin 192) : dqR q k v g (ix3 h i d) = ∑ j : Fin 4096, dscores q k v g (ix3 h i j) * k (ix3 h j d) := by
  pointwise [dqR]

theorem dkR_at (h : Fin 8) (j : Fin 4096) (d : Fin 192) : dkR q k v g (ix3 h j d) = ∑ i : Fin 4096, dscores q k v g (ix3 h i j) * q (ix3 h i d) := by
  pointwise [dkR]

theorem dvR_at (h : Fin 8) (j : Fin 4096) (e : Fin 128) : dvR q k g (ix3 h j e) = ∑ i : Fin 4096, gradT g (ix3 h e i) * probs q k (ix3 h i j) := by
  pointwise [dvR]

/-! ## Over real arguments -/

variable (Q K : Fin 8 → Fin 4096 → Fin 192 → ℝ) (W G : Fin 8 → Fin 4096 → Fin 128 → ℝ)
  (hq : ∀ h i d, q (ix3 h i d) = (Q h i d : EReal)) (hk : ∀ h i d, k (ix3 h i d) = (K h i d : EReal))
  (hv : ∀ h i e, v (ix3 h i e) = (W h i e : EReal))
  (hg : ∀ (h : Fin 8) (i : Fin 4096) (e : Fin 128), g (ix2 i ⟨128 * h.val + e.val, by omega⟩) = (G h i e : EReal))

include hq hk in
theorem scores_real (h : Fin 8) (i j : Fin 4096) : scores q k (ix3 h i j) = if j ≤ i then (score (Q h) (K h) i j : EReal) else ⊥ := by
  rw [scores_at]
  congr 1
  unfold score
  rw [coe_sum]
  exact Finset.sum_congr rfl fun d _ => by rw [hq, hk, EReal.coe_mul]

include hq hk in
theorem weighs (h : Fin 8) (i j : Fin 4096) : Weighs (scores q k (ix3 h i j)) (wt (Q h) (K h) i j) := by
  rw [scores_real q k Q K hq hk]
  exact Weighs.ite _ _

include hq hk in
theorem top_real (h : Fin 8) (i : Fin 4096) : ∃ μ : ℝ, top q k (ix2 h i) = μ := by
  rw [top_at]
  refine fold_max_real _ _ (fun j => weighs q k Q K hq hk h i j) ⟨i, ?_⟩ ⊥ bot_lt_top
  rw [scores_real q k Q K hq hk, if_pos le_rfl]
  exact EReal.coe_ne_bot _

include hq hk in
/-- A row's exponentials are its weights, all scaled alike. -/
theorem expo_real (h : Fin 8) (i : Fin 4096) : ∃ c : ℝ, 0 < c ∧ ∀ j, expo q k (ix3 h i j) = ((c * wt (Q h) (K h) i j : ℝ) : EReal) := by
  obtain ⟨μ, hμ⟩ := top_real q k Q K hq hk h i
  refine ⟨Real.exp (-μ), Real.exp_pos _, fun j => ?_⟩
  rw [expo_at, hμ]
  exact (weighs q k Q K hq hk h i j).exp μ

theorem den_real (h : Fin 8) (i : Fin 4096) (c : ℝ) (hc : ∀ j, expo q k (ix3 h i j) = ((c * wt (Q h) (K h) i j : ℝ) : EReal)) :
    den q k (ix3 h i 0) = ((c * tot (Q h) (K h) i : ℝ) : EReal) := by
  rw [den_at]
  unfold tot
  rw [Finset.mul_sum, coe_sum]
  exact Finset.sum_congr rfl fun j _ => hc j

include hq hk in
theorem probs_real (h : Fin 8) (i j : Fin 4096) : probs q k (ix3 h i j) = (prob (Q h) (K h) i j : EReal) := by
  obtain ⟨c, hc, he⟩ := expo_real q k Q K hq hk h i
  have ht := (tot_pos (Q h) (K h) i).ne'
  rw [probs_at, he, den_real q k Q K h i c he, div_real _ (mul_ne_zero hc.ne' ht), mul_div_mul_left _ _ hc.ne']
  rfl

include hv hg in
theorem dprobs_real (h : Fin 8) (i j : Fin 4096) : dprobs v g (ix3 h i j) = (dprob (W h) (G h) i j : EReal) := by
  rw [dprobs_at]
  unfold dprob
  rw [coe_sum]
  exact Finset.sum_congr rfl fun e _ => by rw [gradT_at, hg, hv, EReal.coe_mul]

include hq hk hv hg in
theorem dscores_real (h : Fin 8) (i j : Fin 4096) : dscores q k v g (ix3 h i j) = (dscore (Q h) (K h) (W h) (G h) i j : EReal) := by
  obtain ⟨c, hc, he⟩ := expo_real q k Q K hq hk h i
  have hn : c * tot (Q h) (K h) i ≠ 0 := mul_ne_zero hc.ne' (tot_pos (Q h) (K h) i).ne'
  have hd := den_real q k Q K h i c he
  rw [dscores_at]
  by_cases hij : j ≤ i
  · rw [if_pos hij, dden_at, hd, dprobs_real v g W G hv hg, he, div_real _ hn, ← dscore_ref (Q h) (K h) (W h) (G h) i j c hc]
    have hs : (∑ n : Fin 4096, dprobs v g (ix3 h i n) * Ideal.div 1 (((c * tot (Q h) (K h) i : ℝ) : EReal) * ((c * tot (Q h) (K h) i : ℝ) : EReal)) * expo q k (ix3 h i n))
        = ((∑ n, dprob (W h) (G h) i n * (1 / (c * tot (Q h) (K h) i * (c * tot (Q h) (K h) i))) * (c * wt (Q h) (K h) i n) : ℝ) : EReal) := by
      rw [coe_sum]
      refine Finset.sum_congr rfl fun n _ => ?_
      rw [dprobs_real v g W G hv hg, he, ← EReal.coe_mul (c * tot (Q h) (K h) i), ← EReal.coe_one, div_real _ (mul_ne_zero hn hn), ← EReal.coe_mul, ← EReal.coe_mul]
    rw [hs, ← EReal.coe_neg, ← EReal.coe_add, ← EReal.coe_mul]
  · rw [if_neg hij, dscore_of_lt _ _ _ _ (not_le.mp hij), EReal.coe_zero]

include hq hk hv in
theorem outR_real (h : Fin 8) (i : Fin 4096) (e : Fin 128) :
    outR q k v (ix2 i ⟨128 * h.val + e.val, by omega⟩) = (out (Q h) (K h) (W h) i e : EReal) := by
  rw [outR_at]
  unfold out
  rw [coe_sum]
  exact Finset.sum_congr rfl fun j _ => by rw [hv, probs_real q k Q K hq hk, ← EReal.coe_mul, mul_comm]

include hq hk hv hg in
theorem dqR_real (h : Fin 8) (i : Fin 4096) (d : Fin 192) : dqR q k v g (ix3 h i d) = (gradQ (Q h) (K h) (W h) (G h) i d : EReal) := by
  rw [dqR_at]
  unfold gradQ
  rw [coe_sum]
  exact Finset.sum_congr rfl fun j _ => by rw [dscores_real q k v g Q K W G hq hk hv hg, hk, ← EReal.coe_mul]

include hq hk hv hg in
theorem dkR_real (h : Fin 8) (j : Fin 4096) (d : Fin 192) : dkR q k v g (ix3 h j d) = (gradK (Q h) (K h) (W h) (G h) j d : EReal) := by
  rw [dkR_at]
  unfold gradK
  rw [coe_sum]
  exact Finset.sum_congr rfl fun i _ => by rw [dscores_real q k v g Q K W G hq hk hv hg, hq, ← EReal.coe_mul]

include hq hk hg in
theorem dvR_real (h : Fin 8) (j : Fin 4096) (e : Fin 128) : dvR q k g (ix3 h j e) = (gradV (Q h) (K h) (G h) j e : EReal) := by
  rw [dvR_at]
  unfold gradV
  rw [coe_sum]
  exact Finset.sum_congr rfl fun i _ => by rw [gradT_at, hg, probs_real q k Q K hq hk, ← EReal.coe_mul, mul_comm]

end

end Cert.ReferenceIdeal.Own

end
-- ==== Proof.RefRes.lean ====
/- The reference's four results by the names of its steps. -/
module

public import proofs.«01_k».proof.Proof.RefVal

@[expose] public section

set_option maxRecDepth 16384

noncomputable section

namespace Cert.ReferenceIdeal.Own

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

theorem res_out : Value.res_main_v42 m c
    = outR (m ((c.tc : Thread nD τ).loc main_arg0)) (m ((c.tc : Thread nD τ).loc main_arg1)) (m ((c.tc : Thread nD τ).loc main_arg2)) := by
  unfold Value.res_main_v42 outR probs den expo top topOf scores mask
  rfl

theorem res_dq : Value.res_main_v63 m c
    = dqR (m ((c.tc : Thread nD τ).loc main_arg0)) (m ((c.tc : Thread nD τ).loc main_arg1)) (m ((c.tc : Thread nD τ).loc main_arg2)) (m ((c.tc : Thread nD τ).loc main_arg3)) := by
  unfold Value.res_main_v63 dqR dscores dden dprobs gradT den expo top topOf scores mask
  rfl

theorem res_dk : Value.res_main_v62 m c
    = dkR (m ((c.tc : Thread nD τ).loc main_arg0)) (m ((c.tc : Thread nD τ).loc main_arg1)) (m ((c.tc : Thread nD τ).loc main_arg2)) (m ((c.tc : Thread nD τ).loc main_arg3)) := by
  unfold Value.res_main_v62 dkR dscores dden dprobs gradT den expo top topOf scores mask
  rfl

theorem res_dv : Value.res_main_v48 m c
    = dvR (m ((c.tc : Thread nD τ).loc main_arg0)) (m ((c.tc : Thread nD τ).loc main_arg1)) (m ((c.tc : Thread nD τ).loc main_arg3)) := by
  unfold Value.res_main_v48 dvR gradT probs den expo top topOf scores mask
  rfl

end Cert.ReferenceIdeal.Own

end
-- ==== Proof.Value.lean ====
/- The two programs' results over real arguments: the same four arrays. -/
module

public import proofs.«01_k».proof.Proof.ValB
public import proofs.«01_k».proof.Proof.Entry
public import proofs.«01_k».proof.Proof.Finite
public import proofs.«01_k».proof.Proof.RefRes

@[expose] public section

set_option maxRecDepth 16384

noncomputable section

namespace Cert.Own

open Idealize.ShloMosaic Idealize.ShloMosaic.TcCoe Idealize.SL.Sem
open Cert.KernelIdeal.Own

section
variable (a0 a1 : FVec Ideal KernelIdeal.S8x4096x192 .bf16) (a2 : FVec Ideal KernelIdeal.S8x4096x128 .bf16) (a3 : FVec Ideal KernelIdeal.S4096x1024 .bf16)

/-- The arguments' real numbers. -/
def realQ (h : Fin 8) (i : Fin 4096) (d : Fin 192) : ℝ := (a0 (ix3 h i d)).toReal
def realV (h : Fin 8) (i : Fin 4096) (e : Fin 128) : ℝ := (a2 (ix3 h i e)).toReal
def realG (h : Fin 8) (i : Fin 4096) (e : Fin 128) : ℝ := (a3 (ix2 i (joinCol h e))).toReal

/-- Every entry of the arguments is a real number. -/
def Real4 : Prop :=
  (∀ h i d, a0 (ix3 h i d) = (realQ a0 h i d : EReal)) ∧ (∀ h i d, a1 (ix3 h i d) = (realQ a1 h i d : EReal))
    ∧ (∀ h i e, a2 (ix3 h i e) = (realV a2 h i e : EReal)) ∧ ∀ h i e, a3 (ix2 i (joinCol h e)) = (realG a3 h i e : EReal)
end

theorem joinCol_col (x : Fin 1024) : joinCol (colHead x) (colLane x) = x :=
  Fin.ext (by simp only [joinCol, colHead, colLane]; omega)

section kernel
open Cert.KernelIdeal Cert.KernelIdeal.Gen
variable (m : (ℓ : Loc nD τ sig) → Buf (Elt Ideal) ℓ) (c : Dev nD)

abbrev q0 : FVec Ideal KernelIdeal.S8x4096x192 .bf16 := m ((c.tc : Thread nD τ).loc main_arg0)
abbrev k0 : FVec Ideal KernelIdeal.S8x4096x192 .bf16 := m ((c.tc : Thread nD τ).loc main_arg1)
abbrev v0 : FVec Ideal KernelIdeal.S8x4096x128 .bf16 := m ((c.tc : Thread nD τ).loc main_arg2)
abbrev g0 : FVec Ideal KernelIdeal.S4096x1024 .bf16 := m ((c.tc : Thread nD τ).loc main_arg3)

variable (hr : Real4 (q0 m c) (k0 m c) (v0 m c) (g0 m c))
include hr

theorem kernel_out : (dat0 (V0 m) c).arrAt 3 cfg0.N = outArr (realQ (q0 m c)) (realQ (k0 m c)) (realV (v0 m c)) :=
  o_value (V0 m) c _ _ _ hr.1 hr.2.1 hr.2.2.1

theorem entry_q (h : Fin 8) (i : Fin 4096) (d : Fin 192) : entry1 m c (Proc.devRef .tc main_arg0) (ix3 h i d) = (realQ (q0 m c) h i d : EReal) :=
  (congrFun (entry_of m c main_arg0 (by decide) (by decide)) _).trans (hr.1 h i d)
theorem entry_k (h : Fin 8) (i : Fin 4096) (d : Fin 192) : entry1 m c (Proc.devRef .tc main_arg1) (ix3 h i d) = (realQ (k0 m c) h i d : EReal) :=
  (congrFun (entry_of m c main_arg1 (by decide) (by decide)) _).trans (hr.2.1 h i d)
theorem entry_v (h : Fin 8) (i : Fin 4096) (e : Fin 128) : entry1 m c (Proc.devRef .tc main_arg2) (ix3 h i e) = (realV (v0 m c) h i e : EReal) :=
  (congrFun (entry_of m c main_arg2 (by decide) (by decide)) _).trans (hr.2.2.1 h i e)
theorem entry_g (h : Fin 8) (i : Fin 4096) (e : Fin 128) : entry1 m c (Proc.devRef .tc main_arg3) (ix2 i (joinCol h e)) = (realG (g0 m c) h i e : EReal) :=
  (congrFun (entry_of m c main_arg3 (by decide) (by decide)) _).trans (hr.2.2.2 h i e)

theorem entry_l (h : Fin 8) (i : Fin 4096) :
    entry1 m c (Proc.devRef .tc main_v0_1) (ix3 h i 0) = (Real.log (tot (realQ (q0 m c) h) (realQ (k0 m c) h) i) : EReal) := by
  rw [entry_lse, lse_value (V0 m) c (realQ (q0 m c)) (realQ (k0 m c)) (realV (v0 m c)) hr.1 hr.2.1 hr.2.2.1]
  rfl

theorem entry_d (h : Fin 8) (i : Fin 4096) :
    entry1 m c (Proc.devRef .tc main_v7) (ix3 h i 0) = (delta (realQ (q0 m c) h) (realQ (k0 m c) h) (realV (v0 m c) h) (realG (g0 m c) h) i : EReal) := by
  refine (congrFun ((entry_delta m c).trans (congrArg (deltaOf _) (kernel_out m c hr))) (ix3 h i 0)).trans ?_
  refine (deltaOf_at _ _ h i 0).trans ?_
  refine Eq.trans ?_ (coe_sum Finset.univ fun e => realG (g0 m c) h i e * out (realQ (q0 m c) h) (realQ (k0 m c) h) (realV (v0 m c) h) i e).symm
  refine Finset.sum_congr rfl fun e _ => ?_
  have eh : colHead (joinCol h e) = h := Fin.ext (by simp only [joinCol, colHead]; omega)
  have el : colLane (joinCol h e) = e := Fin.ext (by simp only [joinCol, colLane]; omega)
  have ho : outArr (realQ (q0 m c)) (realQ (k0 m c)) (realV (v0 m c)) (ix2 i (joinCol h e)) = (out (realQ (q0 m c) h) (realQ (k0 m c) h) (realV (v0 m c) h) i e : EReal) := by
    show ((out (realQ (q0 m c) (colHead (joinCol h e))) (realQ (k0 m c) (colHead (joinCol h e))) (realV (v0 m c) (colHead (joinCol h e))) i (colLane (joinCol h e)) : ℝ) : EReal) = _
    rw [eh, el]
  rw [ho, EReal.coe_mul]
  exact congrArg (· * _) (hr.2.2.2 h i e)

theorem kernel_dq : (dat1 (entry1 m) c).arrAt 6 cfg1.N = dqArr (realQ (q0 m c)) (realQ (k0 m c)) (realV (v0 m c)) (realG (g0 m c)) :=
  dq_value (entry1 m) c _ _ _ _ (entry_q m c hr) (entry_k m c hr) (entry_v m c hr) (entry_g m c hr) (entry_l m c hr) (entry_d m c hr)
theorem kernel_dk : (dat1 (entry1 m) c).arrAt 7 cfg1.N = dkArr (realQ (q0 m c)) (realQ (k0 m c)) (realV (v0 m c)) (realG (g0 m c)) :=
  dk_value (entry1 m) c _ _ _ _ (entry_q m c hr) (entry_k m c hr) (entry_v m c hr) (entry_g m c hr) (entry_l m c hr) (entry_d m c hr)
theorem kernel_dv : (dat1 (entry1 m) c).arrAt 8 cfg1.N = dvArr (realQ (q0 m c)) (realQ (k0 m c)) (realG (g0 m c)) :=
  dv_value (entry1 m) c _ _ _ (entry_q m c hr) (entry_k m c hr) (entry_g m c hr) (entry_l m c hr)

end kernel

section reference
open Cert.ReferenceIdeal Cert.ReferenceIdeal.Own
variable (a0 a1 : FVec Ideal KernelIdeal.S8x4096x192 .bf16) (a2 : FVec Ideal KernelIdeal.S8x4096x128 .bf16) (a3 : FVec Ideal KernelIdeal.S4096x1024 .bf16) (hr : Real4 a0 a1 a2 a3)
include hr

theorem ref_out : outR a0 a1 a2 = outArr (realQ a0) (realQ a1) (realV a2) := by
  funext y
  obtain ⟨i, x, rfl⟩ : ∃ (i : Fin 4096) (x : Fin 1024), y = ix2 i x := ⟨y 0, y 1, eq_ix2 y⟩
  exact (congrArg (fun z => outR a0 a1 a2 (ix2 i z)) (joinCol_col x).symm).trans (outR_real a0 a1 a2 (realQ a0) (realQ a1) (realV a2) hr.1 hr.2.1 hr.2.2.1 _ _ _)

theorem ref_dq : dqR a0 a1 a2 a3 = dqArr (realQ a0) (realQ a1) (realV a2) (realG a3) := by
  funext y
  exact (congrArg (dqR a0 a1 a2 a3) (eq_ix3 y)).trans (dqR_real a0 a1 a2 a3 (realQ a0) (realQ a1) (realV a2) (realG a3) hr.1 hr.2.1 hr.2.2.1 hr.2.2.2 _ _ _)

theorem ref_dk : dkR a0 a1 a2 a3 = dkArr (realQ a0) (realQ a1) (realV a2) (realG a3) := by
  funext y
  exact (congrArg (dkR a0 a1 a2 a3) (eq_ix3 y)).trans (dkR_real a0 a1 a2 a3 (realQ a0) (realQ a1) (realV a2) (realG a3) hr.1 hr.2.1 hr.2.2.1 hr.2.2.2 _ _ _)

theorem ref_dv : dvR a0 a1 a3 = dvArr (realQ a0) (realQ a1) (realG a3) := by
  funext y
  exact (congrArg (dvR a0 a1 a3) (eq_ix3 y)).trans (dvR_real a0 a1 a3 (realQ a0) (realQ a1) (realG a3) hr.1 hr.2.1 hr.2.2.2 _ _ _)

end reference

end Cert.Own

end
-- ==== Proof.Join.lean ====
/- The projection's output gradient, its four parts side by side. -/
module

public import Idealize.ShloMosaic.Lib.Pointwise

@[expose] public section

noncomputable section

namespace Cert.Own

open Idealize.ShloMosaic

/-- Row i of the four arrays laid side by side, at column j. -/
def joined (a : Fin 4096 → Fin 2048 → EReal) (b c : Fin 4096 → Fin 1024 → EReal) (d : Fin 4096 → Fin 3072 → EReal) (i : Fin 4096) (j : Fin 7168) : EReal :=
  if h : j.val < 2048 then a i ⟨j.val, h⟩
  else if h₁ : j.val - 2048 < 1024 then b i ⟨j.val - 2048, h₁⟩
  else if h₂ : j.val - 2048 - 1024 < 1024 then c i ⟨j.val - 2048 - 1024, h₂⟩
  else d i ⟨j.val - 2048 - 1024 - 1024, by omega⟩

/-- Column s of block k of 1024 columns. -/
def colOf (k : Fin 7) (s : Fin 1024) : Fin 7168 := ⟨1024 * k.val + s.val, by omega⟩

variable (a : Fin 4096 → Fin 2048 → EReal) (b c : Fin 4096 → Fin 1024 → EReal) (d : Fin 4096 → Fin 3072 → EReal) (i : Fin 4096)

theorem joined_a (k : Fin 7) (s : Fin 1024) (h : k.val < 2) : joined a b c d i (colOf k s) = a i ⟨1024 * k.val + s.val, by omega⟩ :=
  dif_pos (show 1024 * k.val + s.val < 2048 by omega)

theorem joined_b (k : Fin 7) (s : Fin 1024) (h : k.val = 2) : joined a b c d i (colOf k s) = b i s := by
  unfold joined colOf
  rw [dif_neg (by dsimp only; omega), dif_pos (by dsimp only; omega)]
  exact congrArg (b i) (Fin.ext (by dsimp only; omega))

theorem joined_c (k : Fin 7) (s : Fin 1024) (h : k.val = 3) : joined a b c d i (colOf k s) = c i s := by
  unfold joined colOf
  rw [dif_neg (by dsimp only; omega), dif_neg (by dsimp only; omega), dif_pos (by dsimp only; omega)]
  exact congrArg (c i) (Fin.ext (by dsimp only; omega))

theorem joined_d (k : Fin 7) (s : Fin 1024) (h : 3 < k.val) : joined a b c d i (colOf k s) = d i ⟨1024 * k.val + s.val - 4096, by omega⟩ := by
  unfold joined colOf
  rw [dif_neg (by dsimp only; omega), dif_neg (by dsimp only; omega), dif_neg (by dsimp only; omega)]
  exact congrArg (d i) (Fin.ext (by dsimp only; omega))

end Cert.Own

end
-- ==== Proof.WStep.lean ====
/- The weights' gradient: what a grid step leaves in the accumulator and in the output's block. -/
module

public import proofs.«01_k».proof.Proof.Gen.Kernel2Ideal.Value
public import proofs.«01_k».proof.Proof.Join
public import Idealize.ShloMosaic.Lib.Pipeline.ValueKit

@[expose] public section

set_option maxRecDepth 16384

noncomputable section

namespace Cert.Kernel2Ideal.Own

open Cert.Kernel2Ideal Cert.Kernel2Ideal.Gen Cert.Kernel2Ideal.Value Cert.Own
open Idealize.ShloMosaic Idealize.ShloMosaic.TcCoe Idealize.ShloMosaic.Tactic Idealize.SL.Sem

variable {F : FTy → Type} [FloatOps F] (m : (ℓ : Loc nD τ sig) → Buf (Elt F) ℓ) (c : Dev nD)

theorem zero2 : (fun a : Fin 2 => (![0, 0] : Fin 2 → Nat) a) = fun _ => 0 := by decide

/-- The block of the output's gradient that a point multiplies: of the array that its block row falls into. -/
def part (t : Fin cfg0.N) : Vec F S2048x1024 .bf16 :=
  if t.val < 4 then iblk m c 0 t else if t.val / 2 % 7 = 2 then iblk m c 1 t else if t.val / 2 % 7 = 3 then iblk m c 2 t else iblk m c 3 t

/-- A first step clears the accumulator and adds its product. -/
theorem step_first (t : Fin cfg0.N) (h : t.val % 2 = 0) (acc : Vec F S1024x1024 .bf16 × Vec F S1024x1024 .f32) :
    (stAt0 m c t.val t.isLt acc).2 = k0_pay2 k0_pay1 (part m c t) (iblk m c 4 t) := by
  have hN : t.val < 14 := lt_of_lt_of_eq t.isLt N_0
  have h5 : ¬t.val % 2 = 1 := by omega
  unfold part
  by_cases h1 : t.val < 4
  · rw [stAt0_A m c t acc h h1 (by omega) (by omega) (by omega) h5, if_pos h1]
    dsimp only
    unfold sout0_A_0
    rw [View.read_writes_eq_canon _ _ _ (fun _ => scover0_A_0 ..)]
    unfold kernelRun0_A
    dsimp only
    sl_unfold_words
    rw [View.canon_cons_unit_zero (S := S1024x1024) zero2, View.readCov_unit_zero (S := S1024x1024) _ zero2]
    simp only [View.readAt_eq_ld, (hs0_0 t).read_unread, (hs0_4 t).read_unread, View.ld_unit_zero (S := S2048x1024) zero2]
  · rw [if_neg h1]
    by_cases h2 : t.val / 2 % 7 = 2
    · rw [stAt0_C m c t acc h h1 h2 (by omega) (by omega) h5, if_pos h2]
      dsimp only
      unfold sout0_C_0
      rw [View.read_writes_eq_canon _ _ _ (fun _ => scover0_C_0 ..)]
      unfold kernelRun0_C
      dsimp only
      sl_unfold_words
      rw [View.canon_cons_unit_zero (S := S1024x1024) zero2, View.readCov_unit_zero (S := S1024x1024) _ zero2]
      simp only [View.readAt_eq_ld, (hs0_1 t).read_unread, (hs0_4 t).read_unread, View.ld_unit_zero (S := S2048x1024) zero2]
      rfl
    · rw [if_neg h2]
      by_cases h3 : t.val / 2 % 7 = 3
      · rw [stAt0_E m c t acc h h1 h2 h3 (by omega) h5, if_pos h3]
        dsimp only
        unfold sout0_E_0
        rw [View.read_writes_eq_canon _ _ _ (fun _ => scover0_E_0 ..)]
        unfold kernelRun0_E
        dsimp only
        sl_unfold_words
        rw [View.canon_cons_unit_zero (S := S1024x1024) zero2, View.readCov_unit_zero (S := S1024x1024) _ zero2]
        simp only [View.readAt_eq_ld, (hs0_2 t).read_unread, (hs0_4 t).read_unread, View.ld_unit_zero (S := S2048x1024) zero2]
        rfl
      · rw [stAt0_G m c t acc h h1 h2 h3 (by omega) h5, if_neg h3]
        dsimp only
        unfold sout0_G_0
        rw [View.read_writes_eq_canon _ _ _ (fun _ => scover0_G_0 ..)]
        unfold kernelRun0_G
        dsimp only
        sl_unfold_words
        rw [View.canon_cons_unit_zero (S := S1024x1024) zero2, View.readCov_unit_zero (S := S1024x1024) _ zero2]
        simp only [View.readAt_eq_ld, (hs0_3 t).read_unread, (hs0_4 t).read_unread, View.ld_unit_zero (S := S2048x1024) zero2]
        rfl

/-- A last step adds its product and rounds the accumulator into the output's block. -/
theorem step_last (t : Fin cfg0.N) (h : t.val % 2 = 1) (acc : Vec F S1024x1024 .bf16 × Vec F S1024x1024 .f32) :
    (stAt0 m c t.val t.isLt acc).1 = k0_pay6 (k0_pay2 acc.2 (part m c t) (iblk m c 4 t)) := by
  have hN : t.val < 14 := lt_of_lt_of_eq t.isLt N_0
  have h0 : ¬t.val % 2 = 0 := by omega
  unfold part
  by_cases h1 : t.val < 4
  · rw [stAt0_B m c t acc h0 h1 (by omega) (by omega) (by omega) h, if_pos h1]
    dsimp only
    unfold out0_B_6
    rw [View.read_writes_eq_canon _ _ _ (fun _ => cover0_B_6 ..)]
    unfold kernelRun0_B
    dsimp only
    sl_unfold_words
    rw [View.canon_cons_unit_zero (S := S1024x1024) zero2, View.readCov_unit_zero (S := S1024x1024) _ zero2]
    simp only [View.readAt_eq_ld, (hs0_0 t).read_unread, (hs0_4 t).read_unread, (Memref.isWhole_whole _).read_unread, View.ld_unit_zero (S := S2048x1024) zero2, View.ld_unit_zero (S := S1024x1024) zero2]
  · rw [if_neg h1]
    by_cases h2 : t.val / 2 % 7 = 2
    · rw [stAt0_D m c t acc h0 h1 h2 (by omega) (by omega) h, if_pos h2]
      dsimp only
      unfold out0_D_6
      rw [View.read_writes_eq_canon _ _ _ (fun _ => cover0_D_6 ..)]
      unfold kernelRun0_D
      dsimp only
      sl_unfold_words
      rw [View.canon_cons_unit_zero (S := S1024x1024) zero2, View.readCov_unit_zero (S := S1024x1024) _ zero2]
      simp only [View.readAt_eq_ld, (hs0_1 t).read_unread, (hs0_4 t).read_unread, (Memref.isWhole_whole _).read_unread, View.ld_unit_zero (S := S2048x1024) zero2, View.ld_unit_zero (S := S1024x1024) zero2]
      rfl
    · rw [if_neg h2]
      by_cases h3 : t.val / 2 % 7 = 3
      · rw [stAt0_F m c t acc h0 h1 h2 h3 (by omega) h, if_pos h3]
        dsimp only
        unfold out0_F_6
        rw [View.read_writes_eq_canon _ _ _ (fun _ => cover0_F_6 ..)]
        unfold kernelRun0_F
        dsimp only
        sl_unfold_words
        rw [View.canon_cons_unit_zero (S := S1024x1024) zero2, View.readCov_unit_zero (S := S1024x1024) _ zero2]
        simp only [View.readAt_eq_ld, (hs0_2 t).read_unread, (hs0_4 t).read_unread, (Memref.isWhole_whole _).read_unread, View.ld_unit_zero (S := S2048x1024) zero2, View.ld_unit_zero (S := S1024x1024) zero2]
        rfl
      · rw [stAt0_H m c t acc h0 h1 h2 h3 (by omega) h, if_neg h3]
        dsimp only
        unfold out0_H_6
        rw [View.read_writes_eq_canon _ _ _ (fun _ => cover0_H_6 ..)]
        unfold kernelRun0_H
        dsimp only
        sl_unfold_words
        rw [View.canon_cons_unit_zero (S := S1024x1024) zero2, View.readCov_unit_zero (S := S1024x1024) _ zero2]
        simp only [View.readAt_eq_ld, (hs0_3 t).read_unread, (hs0_4 t).read_unread, (Memref.isWhole_whole _).read_unread, View.ld_unit_zero (S := S2048x1024) zero2, View.ld_unit_zero (S := S1024x1024) zero2]
        rfl

end Cert.Kernel2Ideal.Own

end
-- ==== Proof.WVal.lean ====
/- The weights' gradient: the array that the call leaves. -/
module

public import proofs.«01_k».proof.Proof.WStep
public import Idealize.ShloMosaic.Lib.Pointwise

@[expose] public section

set_option maxRecDepth 16384

noncomputable section

namespace Cert.Kernel2Ideal.Own

open Cert.Kernel2Ideal Cert.Kernel2Ideal.Gen Cert.Kernel2Ideal.Value Cert.Own
open Idealize.ShloMosaic Idealize.ShloMosaic.TcCoe Idealize.SL.Sem

variable (m : (ℓ : Loc nD τ sig) → Buf (Elt Ideal) ℓ) (c : Dev nD)

/-- The five arguments that the call multiplies. -/
def argA : FVec Ideal S4096x2048 .bf16 := m ((c : Thread nD τ).loc main_arg0)
def argB : FVec Ideal S4096x1024 .bf16 := m ((c : Thread nD τ).loc main_arg1)
def argC : FVec Ideal S4096x1024 .bf16 := m ((c : Thread nD τ).loc main_arg2)
def argD : FVec Ideal S4096x3072 .bf16 := m ((c : Thread nD τ).loc main_arg3)
def argH : FVec Ideal S4096x1024 .bf16 := m ((c : Thread nD τ).loc main_arg4)

/-- The output's gradient, side by side. -/
def ct (i : Fin 4096) (j : Fin 7168) : EReal :=
  joined (fun i j => argA m c (ix2 i j)) (fun i j => argB m c (ix2 i j)) (fun i j => argC m c (ix2 i j)) (fun i j => argD m c (ix2 i j)) i j

/-- Where a point's blocks lie, by the block row of the output that it adds to. -/
theorem idxA : ∀ t : Fin cfg0.N, t.val < 4 → win0_0.index t = ![t.val % 2, t.val / 2] := (by decide +kernel : ∀ t : Fin grid0.N, _)
theorem idxB : ∀ t : Fin cfg0.N, t.val / 2 % 7 = 2 → win0_1.index t = ![t.val % 2, 0] := (by decide +kernel : ∀ t : Fin grid0.N, _)
theorem idxC : ∀ t : Fin cfg0.N, t.val / 2 % 7 = 3 → win0_2.index t = ![t.val % 2, 0] := (by decide +kernel : ∀ t : Fin grid0.N, _)
theorem idxD : ∀ t : Fin cfg0.N, 8 ≤ t.val → win0_3.index t = ![t.val % 2, t.val / 2 - 4] := (by decide +kernel : ∀ t : Fin grid0.N, _)
theorem idxH : ∀ t : Fin cfg0.N, win0_4.index t = ![t.val % 2, 0] := (by decide +kernel : ∀ t : Fin grid0.N, _)

/-- Row r of half p of the 4096 rows. -/
def half (p : Nat) (r : Fin 2048) : Fin 4096 := ⟨2048 * (p % 2) + r.val, by omega⟩

/-- The block column of a point. -/
def blkOf (t : Fin cfg0.N) : Fin 7 := ⟨t.val / 2, by have hN : t.val < 14 := lt_of_lt_of_eq t.isLt N_0; omega⟩

theorem h_at (t : Fin cfg0.N) (r : Fin 2048) (e : Fin 1024) : iblk m c 4 t (ix2 r e) = argH m c (ix2 (half t.val r) e) := by
  unfold iblk argH
  blk_ext [idxH t, half]

theorem part_at (t : Fin cfg0.N) (r : Fin 2048) (s : Fin 1024) : part m c t (ix2 r s) = ct m c (half t.val r) (colOf (blkOf t) s) := by
  have hN : t.val < 14 := lt_of_lt_of_eq t.isLt N_0
  unfold part ct
  by_cases h1 : t.val < 4
  · rw [if_pos h1, joined_a _ _ _ _ _ _ _ (show t.val / 2 < 2 by omega)]
    unfold iblk argA
    blk_ext [idxA t h1, half, blkOf]
  · rw [if_neg h1]
    by_cases h2 : t.val / 2 % 7 = 2
    · rw [if_pos h2, joined_b _ _ _ _ _ _ _ (show t.val / 2 = 2 by omega)]
      unfold iblk argB
      blk_ext [idxB t h2, half, blkOf]
    · rw [if_neg h2]
      by_cases h3 : t.val / 2 % 7 = 3
      · rw [if_pos h3, joined_c _ _ _ _ _ _ _ (show t.val / 2 = 3 by omega)]
        unfold iblk argC
        blk_ext [idxC t h3, half, blkOf]
      · rw [if_neg h3, joined_d _ _ _ _ _ _ _ (show 3 < t.val / 2 by omega)]
        unfold iblk argD
        blk_ext [idxD t (by omega), half, blkOf]

theorem pay1_at (s e : Fin 1024) : (k0_pay1 (F := Ideal)) (ix2 s e) = 0 := by
  pointwise [k0_pay1]
theorem pay2_at (x : Vec Ideal S1024x1024 .f32) (p h : Vec Ideal S2048x1024 .bf16) (s e : Fin 1024) :
    k0_pay2 x p h (ix2 s e) = x (ix2 s e) + ∑ r : Fin 2048, p (ix2 r s) * h (ix2 r e) := by
  pointwise [k0_pay2]
theorem pay6_at (x : Vec Ideal S1024x1024 .f32) (s e : Fin 1024) : k0_pay6 x (ix2 s e) = x (ix2 s e) := by
  pointwise [k0_pay6]

/-- A sum over the rows, by halves. -/
theorem sum_half (f : Fin 4096 → EReal) : ∑ i, f i = ∑ r : Fin 2048, f (half 0 r) + ∑ r : Fin 2048, f (half 1 r) := by
  rw [Fin.sum_univ_two_halves 2048 2048 rfl f]
  refine congrArg₂ (· + ·) (Finset.sum_congr rfl fun r _ => congrArg f (Fin.ext ?_)) (Finset.sum_congr rfl fun r _ => congrArg f (Fin.ext ?_)) <;>
    simp [half]

/-- The sum after a block's first point. -/
theorem sum_first : ∀ (n : Nat) (h2 : n % 2 = 0) (hb : n < cfg0.N),
    (outsAt0 m c n hb).2 = k0_pay2 k0_pay1 (part m c ⟨n, hb⟩) (iblk m c 4 ⟨n, hb⟩)
  | 0, _, hb => by
    rw [outsAt0_zero]
    exact step_first m c ⟨0, hb⟩ rfl _
  | n + 1, h2, hb => by
    rw [outsAt0_succ]
    exact step_first m c ⟨n + 1, hb⟩ h2 _

/-- An entry of the array that the call leaves: the sum over all rows. -/
theorem G_at (j : Fin 7168) (e : Fin 1024) : G6 m c (ix2 j e) = ∑ i : Fin 4096, ct m c i j * argH m c (ix2 i e) := by
  have hj : j.val / 1024 < 7 := by omega
  have hp : pt6Of (ix2 j e) = 2 * (j.val / 1024) + 1 := by
    show 2 * (1 * (j.val / 1024 - 0) + 1 * (e.val / 1024 - 0)) + 1 = _
    omega
  have hN : 2 * (j.val / 1024) + 1 < cfg0.N := lt_of_lt_of_eq (by omega) N_0.symm
  have hl : loc6Of (ix2 j e) = ix2 ⟨j.val % 1024, Nat.mod_lt _ (by decide)⟩ e := by
    funext a; apply Fin.ext
    match a with
    | ⟨0, _⟩ => rfl
    | ⟨1, _⟩ => exact Nat.mod_eq_of_lt e.isLt
  have hc : ∀ (t : Fin cfg0.N), t.val / 2 = j.val / 1024 → colOf (blkOf t) ⟨j.val % 1024, Nat.mod_lt _ (by decide)⟩ = j := fun t ht =>
    Fin.ext (by show 1024 * (t.val / 2) + j.val % 1024 = j.val; rw [ht]; omega)
  unfold G6
  rw [dif_pos (by rw [hp]; exact hN), hl, fold0_congr m c _ _ (2 * (j.val / 1024) + 1) (by rw [Nat.zero_add]; exact hN) hp, ← outsAt0_sweep m c _ hN, outsAt0_succ,
    step_last m c ⟨2 * (j.val / 1024) + 1, hN⟩ (by dsimp only; omega)]
  have h0 := sum_first m c (2 * (j.val / 1024)) (by omega)
  rw [h0, pay6_at, pay2_at, pay2_at, pay1_at, zero_add, sum_half]
  refine congrArg₂ (· + ·) (Finset.sum_congr rfl fun r _ => ?_) (Finset.sum_congr rfl fun r _ => ?_)
  · rw [part_at, h_at, hc _ (by dsimp only; omega)]
    have e0 : half (2 * (j.val / 1024)) r = half 0 r := Fin.ext (by simp [half])
    rw [e0]
  · rw [part_at, h_at, hc _ (by dsimp only; omega)]
    have e1 : half (2 * (j.val / 1024) + 1) r = half 1 r := Fin.ext (by simp [half])
    rw [e1]

end Cert.Kernel2Ideal.Own

end
-- ==== Proof.WRef.lean ====
/- The reference's gradient of the projection's weights, read at an entry. -/
module

public import proofs.«01_k».proof.Proof.Gen.Reference2Ideal.Run
public import proofs.«01_k».proof.Proof.Join

@[expose] public section

set_option maxRecDepth 16384

noncomputable section

namespace Cert.Reference2Ideal.Own

open Cert.Reference2Ideal Cert.Reference2Ideal.Gen Cert.Own
open Idealize.ShloMosaic Idealize.ShloMosaic.TcCoe Idealize.SL.Sem

/-- The weights' gradient. -/
def gradW (a : FVec Ideal S4096x2048 .bf16) (b c : FVec Ideal S4096x1024 .bf16) (d : FVec Ideal S4096x3072 .bf16) (h : FVec Ideal S4096x1024 .bf16) : FVec Ideal S7168x1024 .bf16 :=
  truncf .bf16 (transpose S7168x1024 [1, 0] (transpose S1024x7168 [1, 0] (Host.dotGeneral dot_S4096x7168_S4096x1024_S7168x1024_0_0_1_1_n_n none
    (extf .f32 (concatenate S4096x7168 1 [⟨S4096x2048, a⟩, ⟨S4096x1024, b⟩, ⟨S4096x1024, c⟩, ⟨S4096x3072, d⟩] concatenates_S4096x2048_S4096x1024_S4096x1024_S4096x3072_S4096x7168_d1) bitsLt_bf16_f32)
    (extf .f32 h bitsLt_bf16_f32)) transposes_S7168x1024_S1024x7168_1_0) transposes_S1024x7168_S7168x1024_1_0) bitsLt_bf16_f32

theorem gradW_at (a : FVec Ideal S4096x2048 .bf16) (b c : FVec Ideal S4096x1024 .bf16) (d : FVec Ideal S4096x3072 .bf16) (h : FVec Ideal S4096x1024 .bf16) (j : Fin 7168) (e : Fin 1024) :
    gradW a b c d h (ix2 j e) = ∑ i : Fin 4096, joined (fun i j => a (ix2 i j)) (fun i j => b (ix2 i j)) (fun i j => c (ix2 i j)) (fun i j => d (ix2 i j)) i j * h (ix2 i e) := by
  pointwise [gradW, joined]

theorem runW (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = gradW (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) :=
  (θ_run _ _ _).mono (fun r h c => (h c).1) (Value.run m ρ)

end Cert.Reference2Ideal.Own

end
-- ==== Proof.WClaim.lean ====
/- The gradient of the projection's weights: the claims of the call. -/
module

public import proofs.«01_k».proof.Defs
public import proofs.«01_k».proof.Proof.Gen.Kernel2
public import proofs.«01_k».proof.Proof.WVal
public import proofs.«01_k».proof.Proof.WRef
public import Idealize.ShloMosaic.Adequacy
public import Idealize.ShloMosaic.Init

@[expose] public section

set_option maxRecDepth 16384

noncomputable section

namespace Cert.Proof.W

open Idealize.ShloMosaic Idealize.SL.Sem

/-- The kernel and the program read at the reals are the same text. -/
theorem body_eq (F : FTy → Type) [FloatOps F] : @Cert.Kernel2.cc0_in_proj_bwd_w F _ Cert.Kernel2.Gen.facts = @Cert.Kernel2Ideal.cc0_in_proj_bwd_w F _ Cert.Kernel2Ideal.Gen.facts := rfl

set_option maxHeartbeats 1600000 in
theorem defs₀_eq (F : FTy → Type) [FloatOps F] : @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg Defs.onTc (funext fun l => funext fun a => ?_)
  match l, a with
  | ⟨0, _⟩, (t, s) => dsimp only; rw [body_eq]; rfl

theorem defs_eq (F : FTy → Type) [FloatOps F] : @Cert.Kernel2.defs F _ Cert.Kernel2.Gen.facts = @Cert.Kernel2Ideal.defs F _ Cert.Kernel2Ideal.Gen.facts :=
  congrArg (Pipeline.defs Cert.Kernel2.pcfgs) (defs₀_eq F)

theorem main_eq (F : FTy → Type) [FloatOps F] : @Cert.Kernel2.main F _ = @Cert.Kernel2Ideal.main F _ := rfl

theorem kernelFrame : Cert.quiescent_Kernel2 (hKernel2 := Cert.Kernel2.Gen.facts) := fun m ρ _ => by
  have h := Cert.Kernel2Ideal.Gen.frame (F := Bits) m ρ
  rw [← defs_eq Bits, ← main_eq Bits] at h
  exact h

/-- The reference is one straight line of host operations and it has no counter. -/
theorem refFrame : Cert.quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run m ρ)

/-- The two programs leave the same array. -/
theorem sameResults : Cert.algebraic_Kernel2Ideal_Reference2Ideal (hKernel2Ideal := Cert.Kernel2Ideal.Gen.facts)
    (hReference2Ideal := Cert.Reference2Ideal.Gen.facts) := fun m ρ m' ρ' _ hargs => by
  refine ⟨fun c => Cert.Kernel2Ideal.Value.G6 m c, Cert.Kernel2Ideal.Value.run (F := Ideal) m ρ, ?_⟩
  refine (θ_run _ _ _).mono (fun r h c => ⟨((h.1 c).trans ?_), (h.2 c).2⟩) (θ_run_and (Cert.Reference2Ideal.Own.runW m' ρ') (Cert.Reference2Ideal.Value.run (F := Ideal) m' ρ'))
  obtain ⟨e0, e1, e2, e3, e4, _⟩ := hargs c
  rw [e0, e1, e2, e3, e4]
  refine funext fun (i : Cert.Reference2Ideal.S7168x1024.Idx) => ?_
  obtain ⟨j, e, rfl⟩ : ∃ (j : Fin 7168) (e : Fin 1024), i = ix2 j e := ⟨i 0, i 1, funext fun a => match a with | ⟨0, _⟩ => rfl | ⟨1, _⟩ => rfl⟩
  exact (Cert.Reference2Ideal.Own.gradW_at _ _ _ _ _ j e).trans (Cert.Kernel2Ideal.Own.G_at m c j e).symm

end Cert.Proof.W

end
-- ==== Proof.XStep.lean ====
/- The gradient of the projection's input: what a grid step leaves in the accumulator and in the outputs' blocks. -/
module

public import proofs.«01_k».proof.Proof.Gen.Kernel3Ideal.Value
public import proofs.«01_k».proof.Proof.Join
public import Idealize.ShloMosaic.Lib.Pipeline.ValueKit

@[expose] public section

set_option maxRecDepth 16384

noncomputable section

namespace Cert.Kernel3Ideal.Own

open Cert.Kernel3Ideal Cert.Kernel3Ideal.Gen Cert.Kernel3Ideal.Value Cert.Own
open Idealize.ShloMosaic Idealize.ShloMosaic.TcCoe Idealize.ShloMosaic.Tactic Idealize.SL.Sem

variable {F : FTy → Type} [FloatOps F] (m : (ℓ : Loc nD τ sig) → Buf (Elt F) ℓ) (c : Dev nD)

theorem zero2 : (fun a : Fin 2 => (![0, 0] : Fin 2 → Nat) a) = fun _ => 0 := by decide

/-- The block of the output's gradient that a point multiplies: of the array that its block column falls into. -/
def part (t : Fin cfg0.N) : Vec F S1024x1024 .bf16 :=
  if t.val % 7 ≤ 1 then iblk m c 0 t else if t.val % 7 = 2 then iblk m c 1 t else if t.val % 7 = 3 then iblk m c 2 t else iblk m c 3 t

abbrev State (F : FTy → Type) [FloatOps F] := Vec F S1024x1024 .f32 × Vec F S8x1024 .f32 × Vec F S1024x1024 .f32

/-- The first step of a block row clears the accumulator and adds its product. -/
theorem acc_first (t : Fin cfg0.N) (h : t.val % 7 = 0) (acc : State F) :
    (stAt0 m c t.val t.isLt acc).2.2 = k0_pay3 k0_pay2 (part m c t) (iblk m c 4 t) := by
  unfold part
  rw [if_pos (by omega)]
  by_cases h0 : t.val % 28 = 0
  · rw [stAt0_A m c t acc h0 h (by omega) (by omega) (by omega) (by omega) (by omega)]
    dsimp only
    unfold sout0_A_0
    rw [View.read_writes_eq_canon _ _ _ (fun _ => scover0_A_0 ..)]
    unfold kernelRun0_A
    dsimp only
    sl_unfold_words
    rw [View.canon_cons_unit_zero (S := S1024x1024) zero2, View.readCov_unit_zero (S := S1024x1024) _ zero2]
    simp only [View.readAt_eq_ld, (hs0_0 t).read_unread, (hs0_4 t).read_unread, View.ld_unit_zero (S := S1024x1024) zero2]
  · rw [stAt0_G m c t acc h0 h (by omega) (by omega) (by omega) (by omega) (by omega)]
    dsimp only
    unfold sout0_G_0
    rw [View.read_writes_eq_canon _ _ _ (fun _ => scover0_G_0 ..)]
    unfold kernelRun0_G
    dsimp only
    sl_unfold_words
    rw [View.canon_cons_unit_zero (S := S1024x1024) zero2, View.readCov_unit_zero (S := S1024x1024) _ zero2]
    simp only [View.readAt_eq_ld, (hs0_0 t).read_unread, (hs0_4 t).read_unread, View.ld_unit_zero (S := S1024x1024) zero2]

/-- Every later step of a block row adds its product. -/
theorem acc_next (t : Fin cfg0.N) (h : ¬t.val % 7 = 0) (acc : State F) :
    (stAt0 m c t.val t.isLt acc).2.2 = k0_pay3 acc.2.2 (part m c t) (iblk m c 4 t) := by
  unfold part
  by_cases h1 : t.val % 7 ≤ 1
  · rw [stAt0_B m c t acc (by omega) h h1 (by omega) (by omega) (by omega) (by omega), if_pos h1]
    dsimp only
    unfold sout0_B_0
    rw [View.read_writes_eq_canon _ _ _ (fun _ => scover0_B_0 ..)]
    unfold kernelRun0_B
    dsimp only
    sl_unfold_words
    rw [View.canon_cons_unit_zero (S := S1024x1024) zero2]
    simp only [View.readAt_eq_ld, (hs0_0 t).read_unread, (hs0_4 t).read_unread, (Memref.isWhole_whole _).read_unread, View.ld_unit_zero (S := S1024x1024) zero2]
  · rw [if_neg h1]
    by_cases h2 : t.val % 7 = 2
    · rw [stAt0_C m c t acc (by omega) h h1 h2 (by omega) (by omega) (by omega), if_pos h2]
      dsimp only
      unfold sout0_C_0
      rw [View.read_writes_eq_canon _ _ _ (fun _ => scover0_C_0 ..)]
      unfold kernelRun0_C
      dsimp only
      sl_unfold_words
      rw [View.canon_cons_unit_zero (S := S1024x1024) zero2]
      simp only [View.readAt_eq_ld, (hs0_1 t).read_unread, (hs0_4 t).read_unread, (Memref.isWhole_whole _).read_unread, View.ld_unit_zero (S := S1024x1024) zero2]
      rfl
    · rw [if_neg h2]
      by_cases h3 : t.val % 7 = 3
      · rw [stAt0_D m c t acc (by omega) h h1 h2 h3 (by omega) (by omega), if_pos h3]
        dsimp only
        unfold sout0_D_0
        rw [View.read_writes_eq_canon _ _ _ (fun _ => scover0_D_0 ..)]
        unfold kernelRun0_D
        dsimp only
        sl_unfold_words
        rw [View.canon_cons_unit_zero (S := S1024x1024) zero2]
        simp only [View.readAt_eq_ld, (hs0_2 t).read_unread, (hs0_4 t).read_unread, (Memref.isWhole_whole _).read_unread, View.ld_unit_zero (S := S1024x1024) zero2]
        rfl
      · rw [if_neg h3]
        by_cases h6 : t.val % 7 = 6
        · rw [stAt0_F m c t acc (by omega) h h1 h2 h3 (by omega) h6]
          dsimp only
          unfold sout0_F_0
          rw [View.read_writes_eq_canon _ _ _ (fun _ => scover0_F_0 ..)]
          unfold kernelRun0_F
          dsimp only
          sl_unfold_words
          rw [View.canon_cons_unit_zero (S := S1024x1024) zero2]
          simp only [View.readAt_eq_ld, (hs0_3 t).read_unread, (hs0_4 t).read_unread, (Memref.isWhole_whole _).read_unread, View.ld_unit_zero (S := S1024x1024) zero2]
          rfl
        · rw [stAt0_E m c t acc (by omega) h h1 h2 h3 (by omega) h6]
          dsimp only
          unfold sout0_E_0
          rw [View.read_writes_eq_canon _ _ _ (fun _ => scover0_E_0 ..)]
          unfold kernelRun0_E
          dsimp only
          sl_unfold_words
          rw [View.canon_cons_unit_zero (S := S1024x1024) zero2]
          simp only [View.readAt_eq_ld, (hs0_3 t).read_unread, (hs0_4 t).read_unread, (Memref.isWhole_whole _).read_unread, View.ld_unit_zero (S := S1024x1024) zero2]
          rfl

/-- The first step of all fills the small output with zeros. -/
theorem small_first (t : Fin cfg0.N) (h : t.val % 28 = 0) (acc : State F) : (stAt0 m c t.val t.isLt acc).2.1 = k0_pay1 := by
  rw [stAt0_A m c t acc h (by omega) (by omega) (by omega) (by omega) (by omega) (by omega)]
  dsimp only
  unfold out0_A_10
  rw [View.read_writes_eq_canon _ _ _ (fun _ => cover0_A_10 ..)]
  unfold kernelRun0_A
  dsimp only
  sl_unfold_words
  rw [View.canon_cons_unit_zero (S := S8x1024) zero2]

/-- A step that neither starts nor ends a block row's work leaves the small output as it was. -/
theorem small_keep (t : Fin cfg0.N) (h0 : ¬t.val % 28 = 0) (h6 : ¬t.val % 7 = 6) (acc : State F) : (stAt0 m c t.val t.isLt acc).2.1 = acc.2.1 := by
  by_cases h : t.val % 7 = 0
  · rw [stAt0_G m c t acc h0 h (by omega) (by omega) (by omega) (by omega) h6]; rfl
  by_cases h1 : t.val % 7 ≤ 1
  · rw [stAt0_B m c t acc h0 h h1 (by omega) (by omega) (by omega) h6]; rfl
  by_cases h2 : t.val % 7 = 2
  · rw [stAt0_C m c t acc h0 h h1 h2 (by omega) (by omega) h6]; rfl
  by_cases h3 : t.val % 7 = 3
  · rw [stAt0_D m c t acc h0 h h1 h2 h3 (by omega) h6]; rfl
  · rw [stAt0_E m c t acc h0 h h1 h2 h3 (by omega) h6]; rfl

/-- The first row of a small block, and the second and third. -/
def row0 (x : Vec F S8x1024 .f32) : Vec F S1x1024 .f32 := View.ld x (Rect.unit ![0, 0] S1x1024.size inb_S8x1024_S1x1024_0_0)
def row1 (x : Vec F S8x1024 .f32) : Vec F S1x1024 .f32 := View.ld x (Rect.unit ![1, 0] S1x1024.size inb_S8x1024_S1x1024_1_0)
def row2 (x : Vec F S8x1024 .f32) : Vec F S1x1024 .f32 := View.ld x (Rect.unit ![2, 0] S1x1024.size inb_S8x1024_S1x1024_2_0)

theorem row0_at (x : Vec F S8x1024 .f32) (e : Fin 1024) : row0 x (ix2 0 e) = x (ix2 0 e) :=
  View.ld_unit_apply_of x _ _ _ _ _ fun a => by match a with
    | ⟨0, _⟩ => rfl
    | ⟨1, _⟩ => exact (Nat.zero_add _).symm
theorem row1_at (x : Vec F S8x1024 .f32) (e : Fin 1024) : row1 x (ix2 0 e) = x (ix2 1 e) :=
  View.ld_unit_apply_of x _ _ _ _ _ fun a => by match a with
    | ⟨0, _⟩ => rfl
    | ⟨1, _⟩ => exact (Nat.zero_add _).symm
theorem row2_at (x : Vec F S8x1024 .f32) (e : Fin 1024) : row2 x (ix2 0 e) = x (ix2 2 e) :=
  View.ld_unit_apply_of x _ _ _ _ _ fun a => by match a with
    | ⟨0, _⟩ => rfl
    | ⟨1, _⟩ => exact (Nat.zero_add _).symm

/-- Storing a row of a small buffer, read back at an entry. -/
theorem stored_row {κ : Kind} {sp : Space} (v : View sig κ sp S8x1024 .f32) (f : v.ty.Contents (Elt F)) (k : Nat) (inb : ∀ a, (![k, 0] : Fin 2 → Nat) a + (![1, 1024] : Fin 2 → Nat) a ≤ S8x1024.size a)
    (w : Vec F S1x1024 .f32) (L : List (View.Piece (Elt F) S8x1024 .f32)) (a : Fin 8) (e : Fin 1024) :
    v.read (Elt F) (v.writes (Elt F) f (⟨Rect.unit (s := S8x1024) ![k, 0] ![1, 1024] inb, w⟩ :: L)) (ix2 a e)
      = if a.val = k then w (ix2 0 e) else v.read (Elt F) (v.writes (Elt F) f L) (ix2 a e) := by
  by_cases h : a.val = k
  · rw [if_pos h]
    have he : (ix2 a e : S8x1024.Idx) = (Rect.unit (s := S8x1024) ![k, 0] ![1, 1024] inb).emb (ix2 (0 : Fin 1) e) := by
      funext b; apply Fin.ext
      match b with
      | ⟨0, _⟩ => exact h
      | ⟨1, _⟩ => show e.val = 0 + 1 * e.val; omega
    rw [he, View.read_writes_cons_emb]
  · rw [if_neg h, View.writes_cons, View.read_slice_write_of_not_mem _ _ _ _ fun hm => h ?_]
    obtain ⟨x, -, hx⟩ := Finset.mem_map.mp hm
    have h0 := congrArg Fin.val (congrFun hx (0 : Fin 2))
    have hx0 : (x (0 : Fin 2)).val < 1 := (x (0 : Fin 2)).isLt
    have h0' : k + 1 * (x (0 : Fin 2)).val = a.val := h0
    omega

/-- The gradient with respect to the normalised input that a last step has in hand. -/
def dh (t : Fin cfg0.N) (acc : State F) : Vec F S1024x1024 .f32 := k0_pay3 acc.2.2 (part m c t) (iblk m c 4 t)

theorem part_last (t : Fin cfg0.N) (h : t.val % 7 = 6) : part m c t = iblk m c 3 t := by
  unfold part
  rw [if_neg (by omega), if_neg (by omega), if_neg (by omega)]

/-- What a last step leaves in the small output. -/
theorem small_last (t : Fin cfg0.N) (h : t.val % 7 = 6) (acc : State F) (a : Fin 8) (e : Fin 1024) :
    (stAt0 m c t.val t.isLt acc).2.1 (ix2 a e)
      = if a.val = 2 then k0_pay7 (k0_pay10 (iblk m c 5 t)) (k0_pay13 (dh m c t acc) (row1 (iblk m c 8 t))) (row2 acc.2.1) (ix2 0 e)
        else if a.val = 1 then k0_pay12 (dh m c t acc) (iblk m c 5 t) (iblk m c 7 t) (row1 acc.2.1) (ix2 0 e)
        else if a.val = 0 then k0_pay11 (dh m c t acc) (row0 acc.2.1) (ix2 0 e) else acc.2.1 (ix2 a e) := by
  rw [stAt0_F m c t acc (by omega) (by omega) (by omega) (by omega) (by omega) (by omega) h]
  dsimp only
  unfold out0_F_10
  unfold kernelRun0_F
  dsimp only
  sl_unfold_words
  rw [stored_row, stored_row, stored_row, View.writes_nil, (hs0_10 t).read_unread]
  simp only [View.readCov_unit_zero (S := S1024x1024) _ zero2, View.readAt_eq_ld, (hs0_3 t).read_unread, (hs0_4 t).read_unread, (hs0_5 t).read_unread, (hs0_7 t).read_unread, (hs0_8 t).read_unread, (hs0_10 t).read_unread,
    (Memref.isWhole_whole _).read_unread, View.ld_unit_zero (S := S1024x1024) zero2, View.ld_unit_zero (S := S1x1024) zero2]
  unfold dh
  rw [part_last m c t h]
  rfl

/-- What a last step leaves in the block of the input's gradient. -/
theorem out_last (t : Fin cfg0.N) (h : t.val % 7 = 6) (acc : State F) :
    (stAt0 m c t.val t.isLt acc).1 = k0_pay8 (k0_pay9 (iblk m c 5 t)) (k0_pay10 (iblk m c 5 t)) (iblk m c 7 t)
      (k0_pay13 (dh m c t acc) (row1 (iblk m c 8 t))) (iblk m c 6 t) := by
  rw [stAt0_F m c t acc (by omega) (by omega) (by omega) (by omega) (by omega) (by omega) h]
  dsimp only
  unfold out0_F_9
  rw [View.read_writes_eq_canon _ _ _ (fun _ => cover0_F_9 ..)]
  unfold kernelRun0_F
  dsimp only
  sl_unfold_words
  rw [View.canon_cons_unit_zero (S := S1024x1024) zero2]
  simp only [View.readCov_unit_zero (S := S1024x1024) _ zero2, View.readAt_eq_ld, (hs0_3 t).read_unread, (hs0_4 t).read_unread, (hs0_5 t).read_unread, (hs0_6 t).read_unread, (hs0_7 t).read_unread, (hs0_8 t).read_unread,
    (Memref.isWhole_whole _).read_unread, View.ld_unit_zero (S := S1024x1024) zero2, View.ld_unit_zero (S := S1x1024) zero2]
  unfold dh
  rw [part_last m c t h]
  rfl

end Cert.Kernel3Ideal.Own

end
-- ==== Proof.XMath.lean ====
/- Sums by blocks, and the gradient of the root-mean-square norm in both of its orders of multiplication. -/
module

public import proofs.«01_k».proof.Proof.Join
public import Idealize.ShloMosaic.PureOps.Ideal.Laws

@[expose] public section

noncomputable section

namespace Cert.Own

open Idealize.ShloMosaic

/-- Row r of block i, of four blocks of 1024. -/
def rowOf (i : Nat) (r : Fin 1024) : Fin 4096 := ⟨1024 * (i % 4) + r.val, by omega⟩

theorem sum_rows (f : Fin 4096 → EReal) : ∑ i ∈ Finset.range 4, ∑ r : Fin 1024, f (rowOf i r) = ∑ i, f i := by
  rw [Finset.sum_range, ← Fintype.sum_prod_type' (f := fun (i : Fin 4) r => f (rowOf i.val r))]
  refine Fintype.sum_equiv (finProdFinEquiv (m := 4) (n := 1024)) _ f fun p => congrArg f (Fin.ext ?_)
  show 1024 * (p.1.val % 4) + p.2.val = p.2.val + 1024 * p.1.val
  omega

theorem sum_cols (f : Fin 7168 → EReal) : ∑ k ∈ Finset.range 7, ∑ s : Fin 1024, f (colOf ⟨k % 7, Nat.mod_lt _ (by decide)⟩ s) = ∑ j, f j := by
  rw [Finset.sum_range, ← Fintype.sum_prod_type' (f := fun (k : Fin 7) s => f (colOf ⟨k.val % 7, Nat.mod_lt _ (by decide)⟩ s))]
  refine Fintype.sum_equiv (finProdFinEquiv (m := 7) (n := 1024)) _ f fun p => congrArg f (Fin.ext ?_)
  show 1024 * (p.1.val % 7) + p.2.val = p.2.val + 1024 * p.1.val
  omega

/-- The number of columns, and the constant under the root. -/
def wide : EReal := Ideal.ofBits .f32 0x44800000#32
def eps : EReal := Ideal.ofBits .f32 0x358637BD#32
def mhalf : EReal := Ideal.ofBits .f32 0xBF000000#32

theorem wide_eq : wide = ((1024 : ℝ) : EReal) := by
  unfold wide
  simp [Ideal.ofBits, Ideal.ieee]
  rw [← EReal.coe_mul]
  congr 1
  norm_num
theorem mhalf_eq : mhalf = ((-(1 / 2) : ℝ) : EReal) := by
  unfold mhalf
  simp [Ideal.ofBits, Ideal.ieee]
  rw [← EReal.coe_mul]
  congr 1
  norm_num
theorem eps_pos : ∃ t : ℝ, 0 < t ∧ eps = (t : EReal) := by
  unfold eps
  simp [Ideal.ofBits, Ideal.ieee]
  rw [← EReal.coe_mul]
  exact ⟨_, by norm_num, rfl⟩

/-- The mean of the squares, with the constant, and the reciprocal of its root. -/
def meanSq (x : Fin 1024 → EReal) : EReal := Ideal.div (∑ e, x e * x e) wide + eps
def rstd (x : Fin 1024 → EReal) : EReal := Ideal.rsqrt (meanSq x)

theorem div_wide (x : EReal) : Ideal.div x wide = x * (((1024 : ℝ)⁻¹ : ℝ) : EReal) := by
  rw [wide_eq]
  unfold Ideal.div
  rw [if_neg (by norm_num), EReal.coe_inv]

theorem sq_nonneg (x : EReal) : 0 ≤ x * x := by
  rcases le_total 0 x with h | h
  · exact mul_nonneg h h
  · rw [← neg_mul_neg]; exact mul_nonneg (EReal.neg_nonneg.mpr h) (EReal.neg_nonneg.mpr h)

theorem meanSq_pos (x : Fin 1024 → EReal) : 0 < meanSq x := by
  obtain ⟨t, ht, he⟩ := eps_pos
  unfold meanSq
  rw [div_wide, he]
  exact lt_of_lt_of_le (EReal.coe_pos.mpr ht) (le_add_of_nonneg_left (mul_nonneg (Finset.sum_nonneg fun e _ => sq_nonneg _) (EReal.coe_nonneg.mpr (by norm_num))))

/-- The reciprocal root is a real number at least zero, and divided by the mean it is its own cube. -/
theorem rstd_real (x : Fin 1024 → EReal) : ∃ ρ : ℝ, 0 ≤ ρ ∧ rstd x = (ρ : EReal) ∧ Ideal.div (rstd x) (meanSq x) = ((ρ * ρ * ρ : ℝ) : EReal) := by
  have h := meanSq_pos x
  unfold rstd
  generalize meanSq x = y at h ⊢
  induction y using EReal.rec with
  | bot => exact absurd h (by simp)
  | top =>
    have he : Ideal.rsqrt ⊤ = 0 := rfl
    refine ⟨0, le_refl _, he, ?_⟩
    rw [he]
    simp [Ideal.div]
  | coe r =>
    have hr : 0 < r := EReal.coe_pos.mp h
    have hs : 0 < Real.sqrt r := Real.sqrt_pos.mpr hr
    have he : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    refine ⟨(Real.sqrt r)⁻¹, (inv_pos.mpr hs).le, he, ?_⟩
    rw [he]
    unfold Ideal.div
    rw [if_neg (by exact_mod_cast hr.ne'), ← EReal.coe_inv, ← EReal.coe_mul]
    congr 1
    have hq : Real.sqrt r * Real.sqrt r = r := Real.mul_self_sqrt hr.le
    rw [← hq]
    field_simp
    rw [Real.sqrt_sq hs.le]

theorem sum_mul (f : Fin 1024 → EReal) (ρ : ℝ) (h : 0 ≤ ρ) : ∑ e, f e * (ρ : EReal) = (∑ e, f e) * (ρ : EReal) := by
  induction (Finset.univ : Finset (Fin 1024)) using Finset.induction_on with
  | empty => simp
  | insert a s ha ih => rw [Finset.sum_insert ha, Finset.sum_insert ha, ih, EReal.right_distrib_of_nonneg_of_ne_top (EReal.coe_nonneg.mpr h) (EReal.coe_ne_top _)]

theorem add_self (y : EReal) : y + y = y * ((2 : ℝ) : EReal) := by
  rw [show ((2 : ℝ) : EReal) = 1 + 1 by rw [← EReal.coe_one, ← EReal.coe_add]; norm_num, EReal.left_distrib_of_nonneg zero_le_one zero_le_one, mul_one]

/-- The gradient at an entry: the entry itself less its part along the row, times the reciprocal root, is the sum of
    the direct part and twice half of the mean's. -/
theorem grad_eq (x u : Fin 1024 → EReal) (g : EReal) (e : Fin 1024) :
    rstd x * (u e - x e * rstd x * Ideal.div (∑ j, u j * (x j * rstd x)) wide) + g
      = ((g + u e * rstd x) + x e * Ideal.div ((∑ j, x j * u j) * (mhalf * Ideal.div (rstd x) (meanSq x))) wide)
        + Ideal.div ((∑ j, x j * u j) * (mhalf * Ideal.div (rstd x) (meanSq x))) wide * x e := by
  obtain ⟨ρ, hρ, h1, h2⟩ := rstd_real x
  rw [h2, h1, mhalf_eq, div_wide, div_wide]
  have hs : ∑ j, u j * (x j * (ρ : EReal)) = (∑ j, x j * u j) * (ρ : EReal) := by
    rw [← sum_mul _ ρ hρ]
    exact Finset.sum_congr rfl fun j _ => by rw [← mul_assoc, mul_comm (u j)]
  rw [hs]
  generalize ∑ j, x j * u j = T
  generalize u e = D
  generalize x e = y
  have hk : y * (T * (((-(1 / 2) : ℝ) : EReal) * ((ρ * ρ * ρ : ℝ) : EReal)) * (((1024 : ℝ)⁻¹ : ℝ) : EReal))
      = (y * T) * ((-(1 / 2) * (ρ * ρ * ρ) * (1024 : ℝ)⁻¹ : ℝ) : EReal) := by
    rw [EReal.coe_mul, EReal.coe_mul]; ac_rfl
  have hc : T * (((-(1 / 2) : ℝ) : EReal) * ((ρ * ρ * ρ : ℝ) : EReal)) * (((1024 : ℝ)⁻¹ : ℝ) : EReal) * y
      = (y * T) * ((-(1 / 2) * (ρ * ρ * ρ) * (1024 : ℝ)⁻¹ : ℝ) : EReal) := by
    rw [mul_comm, hk]
  rw [hc, hk, add_assoc (g + D * (ρ : EReal)), add_self, mul_assoc (y * T), ← EReal.coe_mul, sub_eq_add_neg,
    EReal.left_distrib_of_nonneg_of_ne_top (EReal.coe_nonneg.mpr hρ) (EReal.coe_ne_top _), mul_comm (ρ : EReal) D]
  have hn : (ρ : EReal) * -(y * (ρ : EReal) * (T * (ρ : EReal) * (((1024 : ℝ)⁻¹ : ℝ) : EReal))) = y * T * ((-(1 / 2) * (ρ * ρ * ρ) * (1024 : ℝ)⁻¹ * 2 : ℝ) : EReal) := by
    rw [show (-(1 / 2) * (ρ * ρ * ρ) * (1024 : ℝ)⁻¹ * 2 : ℝ) = -(ρ * ρ * ρ * (1024 : ℝ)⁻¹) by ring, EReal.coe_neg, mul_neg, mul_neg, EReal.coe_mul, EReal.coe_mul, EReal.coe_mul]
    congr 1
    ac_rfl
  rw [hn]
  generalize y * T * ((-(1 / 2) * (ρ * ρ * ρ) * (1024 : ℝ)⁻¹ * 2 : ℝ) : EReal) = P
  rw [add_comm, add_assoc]

end Cert.Own

end
-- ==== Proof.XVal.lean ====
/- The gradient of the projection's input: the two arrays that the call leaves. -/
module

public import proofs.«01_k».proof.Proof.XStep
public import proofs.«01_k».proof.Proof.XMath
public import Idealize.ShloMosaic.Lib.Pointwise

@[expose] public section

set_option maxRecDepth 16384

noncomputable section

namespace Cert.Kernel3Ideal.Own

open Cert.Kernel3Ideal Cert.Kernel3Ideal.Gen Cert.Kernel3Ideal.Value Cert.Own
open Idealize.ShloMosaic Idealize.ShloMosaic.TcCoe Idealize.SL.Sem

variable (m : (ℓ : Loc nD τ sig) → Buf (Elt Ideal) ℓ) (c : Dev nD)

/-- The call's arguments. -/
def argA : FVec Ideal S4096x2048 .bf16 := m ((c : Thread nD τ).loc main_arg0)
def argB : FVec Ideal S4096x1024 .bf16 := m ((c : Thread nD τ).loc main_arg1)
def argC : FVec Ideal S4096x1024 .bf16 := m ((c : Thread nD τ).loc main_arg2)
def argD : FVec Ideal S4096x3072 .bf16 := m ((c : Thread nD τ).loc main_arg3)
def argW : FVec Ideal S7168x1024 .bf16 := m ((c : Thread nD τ).loc main_arg4)
def argX : FVec Ideal S4096x1024 .f32 := m ((c : Thread nD τ).loc main_arg5)
def argY : FVec Ideal S4096x1024 .f32 := m ((c : Thread nD τ).loc main_arg6)
def argN : FVec Ideal S1x1024 .f32 := m ((c : Thread nD τ).loc main_arg7)
def argM : FVec Ideal S8x1024 .f32 := m ((c : Thread nD τ).loc main_arg8)

/-- The output's gradient, side by side. -/
def ct (i : Fin 4096) (j : Fin 7168) : EReal :=
  joined (fun i j => argA m c (ix2 i j)) (fun i j => argB m c (ix2 i j)) (fun i j => argC m c (ix2 i j)) (fun i j => argD m c (ix2 i j)) i j

/-- The gradient of the normalised input, its part after the scale, and the input's rows. -/
def gh (i : Fin 4096) (e : Fin 1024) : EReal := ∑ j : Fin 7168, ct m c i j * argW m c (ix2 j e)
def gs (i : Fin 4096) (e : Fin 1024) : EReal := gh m c i e * (1 + argM m c (ix2 1 e))
def xr (i : Fin 4096) (e : Fin 1024) : EReal := argX m c (ix2 i e)

/-- Where a point's blocks lie. -/
theorem idxA : ∀ t : Fin cfg0.N, t.val % 7 ≤ 1 → win0_0.index t = ![t.val / 7, t.val % 7] := (by decide +kernel : ∀ t : Fin grid0.N, _)
theorem idxB : ∀ t : Fin cfg0.N, t.val % 7 = 2 → win0_1.index t = ![t.val / 7, 0] := (by decide +kernel : ∀ t : Fin grid0.N, _)
theorem idxC : ∀ t : Fin cfg0.N, t.val % 7 = 3 → win0_2.index t = ![t.val / 7, 0] := (by decide +kernel : ∀ t : Fin grid0.N, _)
theorem idxD : ∀ t : Fin cfg0.N, 4 ≤ t.val % 7 → win0_3.index t = ![t.val / 7, t.val % 7 - 4] := (by decide +kernel : ∀ t : Fin grid0.N, _)
theorem idxW : ∀ t : Fin cfg0.N, win0_4.index t = ![t.val % 7, 0] := (by decide +kernel : ∀ t : Fin grid0.N, _)
theorem idxX : ∀ t : Fin cfg0.N, win0_5.index t = ![t.val / 7, 0] := (by decide +kernel : ∀ t : Fin grid0.N, _)
theorem idxY : ∀ t : Fin cfg0.N, win0_6.index t = ![t.val / 7, 0] := (by decide +kernel : ∀ t : Fin grid0.N, _)
theorem idxN : ∀ t : Fin cfg0.N, win0_7.index t = ![0, 0] := (by decide +kernel : ∀ t : Fin grid0.N, _)
theorem idxM : ∀ t : Fin cfg0.N, win0_8.index t = ![0, 0] := (by decide +kernel : ∀ t : Fin grid0.N, _)

/-- Column s of block k, of seven blocks of 1024. -/
def blkOf (k : Nat) : Fin 7 := ⟨k % 7, Nat.mod_lt _ (by decide)⟩

theorem x_at (t : Fin cfg0.N) (r e : Fin 1024) : iblk m c 5 t (ix2 r e) = argX m c (ix2 (rowOf (t.val / 7) r) e) := by
  have hN : t.val < 28 := lt_of_lt_of_eq t.isLt N_0
  have h4 : t.val / 7 % 4 = t.val / 7 := Nat.mod_eq_of_lt (by omega)
  unfold iblk argX
  blk_ext [idxX t, rowOf, h4]
theorem y_at (t : Fin cfg0.N) (r e : Fin 1024) : iblk m c 6 t (ix2 r e) = argY m c (ix2 (rowOf (t.val / 7) r) e) := by
  have hN : t.val < 28 := lt_of_lt_of_eq t.isLt N_0
  have h4 : t.val / 7 % 4 = t.val / 7 := Nat.mod_eq_of_lt (by omega)
  unfold iblk argY
  blk_ext [idxY t, rowOf, h4]
theorem n_at (t : Fin cfg0.N) (e : Fin 1024) : iblk m c 7 t (ix2 0 e) = argN m c (ix2 0 e) := by
  unfold iblk argN
  blk_ext [idxN t]
theorem m_at (t : Fin cfg0.N) (k : Fin 8) (e : Fin 1024) : iblk m c 8 t (ix2 k e) = argM m c (ix2 k e) := by
  unfold iblk argM
  blk_ext [idxM t]
theorem w_at (t : Fin cfg0.N) (s e : Fin 1024) : iblk m c 4 t (ix2 s e) = argW m c (ix2 (colOf (blkOf t.val) s) e) := by
  unfold iblk argW
  blk_ext [idxW t, colOf, blkOf]

theorem part_at (t : Fin cfg0.N) (r s : Fin 1024) : part m c t (ix2 r s) = ct m c (rowOf (t.val / 7) r) (colOf (blkOf t.val) s) := by
  have hN : t.val < 28 := lt_of_lt_of_eq t.isLt N_0
  have h4 : t.val / 7 % 4 = t.val / 7 := Nat.mod_eq_of_lt (by omega)
  unfold part ct
  by_cases h1 : t.val % 7 ≤ 1
  · rw [if_pos h1, joined_a _ _ _ _ _ _ _ (show t.val % 7 < 2 by omega)]
    unfold iblk argA
    blk_ext [idxA t h1, rowOf, h4, blkOf]
  · rw [if_neg h1]
    by_cases h2 : t.val % 7 = 2
    · rw [if_pos h2, joined_b _ _ _ _ _ _ _ (show t.val % 7 = 2 by omega)]
      unfold iblk argB
      blk_ext [idxB t h2, rowOf, h4, blkOf]
    · rw [if_neg h2]
      by_cases h3 : t.val % 7 = 3
      · rw [if_pos h3, joined_c _ _ _ _ _ _ _ (show t.val % 7 = 3 by omega)]
        unfold iblk argC
        blk_ext [idxC t h3, rowOf, h4, blkOf]
      · rw [if_neg h3, joined_d _ _ _ _ _ _ _ (show 3 < t.val % 7 by omega)]
        unfold iblk argD
        blk_ext [idxD t (by omega), rowOf, h4, blkOf]

theorem pay1_at (k : Fin 8) (e : Fin 1024) : (k0_pay1 (F := Ideal)) (ix2 k e) = 0 := by
  pointwise [k0_pay1]
theorem pay2_at (r e : Fin 1024) : (k0_pay2 (F := Ideal)) (ix2 r e) = 0 := by
  pointwise [k0_pay2]
theorem pay3_at (x : Vec Ideal S1024x1024 .f32) (p w : Vec Ideal S1024x1024 .bf16) (r e : Fin 1024) :
    k0_pay3 x p w (ix2 r e) = x (ix2 r e) + ∑ s : Fin 1024, p (ix2 r s) * w (ix2 s e) := by
  pointwise [k0_pay3]
theorem pay9_at (x : Vec Ideal S1024x1024 .f32) (r : Fin 1024) : k0_pay9 x (ix2 r 0) = rstd (fun e => x (ix2 r e)) := by
  pointwise [k0_pay9, rstd, meanSq, wide, eps]
theorem pay10_at (x : Vec Ideal S1024x1024 .f32) (r e : Fin 1024) : k0_pay10 x (ix2 r e) = x (ix2 r e) * k0_pay9 x (ix2 r 0) := by
  unfold k0_pay10
  generalize k0_pay9 x = y
  pointwise []
theorem pay13_at (g : Vec Ideal S1024x1024 .f32) (s : Vec Ideal S1x1024 .f32) (r e : Fin 1024) : k0_pay13 g s (ix2 r e) = g (ix2 r e) * (1 + s (ix2 0 e)) := by
  pointwise [k0_pay13]
theorem pay11_at (g : Vec Ideal S1024x1024 .f32) (b : Vec Ideal S1x1024 .f32) (e : Fin 1024) : k0_pay11 g b (ix2 0 e) = b (ix2 0 e) + ∑ r : Fin 1024, g (ix2 r e) := by
  pointwise [k0_pay11]
theorem pay12_at (g x : Vec Ideal S1024x1024 .f32) (n b : Vec Ideal S1x1024 .f32) (e : Fin 1024) :
    k0_pay12 g x n b (ix2 0 e) = b (ix2 0 e) + ∑ r : Fin 1024, g (ix2 r e) * (k0_pay10 x (ix2 r e) * n (ix2 0 e)) := by
  unfold k0_pay12
  generalize k0_pay10 x = y
  pointwise []
theorem pay7_at (y g : Vec Ideal S1024x1024 .f32) (b : Vec Ideal S1x1024 .f32) (e : Fin 1024) :
    k0_pay7 y g b (ix2 0 e) = b (ix2 0 e) + ∑ r : Fin 1024, g (ix2 r e) * y (ix2 r e) := by
  pointwise [k0_pay7]
theorem pay8_at (q : Vec Ideal S1024x1 .f32) (y : Vec Ideal S1024x1024 .f32) (n : Vec Ideal S1x1024 .f32) (g d : Vec Ideal S1024x1024 .f32) (r e : Fin 1024) :
    k0_pay8 q y n g d (ix2 r e)
      = q (ix2 r 0) * (g (ix2 r e) * n (ix2 0 e) - y (ix2 r e) * Ideal.div (∑ j : Fin 1024, g (ix2 r j) * n (ix2 0 j) * y (ix2 r j)) wide) + d (ix2 r e) := by
  pointwise [k0_pay8, wide]

/-- The scratch array after a point: the products of the blocks so far. -/
theorem acc_at : ∀ (n : Nat) (hn : n < cfg0.N) (r e : Fin 1024),
    (outsAt0 m c n hn).2.2 (ix2 r e)
      = ∑ k ∈ Finset.range (n % 7 + 1), ∑ s : Fin 1024, ct m c (rowOf (n / 7) r) (colOf (blkOf k) s) * argW m c (ix2 (colOf (blkOf k) s) e)
  | 0, hn, r, e => by
    rw [outsAt0_zero, acc_first m c ⟨0, hn⟩ rfl, pay3_at, pay2_at, zero_add, show 0 % 7 + 1 = 1 from rfl, Finset.sum_range_one]
    exact Finset.sum_congr rfl fun s _ => by rw [part_at, w_at]
  | n + 1, hn, r, e => by
    have hk : blkOf (n + 1) = blkOf ((n + 1) % 7) := Fin.ext (Nat.mod_mod _ _).symm
    rw [outsAt0_succ]
    by_cases h : (n + 1) % 7 = 0
    · rw [acc_first m c ⟨n + 1, hn⟩ h, pay3_at, pay2_at, zero_add, h, show 0 + 1 = 1 from rfl, Finset.sum_range_one]
      exact Finset.sum_congr rfl fun s _ => by rw [part_at, w_at, hk, h]
    · have h1 : (n + 1) % 7 = n % 7 + 1 := by omega
      have h2 : (n + 1) / 7 = n / 7 := by omega
      rw [acc_next m c ⟨n + 1, hn⟩ h, pay3_at, acc_at n, h2, h1, Finset.sum_range_succ _ (n % 7 + 1)]
      refine congrArg₂ (· + ·) rfl (Finset.sum_congr rfl fun s _ => ?_)
      rw [part_at, w_at, hk, h1, h2]

/-- At a row block's last point the product is whole. -/
theorem dh_at (n : Nat) (hn : n + 1 < cfg0.N) (h : (n + 1) % 7 = 6) (r e : Fin 1024) :
    dh m c ⟨n + 1, hn⟩ (outsAt0 m c n (Nat.lt_of_succ_lt hn)) (ix2 r e) = gh m c (rowOf ((n + 1) / 7) r) e := by
  have hd : dh m c ⟨n + 1, hn⟩ (outsAt0 m c n (Nat.lt_of_succ_lt hn)) = (outsAt0 m c (n + 1) hn).2.2 := by
    rw [outsAt0_succ, acc_next m c ⟨n + 1, hn⟩ (by dsimp only; omega)]
    rfl
  rw [hd, acc_at, h]
  exact sum_cols (fun j => ct m c (rowOf ((n + 1) / 7) r) j * argW m c (ix2 j e))

theorem norm_at (t : Fin cfg0.N) (r : Fin 1024) : k0_pay9 (iblk m c 5 t) (ix2 r 0) = rstd (xr m c (rowOf (t.val / 7) r)) := by
  rw [pay9_at]
  exact congrArg rstd (funext fun e => x_at m c t r e)
theorem normed_at (t : Fin cfg0.N) (r e : Fin 1024) :
    k0_pay10 (iblk m c 5 t) (ix2 r e) = xr m c (rowOf (t.val / 7) r) e * rstd (xr m c (rowOf (t.val / 7) r)) := by
  rw [pay10_at, norm_at, x_at]
  rfl

theorem scaled_at (n : Nat) (hn : n + 1 < cfg0.N) (h : (n + 1) % 7 = 6) (r e : Fin 1024) :
    k0_pay13 (dh m c ⟨n + 1, hn⟩ (outsAt0 m c n (Nat.lt_of_succ_lt hn))) (row1 (iblk m c 8 ⟨n + 1, hn⟩)) (ix2 r e)
      = gs m c (rowOf ((n + 1) / 7) r) e := by
  rw [pay13_at, dh_at m c n hn h, row1_at, m_at]
  rfl

/-- What row block i adds to row k of the small array. -/
def term (k i : Nat) (e : Fin 1024) : EReal :=
  if k = 2 then ∑ r : Fin 1024, gs m c (rowOf i r) e * (xr m c (rowOf i r) e * rstd (xr m c (rowOf i r)))
  else if k = 1 then ∑ r : Fin 1024, gh m c (rowOf i r) e * (xr m c (rowOf i r) e * rstd (xr m c (rowOf i r)) * argN m c (ix2 0 e))
  else if k = 0 then ∑ r : Fin 1024, gh m c (rowOf i r) e
  else 0

theorem small_at : ∀ (n : Nat) (hn : n < cfg0.N) (k : Fin 8) (e : Fin 1024),
    (outsAt0 m c n hn).2.1 (ix2 k e) = ∑ i ∈ Finset.range ((n + 1) / 7), term m c k.val i e
  | 0, hn, k, e => by
    rw [outsAt0_zero, small_first m c ⟨0, hn⟩ rfl, pay1_at, show (0 + 1) / 7 = 0 from rfl, Finset.sum_range_zero]
  | n + 1, hn, k, e => by
    have hN : n + 1 < 28 := lt_of_lt_of_eq hn N_0
    have ih := small_at n (Nat.lt_of_succ_lt hn)
    rw [outsAt0_succ]
    by_cases h : (n + 1) % 7 = 6
    · have h1 : (n + 1 + 1) / 7 = (n + 1) / 7 + 1 := by omega
      rw [small_last m c ⟨n + 1, hn⟩ h, h1, Finset.sum_range_succ]
      unfold term
      by_cases k2 : k.val = 2
      · have hk : k = 2 := Fin.ext k2
        subst hk
        rw [if_pos k2, pay7_at, row2_at, ih]
        refine congrArg₂ (· + ·) rfl ?_
        rw [if_pos k2]
        exact Finset.sum_congr rfl fun r _ => by rw [scaled_at m c n hn h, normed_at]
      · rw [if_neg k2, if_neg k2]
        by_cases k1 : k.val = 1
        · have hk : k = 1 := Fin.ext k1
          subst hk
          rw [if_pos k1, pay12_at, row1_at, ih, if_pos k1]
          refine congrArg₂ (· + ·) rfl ?_
          exact Finset.sum_congr rfl fun r _ => by rw [dh_at m c n hn h, normed_at, n_at]
        · rw [if_neg k1, if_neg k1]
          by_cases k0 : k.val = 0
          · have hk : k = 0 := Fin.ext k0
            subst hk
            rw [if_pos k0, pay11_at, row0_at, ih, if_pos k0]
            refine congrArg₂ (· + ·) rfl ?_
            exact Finset.sum_congr rfl fun r _ => by rw [dh_at m c n hn h]
          · rw [if_neg k0, if_neg k0, ih, add_zero]
            refine Finset.sum_congr rfl fun i _ => ?_
            unfold term
            rfl
    · have h1 : (n + 1 + 1) / 7 = (n + 1) / 7 := by omega
      rw [h1, ← ih]
      exact congrFun (small_keep m c ⟨n + 1, hn⟩ (by show ¬(n + 1) % 28 = 0; omega) h _) _

theorem out_at (n : Nat) (hn : n + 1 < cfg0.N) (h : (n + 1) % 7 = 6) (r e : Fin 1024) :
    (outsAt0 m c (n + 1) hn).1 (ix2 r e)
      = rstd (xr m c (rowOf ((n + 1) / 7) r)) * (gs m c (rowOf ((n + 1) / 7) r) e * argN m c (ix2 0 e)
          - xr m c (rowOf ((n + 1) / 7) r) e * rstd (xr m c (rowOf ((n + 1) / 7) r))
            * Ideal.div (∑ j : Fin 1024, gs m c (rowOf ((n + 1) / 7) r) j * argN m c (ix2 0 j)
                * (xr m c (rowOf ((n + 1) / 7) r) j * rstd (xr m c (rowOf ((n + 1) / 7) r)))) wide)
        + argY m c (ix2 (rowOf ((n + 1) / 7) r) e) := by
  rw [outsAt0_succ, out_last m c ⟨n + 1, hn⟩ h, pay8_at, norm_at, scaled_at m c n hn h, normed_at, n_at, y_at]
  have hs : ∀ j : Fin 1024, k0_pay13 (dh m c ⟨n + 1, hn⟩ (outsAt0 m c n (Nat.lt_of_succ_lt hn))) (row1 (iblk m c 8 ⟨n + 1, hn⟩)) (ix2 r j)
        * iblk m c 7 ⟨n + 1, hn⟩ (ix2 0 j) * k0_pay10 (iblk m c 5 ⟨n + 1, hn⟩) (ix2 r j)
      = gs m c (rowOf ((n + 1) / 7) r) j * argN m c (ix2 0 j)
          * (xr m c (rowOf ((n + 1) / 7) r) j * rstd (xr m c (rowOf ((n + 1) / 7) r))) := fun j => by
    rw [scaled_at m c n hn h, n_at, normed_at]
  rw [Finset.sum_congr rfl fun j _ => hs j]

theorem G9_at (i : Fin 4096) (e : Fin 1024) : G9 m c (ix2 i e)
    = rstd (xr m c i) * (gs m c i e * argN m c (ix2 0 e)
          - xr m c i e * rstd (xr m c i) * Ideal.div (∑ j : Fin 1024, gs m c i j * argN m c (ix2 0 j) * (xr m c i j * rstd (xr m c i))) wide)
        + argY m c (ix2 i e) := by
  have hi : i.val / 1024 < 4 := by omega
  have hp : pt9Of (ix2 i e) = 7 * (i.val / 1024) + 5 + 1 := by
    show 7 * (1 * (i.val / 1024 - 0) + 1 * (e.val / 1024 - 0)) + 6 = _
    omega
  have hN : 7 * (i.val / 1024) + 5 + 1 < cfg0.N := lt_of_lt_of_eq (by omega) N_0.symm
  have hl : loc9Of (ix2 i e) = ix2 ⟨i.val % 1024, Nat.mod_lt _ (by decide)⟩ e := by
    funext a; apply Fin.ext
    match a with
    | ⟨0, _⟩ => rfl
    | ⟨1, _⟩ => exact Nat.mod_eq_of_lt e.isLt
  have hr : rowOf ((7 * (i.val / 1024) + 5 + 1) / 7) ⟨i.val % 1024, Nat.mod_lt _ (by decide)⟩ = i :=
    Fin.ext (by show 1024 * ((7 * (i.val / 1024) + 5 + 1) / 7 % 4) + i.val % 1024 = i.val; omega)
  have h := out_at m c (7 * (i.val / 1024) + 5) hN (by omega) ⟨i.val % 1024, Nat.mod_lt _ (by decide)⟩ e
  rw [hr] at h
  unfold G9
  rw [dif_pos (by rw [hp]; exact hN), hl, fold0_congr m c _ _ (7 * (i.val / 1024) + 5 + 1) (by rw [Nat.zero_add]; exact hN) hp, ← outsAt0_sweep m c _ hN, h]

theorem G10_at (k : Fin 8) (e : Fin 1024) : G10 m c (ix2 k e)
    = if k.val = 2 then ∑ i : Fin 4096, gs m c i e * (xr m c i e * rstd (xr m c i))
      else if k.val = 1 then ∑ i : Fin 4096, gh m c i e * (xr m c i e * rstd (xr m c i) * argN m c (ix2 0 e))
      else if k.val = 0 then ∑ i : Fin 4096, gh m c i e
      else 0 := by
  rw [G10_last, ← outsAt0_sweep m c 27 (lt_of_lt_of_eq (by decide) N_0.symm), small_at, show (27 + 1) / 7 = 4 from rfl]
  unfold term
  by_cases k2 : k.val = 2
  · simp only [if_pos k2]
    exact sum_rows fun i => gs m c i e * (xr m c i e * rstd (xr m c i))
  · simp only [if_neg k2]
    by_cases k1 : k.val = 1
    · simp only [if_pos k1]
      exact sum_rows fun i => gh m c i e * (xr m c i e * rstd (xr m c i) * argN m c (ix2 0 e))
    · simp only [if_neg k1]
      by_cases k0 : k.val = 0
      · simp only [if_pos k0]
        exact sum_rows fun i => gh m c i e
      · simp only [if_neg k0]
        exact (Finset.sum_const_zero : ∑ i ∈ Finset.range 4, (0 : EReal) = 0)

end Cert.Kernel3Ideal.Own

end
-- ==== Proof.XRef.lean ====
/- The reference's gradient of the projection's input, read at an entry. -/
module

public import proofs.«01_k».proof.Proof.Gen.Reference3Ideal.Read
public import proofs.«01_k».proof.Proof.Join

@[expose] public section

set_option maxRecDepth 16384

noncomputable section

namespace Cert.Reference3Ideal.Own

open Cert.Reference3Ideal Cert.Reference3Ideal.Gen Cert.Reference3Ideal.Read Cert.Own
open Idealize.ShloMosaic Idealize.ShloMosaic.TcCoe Idealize.SL.Sem

variable (a : FVec Ideal S4096x2048 .bf16) (b c : FVec Ideal S4096x1024 .bf16) (d : FVec Ideal S4096x3072 .bf16) (wt : FVec Ideal S7168x1024 .bf16) (x dx2 : FVec Ideal S4096x1024 .f32) (nw : FVec Ideal S1x1024 .f32) (mod : FVec Ideal S8x1024 .f32)

theorem v28_at (i : Fin 4096) (e : Fin 1024) : val_main_v28 (F := Ideal) a b c d wt (ix2 i e)
    = ∑ j : Fin 7168, joined (fun i j => a (ix2 i j)) (fun i j => b (ix2 i j)) (fun i j => c (ix2 i j)) (fun i j => d (ix2 i j)) i j * wt (ix2 j e) := by
  pointwise [val_main_v28, val_main_v26, val_main_v25, val_main_v1, val_main_v0, joined]

theorem v11_at (i : Fin 4096) : val_main_v11 (F := Ideal) x (ix2 i 0) = Ideal.rsqrt (Ideal.div (∑ e : Fin 1024, x (ix2 i e) * x (ix2 i e)) (Ideal.ofBits .f32 0x44800000#32) + Ideal.ofBits .f32 0x358637BD#32) := by
  pointwise [val_main_v11, val_main_v10, val_main_v9, val_main_v8, val_main_v7, val_main_v6, val_main_v5, val_main_v4, val_main_cst, val_main_cst_0, val_main_cst_1]

theorem v14_at (i : Fin 4096) : val_main_v14 (F := Ideal) x (ix2 i 0) = Ideal.ofBits .f32 0xBF000000#32 * Ideal.div (val_main_v11 (F := Ideal) x (ix2 i 0)) (Ideal.div (∑ e : Fin 1024, x (ix2 i e) * x (ix2 i e)) (Ideal.ofBits .f32 0x44800000#32) + Ideal.ofBits .f32 0x358637BD#32) := by
  unfold val_main_v14 val_main_v12
  generalize val_main_v11 (F := Ideal) x = r
  pointwise [val_main_v13, val_main_cst_2, val_main_v10, val_main_v9, val_main_v8, val_main_v7, val_main_v6, val_main_v5, val_main_v4, val_main_cst, val_main_cst_0, val_main_cst_1]

theorem v40_at (i : Fin 4096) (e : Fin 1024) : val_main_v40 (F := Ideal) a b c d wt nw mod (ix2 i e)
    = val_main_v28 (F := Ideal) a b c d wt (ix2 i e) * (1 + mod (ix2 1 e)) * nw (ix2 0 e) := by
  unfold val_main_v40 val_main_v35
  generalize val_main_v28 (F := Ideal) a b c d wt = y
  pointwise [val_main_v34, val_main_v20, val_main_v19, val_main_v3, val_main_cst_3, val_main_v39]

theorem v51_at (i : Fin 4096) (e : Fin 1024) : val_main_v51 (F := Ideal) a b c d wt x nw mod (ix2 i e)
    = Ideal.div ((∑ e : Fin 1024, x (ix2 i e) * val_main_v40 (F := Ideal) a b c d wt nw mod (ix2 i e)) * val_main_v14 (F := Ideal) x (ix2 i 0)) (Ideal.ofBits .f32 0x44800000#32) := by
  unfold val_main_v51 val_main_v50 val_main_v49 val_main_v47 val_main_v43 val_main_v42 val_main_v41
  generalize val_main_v40 (F := Ideal) a b c d wt nw mod = y
  generalize val_main_v14 (F := Ideal) x = r
  pointwise [val_main_cst_7, val_main_v48, val_main_cst_8, val_main_cst_9]
  exact Fin.sum_univ_one _

theorem v55_at (i : Fin 4096) (e : Fin 1024) : val_main_v55 (F := Ideal) a b c d wt x dx2 nw mod (ix2 i e)
    = ((dx2 (ix2 i e) + val_main_v40 (F := Ideal) a b c d wt nw mod (ix2 i e) * val_main_v11 (F := Ideal) x (ix2 i 0))
      + x (ix2 i e) * val_main_v51 (F := Ideal) a b c d wt x nw mod (ix2 i e)) + val_main_v51 (F := Ideal) a b c d wt x nw mod (ix2 i e) * x (ix2 i e) := by
  unfold val_main_v55 val_main_v54 val_main_v53 val_main_v52 val_main_v46 val_main_v45 val_main_v44
  generalize val_main_v51 (F := Ideal) a b c d wt x nw mod = y
  generalize val_main_v40 (F := Ideal) a b c d wt nw mod = z
  generalize val_main_v11 (F := Ideal) x = r
  pointwise []

theorem v57_at (k : Fin 8) (e : Fin 1024) : val_main_v57 (F := Ideal) a b c d wt x nw mod (ix2 k e)
    = if k.val < 1 then ∑ i : Fin 4096, val_main_v28 (F := Ideal) a b c d wt (ix2 i e)
      else if k.val - 1 < 1 then ∑ i : Fin 4096, x (ix2 i e) * val_main_v11 (F := Ideal) x (ix2 i 0) * nw (ix2 0 e) * val_main_v28 (F := Ideal) a b c d wt (ix2 i e)
      else if k.val - 1 - 1 < 1 then ∑ i : Fin 4096, x (ix2 i e) * val_main_v11 (F := Ideal) x (ix2 i 0) * (val_main_v28 (F := Ideal) a b c d wt (ix2 i e) * (1 + mod (ix2 1 e)))
      else 0 := by
  unfold val_main_v57 val_main_v30 val_main_v29 val_main_v33 val_main_v32 val_main_v31 val_main_v38 val_main_v37 val_main_v36 val_main_v35 val_main_v18 val_main_v16 val_main_v15
  generalize val_main_v28 (F := Ideal) a b c d wt = y
  generalize val_main_v11 (F := Ideal) x = r
  pointwise [val_main_v56, val_main_v17, val_main_v34, val_main_v20, val_main_v19, val_main_v3, val_main_cst_3, val_main_cst_4, val_main_cst_5, val_main_cst_6, val_main_cst_10]
  simp only [dite_eq_ite]

end Cert.Reference3Ideal.Own

end
-- ==== Proof.XClaim.lean ====
/- The gradient of the projection's input: the claims of the call. -/
module

public import proofs.«01_k».proof.Defs
public import proofs.«01_k».proof.Proof.Gen.Kernel3
public import proofs.«01_k».proof.Proof.XVal
public import proofs.«01_k».proof.Proof.XRef
public import Idealize.ShloMosaic.Adequacy
public import Idealize.ShloMosaic.Init

@[expose] public section

set_option maxRecDepth 16384

noncomputable section

namespace Cert.Proof.X

open Idealize.ShloMosaic Idealize.SL.Sem

section
open Cert.Own Cert.Kernel3Ideal.Own Cert.Reference3Ideal.Own Cert.Reference3Ideal.Read

variable (m : (ℓ : Loc Cert.Kernel3Ideal.nD Cert.Kernel3Ideal.τ Cert.Kernel3Ideal.sig) → Buf (Elt Ideal) ℓ) (c : Dev Cert.Kernel3Ideal.nD)

/-- The reference's steps by the kernel's names. -/
theorem ref_gh (i : Fin 4096) (e : Fin 1024) : val_main_v28 (F := Ideal) (argA m c) (argB m c) (argC m c) (argD m c) (argW m c) (ix2 i e) = gh m c i e :=
  v28_at _ _ _ _ _ i e
theorem ref_rstd (i : Fin 4096) : val_main_v11 (F := Ideal) (argX m c) (ix2 i 0) = rstd (xr m c i) := v11_at _ i
theorem ref_rate (i : Fin 4096) : val_main_v14 (F := Ideal) (argX m c) (ix2 i 0) = mhalf * Ideal.div (rstd (xr m c i)) (meanSq (xr m c i)) := by
  rw [v14_at, ref_rstd]
  rfl
theorem ref_u (i : Fin 4096) (e : Fin 1024) :
    val_main_v40 (F := Ideal) (argA m c) (argB m c) (argC m c) (argD m c) (argW m c) (argN m c) (argM m c) (ix2 i e) = gs m c i e * argN m c (ix2 0 e) := by
  rw [v40_at, ref_gh]
  rfl
theorem ref_mean (i : Fin 4096) (e : Fin 1024) :
    val_main_v51 (F := Ideal) (argA m c) (argB m c) (argC m c) (argD m c) (argW m c) (argX m c) (argN m c) (argM m c) (ix2 i e)
      = Ideal.div ((∑ j : Fin 1024, xr m c i j * (gs m c i j * argN m c (ix2 0 j))) * (mhalf * Ideal.div (rstd (xr m c i)) (meanSq (xr m c i)))) wide := by
  rw [v51_at, ref_rate]
  simp only [ref_u]
  rfl

theorem ref_x (i : Fin 4096) (e : Fin 1024) :
    val_main_v55 (F := Ideal) (argA m c) (argB m c) (argC m c) (argD m c) (argW m c) (argX m c) (argY m c) (argN m c) (argM m c) (ix2 i e)
      = Cert.Kernel3Ideal.Value.G9 m c (ix2 i e) := by
  rw [v55_at, ref_mean, ref_u, ref_rstd, G9_at]
  exact (grad_eq (xr m c i) (fun e => gs m c i e * argN m c (ix2 0 e)) (argY m c (ix2 i e)) e).symm

theorem ref_small (k : Fin 8) (e : Fin 1024) :
    val_main_v57 (F := Ideal) (argA m c) (argB m c) (argC m c) (argD m c) (argW m c) (argX m c) (argN m c) (argM m c) (ix2 k e)
      = Cert.Kernel3Ideal.Value.G10 m c (ix2 k e) := by
  rw [v57_at, G10_at]
  simp only [ref_gh, ref_rstd]
  by_cases k0 : k.val = 0
  · rw [if_pos (by omega), if_neg (by omega), if_neg (by omega), if_pos k0]
  · rw [if_neg (by omega)]
    by_cases k1 : k.val = 1
    · rw [if_pos (by omega), if_neg (by omega), if_pos k1]
      exact Finset.sum_congr rfl fun i _ => mul_comm _ _
    · rw [if_neg (by omega)]
      by_cases k2 : k.val = 2
      · rw [if_pos (by omega), if_pos k2]
        exact Finset.sum_congr rfl fun i _ => mul_comm _ _
      · rw [if_neg (by omega), if_neg k2, if_neg k1, if_neg k0]
end

/-- The kernel and the program read at the reals are the same text. -/
theorem body_eq (F : FTy → Type) [FloatOps F] : @Cert.Kernel3.cc0_in_proj_bwd_x F _ Cert.Kernel3.Gen.facts = @Cert.Kernel3Ideal.cc0_in_proj_bwd_x F _ Cert.Kernel3Ideal.Gen.facts := rfl

set_option maxHeartbeats 1600000 in
theorem defs₀_eq (F : FTy → Type) [FloatOps F] : @Cert.Kernel3.defs₀ F _ Cert.Kernel3.Gen.facts = @Cert.Kernel3Ideal.defs₀ F _ Cert.Kernel3Ideal.Gen.facts := by
  unfold Cert.Kernel3.defs₀ Cert.Kernel3Ideal.defs₀
  refine congrArg Defs.onTc (funext fun l => funext fun a => ?_)
  match l, a with
  | ⟨0, _⟩, (t, s) => dsimp only; rw [body_eq]; rfl

theorem defs_eq (F : FTy → Type) [FloatOps F] : @Cert.Kernel3.defs F _ Cert.Kernel3.Gen.facts = @Cert.Kernel3Ideal.defs F _ Cert.Kernel3Ideal.Gen.facts :=
  congrArg (Pipeline.defs Cert.Kernel3.pcfgs) (defs₀_eq F)

theorem main_eq (F : FTy → Type) [FloatOps F] : @Cert.Kernel3.main F _ = @Cert.Kernel3Ideal.main F _ := rfl

theorem kernelFrame : Cert.quiescent_Kernel3 (hKernel3 := Cert.Kernel3.Gen.facts) := fun m ρ _ => by
  have h := Cert.Kernel3Ideal.Gen.frame (F := Bits) m ρ
  rw [← defs_eq Bits, ← main_eq Bits] at h
  exact h

/-- The reference is one straight line of host operations and it has no counter. -/
theorem refFrame : Cert.quiescent_Reference3Ideal (hReference3Ideal := Cert.Reference3Ideal.Gen.facts) := fun m ρ _ =>
  (θ_run _ _ _).mono (fun r h => ⟨fun c => (h c).2.2, sem_eq_zero_of_no_sems (by decide) r.2⟩) (Cert.Reference3Ideal.Value.run m ρ)

/-- The two programs leave the same two arrays. -/
theorem sameResults : Cert.algebraic_Kernel3Ideal_Reference3Ideal (hKernel3Ideal := Cert.Kernel3Ideal.Gen.facts)
    (hReference3Ideal := Cert.Reference3Ideal.Gen.facts) := fun m ρ m' ρ' _ hargs => by
  refine ⟨fun c => Cert.Kernel3Ideal.Value.G9 m c, fun c => Cert.Kernel3Ideal.Value.G10 m c, Cert.Kernel3Ideal.Value.run (F := Ideal) m ρ, ?_⟩
  refine (θ_run _ _ _).mono (fun r h c => ?_) (Cert.Reference3Ideal.Value.run (F := Ideal) m' ρ')
  obtain ⟨h0, h1, h2⟩ := h c
  obtain ⟨e0, e1, e2, e3, e4, e5, e6, e7, e8⟩ := hargs c
  have hx := Cert.Reference3Ideal.Read.val_main_v55_eq m' c
  have hs := Cert.Reference3Ideal.Read.val_main_v57_eq m' c
  rw [e0, e1, e2, e3, e4, e5, e6, e7, e8] at hx
  rw [e0, e1, e2, e3, e4, e5, e7, e8] at hs
  refine ⟨(h0.trans hx).trans (funext fun (i : Cert.Reference3Ideal.S4096x1024.Idx) => ?_), (h1.trans hs).trans (funext fun (i : Cert.Reference3Ideal.S8x1024.Idx) => ?_), h2⟩
  · obtain ⟨j, e, rfl⟩ : ∃ (j : Fin 4096) (e : Fin 1024), i = ix2 j e := ⟨i 0, i 1, funext fun a => match a with | ⟨0, _⟩ => rfl | ⟨1, _⟩ => rfl⟩
    exact ref_x m c j e
  · obtain ⟨k, e, rfl⟩ : ∃ (k : Fin 8) (e : Fin 1024), i = ix2 k e := ⟨i 0, i 1, funext fun a => match a with | ⟨0, _⟩ => rfl | ⟨1, _⟩ => rfl⟩
    exact ref_small m c k e

end Cert.Proof.X

end
-- ==== Proof.PBody.lean ====
/- The input projection's body at one grid point: at the first of a row block's seven points it leaves the normalised rows in the scratch and in the block of the
   second result, and at every point the product of those rows with a block of the weights. Then the pipeline's proof data, the body's obligation and the run. -/
module

public import proofs.«01_k».proof.Proof.Gen.Kernel4Ideal.Skeleton
public import proofs.«01_k».proof.Proof.Gen.Kernel4Ideal.Frame
public import Idealize.ShloMosaic.Lib.Pipeline.TableIdle
public import Idealize.ShloMosaic.Lib.VecWindow
public import Idealize.ShloMosaic.Lib.WholeRead
public import Idealize.ShloMosaic.Lib.Claim

@[expose] public section

set_option maxRecDepth 16384

noncomputable section

namespace Cert.Kernel4Ideal.Own

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Row `k` of the modulation: row 0 the shift, row 1 the scale. -/
def modRow (x : Vec F S8x1024 .f32) (k : Fin 2) : Vec F S1x1024 .f32 :=
  VecWindow.window x ![k.val, 0] S1x1024.size (by revert k; decide)

/-- A load of a row reads that row. -/
theorem read_modRow (v : View sig .tc .vmem S8x1024 .f32) (f : v.ty.Contents (Elt F)) (k : Fin 2) {off : Fin 2 → ℕ} (h : off = ![k.val, 0])
    (inb : ∀ a, off a + S1x1024.size a ≤ S8x1024.size a) :
    v.readAt (Elt F) (Rect.unit (s := S8x1024) off S1x1024.size inb).toLoadRect f = modRow (v.read (Elt F) f) k := by subst h; rfl

/-- The block of normalised, scaled and shifted rows. -/
def normed (x : Vec F S2048x1024 .f32) (w : Vec F S1x1024 .f32) (mod : Vec F S8x1024 .f32) : Vec F S2048x1024 .bf16 :=
  k0_pay1 x w (modRow mod 1) (modRow mod 0)

/-- The first point of each row block is where the body's condition holds. -/
theorem cond_iff : ∀ t : Fin cfg0.N, k0_cond1 (grid0.coords t) = 1#1 ↔ t.val % 7 = 0 :=
  (by decide +kernel : ∀ t : Fin grid0.N, k0_cond1 (grid0.coords t) = 1#1 ↔ t.val % 7 = 0)

section
variable (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S2048x1024 .bf16) (harg8 : arg8.IsWhole)

set_option maxHeartbeats 1000000 in
/-- The body at the first point of a row block. -/
theorem bodyA (hc : k0_cond1 i = 1#1) (x0 : Vec F S2048x1024 .f32) (x1 : Vec F S1x1024 .f32) (x2 : Vec F S8x1024 .f32) (x3 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (k0_pay2 (normed x0 x1 x2) x3) ∗ owns (c : Thread nD τ) arg7 fullShare (normed x0 x1 x2) ∗ owns (c : Thread nD τ) arg8 fullShare (normed x0 x1 x2)) -∗ K ⟨⟩))
      ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  rw [dif_pos hc]
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_full]
    unfold bodyA.sl.v34 bodyA.sl.H6_1
    rw [View.readCov_full, View.readAt_full, View.readAt_full, View.readAt_full, read_modRow _ _ 1 (off := ![1, 0]) rfl, read_modRow _ _ 0 (off := ![0, 0]) rfl, harg2.read_unread, harg3.read_unread, harg4.read_unread, harg5.read_unread]
    rfl
  isplitl [H5]
  · iexists _; isplitr
    swap; · iexact H5
    ipureintro
    rw [View.read_writes_full]
    unfold bodyA.sl.v34 bodyA.sl.H6_1
    rw [View.readCov_full, View.readAt_full, View.readAt_full, read_modRow _ _ 1 (off := ![1, 0]) rfl, read_modRow _ _ 0 (off := ![0, 0]) rfl, harg2.read_unread, harg3.read_unread, harg4.read_unread]
    rfl
  iexists _; isplitr
  swap; · iexact H6
  ipureintro
  unfold bodyA.sl.H6_1
  rw [View.read_writes_full, View.readAt_full, View.readAt_full, read_modRow _ _ 1 (off := ![1, 0]) rfl, read_modRow _ _ 0 (off := ![0, 0]) rfl, harg2.read_unread, harg3.read_unread, harg4.read_unread]
  rfl

set_option maxHeartbeats 1000000 in
/-- The body at the other points of a row block: the scratch already holds the rows, `h`; the block of the second result, at `d`, is left alone. -/
theorem bodyB (hc : ¬k0_cond1 i = 1#1) (x0 : Vec F S2048x1024 .f32) (x1 : Vec F S1x1024 .f32) (x2 : Vec F S8x1024 .f32) (x3 : Vec F S1024x1024 .bf16) (d h : Vec F S2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare d ∗ owns (c : Thread nD τ) arg8 fullShare h
        ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (k0_pay2 h x3) ∗ owns (c : Thread nD τ) arg7 fullShare d ∗ owns (c : Thread nD τ) arg8 fullShare h) -∗ K ⟨⟩))
      ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg7.eq_unread hf5; obtain rfl := harg8.eq_unread hf6
  rw [dif_neg hc]
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_full, View.readAt_full, View.readAt_full, harg5.read_unread, harg8.read_unread]
  isplitl [H5]
  · iexists _; isplitr; · ipureintro; exact harg7.read_unread _
    iexact H5
  iexists _; isplitr; · ipureintro; exact harg8.read_unread _
  iexact H6

end

variable (m : (ℓ : Loc nD τ sig) → Buf (Elt F) ℓ) (ρ : Dev nD → PrngReg)

/-- The first point of point `t`'s row block. -/
def first (t : Fin cfg0.N) : Fin cfg0.N := ⟨7 * (t.val / 7), by have := t.isLt; omega⟩

theorem first_self (t : Fin cfg0.N) (h : t.val % 7 = 0) : first t = t := Fin.ext (by unfold first; dsimp only; omega)
theorem first_prev (t : Fin cfg0.N) (h : ¬t.val % 7 = 0) (hp : t.val - 1 < cfg0.N) : first ⟨t.val - 1, hp⟩ = first t := Fin.ext (by unfold first; dsimp only; omega)

/-- The normalised rows of point `t`'s row block. -/
def rowsAt (c : Dev nD) (t : Fin cfg0.N) : Vec F S2048x1024 .bf16 := normed (iblk m c 0 (first t)) (iblk m c 1 (first t)) (iblk m c 2 (first t))

/-- The scratch, as the body is called with it. -/
abbrev scratch : Memref sig .tc .vmem S2048x1024 .bf16 := Memref.whole cc0_scratch0

/-- What the pipeline gives the body beside the windows: the scratch and the generator register at some contents. -/
theorem beside_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- What holds beside the windows before point `n`: at the start anything in the scratch, later the rows of the point before. -/
def beside (c : Dev nD) : (n : ℕ) → n ≤ cfg0.N → sProp 𝕄
  | 0, _ => Pipeline.ΦA spec0 c
  | n + 1, hn => iprop(owns (c : Thread nD τ) scratch fullShare (rowsAt m c ⟨n, hn⟩) ∗ (∃ r, prngReg c r))

theorem beside_pos (c : Dev nD) (n : ℕ) (h : n ≤ cfg0.N) (hz : n ≠ 0) :
    beside m c n h = iprop(owns (c : Thread nD τ) scratch fullShare (rowsAt m c ⟨n - 1, by omega⟩) ∗ (∃ r, prngReg c r)) := by
  cases n with
  | zero => exact absurd rfl hz
  | succ n => rfl

/-- Whatever the point, the scratch and the register can be had at some contents. -/
theorem beside_any (c : Dev nD) (n : ℕ) (h : n ≤ cfg0.N) : beside m c n h ⊢ iprop((∃ d, owns (c : Thread nD τ) scratch fullShare d) ∗ (∃ r, prngReg c r)) := by
  cases n with
  | zero => rw [← beside_eq]; exact Entails.refl _
  | succ n =>
    show iprop(owns (c : Thread nD τ) scratch fullShare (rowsAt m c ⟨n, h⟩) ∗ (∃ r, prngReg c r)) ⊢ _
    iintro ⟨HS, Hg⟩
    isplitl [HS]
    · iexists _; iexact HS
    iexact Hg

/-- The proof data: after the body each operand's block as it was, each block of the first result at the product, and the second result's block at the rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (rowsAt m c t) (iblk m c 3 t)
    | ⟨5, _⟩ => rowsAt m c t
  Φ t := beside m c t.val (Nat.le_of_lt_succ t.isLt)
  q _ := fullShare
  owed _ := 0

theorem A_eq (c : Dev nD) (w : Fin cfg0.W) : (dats m 0 c).A w = V m c (Pipeline.arrRef spec0 w) := by
  dsimp only [dats]

theorem beside_castSucc (c : Dev nD) (t : Fin cfg0.N) : (dats m 0 c).Φ t.castSucc = beside m c t.val (Nat.le_of_lt t.isLt) := by
  dsimp only [dats]; exact Pipeline.Dat.Φ_castSucc (beside m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay2 (rowsAt m c t) (iblk m c 3 t) := by dsimp only [dats]
theorem after5 (c : Dev nD) (t : Fin cfg0.N) : (dats m 0 c).after 5 t = rowsAt m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

/-- The second result's block is stored into at a row block's first point only. -/
theorem live5 : ∀ t : Fin cfg0.N, t.val % 7 = 0 → cfg0.idle 5 (grid0.coords t) = false :=
  (by decide +kernel : ∀ t : Fin grid0.N, t.val % 7 = 0 → cfg0.idle 5 (grid0.coords t) = false)
theorem idle5 : ∀ t : Fin cfg0.N, ¬t.val % 7 = 0 → cfg0.idle 5 (grid0.coords t) = true :=
  (by decide +kernel : ∀ t : Fin grid0.N, ¬t.val % 7 = 0 → cfg0.idle 5 (grid0.coords t) = true)

/-- After a row block's first point the block holds what was stored there. -/
theorem notFresh5 : ∀ t : Fin cfg0.N, ¬t.val % 7 = 0 → cfg0.fresh 5 t.val = false :=
  (by decide +kernel : ∀ t : Fin grid0.N, ¬t.val % 7 = 0 → cfg0.fresh 5 t.val = false)

theorem before5 (c : Dev nD) (t : Fin cfg0.N) (h : ¬t.val % 7 = 0) (d) : (dats m 0 c).before 5 t d = rowsAt m c t := by
  rw [Dat.before_out_traj _ 5 rfl (fun _ _ => rfl) (fun t ht hi _ => by
      have h : ¬t.val % 7 = 0 := fun h => by rw [live5 t h] at hi; exact Bool.false_ne_true hi
      rw [after5, after5]; unfold rowsAt; rw [first_prev t h]) t.val t rfl d,
    if_neg (by rw [notFresh5 t h]; exact Bool.false_ne_true), after5]
  unfold rowsAt; rw [first_prev t h]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

/-- At every point it is enough to hand the second result's block back at the rows. -/
theorem leaves5 (c : Dev nD) (t : Fin cfg0.N) : owns (c : Thread nD τ) (st0_5 t) fullShare (rowsAt m c t) ⊢ ((dats m 0 c).leavesExact 5 t : sProp 𝕄) := by
  by_cases h : t.val % 7 = 0
  · unfold Dat.leavesExact; rw [live5 t h, after5]
    try exact Entails.refl _
  · cases hf : (cfg0.win 5).flush t
    · rw [Dat.leavesExact_idle _ 5 t (idle5 t h) hf]
      iintro H
      iexists (rowsAt m c t)
      rw [before5 m c t h]
      iexact H
    · unfold Dat.leavesExact; rw [idle5 t h, hf, after5]
      try exact Entails.refl _

set_option maxHeartbeats 1600000 in
/-- The body at any point, by its two triples. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = iprop(owns (c : Thread nD τ) scratch fullShare (rowsAt m c t) ∗ (∃ r, prngReg c r)) from rfl,
    show (dats m 0 c).owesAt () t.succ = (dats m 0 c).owesAt () t.castSucc from rfl,
    after0, after1, after2, after3, after4, beside_castSucc]
  by_cases h : t.val % 7 = 0
  · have e : rowsAt m c t = normed (iblk m c 0 t) (iblk m c 1 t) (iblk m c 2 t) := by unfold rowsAt; rw [first_self t h]
    iintro ⟨HΦ, Ho, ⟨%d0, H0⟩, ⟨%d1, H1⟩, ⟨%d2, H2⟩, ⟨%d3, H3⟩, ⟨%d4, H4⟩, ⟨%d5, H5⟩⟩
    ihave HΦ' := (beside_any m c t.val (Nat.le_of_lt t.isLt)) $$ [HΦ]
    · iexact HΦ
    icases HΦ' with ⟨HS, Hg⟩
    iapply (bodyA c (grid0.coords t) _ _ _ _ _ _ _ _ _ _ _ _ _ _ ((cond_iff t).mpr h) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    rw [← e]
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves5 m c t)
    iexact H5
  · have hz : t.val ≠ 0 := fun h0 => h (by rw [h0])
    have e : rowsAt m c ⟨t.val - 1, by omega⟩ = rowsAt m c t := by unfold rowsAt; rw [first_prev t h]
    rw [beside_pos m c _ _ hz, e]
    simp only [before5 m c t h]
    iintro ⟨⟨HS, Hg⟩, Ho, ⟨%d0, H0⟩, ⟨%d1, H1⟩, ⟨%d2, H2⟩, ⟨%d3, H3⟩, ⟨%d4, H4⟩, ⟨%d5, H5⟩⟩
    iapply (bodyB c (grid0.coords t) _ _ _ _ _ _ _ _ _ _ _ _ _ _ (fun hc => h ((cond_iff t).mp hc)) (iblk m c 0 t) (iblk m c 1 t) (iblk m c 2 t) (iblk m c 3 t) (rowsAt m c t) (rowsAt m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves5 m c t)
    iexact H5

/-- The body table's row at point `t`'s slots is the body there. -/
theorem row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

theorem enter (c : Dev nD) : Pipeline.ΦA spec0 c ⊢ (dats m 0 c).Φ 0 := Entails.refl _

theorem leave (c : Dev nD) : (dats m 0 c).Φ (Fin.last cfg0.N) ⊢ Pipeline.ΦA spec0 c := by
  rw [beside_eq]
  exact beside_any m c cfg0.N (Nat.le_refl _)

set_option backward.isDefEq.respectTransparency.types false in
/-- THE RUN: from any memory with zero counters, every weakly fair execution of @main ends with every array of the pipeline at what its proof data say, every
    other buffer unchanged, and every counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ))) ((θ_run defs _ _).mono (fun _ h => h.2) (run m ρ))

end Cert.Kernel4Ideal.Own

end
-- ==== Proof.PVal.lean ====
/- The input projection: the two arrays that the call leaves. -/
module

public import proofs.«01_k».proof.Proof.PBody
public import proofs.«01_k».proof.Proof.XMath
public import Idealize.ShloMosaic.Lib.Pointwise
public import Idealize.ShloMosaic.Lib.Pipeline.ValueKit

@[expose] public section

set_option maxRecDepth 16384

noncomputable section

namespace Cert.Kernel4Ideal.Own

open Cert.Kernel4Ideal Cert.Kernel4Ideal.Gen Cert.Own
open Idealize.ShloMosaic Idealize.ShloMosaic.TcCoe Idealize.SL.Sem

variable (m : (ℓ : Loc nD τ sig) → Buf (Elt Ideal) ℓ) (c : Dev nD)

/-- The call's arguments. -/
def argX : FVec Ideal S4096x1024 .f32 := m ((c : Thread nD τ).loc main_arg0)
def argN : FVec Ideal S1x1024 .f32 := m ((c : Thread nD τ).loc main_arg1)
def argM : FVec Ideal S8x1024 .f32 := m ((c : Thread nD τ).loc main_arg2)
def argW : FVec Ideal S7168x1024 .bf16 := m ((c : Thread nD τ).loc main_arg3)

/-- The normalised input, scaled and shifted. -/
def hid (i : Fin 4096) (e : Fin 1024) : EReal :=
  argX m c (ix2 i e) * rstd (fun e => argX m c (ix2 i e)) * argN m c (ix2 0 e) * (1 + argM m c (ix2 1 e)) + argM m c (ix2 0 e)

/-- The two arrays: the projection and the normalised input. -/
def projArr (y : S4096x7168.Idx) : EReal := ∑ e : Fin 1024, hid m c (y 0) e * argW m c (ix2 (y 1) e)
def hidArr (y : S4096x1024.Idx) : EReal := hid m c (y 0) (y 1)

/-- Row r of block i, of two blocks of 2048. -/
def halfRow (i : Nat) (r : Fin 2048) : Fin 4096 := ⟨2048 * (i % 2) + r.val, by omega⟩

/-- Where a point's blocks lie. -/
theorem idxX : ∀ t : Fin cfg0.N, win0_0.index t = ![t.val / 7, 0] := (by decide +kernel : ∀ t : Fin grid0.N, _)
theorem idxN : ∀ t : Fin cfg0.N, win0_1.index t = ![0, 0] := (by decide +kernel : ∀ t : Fin grid0.N, _)
theorem idxM : ∀ t : Fin cfg0.N, win0_2.index t = ![0, 0] := (by decide +kernel : ∀ t : Fin grid0.N, _)
theorem idxW : ∀ t : Fin cfg0.N, win0_3.index t = ![t.val % 7, 0] := (by decide +kernel : ∀ t : Fin grid0.N, _)
theorem idxP : ∀ t : Fin cfg0.N, win0_4.index t = ![t.val / 7, t.val % 7] := (by decide +kernel : ∀ t : Fin grid0.N, _)
theorem idxH : ∀ t : Fin cfg0.N, win0_5.index t = ![t.val / 7, 0] := (by decide +kernel : ∀ t : Fin grid0.N, _)

theorem x_at (t : Fin cfg0.N) (r : Fin 2048) (e : Fin 1024) : iblk m c 0 t (ix2 r e) = argX m c (ix2 (halfRow (t.val / 7) r) e) := by
  have hN : t.val < 14 := lt_of_lt_of_eq t.isLt N_0
  have h2 : t.val / 7 % 2 = t.val / 7 := Nat.mod_eq_of_lt (by omega)
  unfold iblk argX
  blk_ext [idxX t, halfRow, h2]
theorem n_at (t : Fin cfg0.N) (e : Fin 1024) : iblk m c 1 t (ix2 0 e) = argN m c (ix2 0 e) := by
  unfold iblk argN
  blk_ext [idxN t]
theorem m_at (t : Fin cfg0.N) (k : Fin 8) (e : Fin 1024) : iblk m c 2 t (ix2 k e) = argM m c (ix2 k e) := by
  unfold iblk argM
  blk_ext [idxM t]
theorem w_at (t : Fin cfg0.N) (s e : Fin 1024) : iblk m c 3 t (ix2 s e) = argW m c (ix2 (colOf ⟨t.val % 7, Nat.mod_lt _ (by decide)⟩ s) e) := by
  unfold iblk argW
  blk_ext [idxW t, colOf]

theorem pay1_at (x : Vec Ideal S2048x1024 .f32) (w s b : Vec Ideal S1x1024 .f32) (r : Fin 2048) (e : Fin 1024) :
    k0_pay1 x w s b (ix2 r e) = x (ix2 r e) * rstd (fun e => x (ix2 r e)) * w (ix2 0 e) * (1 + s (ix2 0 e)) + b (ix2 0 e) := by
  pointwise [k0_pay1, rstd, meanSq, wide, eps]
theorem pay2_at (h : Vec Ideal S2048x1024 .bf16) (w : Vec Ideal S1024x1024 .bf16) (r : Fin 2048) (s : Fin 1024) :
    k0_pay2 h w (ix2 r s) = ∑ e : Fin 1024, h (ix2 r e) * w (ix2 s e) := by
  pointwise [k0_pay2]
theorem scale_at (x : Vec Ideal S8x1024 .f32) (e : Fin 1024) : modRow x 1 (ix2 0 e) = x (ix2 1 e) :=
  View.ld_unit_apply_of (Val := Elt Ideal) x _ _ _ _ _ fun a => by match a with
    | ⟨0, _⟩ => rfl
    | ⟨1, _⟩ => exact (Nat.zero_add _).symm
theorem shift_at (x : Vec Ideal S8x1024 .f32) (e : Fin 1024) : modRow x 0 (ix2 0 e) = x (ix2 0 e) :=
  View.ld_unit_apply_of (Val := Elt Ideal) x _ _ _ _ _ fun a => by match a with
    | ⟨0, _⟩ => rfl
    | ⟨1, _⟩ => exact (Nat.zero_add _).symm

theorem rows_at (t : Fin cfg0.N) (r : Fin 2048) (e : Fin 1024) : rowsAt m c t (ix2 r e) = hid m c (halfRow (t.val / 7) r) e := by
  have hf : (first t).val / 7 = t.val / 7 := by show 7 * (t.val / 7) / 7 = t.val / 7; omega
  unfold rowsAt normed hid
  rw [pay1_at, scale_at, shift_at, m_at, m_at, n_at]
  simp only [x_at, hf]

theorem proj_value : (dats m 0 c).arrAt 4 cfg0.N = projArr m c := by
  refine (dats m 0 c).arrAt_eq_of_covers 4 _ (by decide +kernel) fun t _ y => ?_
  have hN : t.val < 14 := lt_of_lt_of_eq t.isLt N_0
  blk_simp
  rw [after4]
  obtain ⟨r, s, rfl⟩ : ∃ (r : Fin 2048) (s : Fin 1024), y = ix2 r s := ⟨y 0, y 1, eq_ix2 y⟩
  refine (pay2_at _ _ r s).trans ?_
  unfold projArr
  have h0 : (win0_4.blk t).view.emb (ix2 r s) 0 = halfRow (t.val / 7) r := Fin.ext (by simp only [halfRow]; blk_simp [idxP t] <;> try omega)
  have h1 : (win0_4.blk t).view.emb (ix2 r s) 1 = colOf ⟨t.val % 7, Nat.mod_lt _ (by decide)⟩ s := Fin.ext (by simp only [colOf]; blk_simp [idxP t] <;> try omega)
  rw [h0, h1]
  exact Finset.sum_congr rfl fun e _ => congrArg₂ (· * ·) (rows_at m c t r e) (w_at m c t s e)

theorem hid_value : (dats m 0 c).arrAt 5 cfg0.N = hidArr m c := by
  refine (dats m 0 c).arrAt_eq_of_covers 5 _ (by decide +kernel) fun t _ y => ?_
  have hN : t.val < 14 := lt_of_lt_of_eq t.isLt N_0
  blk_simp
  rw [after5]
  obtain ⟨r, e, rfl⟩ : ∃ (r : Fin 2048) (e : Fin 1024), y = ix2 r e := ⟨y 0, y 1, eq_ix2 y⟩
  refine (rows_at m c t r e).trans ?_
  unfold hidArr
  have h0 : (win0_5.blk t).view.emb (ix2 r e) 0 = halfRow (t.val / 7) r := Fin.ext (by simp only [halfRow]; blk_simp [idxH t] <;> try omega)
  have h1 : (win0_5.blk t).view.emb (ix2 r e) 1 = e := Fin.ext (by blk_simp [idxH t] <;> try omega)
  rw [h0, h1]

end Cert.Kernel4Ideal.Own

end
-- ==== Proof.PRef.lean ====
/- The reference's input projection, read at an entry. -/
module

public import proofs.«01_k».proof.Proof.Gen.Reference4Ideal.Read
public import proofs.«01_k».proof.Proof.XMath
public import Idealize.ShloMosaic.Lib.Pointwise

@[expose] public section

set_option maxRecDepth 16384

noncomputable section

namespace Cert.Reference4Ideal.Own

open Cert.Reference4Ideal Cert.Reference4Ideal.Gen Cert.Reference4Ideal.Read Cert.Own
open Idealize.ShloMosaic Idealize.ShloMosaic.TcCoe Idealize.SL.Sem

variable (x : FVec Ideal S4096x1024 .f32) (nw : FVec Ideal S1x1024 .f32) (mod : FVec Ideal S8x1024 .f32) (wt : FVec Ideal S7168x1024 .bf16)

theorem v7_at (i : Fin 4096) : val_main_v7 (F := Ideal) x (ix2 i 0) = rstd (fun e => x (ix2 i e)) := by
  pointwise [val_main_v7, val_main_v6, val_main_v5, val_main_v4, val_main_v3, val_main_v2, val_main_v1, val_main_v0, val_main_cst, val_main_cst_0, val_main_cst_1, rstd, meanSq, wide, eps]

theorem v19_at (i : Fin 4096) (e : Fin 1024) : val_main_v19 (F := Ideal) x nw mod (ix2 i e)
    = x (ix2 i e) * rstd (fun e => x (ix2 i e)) * nw (ix2 0 e) * (1 + mod (ix2 1 e)) + mod (ix2 0 e) := by
  rw [← v7_at]
  unfold val_main_v19 val_main_v16 val_main_v11 val_main_v9 val_main_v8
  generalize val_main_v7 (F := Ideal) x = y
  pointwise [val_main_v10, val_main_v15, val_main_v14, val_main_v13, val_main_v12, val_main_cst_2, val_main_v18, val_main_v17]

theorem v24_at (i : Fin 4096) (e : Fin 1024) : val_main_v24 (F := Ideal) x nw mod (ix2 i e) = val_main_v19 (F := Ideal) x nw mod (ix2 i e) := by
  unfold val_main_v24
  generalize val_main_v19 (F := Ideal) x nw mod = y
  pointwise []

theorem v23_at (i : Fin 4096) (j : Fin 7168) : val_main_v23 (F := Ideal) x nw mod wt (ix2 i j)
    = ∑ e : Fin 1024, val_main_v19 (F := Ideal) x nw mod (ix2 i e) * wt (ix2 j e) := by
  unfold val_main_v23 val_main_v22
  generalize val_main_v19 (F := Ideal) x nw mod = y
  pointwise [val_main_v21, val_main_v20]

end Cert.Reference4Ideal.Own

end
-- ==== Proof.PClaim.lean ====
/- The input projection: the claims of the call. -/
module

public import proofs.«01_k».proof.Defs
public import proofs.«01_k».proof.Proof.Gen.Kernel4
public import proofs.«01_k».proof.Proof.PVal
public import proofs.«01_k».proof.Proof.PRef
public import Idealize.ShloMosaic.Adequacy
public import Idealize.ShloMosaic.Init

@[expose] public section

set_option maxRecDepth 16384

noncomputable section

namespace Cert.Proof.P

open Idealize.ShloMosaic Idealize.ShloMosaic.TcCoe Idealize.SL.Sem

section
open Cert.Own Cert.Kernel4Ideal.Own Cert.Reference4Ideal.Own Cert.Reference4Ideal.Read

variable (m : (ℓ : Loc Cert.Kernel4Ideal.nD Cert.Kernel4Ideal.τ Cert.Kernel4Ideal.sig) → Buf (Elt Ideal) ℓ) (c : Dev Cert.Kernel4Ideal.nD)

/-- The reference's two arrays are the kernel's. -/
theorem ref_hid (i : Fin 4096) (e : Fin 1024) : val_main_v24 (F := Ideal) (argX m c) (argN m c) (argM m c) (ix2 i e) = hidArr m c (ix2 i e) :=
  (v24_at _ _ _ i e).trans (v19_at _ _ _ i e)
theorem ref_proj (i : Fin 4096) (j : Fin 7168) :
    val_main_v23 (F := Ideal) (argX m c) (argN m c) (argM m c) (argW m c) (ix2 i j) = projArr m c (ix2 i j) :=
  (v23_at _ _ _ _ i j).trans (Finset.sum_congr rfl fun e _ => congrArg (· * argW m c (ix2 j e)) (v19_at _ _ _ i e))
end

/-- The kernel and the program read at the reals are the same text. -/
theorem body_eq (F : FTy → Type) [FloatOps F] : @Cert.Kernel4.cc0_in_proj F _ Cert.Kernel4.Gen.facts = @Cert.Kernel4Ideal.cc0_in_proj F _ Cert.Kernel4Ideal.Gen.facts := rfl

set_option maxHeartbeats 1600000 in
theorem defs₀_eq (F : FTy → Type) [FloatOps F] : @Cert.Kernel4.defs₀ F _ Cert.Kernel4.Gen.facts = @Cert.Kernel4Ideal.defs₀ F _ Cert.Kernel4Ideal.Gen.facts := by
  unfold Cert.Kernel4.defs₀ Cert.Kernel4Ideal.defs₀
  refine congrArg Defs.onTc (funext fun l => funext fun a => ?_)
  match l, a with
  | ⟨0, _⟩, (t, s) => dsimp only; rw [body_eq]; rfl

theorem defs_eq (F : FTy → Type) [FloatOps F] : @Cert.Kernel4.defs F _ Cert.Kernel4.Gen.facts = @Cert.Kernel4Ideal.defs F _ Cert.Kernel4Ideal.Gen.facts :=
  congrArg (Pipeline.defs Cert.Kernel4.pcfgs) (defs₀_eq F)

theorem main_eq (F : FTy → Type) [FloatOps F] : @Cert.Kernel4.main F _ = @Cert.Kernel4Ideal.main F _ := rfl

theorem kernelFrame : Cert.quiescent_Kernel4 (hKernel4 := Cert.Kernel4.Gen.facts) := fun m ρ _ => by
  have h := Cert.Kernel4Ideal.Own.frame (F := Bits) m ρ
  rw [← defs_eq Bits, ← main_eq Bits] at h
  exact h

/-- The reference is one straight line of host operations and it has no counter. -/
theorem refFrame : Cert.quiescent_Reference4Ideal (hReference4Ideal := Cert.Reference4Ideal.Gen.facts) := fun m ρ _ =>
  (θ_run _ _ _).mono (fun r h => ⟨fun c => (h c).2.2, sem_eq_zero_of_no_sems (by decide) r.2⟩) (Cert.Reference4Ideal.Value.run m ρ)

/-- The two programs leave the same two arrays. -/
theorem sameResults : Cert.algebraic_Kernel4Ideal_Reference4Ideal (hKernel4Ideal := Cert.Kernel4Ideal.Gen.facts)
    (hReference4Ideal := Cert.Reference4Ideal.Gen.facts) := fun m ρ m' ρ' _ hargs => by
  refine ⟨fun c => Cert.Kernel4Ideal.Own.projArr m c, fun c => Cert.Kernel4Ideal.Own.hidArr m c, ?_, ?_⟩
  · refine (θ_run _ _ _).mono (fun r h c => ?_) (θ_run_and (Cert.Kernel4Ideal.Own.run (F := Ideal) m ρ) (Cert.Kernel4Ideal.Own.frame (F := Ideal) m ρ))
    exact ⟨((h.1.1 c).1 4).trans (Cert.Kernel4Ideal.Own.proj_value m c), ((h.1.1 c).1 5).trans (Cert.Kernel4Ideal.Own.hid_value m c), h.2.1 c⟩
  · refine (θ_run _ _ _).mono (fun r h c => ?_) (Cert.Reference4Ideal.Value.run (F := Ideal) m' ρ')
    obtain ⟨h0, h1, h2⟩ := h c
    obtain ⟨e0, e1, e2, e3⟩ := hargs c
    have hp := h0.trans (Cert.Reference4Ideal.Read.val_main_v23_eq _ _ _ _)
    have hh := h1.trans (Cert.Reference4Ideal.Read.val_main_v24_eq _ _ _)
    rw [e0, e1, e2, e3] at hp
    rw [e0, e1, e2] at hh
    refine ⟨hp.trans (funext fun (i : Cert.Reference4Ideal.S4096x7168.Idx) => ?_), hh.trans (funext fun (i : Cert.Reference4Ideal.S4096x1024.Idx) => ?_), h2⟩
    · obtain ⟨a, b, rfl⟩ : ∃ (a : Fin 4096) (b : Fin 7168), i = ix2 a b := ⟨i 0, i 1, eq_ix2 i⟩
      exact ref_proj m c a b
    · obtain ⟨a, b, rfl⟩ : ∃ (a : Fin 4096) (b : Fin 1024), i = ix2 a b := ⟨i 0, i 1, eq_ix2 i⟩
      exact ref_hid m c a b

end Cert.Proof.P

end
-- ==== Proof.MMath.lean ====
/- The merge of the two branches, the loss and their gradients along one row of the activations, with the facts that bring the two orders of multiplication together. -/
module

public import proofs.«01_k».proof.Proof.XMath

@[expose] public section

noncomputable section

namespace Cert.Own

open Idealize.ShloMosaic

/-- One row of the activations, with the weights: its part of the input, of the target, of the two branches and of their three gates; the merge's gate, the
    norm's weight, and the three matrices. -/
structure Line where
  x : Fin 1024 → EReal
  t : Fin 1024 → EReal
  ya : Fin 1024 → EReal
  o : Fin 1024 → EReal
  b : Fin 1024 → EReal
  ga : Fin 1024 → EReal
  gb : Fin 1024 → EReal
  gate : Fin 1024 → EReal
  fnw : Fin 1024 → EReal
  wc : Fin 1024 → Fin 1024 → EReal
  wa : Fin 1024 → Fin 1024 → EReal
  wo : Fin 1024 → Fin 1024 → EReal

/-- Row i of the arguments. Of the gathered weights' 384 rows on each device the first 128 are the first matrix's, and so on. -/
def lineAt (a0 a1 : FVec Ideal (⟨2, ![4096, 1024]⟩ : Shape) .f32) (a2 : FVec Ideal (⟨2, ![4096, 1024]⟩ : Shape) .bf16) (a3 : FVec Ideal (⟨2, ![4096, 1024]⟩ : Shape) .f32)
    (a4 : FVec Ideal (⟨2, ![4096, 7168]⟩ : Shape) .bf16) (a5 : FVec Ideal (⟨2, ![8, 1024]⟩ : Shape) .f32) (a6 : FVec Ideal (⟨2, ![1, 1024]⟩ : Shape) .f32)
    (a7 : FVec Ideal (⟨3, ![8, 384, 1024]⟩ : Shape) .bf16) (i : Fin 4096) : Line where
  x n := a0 (ix2 i n)
  t n := a1 (ix2 i n)
  ya n := a2 (ix2 i n)
  o n := a3 (ix2 i n)
  b n := a4 (ix2 i ⟨4096 + n.val, by omega⟩)
  ga n := a4 (ix2 i ⟨5120 + n.val, by omega⟩)
  gb n := a4 (ix2 i ⟨6144 + n.val, by omega⟩)
  gate n := a5 (ix2 2 n)
  fnw n := a6 (ix2 0 n)
  wc k n := a7 (ix3 ⟨k.val / 128, by omega⟩ ⟨k.val % 128, by omega⟩ n)
  wa k n := a7 (ix3 ⟨k.val / 128, by omega⟩ ⟨128 + k.val % 128, by omega⟩ n)
  wo k n := a7 (ix3 ⟨k.val / 128, by omega⟩ ⟨256 + k.val % 128, by omega⟩ n)

/-- One over the number of columns, as the kernel has it. -/
def perWide : EReal := Ideal.ofBits .f32 0x3A800000#32

theorem perWide_eq : perWide = (((1024 : ℝ)⁻¹ : ℝ) : EReal) := by
  unfold perWide
  simp [Ideal.ofBits, Ideal.ieee]
  rw [← EReal.coe_mul]
  congr 1
  norm_num
theorem half_eq : Ideal.ofBits .f32 0x3F000000#32 = (((2 : ℝ)⁻¹ : ℝ) : EReal) := by
  simp [Ideal.ofBits, Ideal.ieee]
  rw [← EReal.coe_mul]
  congr 1
  norm_num
theorem two_eq : Ideal.ofBits .f32 0x40000000#32 = ((2 : ℝ) : EReal) := by
  simp [Ideal.ofBits, Ideal.ieee]
  rw [← EReal.coe_mul]
  congr 1
  norm_num

abbrev sg : EReal → EReal := Ideal.logistic

namespace Line

variable (R : Line)

/-- The two branches after their projections, the merge, and the block's output. -/
def yA (n : Fin 1024) : EReal := ∑ k, R.ya k * R.wc k n
def ob (k : Fin 1024) : EReal := R.o k * (R.b k * sg (R.b k))
def yB (n : Fin 1024) : EReal := ∑ k, R.ob k * R.wa k n
def mg (k : Fin 1024) : EReal := sg (R.ga k) * R.yA k + sg (R.gb k) * R.yB k
def z (n : Fin 1024) : EReal := ∑ k, R.mg k * R.wo k n
def x2 (n : Fin 1024) : EReal := R.x n + R.gate n * R.z n
/-- The difference that the loss squares, and its gradient before the norm's weight is undone and after. -/
def err (n : Fin 1024) : EReal := R.x2 n * rstd R.x2 * R.fnw n - R.t n
def dxn (n : Fin 1024) : EReal := R.err n * perWide * R.fnw n
def dx2 (n : Fin 1024) : EReal := rstd R.x2 * (R.dxn n - R.x2 n * rstd R.x2 * Ideal.div (∑ j, R.dxn j * (R.x2 j * rstd R.x2)) wide)
/-- The gradients of the merge, of its gates, of the two branches and of the third gate. -/
def dm (k : Fin 1024) : EReal := ∑ n, R.dx2 n * R.gate n * R.wo k n
def dga (k : Fin 1024) : EReal := R.dm k * R.yA k * (sg (R.ga k) * (1 - sg (R.ga k)))
def dgb (k : Fin 1024) : EReal := R.dm k * R.yB k * (sg (R.gb k) * (1 - sg (R.gb k)))
def dya (k : Fin 1024) : EReal := ∑ n, R.dm n * sg (R.ga n) * R.wc k n
def dyb (k : Fin 1024) : EReal := ∑ n, R.dm n * sg (R.gb n) * R.wa k n
def dob (k : Fin 1024) : EReal := R.dyb k * (R.b k * sg (R.b k))
def dbg (k : Fin 1024) : EReal := R.dyb k * R.o k * (sg (R.b k) * (1 + R.b k * (1 - sg (R.b k))))
def prod (k : Fin 1024) : EReal := R.dob k * R.o k
/-- The sum over one head's 128 columns. -/
def delta (h : Fin 8) : EReal := ∑ e : Fin 128, R.prod ⟨128 * h.val + e.val, by omega⟩
/-- The three gates' gradients side by side. -/
def dpg (j : Fin 3072) : EReal :=
  if h : j.val < 1024 then R.dbg ⟨j.val, h⟩
  else if h₁ : j.val - 1024 < 1024 then R.dga ⟨j.val - 1024, h₁⟩
  else R.dgb ⟨j.val - 1024 - 1024, by omega⟩

end Line

/-- The loss's gradient: half of twice the difference over the number of columns is the difference over that number. -/
theorem half_twice (y : EReal) : Ideal.div (Ideal.ofBits .f32 0x3F000000#32 * 1) wide * (Ideal.ofBits .f32 0x40000000#32 * y) = y * perWide := by
  rw [div_wide, half_eq, two_eq, perWide_eq, mul_one, ← mul_assoc, ← EReal.coe_mul, ← EReal.coe_mul, mul_comm y]
  congr 2
  norm_num

/-- The norm's gradient in the other order. -/
theorem norm_grad (x u : Fin 1024 → EReal) (e : Fin 1024) :
    (u e * rstd x + x e * Ideal.div ((∑ j, x j * u j) * (mhalf * Ideal.div (rstd x) (meanSq x))) wide)
        + Ideal.div ((∑ j, x j * u j) * (mhalf * Ideal.div (rstd x) (meanSq x))) wide * x e
      = rstd x * (u e - x e * rstd x * Ideal.div (∑ j, u j * (x j * rstd x)) wide) := by
  have h := grad_eq x u 0 e
  rw [add_zero, zero_add] at h
  exact h.symm

/-! ## Numbers -/

/-- An extended real that is a number. -/
def IsNum (x : EReal) : Prop := ∃ r : ℝ, x = (r : EReal)

theorem IsNum.mul {x y : EReal} : IsNum x → IsNum y → IsNum (x * y) := fun ⟨a, ha⟩ ⟨b, hb⟩ => ⟨a * b, by rw [ha, hb, EReal.coe_mul]⟩
theorem IsNum.add {x y : EReal} : IsNum x → IsNum y → IsNum (x + y) := fun ⟨a, ha⟩ ⟨b, hb⟩ => ⟨a + b, by rw [ha, hb, EReal.coe_add]⟩
theorem IsNum.sub {x y : EReal} : IsNum x → IsNum y → IsNum (x - y) := fun ⟨a, ha⟩ ⟨b, hb⟩ => ⟨a - b, by rw [ha, hb, EReal.coe_sub]⟩
theorem IsNum.sum {n : Nat} {f : Fin n → EReal} (h : ∀ i, IsNum (f i)) : IsNum (∑ i, f i) := by
  induction (Finset.univ : Finset (Fin n)) using Finset.induction_on with
  | empty => exact ⟨0, by simp⟩
  | insert a s ha ih => rw [Finset.sum_insert ha]; exact (h a).add ih
theorem IsNum.div {x : EReal} (h : IsNum x) : IsNum (Ideal.div x wide) := by rw [div_wide]; exact h.mul ⟨_, rfl⟩
theorem isNum_perWide : IsNum perWide := ⟨_, perWide_eq⟩
theorem isNum_rstd (x : Fin 1024 → EReal) : IsNum (rstd x) := let ⟨ρ, _, h, _⟩ := rstd_real x; ⟨ρ, h⟩
theorem isNum_sg (x : EReal) : IsNum (sg x) := by
  induction x using EReal.rec with
  | bot => exact ⟨0, by simp [sg]⟩
  | top => exact ⟨1, by simp [sg]⟩
  | coe r => exact ⟨_, Ideal.logistic_coe r⟩

/-- A row with an infinite entry has the reciprocal root zero. -/
theorem rstd_zero (x : Fin 1024 → EReal) (n : Fin 1024) (h : ¬IsNum (x n)) : rstd x = 0 := by
  have hs : x n * x n = ⊤ := by
    induction hx : x n using EReal.rec with
    | bot => rfl
    | top => rfl
    | coe r => exact absurd ⟨r, hx⟩ h
  have ht : ∑ e, x e * x e = ⊤ := top_unique (hs ▸ Finset.single_le_sum (f := fun e => x e * x e) (fun e _ => sq_nonneg _) (Finset.mem_univ n))
  have hm : meanSq x = ⊤ := by
    obtain ⟨t, _, he⟩ := eps_pos
    unfold meanSq
    rw [ht, div_wide, he, EReal.top_mul_coe_of_pos (by norm_num), EReal.top_add_coe]
  unfold rstd
  rw [hm]
  rfl

/-- Whatever the row, its normalised entries are numbers. -/
theorem isNum_normed (x : Fin 1024 → EReal) (n : Fin 1024) : IsNum (x n * rstd x) := by
  by_cases h : IsNum (x n)
  · exact h.mul (isNum_rstd x)
  · exact ⟨0, by rw [rstd_zero x n h, mul_zero]; rfl⟩

/-- A sum is a number only when its terms are, and a product only when each factor is, or the other is zero. -/
theorem IsNum.of_add {x y : EReal} (h : IsNum (x + y)) : IsNum x ∧ IsNum y := by
  obtain ⟨r, hr⟩ := h
  induction x using EReal.rec with
  | bot => simp at hr
  | top =>
    induction y using EReal.rec with
    | bot => simp at hr
    | top => simp at hr
    | coe b => simp at hr
  | coe a =>
    induction y using EReal.rec with
    | bot => simp at hr
    | top => simp at hr
    | coe b => exact ⟨⟨a, rfl⟩, ⟨b, rfl⟩⟩
theorem IsNum.of_sum {n : Nat} {f : Fin n → EReal} (h : IsNum (∑ i, f i)) (i : Fin n) : IsNum (f i) := by
  rw [← Finset.add_sum_erase _ _ (Finset.mem_univ i)] at h
  exact h.of_add.1
theorem IsNum.of_mul {x y : EReal} (h : IsNum (x * y)) (hx : x ≠ 0) : IsNum y := by
  obtain ⟨r, hr⟩ := h
  induction y using EReal.rec with
  | coe b => exact ⟨b, rfl⟩
  | bot =>
    rcases lt_or_gt_of_ne hx with hx | hx
    · rw [EReal.mul_bot_of_neg hx] at hr; simp at hr
    · rw [EReal.mul_bot_of_pos hx] at hr; simp at hr
  | top =>
    rcases lt_or_gt_of_ne hx with hx | hx
    · rw [EReal.mul_top_of_neg hx] at hr; simp at hr
    · rw [EReal.mul_top_of_pos hx] at hr; simp at hr
theorem IsNum.of_mul' {x y : EReal} (h : IsNum (x * y)) (hy : y ≠ 0) : IsNum x := IsNum.of_mul (mul_comm x y ▸ h) hy

/-- The gated unit's derivative: of a number's product with it the two terms can be taken apart. -/
theorem silu_grad (c b : EReal) (h : IsNum c) : c * sg b + (b * c) * (sg b * (1 - sg b)) = c * (sg b * (1 + b * (1 - sg b))) := by
  obtain ⟨r, rfl⟩ := h
  induction b using EReal.rec with
  | bot => simp [sg]
  | top =>
    have e : (1 : EReal) - 1 = 0 := by rw [← EReal.coe_one, ← EReal.coe_sub]; simp
    simp [sg, e]
  | coe b =>
    obtain ⟨s, hs⟩ := isNum_sg (b : EReal)
    rw [hs, ← EReal.coe_one]
    simp only [← EReal.coe_mul, ← EReal.coe_sub, ← EReal.coe_add]
    congr 1
    ring

namespace Line

variable (R : Line)

/-- What the claims assume of the row: target, merge's gate, norm's weight and the last matrix hold numbers. -/
structure Numbers : Prop where
  t : ∀ n, IsNum (R.t n)
  gate : ∀ n, IsNum (R.gate n)
  fnw : ∀ n, IsNum (R.fnw n)
  wo : ∀ k n, IsNum (R.wo k n)

/-- Where the merge is infinite its gradient is zero: each column that it reaches has an infinite entry, and then the reciprocal root is zero, or has the gate zero. -/
theorem dm_zero (n : Fin 1024) (h : ¬IsNum (R.mg n)) : R.dm n = 0 := Finset.sum_eq_zero fun j _ => by
  by_cases hw : R.wo n j = 0
  · rw [hw, mul_zero]
  by_cases hg : R.gate j = 0
  · rw [hg, mul_zero, zero_mul]
  have hx : ¬IsNum (R.x2 j) := fun hx => h ((hx.of_add.2.of_mul hg).of_sum n |>.of_mul' hw)
  unfold dx2
  rw [rstd_zero R.x2 j hx, zero_mul, zero_mul, zero_mul]

/-- Likewise where an entry of the second branch, not zero, makes its product with the matrix infinite. -/
theorem dyB_zero (k n : Fin 1024) (h : ¬IsNum (R.ob k * R.wa k n)) : R.dm n * sg (R.gb n) = 0 := by
  by_cases hs : sg (R.gb n) = 0
  · rw [hs, mul_zero]
  · rw [R.dm_zero n fun hm => h ((hm.of_add.2.of_mul hs).of_sum k), zero_mul]

variable {R} (h : R.Numbers)
include h

theorem isNum_dxn (n : Fin 1024) : IsNum (R.dxn n) :=
  ((((isNum_normed R.x2 n).mul (h.fnw n)).sub (h.t n)).mul isNum_perWide).mul (h.fnw n)
theorem isNum_dx2 (n : Fin 1024) : IsNum (R.dx2 n) :=
  (isNum_rstd R.x2).mul ((isNum_dxn h n).sub ((isNum_normed R.x2 n).mul (IsNum.sum fun j => (isNum_dxn h j).mul (isNum_normed R.x2 j)).div))
theorem isNum_dm (k : Fin 1024) : IsNum (R.dm k) := IsNum.sum fun n => ((isNum_dx2 h n).mul (h.gate n)).mul (h.wo k n)

/-- A term of the second branch's gradient is a number, and zero if the branch's entry before its gate is infinite. -/
theorem dyb_term (k n : Fin 1024) (hk : R.ob k ≠ 0) :
    IsNum (R.dm n * sg (R.gb n) * R.wa k n) ∧ (¬IsNum (R.o k) → R.dm n * sg (R.gb n) * R.wa k n = 0) := by
  by_cases hw : R.wa k n = 0
  · rw [hw, mul_zero]
    exact ⟨⟨0, rfl⟩, fun _ => rfl⟩
  by_cases hp : IsNum (R.ob k * R.wa k n)
  · exact ⟨((isNum_dm h n).mul (isNum_sg _)).mul (hp.of_mul hk), fun ho => absurd ((hp.of_mul' hw).of_mul' (right_ne_zero_of_mul hk)) ho⟩
  · rw [R.dyB_zero k n hp, zero_mul]
    exact ⟨⟨0, rfl⟩, fun _ => rfl⟩

theorem isNum_grad (k : Fin 1024) (hk : R.ob k ≠ 0) : IsNum (R.o k * R.dyb k) := by
  by_cases ho : IsNum (R.o k)
  · exact ho.mul (IsNum.sum fun n => (dyb_term h k n hk).1)
  · exact ⟨0, by unfold dyb; rw [Finset.sum_eq_zero fun n _ => (dyb_term h k n hk).2 ho, mul_zero]; rfl⟩

/-- The third gate's gradient with its two terms apart. -/
theorem dbg_eq (k : Fin 1024) : R.o k * R.dyb k * sg (R.b k) + R.b k * (R.o k * R.dyb k) * (sg (R.b k) * (1 - sg (R.b k))) = R.dbg k := by
  unfold dbg
  rw [mul_comm (R.dyb k)]
  by_cases hk : R.ob k = 0
  · unfold ob at hk
    rcases mul_eq_zero.mp hk with ho | hk
    · simp only [ho, zero_mul, mul_zero, add_zero]
    · rcases mul_eq_zero.mp hk with hb | hs
      · simp only [hb, zero_mul, add_zero, mul_one]
      · simp only [hs, zero_mul, mul_zero, add_zero]
  · exact silu_grad _ _ (isNum_grad h k hk)

end Line

end Cert.Own

end
-- ==== Proof.MPay.lean ====
/- The merge and the loss: what a grid step computes from its blocks, read at an entry. -/
module

public import proofs.«01_k».proof.Proof.Gen.Kernel5Ideal.Skeleton
public import proofs.«01_k».proof.Proof.MMath
public import Idealize.ShloMosaic.Lib.Pointwise

@[expose] public section

set_option maxRecDepth 16384

noncomputable section

namespace Cert.Kernel5Ideal.Own

open Cert.Kernel5Ideal Cert.Kernel5Ideal.Gen Cert.Own
open Idealize.ShloMosaic Idealize.ShloMosaic.TcCoe Idealize.SL.Sem

/-- What a grid step reads: 256 rows of the activations, the merge's gate, the norm's weight and the three matrices. -/
structure Tile (F : FTy → Type) [FloatOps F] where
  x : Vec F S256x1024 .f32
  t : Vec F S256x1024 .f32
  ya : Vec F S256x1024 .bf16
  o : Vec F S256x1024 .f32
  b : Vec F S256x1024 .bf16
  ga : Vec F S256x1024 .bf16
  gb : Vec F S256x1024 .bf16
  g : Vec F S1x1024 .f32
  fnw : Vec F S1x1024 .f32
  wc : Vec F S8x128x1024 .bf16
  wa : Vec F S8x128x1024 .bf16
  wo : Vec F S8x128x1024 .bf16

namespace Tile

section Stages
variable {F : FTy → Type} [FloatOps F] (T : Tile F)

/-- The stages of a step's work. -/
def z : Vec F S256x1024 .f32 := k0_pay17 T.b T.o T.ya T.wc T.wa T.ga T.gb T.wo
def rs : Vec F S256x1 .f32 := k0_pay19 T.z T.g T.x
def xn : Vec F S256x1024 .f32 := k0_pay20 T.z T.g T.x
def dxn : Vec F S256x1024 .f32 := k0_pay25 T.z T.g T.x T.fnw T.t
def sm : Vec F S256x1 .f32 := k0_pay26 T.z T.g T.x T.fnw T.t
def dx2 : Vec F S256x1024 .f32 := k0_pay27 T.rs T.xn T.dxn T.sm (Scalar.ofBits .f32 0x44800000#32)
def dm : Vec F S256x1024 .f32 := k0_pay31 T.g T.rs T.xn T.dxn T.sm (Scalar.ofBits .f32 0x44800000#32) T.wo
def dya : Vec F S256x1024 .f32 := k0_pay37 (k0_pay14 T.ga) T.dm T.wc
def dyb : Vec F S256x1024 .f32 := k0_pay39 (k0_pay15 T.gb) T.dm T.wa
def dob : Vec F S256x1024 .bf16 := k0_pay42 (k0_pay10 T.b) T.dyb
def prod : Vec F S256x1024 .f32 := k0_pay44 (k0_pay10 T.b) T.o T.dyb
def dbg : Vec F S256x1024 .bf16 := k0_pay43 (k0_pay8 T.b) (k0_pay9 T.b) T.o T.dyb
def dga : Vec F S256x1024 .bf16 := k0_pay35 (k0_pay12 T.ya T.wc) (k0_pay14 T.ga) T.dm
def dgb : Vec F S256x1024 .bf16 := k0_pay36 (k0_pay13 T.b T.o T.wa) (k0_pay15 T.gb) T.dm

end Stages

variable (T : Tile Ideal)

/-- A row of the step. -/
def line (r : Fin 256) : Line where
  x n := T.x (ix2 r n)
  t n := T.t (ix2 r n)
  ya n := T.ya (ix2 r n)
  o n := T.o (ix2 r n)
  b n := T.b (ix2 r n)
  ga n := T.ga (ix2 r n)
  gb n := T.gb (ix2 r n)
  gate n := T.g (ix2 0 n)
  fnw n := T.fnw (ix2 0 n)
  wc k n := T.wc (ix3 ⟨k.val / 128, by omega⟩ ⟨k.val % 128, by omega⟩ n)
  wa k n := T.wa (ix3 ⟨k.val / 128, by omega⟩ ⟨k.val % 128, by omega⟩ n)
  wo k n := T.wo (ix3 ⟨k.val / 128, by omega⟩ ⟨k.val % 128, by omega⟩ n)

variable (r : Fin 256) (n : Fin 1024)

theorem pay8_at : k0_pay8 T.b (ix2 r n) = (T.line r).b n := by
  pointwise [k0_pay8]
  rfl
theorem pay9_at : k0_pay9 T.b (ix2 r n) = sg ((T.line r).b n) := by
  pointwise [k0_pay9, k0_pay8]
  rfl
theorem pay10_at : k0_pay10 T.b (ix2 r n) = (T.line r).b n * sg ((T.line r).b n) := by
  pointwise [k0_pay10, k0_pay9, k0_pay8]
  rfl
theorem pay14_at : k0_pay14 T.ga (ix2 r n) = sg ((T.line r).ga n) := by
  pointwise [k0_pay14]
  rfl
theorem pay15_at : k0_pay15 T.gb (ix2 r n) = sg ((T.line r).gb n) := by
  pointwise [k0_pay15]
  rfl
theorem pay12_at : k0_pay12 T.ya T.wc (ix2 r n) = (T.line r).yA n := by
  pointwise [k0_pay12]
  rfl
theorem pay11_at : k0_pay11 T.b T.o (ix2 r n) = (T.line r).ob n := by
  unfold Line.ob
  rw [← pay10_at]
  unfold k0_pay11
  generalize k0_pay10 T.b = y
  pointwise []
  rfl
theorem pay13_at : k0_pay13 T.b T.o T.wa (ix2 r n) = (T.line r).yB n := by
  unfold Line.yB
  simp only [← pay11_at]
  unfold k0_pay13
  generalize k0_pay11 T.b T.o = y
  pointwise []
  rfl
theorem pay16_at : k0_pay16 T.b T.o T.ya T.wc T.wa T.ga T.gb (ix2 r n) = (T.line r).mg n := by
  unfold Line.mg
  rw [← pay14_at, ← pay15_at, ← pay12_at, ← pay13_at]
  unfold k0_pay16
  generalize k0_pay14 T.ga = u
  generalize k0_pay15 T.gb = v
  generalize k0_pay12 T.ya T.wc = y
  generalize k0_pay13 T.b T.o T.wa = w
  pointwise []
theorem z_at : T.z (ix2 r n) = (T.line r).z n := by
  unfold Line.z
  simp only [← pay16_at]
  unfold z k0_pay17
  generalize k0_pay16 T.b T.o T.ya T.wc T.wa T.ga T.gb = y
  pointwise []
  rfl
theorem x2_at : k0_pay18 T.z T.g T.x (ix2 r n) = (T.line r).x2 n := by
  unfold Line.x2
  rw [← z_at]
  generalize T.z = y
  pointwise [k0_pay18]
  rfl
theorem rs_at : T.rs (ix2 r 0) = rstd (T.line r).x2 := by
  unfold rstd meanSq
  simp only [← x2_at]
  unfold rs k0_pay19
  generalize k0_pay18 T.z T.g T.x = y
  pointwise []
  rfl
theorem xn_at : T.xn (ix2 r n) = (T.line r).x2 n * rstd (T.line r).x2 := by
  rw [← x2_at, ← rs_at]
  unfold xn k0_pay20 rs
  generalize k0_pay18 T.z T.g T.x = y
  generalize k0_pay19 T.z T.g T.x = w
  pointwise []
theorem err_at : k0_pay21 T.z T.g T.x T.fnw T.t (ix2 r n) = (T.line r).err n := by
  unfold Line.err
  rw [← xn_at]
  unfold k0_pay21 xn
  generalize k0_pay20 T.z T.g T.x = y
  pointwise []
  rfl
theorem dxn_at : T.dxn (ix2 r n) = (T.line r).dxn n := by
  unfold Line.dxn
  rw [← err_at]
  unfold dxn k0_pay25 k0_pay23
  generalize k0_pay21 T.z T.g T.x T.fnw T.t = y
  pointwise []
  rfl
theorem sm_at : T.sm (ix2 r 0) = ∑ j, (T.line r).dxn j * ((T.line r).x2 j * rstd (T.line r).x2) := by
  simp only [← dxn_at, ← xn_at]
  unfold sm k0_pay26 dxn xn
  generalize k0_pay25 T.z T.g T.x T.fnw T.t = y
  generalize k0_pay20 T.z T.g T.x = w
  pointwise []
theorem dx2_at : T.dx2 (ix2 r n) = (T.line r).dx2 n := by
  unfold Line.dx2
  rw [← sm_at, ← xn_at, ← dxn_at, ← rs_at]
  unfold dx2
  generalize T.rs = u
  generalize T.xn = v
  generalize T.dxn = w
  generalize T.sm = y
  pointwise [k0_pay27]
  rfl
theorem dxg_at : k0_pay30 (F := Ideal) T.g T.rs T.xn T.dxn T.sm (Scalar.ofBits .f32 0x44800000#32) (ix2 r n) = (T.line r).dx2 n * (T.line r).gate n := by
  rw [← dx2_at]
  unfold k0_pay30 dx2
  generalize k0_pay27 (F := Ideal) T.rs T.xn T.dxn T.sm (Scalar.ofBits .f32 0x44800000#32) = y
  pointwise []
  rfl
theorem dm_at : T.dm (ix2 r n) = (T.line r).dm n := by
  unfold Line.dm
  simp only [← dxg_at]
  unfold dm k0_pay31
  generalize k0_pay30 (F := Ideal) T.g T.rs T.xn T.dxn T.sm (Scalar.ofBits .f32 0x44800000#32) = y
  pointwise []
  rfl
theorem dya_at : T.dya (ix2 r n) = (T.line r).dya n := by
  unfold Line.dya
  simp only [← dm_at, ← pay14_at]
  unfold dya k0_pay37
  generalize T.dm = y
  generalize k0_pay14 T.ga = u
  pointwise [k0_pay33]
  rfl
theorem dyb_at : T.dyb (ix2 r n) = (T.line r).dyb n := by
  unfold Line.dyb
  simp only [← dm_at, ← pay15_at]
  unfold dyb k0_pay39
  generalize T.dm = y
  generalize k0_pay15 T.gb = u
  pointwise [k0_pay34]
  rfl
theorem dob_at : T.dob (ix2 r n) = (T.line r).dob n := by
  unfold Line.dob
  rw [← dyb_at, ← pay10_at]
  unfold dob
  generalize T.dyb = y
  generalize k0_pay10 T.b = u
  pointwise [k0_pay42, k0_pay41]
theorem prod_at : T.prod (ix2 r n) = (T.line r).prod n := by
  unfold Line.prod Line.dob
  rw [← dyb_at, ← pay10_at]
  unfold prod
  generalize T.dyb = y
  generalize k0_pay10 T.b = u
  pointwise [k0_pay44, k0_pay41]
  rfl
theorem dbg_at : T.dbg (ix2 r n) = (T.line r).dbg n := by
  unfold Line.dbg
  rw [← dyb_at, ← pay9_at, ← pay8_at]
  unfold dbg
  generalize T.dyb = y
  generalize k0_pay9 T.b = u
  generalize k0_pay8 T.b = v
  pointwise [k0_pay43]
  rfl
theorem dga_at : T.dga (ix2 r n) = (T.line r).dga n := by
  unfold Line.dga
  rw [← dm_at, ← pay12_at, ← pay14_at]
  unfold dga
  generalize T.dm = y
  generalize k0_pay12 T.ya T.wc = u
  generalize k0_pay14 T.ga = v
  pointwise [k0_pay35]
theorem dgb_at : T.dgb (ix2 r n) = (T.line r).dgb n := by
  unfold Line.dgb
  rw [← dm_at, ← pay13_at, ← pay15_at]
  unfold dgb
  generalize T.dm = y
  generalize k0_pay13 T.b T.o T.wa = u
  generalize k0_pay15 T.gb = v
  pointwise [k0_pay36]

/-- The sums over a head's columns, each as the slab of the output that it fills. -/
def slab {F : FTy → Type} [FloatOps F] (T : Tile F) : Fin 8 → Vec F S1x256x128 .f32
  | 0 => k0_pay45 (k0_pay10 T.b) T.o T.dyb
  | 1 => k0_pay47 (k0_pay46 (k0_pay10 T.b) T.o T.dyb)
  | 2 => k0_pay48 T.prod
  | 3 => k0_pay49 T.prod
  | 4 => k0_pay50 T.prod
  | 5 => k0_pay51 T.prod
  | 6 => k0_pay1 (k0_pay52 T.prod)
  | 7 => k0_pay2 T.prod

theorem slab_at (h : Fin 8) (l : Fin 128) : T.slab h (ix3 0 r l) = (T.line r).delta h := by
  unfold Line.delta
  simp only [← prod_at]
  match h with
  | 0 => unfold slab k0_pay45; change _ = ∑ e : Fin 128, k0_pay44 (k0_pay10 T.b) T.o T.dyb _; generalize k0_pay44 (k0_pay10 T.b) T.o T.dyb = y; pointwise []
  | 1 => unfold slab k0_pay46; change _ = ∑ e : Fin 128, k0_pay44 (k0_pay10 T.b) T.o T.dyb _; generalize k0_pay44 (k0_pay10 T.b) T.o T.dyb = y; pointwise [k0_pay47]
  | 2 => unfold slab; generalize T.prod = y; pointwise [k0_pay48]
  | 3 => unfold slab; generalize T.prod = y; pointwise [k0_pay49]
  | 4 => unfold slab; generalize T.prod = y; pointwise [k0_pay50]
  | 5 => unfold slab; generalize T.prod = y; pointwise [k0_pay51]
  | 6 => unfold slab; generalize T.prod = y; pointwise [k0_pay1, k0_pay52]
  | 7 => unfold slab; generalize T.prod = y; pointwise [k0_pay2]

end Tile

end Cert.Kernel5Ideal.Own

end
-- ==== Proof.MStep.lean ====
/- The merge and the loss: what a grid step leaves in its blocks of the outputs. -/
module

public import proofs.«01_k».proof.Proof.Gen.Kernel5Ideal.Frame
public import proofs.«01_k».proof.Proof.MPay
public import Idealize.ShloMosaic.Lib.Pipeline.ValueKit

@[expose] public section

set_option maxRecDepth 16384
set_option maxHeartbeats 4000000

noncomputable section

namespace Cert.Kernel5Ideal.Own

open Cert.Kernel5Ideal Cert.Kernel5Ideal.Gen Cert.Own
open Idealize.ShloMosaic Idealize.ShloMosaic.TcCoe Idealize.ShloMosaic.Tactic Idealize.SL.Sem

variable {F : FTy → Type} [FloatOps F] (m : (ℓ : Loc nD τ sig) → Buf (Elt F) ℓ) (c : Dev nD)

theorem zero2 : (fun a : Fin 2 => (![0, 0] : Fin 2 → Nat) a) = fun _ => 0 := by decide
theorem zero3 : (fun a : Fin 3 => (![0, 0, 0] : Fin 3 → Nat) a) = fun _ => 0 := by decide

/-- The third row of a small block. -/
def row2 (x : Vec F S8x1024 .f32) : Vec F S1x1024 .f32 := View.ld x (Rect.unit ![2, 0] S1x1024.size inb_S8x1024_S1x1024_2_0)

theorem row2_at (x : Vec Ideal S8x1024 .f32) (e : Fin 1024) : row2 x (ix2 0 e) = x (ix2 2 e) :=
  View.ld_unit_apply_of (Val := Elt Ideal) x _ _ _ _ _ fun a => by match a with
    | ⟨0, _⟩ => rfl
    | ⟨1, _⟩ => exact (Nat.zero_add _).symm

/-- What point t reads. -/
def tile (t : Fin cfg0.N) : Tile F where
  x := iblk m c 0 t
  t := iblk m c 1 t
  ya := iblk m c 2 t
  o := iblk m c 3 t
  b := iblk m c 4 t
  ga := iblk m c 5 t
  gb := iblk m c 6 t
  g := row2 (iblk m c 7 t)
  fnw := iblk m c 8 t
  wc := iblk m c 9 t
  wa := iblk m c 10 t
  wo := iblk m c 11 t

/-- The three kinds of points: the first, the last and those between. -/
theorem kinds (t : Fin cfg0.N) : (t.val % 16 = 0 ∧ ¬t.val % 16 = 15) ∨ (¬t.val % 16 = 0 ∧ ¬t.val % 16 = 15) ∨ (¬t.val % 16 = 0 ∧ t.val % 16 = 15) := by omega

theorem dya_step (t : Fin cfg0.N) : (outsAt0 m c t.val t.isLt).1 = (tile m c t).dya := by
  rcases kinds t with h | h | h
  case' inl => rw [outsAt0_A m c t h.1 h.2]; dsimp only; unfold out0_A_12; rw [View.read_writes_eq_canon _ _ _ (fun _ => cover0_A_12 ..)]; unfold kernelRun0_A; dsimp only; sl_unfold_words
  case' inr.inl => rw [outsAt0_B m c t h.1 h.2]; dsimp only; unfold out0_B_12; rw [View.read_writes_eq_canon _ _ _ (fun _ => cover0_B_12 ..)]; unfold kernelRun0_B; dsimp only; sl_unfold_words
  case' inr.inr => rw [outsAt0_C m c t h.1 h.2]; dsimp only; unfold out0_C_12; rw [View.read_writes_eq_canon _ _ _ (fun _ => cover0_C_12 ..)]; unfold kernelRun0_C; dsimp only; sl_unfold_words
  all_goals
    rw [View.canon_cons_unit_zero (S := S256x1024) zero2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
      View.ld_unit_zero (S := S256x1024) zero2, View.ld_unit_zero (S := S1x1024) zero2, View.ld_unit_zero (S := S8x128x1024) zero3]
    rfl

theorem dob_step (t : Fin cfg0.N) : (outsAt0 m c t.val t.isLt).2.1 = (tile m c t).dob := by
  rcases kinds t with h | h | h
  case' inl => rw [outsAt0_A m c t h.1 h.2]; dsimp only; unfold out0_A_13; rw [View.read_writes_eq_canon _ _ _ (fun _ => cover0_A_13 ..)]; unfold kernelRun0_A; dsimp only; sl_unfold_words
  case' inr.inl => rw [outsAt0_B m c t h.1 h.2]; dsimp only; unfold out0_B_13; rw [View.read_writes_eq_canon _ _ _ (fun _ => cover0_B_13 ..)]; unfold kernelRun0_B; dsimp only; sl_unfold_words
  case' inr.inr => rw [outsAt0_C m c t h.1 h.2]; dsimp only; unfold out0_C_13; rw [View.read_writes_eq_canon _ _ _ (fun _ => cover0_C_13 ..)]; unfold kernelRun0_C; dsimp only; sl_unfold_words
  all_goals
    rw [View.canon_cons_unit_zero (S := S256x1024) zero2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
      View.ld_unit_zero (S := S256x1024) zero2, View.ld_unit_zero (S := S1x1024) zero2, View.ld_unit_zero (S := S8x128x1024) zero3]
    rfl

theorem dx2_step (t : Fin cfg0.N) : (outsAt0 m c t.val t.isLt).2.2.2.2.1 = (tile m c t).dx2 := by
  rcases kinds t with h | h | h
  case' inl => rw [outsAt0_A m c t h.1 h.2]; dsimp only; unfold out0_A_16; rw [View.read_writes_eq_canon _ _ _ (fun _ => cover0_A_16 ..)]; unfold kernelRun0_A; dsimp only; sl_unfold_words
  case' inr.inl => rw [outsAt0_B m c t h.1 h.2]; dsimp only; unfold out0_B_16; rw [View.read_writes_eq_canon _ _ _ (fun _ => cover0_B_16 ..)]; unfold kernelRun0_B; dsimp only; sl_unfold_words
  case' inr.inr => rw [outsAt0_C m c t h.1 h.2]; dsimp only; unfold out0_C_16; rw [View.read_writes_eq_canon _ _ _ (fun _ => cover0_C_16 ..)]; unfold kernelRun0_C; dsimp only; sl_unfold_words
  all_goals
    rw [View.canon_cons_unit_zero (S := S256x1024) zero2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
      View.ld_unit_zero (S := S256x1024) zero2, View.ld_unit_zero (S := S1x1024) zero2, View.ld_unit_zero (S := S8x128x1024) zero3]
    rfl

/-- Storing a slab of the third output, or 1024 columns of the fourth, read back at an entry. -/
theorem stored_slab {κ : Kind} {sp : Space} (v : View sig κ sp S8x256x128 .f32) (f : v.ty.Contents (Elt F)) (k : Nat) (inb : ∀ a, (![k, 0, 0] : Fin 3 → Nat) a + (![1, 256, 128] : Fin 3 → Nat) a ≤ S8x256x128.size a)
    (w : Vec F S1x256x128 .f32) (L : List (View.Piece (Elt F) S8x256x128 .f32)) (h : Fin 8) (r : Fin 256) (l : Fin 128) :
    v.read (Elt F) (v.writes (Elt F) f (⟨Rect.unit (s := S8x256x128) ![k, 0, 0] ![1, 256, 128] inb, w⟩ :: L)) (ix3 h r l)
      = if h.val = k then w (ix3 0 r l) else v.read (Elt F) (v.writes (Elt F) f L) (ix3 h r l) := by
  by_cases hk : h.val = k
  · rw [if_pos hk]
    have he : (ix3 h r l : S8x256x128.Idx) = (Rect.unit (s := S8x256x128) ![k, 0, 0] ![1, 256, 128] inb).emb (ix3 (0 : Fin 1) r l) := by
      funext b; apply Fin.ext
      match b with
      | ⟨0, _⟩ => exact hk
      | ⟨1, _⟩ => show r.val = 0 + 1 * r.val; omega
      | ⟨2, _⟩ => show l.val = 0 + 1 * l.val; omega
    rw [he, View.read_writes_cons_emb]
  · rw [if_neg hk, View.writes_cons, View.read_slice_write_of_not_mem _ _ _ _ fun hm => hk ?_]
    obtain ⟨x, -, hx⟩ := Finset.mem_map.mp hm
    have h0 := congrArg Fin.val (congrFun hx (0 : Fin 3))
    have hx0 : (x (0 : Fin 3)).val < 1 := (x (0 : Fin 3)).isLt
    have h0' : k + 1 * (x (0 : Fin 3)).val = h.val := h0
    omega
theorem stored_cols {κ : Kind} {sp : Space} (v : View sig κ sp S256x3072 .bf16) (f : v.ty.Contents (Elt F)) (k : Nat) (inb : ∀ a, (![0, k] : Fin 2 → Nat) a + (![256, 1024] : Fin 2 → Nat) a ≤ S256x3072.size a)
    (w : Vec F S256x1024 .bf16) (L : List (View.Piece (Elt F) S256x3072 .bf16)) (r : Fin 256) (j : Fin 3072) :
    v.read (Elt F) (v.writes (Elt F) f (⟨Rect.unit (s := S256x3072) ![0, k] ![256, 1024] inb, w⟩ :: L)) (ix2 r j)
      = if h : k ≤ j.val ∧ j.val - k < 1024 then w (ix2 r ⟨j.val - k, h.2⟩) else v.read (Elt F) (v.writes (Elt F) f L) (ix2 r j) := by
  by_cases hk : k ≤ j.val ∧ j.val - k < 1024
  · rw [dif_pos hk]
    have he : (ix2 r j : S256x3072.Idx) = (Rect.unit (s := S256x3072) ![0, k] ![256, 1024] inb).emb (ix2 r (⟨j.val - k, hk.2⟩ : Fin 1024)) := by
      funext b; apply Fin.ext
      match b with
      | ⟨0, _⟩ => show r.val = 0 + 1 * r.val; omega
      | ⟨1, _⟩ => show j.val = k + 1 * (j.val - k); omega
    rw [he, View.read_writes_cons_emb]
  · rw [dif_neg hk, View.writes_cons, View.read_slice_write_of_not_mem _ _ _ _ fun hm => hk ?_]
    obtain ⟨x, -, hx⟩ := Finset.mem_map.mp hm
    have h1 := congrArg Fin.val (congrFun hx (1 : Fin 2))
    have hx1 : (x (1 : Fin 2)).val < 1024 := (x (1 : Fin 2)).isLt
    have h1' : k + 1 * (x (1 : Fin 2)).val = j.val := h1
    omega

theorem delta_step (t : Fin cfg0.N) (k : Fin 8) (r : Fin 256) (l : Fin 128) : (outsAt0 m c t.val t.isLt).2.2.1 (ix3 k r l) = (tile m c t).slab k (ix3 0 r l) := by
  rcases kinds t with h | h | h
  case' inl => rw [outsAt0_A m c t h.1 h.2]; dsimp only; unfold out0_A_14; unfold kernelRun0_A; dsimp only; sl_unfold_words
  case' inr.inl => rw [outsAt0_B m c t h.1 h.2]; dsimp only; unfold out0_B_14; unfold kernelRun0_B; dsimp only; sl_unfold_words
  case' inr.inr => rw [outsAt0_C m c t h.1 h.2]; dsimp only; unfold out0_C_14; unfold kernelRun0_C; dsimp only; sl_unfold_words
  all_goals
    rw [stored_slab, stored_slab, stored_slab, stored_slab, stored_slab, stored_slab, stored_slab, stored_slab]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
      View.ld_unit_zero (S := S256x1024) zero2, View.ld_unit_zero (S := S1x1024) zero2, View.ld_unit_zero (S := S8x128x1024) zero3]
    match k with
    | 0 => rfl
    | 1 => rfl
    | 2 => rfl
    | 3 => rfl
    | 4 => rfl
    | 5 => rfl
    | 6 => rfl
    | 7 => rfl

theorem dpg_step (t : Fin cfg0.N) (r : Fin 256) (j : Fin 3072) : (outsAt0 m c t.val t.isLt).2.2.2.1 (ix2 r j)
    = if h : j.val < 1024 then (tile m c t).dbg (ix2 r ⟨j.val, h⟩) else if h₁ : j.val - 1024 < 1024 then (tile m c t).dga (ix2 r ⟨j.val - 1024, h₁⟩)
      else (tile m c t).dgb (ix2 r ⟨j.val - 1024 - 1024, by omega⟩) := by
  rcases kinds t with h | h | h
  case' inl => rw [outsAt0_A m c t h.1 h.2]; dsimp only; unfold out0_A_15; unfold kernelRun0_A; dsimp only; sl_unfold_words
  case' inr.inl => rw [outsAt0_B m c t h.1 h.2]; dsimp only; unfold out0_B_15; unfold kernelRun0_B; dsimp only; sl_unfold_words
  case' inr.inr => rw [outsAt0_C m c t h.1 h.2]; dsimp only; unfold out0_C_15; unfold kernelRun0_C; dsimp only; sl_unfold_words
  all_goals
    rw [stored_cols, stored_cols, stored_cols]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
      View.ld_unit_zero (S := S256x1024) zero2, View.ld_unit_zero (S := S1x1024) zero2, View.ld_unit_zero (S := S8x128x1024) zero3]
    by_cases ha : j.val < 1024
    · rw [dif_pos ha, dif_pos (by omega)]; rfl
    · rw [dif_neg ha, dif_neg (by omega)]
      by_cases hb : j.val - 1024 < 1024
      · rw [dif_pos hb, dif_neg (by omega), dif_pos (by omega)]; rfl
      · rw [dif_neg hb, dif_pos (by omega)]; rfl

end Cert.Kernel5Ideal.Own

end
-- ==== Proof.MVal.lean ====
/- The merge and the loss: the arrays that the call leaves. -/
module

public import proofs.«01_k».proof.Proof.MStep
public import Idealize.ShloMosaic.Lib.Pointwise

@[expose] public section

set_option maxRecDepth 16384

noncomputable section

namespace Cert.Kernel5Ideal.Own

open Cert.Kernel5Ideal Cert.Kernel5Ideal.Gen Cert.Own
open Idealize.ShloMosaic Idealize.ShloMosaic.TcCoe Idealize.SL.Sem

variable (m : (ℓ : Loc nD τ sig) → Buf (Elt Ideal) ℓ) (c : Dev nD)

/-- The call's arguments, and a row of them. -/
def arg0 : FVec Ideal S4096x1024 .f32 := m ((c : Thread nD τ).loc main_arg0)
def arg1 : FVec Ideal S4096x1024 .f32 := m ((c : Thread nD τ).loc main_arg1)
def arg2 : FVec Ideal S4096x1024 .bf16 := m ((c : Thread nD τ).loc main_arg2)
def arg3 : FVec Ideal S4096x1024 .f32 := m ((c : Thread nD τ).loc main_arg3)
def arg4 : FVec Ideal S4096x7168 .bf16 := m ((c : Thread nD τ).loc main_arg4)
def arg5 : FVec Ideal S8x1024 .f32 := m ((c : Thread nD τ).loc main_arg5)
def arg6 : FVec Ideal S1x1024 .f32 := m ((c : Thread nD τ).loc main_arg6)
def arg7 : FVec Ideal S8x384x1024 .bf16 := m ((c : Thread nD τ).loc main_arg7)
def lineOf (i : Fin 4096) : Line := lineAt (arg0 m c) (arg1 m c) (arg2 m c) (arg3 m c) (arg4 m c) (arg5 m c) (arg6 m c) (arg7 m c) i

/-- The five arrays. -/
def dyaArr (y : S4096x1024.Idx) : EReal := (lineOf m c (y 0)).dya (y 1)
def dobArr (y : S4096x1024.Idx) : EReal := (lineOf m c (y 0)).dob (y 1)
def deltaArr (y : S8x4096x128.Idx) : EReal := (lineOf m c (y 1)).delta (y 0)
def dpgArr (y : S4096x3072.Idx) : EReal := (lineOf m c (y 0)).dpg (y 1)
def dx2Arr (y : S4096x1024.Idx) : EReal := (lineOf m c (y 0)).dx2 (y 1)

/-- Row r of block i, of sixteen blocks of 256. -/
def tileRow (i : Nat) (r : Fin 256) : Fin 4096 := ⟨256 * (i % 16) + r.val, by omega⟩

/-- Where a point's blocks lie. -/
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 4] := (by decide +kernel : ∀ t : Fin grid0.N, _)
theorem idx5 : ∀ t : Fin cfg0.N, win0_5.index t = ![t.val, 5] := (by decide +kernel : ∀ t : Fin grid0.N, _)
theorem idx6 : ∀ t : Fin cfg0.N, win0_6.index t = ![t.val, 6] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, 1, 0] := (by decide +kernel : ∀ t : Fin grid0.N, _)
theorem idx11 : ∀ t : Fin cfg0.N, win0_11.index t = ![0, 2, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![0, t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)

theorem b0_at (t : Fin cfg0.N) (h : t.val % 16 = t.val) (r : Fin 256) (n : Fin 1024) : iblk m c 0 t (ix2 r n) = arg0 m c (ix2 (tileRow t.val r) n) := by
  unfold iblk arg0
  blk_ext [idx0 t, tileRow, h]
theorem b1_at (t : Fin cfg0.N) (h : t.val % 16 = t.val) (r : Fin 256) (n : Fin 1024) : iblk m c 1 t (ix2 r n) = arg1 m c (ix2 (tileRow t.val r) n) := by
  unfold iblk arg1
  blk_ext [idx1 t, tileRow, h]
theorem b2_at (t : Fin cfg0.N) (h : t.val % 16 = t.val) (r : Fin 256) (n : Fin 1024) : iblk m c 2 t (ix2 r n) = arg2 m c (ix2 (tileRow t.val r) n) := by
  unfold iblk arg2
  blk_ext [idx2 t, tileRow, h]
theorem b3_at (t : Fin cfg0.N) (h : t.val % 16 = t.val) (r : Fin 256) (n : Fin 1024) : iblk m c 3 t (ix2 r n) = arg3 m c (ix2 (tileRow t.val r) n) := by
  unfold iblk arg3
  blk_ext [idx3 t, tileRow, h]
theorem b4_at (t : Fin cfg0.N) (h : t.val % 16 = t.val) (r : Fin 256) (n : Fin 1024) : iblk m c 4 t (ix2 r n) = arg4 m c (ix2 (tileRow t.val r) ⟨4096 + n.val, by omega⟩) := by
  unfold iblk arg4
  blk_ext [idx4 t, tileRow, h]
theorem b5_at (t : Fin cfg0.N) (h : t.val % 16 = t.val) (r : Fin 256) (n : Fin 1024) : iblk m c 5 t (ix2 r n) = arg4 m c (ix2 (tileRow t.val r) ⟨5120 + n.val, by omega⟩) := by
  unfold iblk arg4
  blk_ext [idx5 t, tileRow, h]
theorem b6_at (t : Fin cfg0.N) (h : t.val % 16 = t.val) (r : Fin 256) (n : Fin 1024) : iblk m c 6 t (ix2 r n) = arg4 m c (ix2 (tileRow t.val r) ⟨6144 + n.val, by omega⟩) := by
  unfold iblk arg4
  blk_ext [idx6 t, tileRow, h]
theorem b7_at (t : Fin cfg0.N) (n : Fin 1024) : row2 (iblk m c 7 t) (ix2 0 n) = arg5 m c (ix2 2 n) := by
  refine (row2_at _ n).trans ?_
  unfold iblk arg5
  blk_ext [idx7 t]
theorem b8_at (t : Fin cfg0.N) (n : Fin 1024) : iblk m c 8 t (ix2 0 n) = arg6 m c (ix2 0 n) := by
  unfold iblk arg6
  blk_ext [idx8 t]
theorem b9_at (t : Fin cfg0.N) (j : Fin 8) (k : Fin 128) (n : Fin 1024) : iblk m c 9 t (ix3 j k n) = arg7 m c (ix3 j ⟨k.val, by omega⟩ n) := by
  unfold iblk arg7
  blk_ext [idx9 t]
theorem b10_at (t : Fin cfg0.N) (j : Fin 8) (k : Fin 128) (n : Fin 1024) : iblk m c 10 t (ix3 j k n) = arg7 m c (ix3 j ⟨128 + k.val, by omega⟩ n) := by
  unfold iblk arg7
  blk_ext [idx10 t]
theorem b11_at (t : Fin cfg0.N) (j : Fin 8) (k : Fin 128) (n : Fin 1024) : iblk m c 11 t (ix3 j k n) = arg7 m c (ix3 j ⟨256 + k.val, by omega⟩ n) := by
  unfold iblk arg7
  blk_ext [idx11 t]

/-- A row of what a point reads is a row of the arguments. -/
theorem line_at (t : Fin cfg0.N) (r : Fin 256) : (tile m c t).line r = lineOf m c (tileRow t.val r) := by
  have hN : t.val < 16 := lt_of_lt_of_eq t.isLt N_0
  have h : t.val % 16 = t.val := Nat.mod_eq_of_lt hN
  unfold Tile.line tile lineOf lineAt
  rw [Line.mk.injEq]
  exact ⟨funext fun n => b0_at m c t h r n, funext fun n => b1_at m c t h r n, funext fun n => b2_at m c t h r n, funext fun n => b3_at m c t h r n,
    funext fun n => b4_at m c t h r n, funext fun n => b5_at m c t h r n, funext fun n => b6_at m c t h r n, funext fun n => b7_at m c t n, funext fun n => b8_at m c t n,
    funext fun k => funext fun n => b9_at m c t _ _ n, funext fun k => funext fun n => b10_at m c t _ _ n, funext fun k => funext fun n => b11_at m c t _ _ n⟩

theorem dya_value : (dats m 0 c).arrAt 12 cfg0.N = dyaArr m c := by
  refine (dats m 0 c).arrAt_eq_of_covers 12 _ (by decide +kernel) fun t _ y => ?_
  have hN : t.val < 16 := lt_of_lt_of_eq t.isLt N_0
  blk_simp
  rw [after0_12, dya_step]
  obtain ⟨r, n, rfl⟩ : ∃ (r : Fin 256) (n : Fin 1024), y = ix2 r n := ⟨y 0, y 1, eq_ix2 y⟩
  refine ((tile m c t).dya_at r n).trans ?_
  have h0 : (win0_12.blk t).view.emb (ix2 r n) 0 = tileRow t.val r := Fin.ext (by simp only [tileRow]; blk_simp [idx12 t] <;> try omega)
  have h1 : (win0_12.blk t).view.emb (ix2 r n) 1 = n := Fin.ext (by blk_simp [idx12 t] <;> try omega)
  unfold dyaArr
  rw [h0, h1, line_at]

theorem dob_value : (dats m 0 c).arrAt 13 cfg0.N = dobArr m c := by
  refine (dats m 0 c).arrAt_eq_of_covers 13 _ (by decide +kernel) fun t _ y => ?_
  have hN : t.val < 16 := lt_of_lt_of_eq t.isLt N_0
  blk_simp
  rw [after0_13, dob_step]
  obtain ⟨r, n, rfl⟩ : ∃ (r : Fin 256) (n : Fin 1024), y = ix2 r n := ⟨y 0, y 1, eq_ix2 y⟩
  refine ((tile m c t).dob_at r n).trans ?_
  have h0 : (win0_13.blk t).view.emb (ix2 r n) 0 = tileRow t.val r := Fin.ext (by simp only [tileRow]; blk_simp [idx13 t] <;> try omega)
  have h1 : (win0_13.blk t).view.emb (ix2 r n) 1 = n := Fin.ext (by blk_simp [idx13 t] <;> try omega)
  unfold dobArr
  rw [h0, h1, line_at]

theorem delta_value : (dats m 0 c).arrAt 14 cfg0.N = deltaArr m c := by
  refine (dats m 0 c).arrAt_eq_of_covers 14 _ (by decide +kernel) fun t _ y => ?_
  have hN : t.val < 16 := lt_of_lt_of_eq t.isLt N_0
  blk_simp
  rw [after0_14]
  obtain ⟨h, r, l, rfl⟩ : ∃ (h : Fin 8) (r : Fin 256) (l : Fin 128), y = ix3 h r l := ⟨y 0, y 1, y 2, eq_ix3 y⟩
  refine (delta_step m c t h r l).trans (((tile m c t).slab_at r h l).trans ?_)
  have h0 : (win0_14.blk t).view.emb (ix3 h r l) 0 = h := Fin.ext (by blk_simp [idx14 t] <;> try omega)
  have h1 : (win0_14.blk t).view.emb (ix3 h r l) 1 = tileRow t.val r := Fin.ext (by simp only [tileRow]; blk_simp [idx14 t] <;> try omega)
  unfold deltaArr
  rw [h0, h1, line_at]

theorem dpg_value : (dats m 0 c).arrAt 15 cfg0.N = dpgArr m c := by
  refine (dats m 0 c).arrAt_eq_of_covers 15 _ (by decide +kernel) fun t _ y => ?_
  have hN : t.val < 16 := lt_of_lt_of_eq t.isLt N_0
  blk_simp
  rw [after0_15]
  obtain ⟨r, j, rfl⟩ : ∃ (r : Fin 256) (j : Fin 3072), y = ix2 r j := ⟨y 0, y 1, eq_ix2 y⟩
  refine (dpg_step m c t r j).trans ?_
  simp only [Tile.dbg_at, Tile.dga_at, Tile.dgb_at]
  have h0 : (win0_15.blk t).view.emb (ix2 r j) 0 = tileRow t.val r := Fin.ext (by simp only [tileRow]; blk_simp [idx15 t] <;> try omega)
  have h1 : (win0_15.blk t).view.emb (ix2 r j) 1 = j := Fin.ext (by blk_simp [idx15 t] <;> try omega)
  unfold dpgArr Line.dpg
  rw [h0, h1, line_at]

theorem dx2_value : (dats m 0 c).arrAt 16 cfg0.N = dx2Arr m c := by
  refine (dats m 0 c).arrAt_eq_of_covers 16 _ (by decide +kernel) fun t _ y => ?_
  have hN : t.val < 16 := lt_of_lt_of_eq t.isLt N_0
  blk_simp
  rw [after0_16, dx2_step]
  obtain ⟨r, n, rfl⟩ : ∃ (r : Fin 256) (n : Fin 1024), y = ix2 r n := ⟨y 0, y 1, eq_ix2 y⟩
  refine ((tile m c t).dx2_at r n).trans ?_
  have h0 : (win0_16.blk t).view.emb (ix2 r n) 0 = tileRow t.val r := Fin.ext (by simp only [tileRow]; blk_simp [idx16 t] <;> try omega)
  have h1 : (win0_16.blk t).view.emb (ix2 r n) 1 = n := Fin.ext (by blk_simp [idx16 t] <;> try omega)
  unfold dx2Arr
  rw [h0, h1, line_at]

end Cert.Kernel5Ideal.Own

end
-- ==== Proof.MRows.lean ====
/- The merge and the loss: storing and loading rows of the small array. -/
module

public import proofs.«01_k».proof.Proof.MStep

@[expose] public section

set_option maxRecDepth 16384
set_option maxHeartbeats 4000000

noncomputable section

namespace Cert.Kernel5Ideal.Own

open Cert.Kernel5Ideal Cert.Kernel5Ideal.Gen Cert.Own
open Idealize.ShloMosaic Idealize.ShloMosaic.TcCoe Idealize.ShloMosaic.Tactic Idealize.SL.Sem

variable {F : FTy → Type} [FloatOps F] (m : (ℓ : Loc nD τ sig) → Buf (Elt F) ℓ) (c : Dev nD)

/-- The first two rows of a small block. -/
def row0 (x : Vec F S8x1024 .f32) : Vec F S1x1024 .f32 := View.ld x (Rect.unit ![0, 0] S1x1024.size inb_S8x1024_S1x1024_0_0)
def row1 (x : Vec F S8x1024 .f32) : Vec F S1x1024 .f32 := View.ld x (Rect.unit ![1, 0] S1x1024.size inb_S8x1024_S1x1024_1_0)

theorem row0_at (x : Vec Ideal S8x1024 .f32) (e : Fin 1024) : row0 x (ix2 0 e) = x (ix2 0 e) :=
  View.ld_unit_apply_of (Val := Elt Ideal) x _ _ _ _ _ fun a => by match a with
    | ⟨0, _⟩ => rfl
    | ⟨1, _⟩ => exact (Nat.zero_add _).symm
theorem row1_at (x : Vec Ideal S8x1024 .f32) (e : Fin 1024) : row1 x (ix2 0 e) = x (ix2 1 e) :=
  View.ld_unit_apply_of (Val := Elt Ideal) x _ _ _ _ _ fun a => by match a with
    | ⟨0, _⟩ => rfl
    | ⟨1, _⟩ => exact (Nat.zero_add _).symm

/-- Storing a row of the small array, read back at an entry. -/
theorem stored_row {κ : Kind} {sp : Space} (v : View sig κ sp S8x1024 .f32) (f : v.ty.Contents (Elt F)) (k : Nat) (inb : ∀ a, (![k, 0] : Fin 2 → Nat) a + (![1, 1024] : Fin 2 → Nat) a ≤ S8x1024.size a)
    (w : Vec F S1x1024 .f32) (L : List (View.Piece (Elt F) S8x1024 .f32)) (a : Fin 8) (e : Fin 1024) :
    v.read (Elt F) (v.writes (Elt F) f (⟨Rect.unit (s := S8x1024) ![k, 0] ![1, 1024] inb, w⟩ :: L)) (ix2 a e)
      = if a.val = k then w (ix2 0 e) else v.read (Elt F) (v.writes (Elt F) f L) (ix2 a e) := by
  by_cases h : a.val = k
  · rw [if_pos h]
    have he : (ix2 a e : S8x1024.Idx) = (Rect.unit (s := S8x1024) ![k, 0] ![1, 1024] inb).emb (ix2 (0 : Fin 1) e) := by
      funext b; apply Fin.ext
      match b with
      | ⟨0, _⟩ => exact h
      | ⟨1, _⟩ => show e.val = 0 + 1 * e.val; omega
    rw [he, View.read_writes_cons_emb]
  · rw [if_neg h, View.writes_cons, View.read_slice_write_of_not_mem _ _ _ _ fun hm => h ?_]
    obtain ⟨x, -, hx⟩ := Finset.mem_map.mp hm
    have h0 := congrArg Fin.val (congrFun hx (0 : Fin 2))
    have hx0 : (x (0 : Fin 2)).val < 1 := (x (0 : Fin 2)).isLt
    have h0' : k + 1 * (x (0 : Fin 2)).val = a.val := h0
    omega

/-- A load of a row, after a store of the whole array and stores of other rows. -/
theorem row_at (x : Vec F S8x1024 .f32) (k : Nat) (hk : k < 8) (inb : ∀ a, (![k, 0] : Fin 2 → Nat) a + (![1, 1024] : Fin 2 → Nat) a ≤ S8x1024.size a) (e : Fin 1024) :
    View.ld x (Rect.unit (s := S8x1024) ![k, 0] ![1, 1024] inb) (ix2 0 e) = x (ix2 ⟨k, hk⟩ e) :=
  View.ld_unit_apply_of (Val := Elt F) x _ _ _ _ _ fun a => by match a with
    | ⟨0, _⟩ => rfl
    | ⟨1, _⟩ => exact (Nat.zero_add _).symm

theorem row_stored {κ : Kind} {sp : Space} (v : View sig κ sp S8x1024 .f32) (f : v.ty.Contents (Elt F)) (k k' : Nat) (hk : k < 8) (h : k ≠ k')
    (inb : ∀ a, (![k, 0] : Fin 2 → Nat) a + (![1, 1024] : Fin 2 → Nat) a ≤ S8x1024.size a) (inb' : ∀ a, (![k', 0] : Fin 2 → Nat) a + (![1, 1024] : Fin 2 → Nat) a ≤ S8x1024.size a)
    (w : Vec F S1x1024 .f32) (L : List (View.Piece (Elt F) S8x1024 .f32)) :
    View.ld (v.read (Elt F) (v.writes (Elt F) f (⟨Rect.unit (s := S8x1024) ![k', 0] ![1, 1024] inb', w⟩ :: L))) (Rect.unit (s := S8x1024) ![k, 0] ![1, 1024] inb)
      = View.ld (v.read (Elt F) (v.writes (Elt F) f L)) (Rect.unit (s := S8x1024) ![k, 0] ![1, 1024] inb) := by
  funext y
  obtain ⟨z, e, rfl⟩ : ∃ (z : Fin 1) (e : Fin 1024), y = ix2 z e := ⟨y 0, y 1, eq_ix2 y⟩
  obtain rfl : z = 0 := Subsingleton.elim _ _
  refine (row_at _ k hk inb e).trans (Eq.trans ?_ (row_at _ k hk inb e).symm)
  rw [stored_row, if_neg h]

theorem read_whole {κ : Kind} {sp : Space} (v : View sig κ sp S8x1024 .f32) (f : v.ty.Contents (Elt F)) (inb : ∀ a, (![0, 0] : Fin 2 → Nat) a + (![8, 1024] : Fin 2 → Nat) a ≤ S8x1024.size a)
    (x : Vec F S8x1024 .f32) : v.read (Elt F) (v.writes (Elt F) f [⟨Rect.unit (s := S8x1024) ![0, 0] ![8, 1024] inb, x⟩]) = x := by
  funext y
  obtain ⟨a, e, rfl⟩ : ∃ (a : Fin 8) (e : Fin 1024), y = ix2 a e := ⟨y 0, y 1, eq_ix2 y⟩
  have he : (ix2 a e : S8x1024.Idx) = (Rect.unit (s := S8x1024) ![0, 0] ![8, 1024] inb).emb (ix2 a e) := by
    funext b; apply Fin.ext
    match b with
    | ⟨0, _⟩ => show a.val = 0 + 1 * a.val; omega
    | ⟨1, _⟩ => show e.val = 0 + 1 * e.val; omega
  exact (congrArg _ he).trans (View.read_writes_cons_emb ..)

theorem cov_row {κ : Kind} {sp : Space} (v : View sig κ sp S8x1024 .f32) (L : List (View.Piece (Elt F) S8x1024 .f32)) (r : Rect S8x1024) :
    v.readCov L r.toLoadRect = View.ld (v.read (Elt F) (v.writes (Elt F) v.junk L)) r := rfl

end Cert.Kernel5Ideal.Own

end
-- ==== Proof.MAcc.lean ====
/- The merge and the loss: what a grid step leaves in the small array. -/
module

public import proofs.«01_k».proof.Proof.MRows

@[expose] public section

set_option maxRecDepth 16384
set_option maxHeartbeats 4000000

noncomputable section

namespace Cert.Kernel5Ideal.Own

open Cert.Kernel5Ideal Cert.Kernel5Ideal.Gen Cert.Own
open Idealize.ShloMosaic Idealize.ShloMosaic.TcCoe Idealize.ShloMosaic.Tactic Idealize.SL.Sem

variable {F : FTy → Type} [FloatOps F] (m : (ℓ : Loc nD τ sig) → Buf (Elt F) ℓ) (c : Dev nD)

/-- The small array after a step, from the small array before it. -/
def smallAt (T : Tile F) (acc : Vec F S8x1024 .f32) (a : Fin 8) (e : Fin 1024) : F .f32 :=
  if a.val = 2 then k0_pay29 (k0_pay22 T.z T.g T.x T.fnw T.t) (row2 acc) (ix2 0 e)
  else if a.val = 1 then k0_pay28 T.z T.rs T.xn T.dxn T.sm (Scalar.ofBits .f32 0x44800000#32) (row1 acc) (ix2 0 e)
  else if a.val = 0 then k0_pay24 T.z T.g T.x T.fnw T.t (row0 acc) (ix2 0 e)
  else acc (ix2 a e)

theorem small_next (t : Fin cfg0.N) (h : ¬t.val % 16 = 0) (a : Fin 8) (e : Fin 1024) : (outsAt0 m c t.val t.isLt).2.2.2.2.2.1 (ix2 a e)
    = smallAt (tile m c t) (outsAt0 m c (t.val - 1) (Nat.lt_of_le_of_lt (Nat.sub_le _ _) t.isLt)).2.2.2.2.2.1 a e := by
  by_cases h1 : t.val % 16 = 15
  case' pos => rw [outsAt0_C m c t h h1]; dsimp only; unfold out0_C_17; unfold kernelRun0_C; dsimp only; sl_unfold_words
  case' neg => rw [outsAt0_B m c t h h1]; dsimp only; unfold out0_B_17; unfold kernelRun0_B; dsimp only; sl_unfold_words
  all_goals
    rw [stored_row, stored_row, stored_row, View.writes_nil, (hs0_17 t).read_unread]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_17 t).read_unread,
      View.ld_unit_zero (S := S256x1024) zero2, View.ld_unit_zero (S := S1x1024) zero2, View.ld_unit_zero (S := S8x128x1024) zero3]
    rfl

theorem small_first (t : Fin cfg0.N) (h : t.val % 16 = 0) (a : Fin 8) (e : Fin 1024) : (outsAt0 m c t.val t.isLt).2.2.2.2.2.1 (ix2 a e)
    = smallAt (tile m c t) k0_pay7 a e := by
  rw [outsAt0_A m c t h (by omega)]; dsimp only; unfold out0_A_17; unfold kernelRun0_A; dsimp only; sl_unfold_words
  rw [stored_row, stored_row, stored_row]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
      View.ld_unit_zero (S := S256x1024) zero2, View.ld_unit_zero (S := S1x1024) zero2, View.ld_unit_zero (S := S8x128x1024) zero3, cov_row,
      row_stored _ _ 1 0 (by omega) (by omega), row_stored _ _ 2 1 (by omega) (by omega), row_stored _ _ 2 0 (by omega) (by omega), read_whole]
  rfl

end Cert.Kernel5Ideal.Own

end
-- ==== Proof.MRef.lean ====
/- The reference's merge, loss and gradients, read at an entry. -/
module

public import proofs.«01_k».proof.Proof.Gen.Reference5Ideal.Read
public import proofs.«01_k».proof.Proof.MMath

@[expose] public section

set_option maxRecDepth 16384

noncomputable section

namespace Cert.Reference5Ideal.Own

open Cert.Reference5Ideal Cert.Reference5Ideal.Gen Cert.Reference5Ideal.Read Cert.Own
open Idealize.ShloMosaic Idealize.ShloMosaic.TcCoe Idealize.SL.Sem

variable (a0 a1 : FVec Ideal S4096x1024 .f32) (a2 : FVec Ideal S4096x1024 .bf16) (a3 : FVec Ideal S4096x1024 .f32)
  (a4 : FVec Ideal S4096x7168 .bf16) (a5 : FVec Ideal S8x1024 .f32) (a6 : FVec Ideal S1x1024 .f32) (a7 : FVec Ideal S8x384x1024 .bf16)

theorem v8_at (k n : Fin 1024) (i : Fin 4096) : val_main_v8 (F := Ideal) a7 (ix2 k n) = (lineAt a0 a1 a2 a3 a4 a5 a6 a7 i).wc k n := by
  pointwise [val_main_v8, val_main_v7, val_main_v6]
  rfl
theorem v11_at (k n : Fin 1024) (i : Fin 4096) : val_main_v11 (F := Ideal) a7 (ix2 k n) = (lineAt a0 a1 a2 a3 a4 a5 a6 a7 i).wa k n := by
  pointwise [val_main_v11, val_main_v10, val_main_v9]
  rfl
theorem v14_at (k n : Fin 1024) (i : Fin 4096) : val_main_v14 (F := Ideal) a7 (ix2 k n) = (lineAt a0 a1 a2 a3 a4 a5 a6 a7 i).wo k n := by
  pointwise [val_main_v14, val_main_v13, val_main_v12]
  rfl
theorem v1_at (i : Fin 4096) (k : Fin 1024) : val_main_v1 (F := Ideal) a4 (ix2 i k) = (lineAt a0 a1 a2 a3 a4 a5 a6 a7 i).b k := by
  pointwise [val_main_v1, val_main_v0]
  rfl
theorem v18_2_at (i : Fin 4096) (k : Fin 1024) : val_main_v18_2 (F := Ideal) a4 (ix2 i k) = sg ((lineAt a0 a1 a2 a3 a4 a5 a6 a7 i).b k) := by
  pointwise [val_main_v18_2, val_main_call0_v4, val_main_call0_cst_0, val_main_call0_v3, val_main_call0_v2, val_main_call0_cst, val_main_call0_v1, val_main_call0_v0, val_main_v1, val_main_v0]
  rfl
theorem v26_at (i : Fin 4096) (k : Fin 1024) : val_main_v26 (F := Ideal) a4 (ix2 i k) = sg ((lineAt a0 a1 a2 a3 a4 a5 a6 a7 i).ga k) := by
  pointwise [val_main_v26, val_main_v25, val_main_cst_0, val_main_v24, val_main_v23, val_main_cst, val_main_v22, val_main_v21, val_main_v3, val_main_v2]
  rfl
theorem v36_at (i : Fin 4096) (k : Fin 1024) : val_main_v36 (F := Ideal) a4 (ix2 i k) = sg ((lineAt a0 a1 a2 a3 a4 a5 a6 a7 i).gb k) := by
  pointwise [val_main_v36, val_main_v35, val_main_cst_3, val_main_v34, val_main_v33, val_main_cst_2, val_main_v32, val_main_v31, val_main_v5, val_main_v4]
  rfl
theorem v18_1_at (i : Fin 4096) (k : Fin 1024) : val_main_v18_1 (F := Ideal) a4 (ix2 i k) = sg ((lineAt a0 a1 a2 a3 a4 a5 a6 a7 i).b k) * (1 - sg ((lineAt a0 a1 a2 a3 a4 a5 a6 a7 i).b k)) := by
  rw [← v18_2_at]
  unfold val_main_v18_1 val_main_call0_v7
  generalize val_main_v18_2 (F := Ideal) a4 = y
  pointwise [val_main_call0_v6, val_main_call0_cst_1]
theorem v29_at (i : Fin 4096) (k : Fin 1024) : val_main_v29 (F := Ideal) a4 (ix2 i k) = sg ((lineAt a0 a1 a2 a3 a4 a5 a6 a7 i).ga k) * (1 - sg ((lineAt a0 a1 a2 a3 a4 a5 a6 a7 i).ga k)) := by
  rw [← v26_at]
  unfold val_main_v29 val_main_v28
  generalize val_main_v26 (F := Ideal) a4 = y
  pointwise [val_main_v27, val_main_cst_1]
theorem v39_at (i : Fin 4096) (k : Fin 1024) : val_main_v39 (F := Ideal) a4 (ix2 i k) = sg ((lineAt a0 a1 a2 a3 a4 a5 a6 a7 i).gb k) * (1 - sg ((lineAt a0 a1 a2 a3 a4 a5 a6 a7 i).gb k)) := by
  rw [← v36_at]
  unfold val_main_v39 val_main_v38
  generalize val_main_v36 (F := Ideal) a4 = y
  pointwise [val_main_v37, val_main_cst_4]

theorem v17_at (i : Fin 4096) (n : Fin 1024) : val_main_v17 (F := Ideal) a2 a7 (ix2 i n) = (lineAt a0 a1 a2 a3 a4 a5 a6 a7 i).yA n := by
  unfold Line.yA
  simp only [← v8_at]
  unfold val_main_v17
  generalize val_main_v8 (F := Ideal) a7 = w
  pointwise [val_main_v15]
  rfl
theorem v18_0_at (i : Fin 4096) (k : Fin 1024) : val_main_v18_0 (F := Ideal) a4 (ix2 i k) = (lineAt a0 a1 a2 a3 a4 a5 a6 a7 i).b k * sg ((lineAt a0 a1 a2 a3 a4 a5 a6 a7 i).b k) := by
  rw [← v18_2_at, ← v1_at]
  unfold val_main_v18_0
  generalize val_main_v18_2 (F := Ideal) a4 = y
  generalize val_main_v1 (F := Ideal) a4 = w
  pointwise []
theorem v20_at (i : Fin 4096) (n : Fin 1024) : val_main_v20 (F := Ideal) a3 a4 a7 (ix2 i n) = (lineAt a0 a1 a2 a3 a4 a5 a6 a7 i).yB n := by
  unfold Line.yB Line.ob
  simp only [← v18_0_at, ← v11_at]
  unfold val_main_v20 val_main_v19
  generalize val_main_v18_0 (F := Ideal) a4 = y
  generalize val_main_v11 (F := Ideal) a7 = w
  pointwise []
  rfl
theorem v41_at (i : Fin 4096) (k : Fin 1024) : val_main_v41 (F := Ideal) a2 a3 a4 a7 (ix2 i k) = (lineAt a0 a1 a2 a3 a4 a5 a6 a7 i).mg k := by
  unfold Line.mg
  rw [← v26_at, ← v36_at, ← v17_at, ← v20_at]
  unfold val_main_v41 val_main_v30 val_main_v40
  generalize val_main_v26 (F := Ideal) a4 = y
  generalize val_main_v36 (F := Ideal) a4 = w
  generalize val_main_v17 (F := Ideal) a2 a7 = u
  generalize val_main_v20 (F := Ideal) a3 a4 a7 = v
  pointwise []
theorem v45_at (i : Fin 4096) (n : Fin 1024) : val_main_v45 (F := Ideal) a0 a2 a3 a4 a5 a7 (ix2 i n) = (lineAt a0 a1 a2 a3 a4 a5 a6 a7 i).x2 n := by
  unfold Line.x2 Line.z
  simp only [← v41_at, ← v14_at]
  unfold val_main_v45 val_main_v44 val_main_v42
  generalize val_main_v41 (F := Ideal) a2 a3 a4 a7 = y
  generalize val_main_v14 (F := Ideal) a7 = w
  pointwise [val_main_v43, val_main_v16]
  rfl
theorem v52_at (i : Fin 4096) : val_main_v52 (F := Ideal) a0 a2 a3 a4 a5 a7 (ix2 i 0) = meanSq (lineAt a0 a1 a2 a3 a4 a5 a6 a7 i).x2 := by
  unfold meanSq
  simp only [← v45_at]
  unfold val_main_v52 val_main_v50 val_main_v48 val_main_v47 val_main_v46
  generalize val_main_v45 (F := Ideal) a0 a2 a3 a4 a5 a7 = y
  pointwise [val_main_cst_5, val_main_v49, val_main_cst_6, val_main_v51, val_main_cst_7]
  rfl
theorem v53_at (i : Fin 4096) : val_main_v53 (F := Ideal) a0 a2 a3 a4 a5 a7 (ix2 i 0) = rstd (lineAt a0 a1 a2 a3 a4 a5 a6 a7 i).x2 := by
  unfold rstd
  rw [← v52_at]
  unfold val_main_v53
  generalize val_main_v52 (F := Ideal) a0 a2 a3 a4 a5 a7 = y
  pointwise []
theorem v56_at (i : Fin 4096) : val_main_v56 (F := Ideal) a0 a2 a3 a4 a5 a7 (ix2 i 0) = mhalf * Ideal.div (rstd (lineAt a0 a1 a2 a3 a4 a5 a6 a7 i).x2) (meanSq (lineAt a0 a1 a2 a3 a4 a5 a6 a7 i).x2) := by
  rw [← v52_at, ← v53_at]
  unfold val_main_v56 val_main_v54
  generalize val_main_v52 (F := Ideal) a0 a2 a3 a4 a5 a7 = y
  generalize val_main_v53 (F := Ideal) a0 a2 a3 a4 a5 a7 = w
  pointwise [val_main_v55, val_main_cst_8]
  rfl
theorem v61_at (i : Fin 4096) (n : Fin 1024) : val_main_v61 (F := Ideal) a0 a1 a2 a3 a4 a5 a6 a7 (ix2 i n) = (lineAt a0 a1 a2 a3 a4 a5 a6 a7 i).err n := by
  unfold Line.err
  rw [← v45_at, ← v53_at]
  unfold val_main_v61 val_main_v60 val_main_v58 val_main_v57
  generalize val_main_v45 (F := Ideal) a0 a2 a3 a4 a5 a7 = y
  generalize val_main_v53 (F := Ideal) a0 a2 a3 a4 a5 a7 = w
  pointwise [val_main_v59]
  rfl
theorem v77_at (i : Fin 4096) (n : Fin 1024) : val_main_v77 (F := Ideal) a0 a1 a2 a3 a4 a5 a6 a7 (ix2 i n) = (lineAt a0 a1 a2 a3 a4 a5 a6 a7 i).dxn n := by
  unfold Line.dxn
  rw [← half_twice, ← v61_at]
  unfold val_main_v77 val_main_v75 val_main_v64
  generalize val_main_v61 (F := Ideal) a0 a1 a2 a3 a4 a5 a6 a7 = y
  pointwise [val_main_v76, val_main_v74, val_main_v73, val_main_v71, val_main_v70, val_main_cst_14, val_main_cst_15, val_main_v72, val_main_cst_16, val_main_v63, val_main_cst_9]
  rfl
theorem v87_at (i : Fin 4096) (n : Fin 1024) : val_main_v87 (F := Ideal) a0 a1 a2 a3 a4 a5 a6 a7 (ix2 i n)
    = Ideal.div ((∑ j, (lineAt a0 a1 a2 a3 a4 a5 a6 a7 i).x2 j * (lineAt a0 a1 a2 a3 a4 a5 a6 a7 i).dxn j) * (mhalf * Ideal.div (rstd (lineAt a0 a1 a2 a3 a4 a5 a6 a7 i).x2) (meanSq (lineAt a0 a1 a2 a3 a4 a5 a6 a7 i).x2))) wide := by
  rw [← v56_at]
  simp only [← v45_at, ← v77_at]
  unfold val_main_v87 val_main_v86 val_main_v85 val_main_v83 val_main_v80 val_main_v79 val_main_v78
  generalize val_main_v77 (F := Ideal) a0 a1 a2 a3 a4 a5 a6 a7 = y
  generalize val_main_v45 (F := Ideal) a0 a2 a3 a4 a5 a7 = x
  generalize val_main_v56 (F := Ideal) a0 a2 a3 a4 a5 a7 = r
  pointwise [val_main_cst_17, val_main_v84, val_main_cst_18, val_main_cst_19]
  exact Fin.sum_univ_one _
theorem v91_at (i : Fin 4096) (n : Fin 1024) : val_main_v91 (F := Ideal) a0 a1 a2 a3 a4 a5 a6 a7 (ix2 i n) = (lineAt a0 a1 a2 a3 a4 a5 a6 a7 i).dx2 n := by
  unfold Line.dx2
  rw [← norm_grad, ← v87_at (n := n), ← v45_at, ← v53_at, ← v77_at]
  unfold val_main_v91 val_main_v90 val_main_v89 val_main_v88 val_main_v82 val_main_v81
  generalize val_main_v87 (F := Ideal) a0 a1 a2 a3 a4 a5 a6 a7 = g
  generalize val_main_v45 (F := Ideal) a0 a2 a3 a4 a5 a7 = x
  generalize val_main_v53 (F := Ideal) a0 a2 a3 a4 a5 a7 = r
  generalize val_main_v77 (F := Ideal) a0 a1 a2 a3 a4 a5 a6 a7 = y
  pointwise []
theorem v94_at (i : Fin 4096) (k : Fin 1024) : val_main_v94 (F := Ideal) a0 a1 a2 a3 a4 a5 a6 a7 (ix2 i k) = (lineAt a0 a1 a2 a3 a4 a5 a6 a7 i).dm k := by
  unfold Line.dm
  simp only [mul_comm ((lineAt a0 a1 a2 a3 a4 a5 a6 a7 i).dx2 _)]
  simp only [← v91_at, ← v14_at]
  unfold val_main_v94 val_main_v93
  generalize val_main_v91 (F := Ideal) a0 a1 a2 a3 a4 a5 a6 a7 = y
  generalize val_main_v14 (F := Ideal) a7 = w
  pointwise [val_main_v92, val_main_v16]
  rfl
theorem v97_at (i : Fin 4096) (k : Fin 1024) : val_main_v97 (F := Ideal) a0 a1 a2 a3 a4 a5 a6 a7 (ix2 i k) = (lineAt a0 a1 a2 a3 a4 a5 a6 a7 i).dgb k := by
  unfold Line.dgb
  rw [← v94_at, ← v20_at, ← v39_at]
  unfold val_main_v97 val_main_v96
  generalize val_main_v94 (F := Ideal) a0 a1 a2 a3 a4 a5 a6 a7 = y
  generalize val_main_v20 (F := Ideal) a3 a4 a7 = w
  generalize val_main_v39 (F := Ideal) a4 = u
  pointwise []
theorem v100_at (i : Fin 4096) (k : Fin 1024) : val_main_v100 (F := Ideal) a0 a1 a2 a3 a4 a5 a6 a7 (ix2 i k) = (lineAt a0 a1 a2 a3 a4 a5 a6 a7 i).dga k := by
  unfold Line.dga
  rw [← v94_at, ← v17_at, ← v29_at]
  unfold val_main_v100 val_main_v99
  generalize val_main_v94 (F := Ideal) a0 a1 a2 a3 a4 a5 a6 a7 = y
  generalize val_main_v17 (F := Ideal) a2 a7 = w
  generalize val_main_v29 (F := Ideal) a4 = u
  pointwise []
theorem v101_at (i : Fin 4096) (k : Fin 1024) : val_main_v101 (F := Ideal) a0 a1 a2 a3 a4 a5 a6 a7 (ix2 i k) = (lineAt a0 a1 a2 a3 a4 a5 a6 a7 i).dyb k := by
  unfold Line.dyb
  simp only [mul_comm ((lineAt a0 a1 a2 a3 a4 a5 a6 a7 i).dm _)]
  simp only [← v94_at, ← v36_at, ← v11_at]
  unfold val_main_v101 val_main_v95
  generalize val_main_v94 (F := Ideal) a0 a1 a2 a3 a4 a5 a6 a7 = y
  generalize val_main_v36 (F := Ideal) a4 = u
  generalize val_main_v11 (F := Ideal) a7 = w
  pointwise []
theorem v105_at (i : Fin 4096) (k : Fin 1024) : val_main_v105 (F := Ideal) a0 a1 a2 a3 a4 a5 a6 a7 (ix2 i k) = (lineAt a0 a1 a2 a3 a4 a5 a6 a7 i).dya k := by
  unfold Line.dya
  simp only [mul_comm ((lineAt a0 a1 a2 a3 a4 a5 a6 a7 i).dm _)]
  simp only [← v94_at, ← v26_at, ← v8_at]
  unfold val_main_v105 val_main_v98
  generalize val_main_v94 (F := Ideal) a0 a1 a2 a3 a4 a5 a6 a7 = y
  generalize val_main_v26 (F := Ideal) a4 = u
  generalize val_main_v8 (F := Ideal) a7 = w
  pointwise []
theorem v103_at (i : Fin 4096) (k : Fin 1024) : val_main_v103 (F := Ideal) a0 a1 a2 a3 a4 a5 a6 a7 (ix2 i k) = (lineAt a0 a1 a2 a3 a4 a5 a6 a7 i).dob k := by
  unfold Line.dob
  rw [← v101_at, ← v18_0_at]
  unfold val_main_v103
  generalize val_main_v101 (F := Ideal) a0 a1 a2 a3 a4 a5 a6 a7 = y
  generalize val_main_v18_0 (F := Ideal) a4 = u
  pointwise []
theorem v113_at (i : Fin 4096) (k : Fin 1024) : val_main_v113 (F := Ideal) a0 a1 a2 a3 a4 a5 a6 a7 (ix2 i k) = (lineAt a0 a1 a2 a3 a4 a5 a6 a7 i).dob k := by
  rw [← v103_at]
  unfold val_main_v113
  generalize val_main_v103 (F := Ideal) a0 a1 a2 a3 a4 a5 a6 a7 = y
  pointwise []
theorem v111_at (h : Fin 8) (i : Fin 4096) (l : Fin 128) : val_main_v111 (F := Ideal) a0 a1 a2 a3 a4 a5 a6 a7 (ix3 h i l) = (lineAt a0 a1 a2 a3 a4 a5 a6 a7 i).delta h := by
  unfold Line.delta Line.prod
  simp only [← v103_at]
  unfold val_main_v111 val_main_v110 val_main_v109 val_main_v108 val_main_v107 val_main_v106
  generalize val_main_v103 (F := Ideal) a0 a1 a2 a3 a4 a5 a6 a7 = y
  pointwise [val_main_cst_20]
  exact Finset.sum_congr rfl fun e _ => by simp only [Nat.mul_comm h.val 128]; rfl
theorem v104_at (i : Fin 4096) (k : Fin 1024) (hn : (lineAt a0 a1 a2 a3 a4 a5 a6 a7 i).Numbers) : val_main_v104 (F := Ideal) a0 a1 a2 a3 a4 a5 a6 a7 (ix2 i k) = (lineAt a0 a1 a2 a3 a4 a5 a6 a7 i).dbg k := by
  rw [← Line.dbg_eq hn, ← v101_at, ← v18_1_at, ← v18_2_at, ← v1_at]
  unfold val_main_v104 val_main_call1_v1 val_main_call1_v2 val_main_call1_v0 val_main_v102
  generalize val_main_v101 (F := Ideal) a0 a1 a2 a3 a4 a5 a6 a7 = y
  generalize val_main_v18_1 (F := Ideal) a4 = u
  generalize val_main_v18_2 (F := Ideal) a4 = v
  generalize val_main_v1 (F := Ideal) a4 = w
  pointwise []
  rfl
theorem v114_at (i : Fin 4096) (j : Fin 3072) (hn : (lineAt a0 a1 a2 a3 a4 a5 a6 a7 i).Numbers) : val_main_v114 (F := Ideal) a0 a1 a2 a3 a4 a5 a6 a7 (ix2 i j) = (lineAt a0 a1 a2 a3 a4 a5 a6 a7 i).dpg j := by
  unfold Line.dpg
  simp only [← v104_at (hn := hn), ← v100_at, ← v97_at]
  unfold val_main_v114 val_main_v112
  generalize val_main_v104 (F := Ideal) a0 a1 a2 a3 a4 a5 a6 a7 = y
  generalize val_main_v100 (F := Ideal) a0 a1 a2 a3 a4 a5 a6 a7 = u
  generalize val_main_v97 (F := Ideal) a0 a1 a2 a3 a4 a5 a6 a7 = v
  pointwise []

end Cert.Reference5Ideal.Own

end
-- ==== Proof.MSums.lean ====
/- The reference's sums of the merge and the loss, read at an entry. -/
module

public import proofs.«01_k».proof.Proof.MRef

@[expose] public section

set_option maxRecDepth 16384

noncomputable section

namespace Cert.Own

open Idealize.ShloMosaic

/-- What a row adds to the first two sums, and its squares. -/
def Line.dfnw (R : Line) (n : Fin 1024) : EReal := R.err n * perWide * (R.x2 n * rstd R.x2)
def Line.dgate (R : Line) (n : Fin 1024) : EReal := R.dx2 n * R.z n
def Line.squares (R : Line) : EReal := ∑ n, R.err n * R.err n

/-- Row k of the small array: the sums over the rows, the loss, and zeros. -/
def sumsAt (R : Fin 4096 → Line) (k : Nat) (n : Fin 1024) : EReal :=
  if k < 1 then ∑ i, (R i).dfnw n
  else if k - 1 < 1 then ∑ i, (R i).dgate n
  else if k - 1 - 1 < 1 then Ideal.ofBits .f32 0x3F000000#32 * ∑ i, Ideal.div (R i).squares wide
  else 0

end Cert.Own

namespace Cert.Reference5Ideal.Own

open Cert.Reference5Ideal Cert.Reference5Ideal.Gen Cert.Reference5Ideal.Read Cert.Own
open Idealize.ShloMosaic Idealize.ShloMosaic.TcCoe Idealize.SL.Sem

variable (a0 a1 : FVec Ideal S4096x1024 .f32) (a2 : FVec Ideal S4096x1024 .bf16) (a3 : FVec Ideal S4096x1024 .f32)
  (a4 : FVec Ideal S4096x7168 .bf16) (a5 : FVec Ideal S8x1024 .f32) (a6 : FVec Ideal S1x1024 .f32) (a7 : FVec Ideal S8x384x1024 .bf16)

/-- The stages that the loss's value and its gradients share with the other results. -/
theorem v133_eq : val_main_v133 (F := Ideal) a2 a3 a4 a7 = val_main_v41 (F := Ideal) a2 a3 a4 a7 := rfl
theorem v134_eq : val_main_v134 (F := Ideal) a2 a3 a4 a7 = val_main_v42 (F := Ideal) a2 a3 a4 a7 := rfl
theorem v137_eq : val_main_v137 (F := Ideal) a0 a2 a3 a4 a5 a7 = val_main_v45 (F := Ideal) a0 a2 a3 a4 a5 a7 := rfl
theorem v145_eq : val_main_v145 (F := Ideal) a0 a2 a3 a4 a5 a7 = val_main_v53 (F := Ideal) a0 a2 a3 a4 a5 a7 := rfl
theorem v153_eq : val_main_v153 (F := Ideal) a0 a1 a2 a3 a4 a5 a6 a7 = val_main_v61 (F := Ideal) a0 a1 a2 a3 a4 a5 a6 a7 := rfl
theorem v172_eq : val_main_v172 (F := Ideal) a0 a1 a2 a3 a4 a5 a6 a7 = val_main_v77 (F := Ideal) a0 a1 a2 a3 a4 a5 a6 a7 := rfl
theorem v186_eq : val_main_v186 (F := Ideal) a0 a1 a2 a3 a4 a5 a6 a7 = val_main_v91 (F := Ideal) a0 a1 a2 a3 a4 a5 a6 a7 := rfl

theorem v134_at (i : Fin 4096) (n : Fin 1024) : val_main_v134 (F := Ideal) a2 a3 a4 a7 (ix2 i n) = (lineAt a0 a1 a2 a3 a4 a5 a6 a7 i).z n := by
  rw [v134_eq]
  unfold Line.z
  simp only [← v41_at, ← v14_at]
  unfold val_main_v42
  generalize val_main_v41 (F := Ideal) a2 a3 a4 a7 = y
  generalize val_main_v14 (F := Ideal) a7 = w
  pointwise []
theorem v150_at (i : Fin 4096) (n : Fin 1024) : val_main_v150 (F := Ideal) a0 a2 a3 a4 a5 a7 (ix2 i n)
    = (lineAt a0 a1 a2 a3 a4 a5 a6 a7 i).x2 n * rstd (lineAt a0 a1 a2 a3 a4 a5 a6 a7 i).x2 := by
  rw [← v45_at, ← v53_at, ← v137_eq, ← v145_eq]
  unfold val_main_v150 val_main_v149
  generalize val_main_v137 (F := Ideal) a0 a2 a3 a4 a5 a7 = y
  generalize val_main_v145 (F := Ideal) a0 a2 a3 a4 a5 a7 = w
  pointwise []
theorem v167_at (i : Fin 4096) (n : Fin 1024) : val_main_v167 (F := Ideal) a0 a1 a2 a3 a4 a5 a6 a7 (ix2 i n) = (lineAt a0 a1 a2 a3 a4 a5 a6 a7 i).err n * perWide := by
  rw [← half_twice, ← v61_at, ← v153_eq]
  unfold val_main_v167 val_main_v156
  generalize val_main_v153 (F := Ideal) a0 a1 a2 a3 a4 a5 a6 a7 = y
  pointwise [val_main_v166, val_main_v165, val_main_v164, val_main_v163, val_main_v162, val_main_v155, val_main_cst_29, val_main_cst_34, val_main_cst_35, val_main_cst_36]
  rfl
theorem v170_at (n : Fin 1024) : val_main_v170 (F := Ideal) a0 a1 a2 a3 a4 a5 a6 a7 (ix2 0 n) = ∑ i, (lineAt a0 a1 a2 a3 a4 a5 a6 a7 i).dfnw n := by
  unfold Line.dfnw
  simp only [← v150_at, ← v167_at]
  unfold val_main_v170 val_main_v169 val_main_v168
  generalize val_main_v150 (F := Ideal) a0 a2 a3 a4 a5 a7 = y
  generalize val_main_v167 (F := Ideal) a0 a1 a2 a3 a4 a5 a6 a7 = w
  pointwise [val_main_cst_37]
  exact Finset.sum_congr rfl fun i _ => mul_comm _ _
theorem v189_at (n : Fin 1024) : val_main_v189 (F := Ideal) a0 a1 a2 a3 a4 a5 a6 a7 (ix2 0 n) = ∑ i, (lineAt a0 a1 a2 a3 a4 a5 a6 a7 i).dgate n := by
  unfold Line.dgate
  simp only [← v91_at, ← v186_eq, ← v134_at]
  unfold val_main_v189 val_main_v188 val_main_v187
  generalize val_main_v186 (F := Ideal) a0 a1 a2 a3 a4 a5 a6 a7 = y
  generalize val_main_v134 (F := Ideal) a2 a3 a4 a7 = w
  pointwise [val_main_cst_41]
theorem v190_at (n : Fin 1024) : val_main_v190 (F := Ideal) a0 a1 a2 a3 a4 a5 a6 a7 (ix2 0 n)
    = Ideal.ofBits .f32 0x3F000000#32 * ∑ i, Ideal.div (lineAt a0 a1 a2 a3 a4 a5 a6 a7 i).squares wide := by
  unfold Line.squares
  simp only [← v61_at, ← v153_eq]
  unfold val_main_v190 val_main_v161 val_main_v160 val_main_v159 val_main_v157 val_main_v154
  generalize val_main_v153 (F := Ideal) a0 a1 a2 a3 a4 a5 a6 a7 = y
  pointwise [val_main_cst_30, val_main_cst_31, val_main_cst_32, val_main_cst_33, val_main_v158]
  rfl
theorem v192_at (k : Fin 8) (n : Fin 1024) : val_main_v192 (F := Ideal) a0 a1 a2 a3 a4 a5 a6 a7 (ix2 k n) = sumsAt (fun i => lineAt a0 a1 a2 a3 a4 a5 a6 a7 i) k.val n := by
  unfold sumsAt
  rw [← v170_at, ← v189_at, ← v190_at (n := n)]
  unfold val_main_v192 val_main_v191
  generalize val_main_v170 (F := Ideal) a0 a1 a2 a3 a4 a5 a6 a7 = u
  generalize val_main_v189 (F := Ideal) a0 a1 a2 a3 a4 a5 a6 a7 = v
  generalize val_main_v190 (F := Ideal) a0 a1 a2 a3 a4 a5 a6 a7 = w
  pointwise [val_main_call3_v0, val_main_c]
  by_cases k0 : k.val < 1
  · rw [dif_pos (by omega), dif_pos k0, if_pos k0]
    exact congrArg u (congrArg (fun a => ix2 a n) (Fin.ext (Nat.lt_one_iff.mp k0)))
  rw [if_neg k0]
  by_cases k1 : k.val - 1 < 1
  · rw [dif_pos (by omega), dif_neg k0, dif_pos k1, if_pos k1]
    exact congrArg v (congrArg (fun a => ix2 a n) (Fin.ext (Nat.lt_one_iff.mp k1)))
  rw [if_neg k1]
  by_cases k2 : k.val - 1 - 1 < 1
  · rw [dif_pos (by omega), dif_neg k0, dif_neg k1, if_pos k2]
    exact congrArg w (congrArg (fun a => ix2 a n) (Fin.ext (Nat.lt_one_iff.mp k2)))
  · rw [dif_neg (by omega), if_neg k2]
    exact (congrArg Real.toEReal Int.cast_zero).trans EReal.coe_zero

end Cert.Reference5Ideal.Own

end
-- ==== Proof.MTerms.lean ====
/- The merge and the loss: what a block of rows adds to the sums of the small array. -/
module

public import proofs.«01_k».proof.Proof.MPay
public import proofs.«01_k».proof.Proof.MSums

@[expose] public section

set_option maxRecDepth 16384

noncomputable section

namespace Cert.Own

open Idealize.ShloMosaic

/-- The kernel's constant of the loss, and sums of blocks of 256 rows. -/
def lossScale : EReal := Ideal.ofBits .f32 0x3A000000#32
theorem lossScale_eq : lossScale = (((2048 : ℝ)⁻¹ : ℝ) : EReal) := by
  unfold lossScale
  simp [Ideal.ofBits, Ideal.ieee]
  rw [← EReal.coe_mul]
  congr 1
  norm_num

theorem sum_tiles (f : Fin 4096 → EReal) : ∑ i ∈ Finset.range 16, ∑ r : Fin 256, f ⟨256 * (i % 16) + r.val, by omega⟩ = ∑ i, f i := by
  rw [Finset.sum_range, ← Fintype.sum_prod_type' (f := fun (i : Fin 16) (r : Fin 256) => f ⟨256 * (i.val % 16) + r.val, by omega⟩)]
  refine Fintype.sum_equiv (finProdFinEquiv (m := 16) (n := 256)) _ f fun p => congrArg f (Fin.ext ?_)
  show 256 * (p.1.val % 16) + p.2.val = p.2.val + 256 * p.1.val
  omega

theorem sum_mul_real {ι : Type} (s : Finset ι) (f : ι → EReal) (a : ℝ) (h : 0 ≤ a) : (∑ i ∈ s, f i) * (a : EReal) = ∑ i ∈ s, f i * (a : EReal) := by
  classical
  induction s using Finset.induction_on with
  | empty => simp
  | insert i s hi ih => rw [Finset.sum_insert hi, Finset.sum_insert hi, EReal.right_distrib_of_nonneg_of_ne_top (EReal.coe_nonneg.mpr h) (EReal.coe_ne_top a), ih]

/-- The loss, a block at a time. -/
theorem loss_tiles (f : Fin 4096 → EReal) : ∑ i ∈ Finset.range 16, (∑ r : Fin 256, f ⟨256 * (i % 16) + r.val, by omega⟩) * lossScale
    = Ideal.ofBits .f32 0x3F000000#32 * ∑ i, Ideal.div (f i) wide := by
  simp only [div_wide]
  rw [half_eq, lossScale_eq, mul_comm, sum_mul_real _ _ _ (by norm_num), ← sum_mul_real _ _ _ (by norm_num), sum_tiles, sum_mul_real _ _ _ (by norm_num)]
  refine Finset.sum_congr rfl fun i _ => ?_
  rw [mul_assoc, ← EReal.coe_mul]
  congr 2
  norm_num

end Cert.Own

namespace Cert.Kernel5Ideal.Own.Tile

open Cert.Kernel5Ideal Cert.Kernel5Ideal.Gen Cert.Own
open Idealize.ShloMosaic Idealize.ShloMosaic.TcCoe Idealize.SL.Sem

variable (T : Tile Ideal) (n : Fin 1024) (w : Vec Ideal S1x1024 .f32)

theorem pay7_at (k : Fin 8) : k0_pay7 (F := Ideal) (ix2 k n) = 0 := by
  pointwise [k0_pay7]
theorem pay24_at : k0_pay24 T.z T.g T.x T.fnw T.t w (ix2 0 n) = w (ix2 0 n) + ∑ r, (T.line r).dfnw n := by
  unfold Line.dfnw
  simp only [← xn_at, ← err_at]
  unfold k0_pay24 k0_pay23 xn
  generalize k0_pay20 T.z T.g T.x = y
  generalize k0_pay21 T.z T.g T.x T.fnw T.t = u
  pointwise []
  rfl
theorem pay28_at : k0_pay28 T.z T.rs T.xn T.dxn T.sm (Scalar.ofBits .f32 0x44800000#32) w (ix2 0 n) = w (ix2 0 n) + ∑ r, (T.line r).dgate n := by
  unfold Line.dgate
  simp only [← dx2_at, ← z_at]
  unfold k0_pay28 dx2
  generalize k0_pay27 (F := Ideal) T.rs T.xn T.dxn T.sm (Scalar.ofBits .f32 0x44800000#32) = y
  generalize T.z = u
  pointwise []
theorem pay29_at : k0_pay29 (k0_pay22 T.z T.g T.x T.fnw T.t) w (ix2 0 n) = w (ix2 0 n) + (∑ r, (T.line r).squares) * lossScale := by
  unfold Line.squares
  simp only [← err_at]
  unfold k0_pay29 k0_pay22
  generalize k0_pay21 T.z T.g T.x T.fnw T.t = u
  pointwise []
  rfl

end Cert.Kernel5Ideal.Own.Tile

end
-- ==== Proof.MSmall.lean ====
/- The merge and the loss: the small array that the call leaves. -/
module

public import proofs.«01_k».proof.Proof.MVal
public import proofs.«01_k».proof.Proof.MAcc
public import proofs.«01_k».proof.Proof.MTerms

@[expose] public section

set_option maxRecDepth 16384

noncomputable section

namespace Cert.Kernel5Ideal.Own

open Cert.Kernel5Ideal Cert.Kernel5Ideal.Gen Cert.Own
open Idealize.ShloMosaic Idealize.ShloMosaic.TcCoe Idealize.SL.Sem

variable (m : (ℓ : Loc nD τ sig) → Buf (Elt Ideal) ℓ) (c : Dev nD)

/-- The small array, and what block i of the rows adds to its row k. -/
def smallArr (y : S8x1024.Idx) : EReal := sumsAt (lineOf m c) (y 0).val (y 1)
def term (k i : Nat) (e : Fin 1024) : EReal :=
  if k = 2 then (∑ r : Fin 256, (lineOf m c (tileRow i r)).squares) * lossScale
  else if k = 1 then ∑ r : Fin 256, (lineOf m c (tileRow i r)).dgate e
  else if k = 0 then ∑ r : Fin 256, (lineOf m c (tileRow i r)).dfnw e
  else 0

theorem smallAt_term (t : Fin cfg0.N) (acc : Vec Ideal S8x1024 .f32) (k : Fin 8) (e : Fin 1024) :
    smallAt (tile m c t) acc k e = acc (ix2 k e) + term m c k.val t.val e := by
  unfold smallAt term
  simp only [← line_at]
  by_cases k2 : k.val = 2
  · obtain rfl : k = 2 := Fin.ext k2
    rw [if_pos k2, if_pos k2, Tile.pay29_at, row2_at]
  rw [if_neg k2, if_neg k2]
  by_cases k1 : k.val = 1
  · obtain rfl : k = 1 := Fin.ext k1
    rw [if_pos k1, if_pos k1, Tile.pay28_at, row1_at]
  rw [if_neg k1, if_neg k1]
  by_cases k0 : k.val = 0
  · obtain rfl : k = 0 := Fin.ext k0
    rw [if_pos k0, if_pos k0, Tile.pay24_at, row0_at]
  rw [if_neg k0, if_neg k0, add_zero]

theorem small_at : ∀ (n : Nat) (hn : n < cfg0.N) (k : Fin 8) (e : Fin 1024),
    (outsAt0 m c n hn).2.2.2.2.2.1 (ix2 k e) = ∑ i ∈ Finset.range (n + 1), term m c k.val i e
  | 0, hn, k, e => by
    refine (small_first m c ⟨0, hn⟩ rfl k e).trans ?_
    rw [smallAt_term, Tile.pay7_at, zero_add, Finset.sum_range_one]
  | n + 1, hn, k, e => by
    have hN : n + 1 < 16 := lt_of_lt_of_eq hn N_0
    refine (small_next m c ⟨n + 1, hn⟩ (by show ¬(n + 1) % 16 = 0; omega) k e).trans ?_
    rw [smallAt_term, Finset.sum_range_succ]
    exact congrArg (· + term m c k.val (n + 1) e) (small_at n (Nat.lt_of_succ_lt hn) k e)

theorem sum_term (k : Fin 8) (e : Fin 1024) : ∑ i ∈ Finset.range 16, term m c k.val i e = sumsAt (lineOf m c) k.val e := by
  unfold term sumsAt
  by_cases k0 : k.val = 0
  · simp only [k0]
    exact sum_tiles fun i => (lineOf m c i).dfnw e
  by_cases k1 : k.val = 1
  · simp only [k1]
    exact sum_tiles fun i => (lineOf m c i).dgate e
  by_cases k2 : k.val = 2
  · simp only [k2]
    exact loss_tiles fun i => (lineOf m c i).squares
  rw [if_neg (by omega), if_neg (by omega), if_neg (by omega)]
  exact Finset.sum_eq_zero fun i _ => by rw [if_neg k2, if_neg k1, if_neg k0]

theorem idx17 : ∀ t : Fin cfg0.N, win0_17.index t = ![0, 0] := (by decide +kernel : ∀ t : Fin grid0.N, _)

theorem small_value : (dats m 0 c).arrAt 17 cfg0.N = smallArr m c := by
  refine (dats m 0 c).arrAt_eq_of_covers 17 _ (by decide +kernel) fun t ht y => ?_
  have hN : t.val < 16 := lt_of_lt_of_eq t.isLt N_0
  have h15 : t.val = 15 := by have := (flush0_17 t).mp ht; omega
  blk_simp
  rw [after0_17]
  obtain ⟨k, e, rfl⟩ : ∃ (k : Fin 8) (e : Fin 1024), y = ix2 k e := ⟨y 0, y 1, eq_ix2 y⟩
  refine (small_at m c t.val t.isLt k e).trans ?_
  have h0 : (win0_17.blk t).view.emb (ix2 k e) 0 = k := Fin.ext (by blk_simp [idx17 t] <;> try omega)
  have h1 : (win0_17.blk t).view.emb (ix2 k e) 1 = e := Fin.ext (by blk_simp [idx17 t] <;> try omega)
  unfold smallArr
  rw [h0, h1, h15]
  exact sum_term m c k e

end Cert.Kernel5Ideal.Own

end
-- ==== Proof.MClaim.lean ====
/- The merge and the loss: the claims of the call. -/
module

public import proofs.«01_k».proof.Defs
public import proofs.«01_k».proof.Proof.Gen.Kernel5
public import proofs.«01_k».proof.Proof.Gen.Kernel5Ideal.Value
public import proofs.«01_k».proof.Proof.Gen.Pre_numbers
public import proofs.«01_k».proof.Proof.MSmall
public import proofs.«01_k».proof.Proof.Finite
public import Idealize.ShloMosaic.Adequacy
public import Idealize.ShloMosaic.Init

@[expose] public section

set_option maxRecDepth 16384

noncomputable section

namespace Cert.Proof.M

open Idealize.ShloMosaic Idealize.ShloMosaic.TcCoe Idealize.SL.Sem

section
open Cert.Own

theorem ofBits_top32 : Ideal.ofBits .f32 0x7F800000#32 = ⊤ := by
  simp [Ideal.ofBits, Ideal.ieee]

/-- An absolute value below plus infinity is a real number's. -/
theorem num_of_abs (x : EReal) (h : BitVec.ofBool (decide ((FloatOps.absf (F := Ideal) (φ := .f32) x : EReal) < Ideal.ofBits .f32 2139095040#32)) = 1#1) : IsNum x := by
  refine ⟨x.toReal, real_of_abs x ?_⟩
  rw [ofBits_top]
  rw [show Ideal.ofBits .f32 2139095040#32 = ⊤ from ofBits_top32] at h
  exact h

variable (a0 a1 : FVec Ideal Pre_numbers.S4096x1024 .f32) (a2 : FVec Ideal Pre_numbers.S4096x1024 .bf16) (a3 : FVec Ideal Pre_numbers.S4096x1024 .f32)
  (a4 : FVec Ideal Pre_numbers.S4096x7168 .bf16) (a5 : FVec Ideal Pre_numbers.S8x1024 .f32) (a6 : FVec Ideal Pre_numbers.S1x1024 .f32) (a7 : FVec Ideal Pre_numbers.S8x384x1024 .bf16)

/-- The precondition, read at the entries of a row. -/
theorem numbers_at (h : (@Pre_numbers.fn Pre_numbers.Gen.facts Ideal _ a0 a1 a2 a3 a4 a5 a6 a7).1 = (fun _ => 1#1)
      ∧ (@Pre_numbers.fn Pre_numbers.Gen.facts Ideal _ a0 a1 a2 a3 a4 a5 a6 a7).2.1 = (fun _ => 1#1)
      ∧ (@Pre_numbers.fn Pre_numbers.Gen.facts Ideal _ a0 a1 a2 a3 a4 a5 a6 a7).2.2.1 = (fun _ => 1#1)
      ∧ (@Pre_numbers.fn Pre_numbers.Gen.facts Ideal _ a0 a1 a2 a3 a4 a5 a6 a7).2.2.2 = (fun _ => 1#1)) (i : Fin 4096) :
    (lineAt a0 a1 a2 a3 a4 a5 a6 a7 i).Numbers := by
  obtain ⟨h0, h1, h2, h3⟩ := h
  refine ⟨fun n => ?_, fun n => ?_, fun n => ?_, fun k n => ?_⟩
  · have h := congrFun h0 (ix2 i n)
    revert h
    pointwise [Pre_numbers.fn]
    exact num_of_abs _
  · have h := congrFun h1 (ix2 0 n)
    revert h
    pointwise [Pre_numbers.fn]
    exact num_of_abs _
  · have h := congrFun h2 (ix2 0 n)
    revert h
    pointwise [Pre_numbers.fn]
    exact num_of_abs _
  · have h := congrFun h3 (ix3 ⟨k.val / 128, by omega⟩ ⟨k.val % 128, by omega⟩ n)
    revert h
    pointwise [Pre_numbers.fn]
    exact fun h => ⟨_, real_of_abs _ h⟩
end

/-- The kernel and the program read at the reals are the same text. -/
theorem body_eq (F : FTy → Type) [FloatOps F] : @Cert.Kernel5.cc0_merge_loss F _ Cert.Kernel5.Gen.facts = @Cert.Kernel5Ideal.cc0_merge_loss F _ Cert.Kernel5Ideal.Gen.facts := rfl

set_option maxHeartbeats 1600000 in
theorem defs₀_eq (F : FTy → Type) [FloatOps F] : @Cert.Kernel5.defs₀ F _ Cert.Kernel5.Gen.facts = @Cert.Kernel5Ideal.defs₀ F _ Cert.Kernel5Ideal.Gen.facts := by
  unfold Cert.Kernel5.defs₀ Cert.Kernel5Ideal.defs₀
  refine congrArg Defs.onTc (funext fun l => funext fun a => ?_)
  match l, a with
  | ⟨0, _⟩, (t, s) => dsimp only; rw [body_eq]; rfl

theorem defs_eq (F : FTy → Type) [FloatOps F] : @Cert.Kernel5.defs F _ Cert.Kernel5.Gen.facts = @Cert.Kernel5Ideal.defs F _ Cert.Kernel5Ideal.Gen.facts :=
  congrArg (Pipeline.defs Cert.Kernel5.pcfgs) (defs₀_eq F)

theorem main_eq (F : FTy → Type) [FloatOps F] : @Cert.Kernel5.main F _ = @Cert.Kernel5Ideal.main F _ := rfl

theorem kernelFrame : Cert.quiescent_Kernel5 (hKernel5 := Cert.Kernel5.Gen.facts) := fun m ρ _ => by
  have h := Cert.Kernel5Ideal.Gen.frame (F := Bits) m ρ
  rw [← defs_eq Bits, ← main_eq Bits] at h
  exact h

/-- The reference is one straight line of host operations and it has no counter. -/
theorem refFrame : Cert.quiescent_Reference5Ideal (hReference5Ideal := Cert.Reference5Ideal.Gen.facts) := fun m ρ _ =>
  (θ_run _ _ _).mono (fun r h => ⟨fun c => (h c).2.2.2.2.2.2, sem_eq_zero_of_no_sems (by decide) r.2⟩) (Cert.Reference5Ideal.Value.run m ρ)

open Cert.Kernel5Ideal.Own Cert.Kernel5Ideal.Value in
/-- The two programs leave the same six arrays. -/
theorem sameResults : Cert.algebraic_Kernel5Ideal_Reference5Ideal_pre_numbers (hKernel5Ideal := Cert.Kernel5Ideal.Gen.facts)
    (hReference5Ideal := Cert.Reference5Ideal.Gen.facts) (hPre_numbers := Cert.Pre_numbers.Gen.facts) := fun m ρ m' ρ' hpre hargs => by
  refine ⟨fun c => dyaArr m c, fun c => dobArr m c, fun c => deltaArr m c, fun c => dpgArr m c, fun c => dx2Arr m c, fun c => smallArr m c, ?_, ?_⟩
  · refine (θ_run _ _ _).mono (fun r h c => ?_) (run_blocks (F := Ideal) m ρ)
    obtain ⟨h0, h1, h2, h3, h4, h5, h6⟩ := h c
    exact ⟨h0.trans (dya_value m c), h1.trans (dob_value m c), h2.trans (delta_value m c), h3.trans (dpg_value m c), h4.trans (dx2_value m c), h5.trans (small_value m c), h6⟩
  · refine (θ_run _ _ _).mono (fun r h c => ?_) (Cert.Reference5Ideal.Value.run (F := Ideal) m' ρ')
    obtain ⟨h0, h1, h2, h3, h4, h5, h6⟩ := h c
    obtain ⟨e0, e1, e2, e3, e4, e5, e6, e7⟩ := hargs c
    have hn : ∀ i, (lineOf m c i).Numbers := numbers_at _ _ _ _ _ _ _ _ (hpre c)
    have k0 := h0.trans (Cert.Reference5Ideal.Read.val_main_v105_eq _)
    have k1 := h1.trans (Cert.Reference5Ideal.Read.val_main_v113_eq _)
    have k2 := h2.trans (Cert.Reference5Ideal.Read.val_main_v111_eq _)
    have k3 := h3.trans (Cert.Reference5Ideal.Read.val_main_v114_eq _)
    have k4 := h4.trans (Cert.Reference5Ideal.Read.val_main_v91_eq _)
    have k5 := h5.trans (Cert.Reference5Ideal.Read.val_main_v192_eq _)
    have e0 : StableHlo.launchContents m' c (Proc.devRef .tc Cert.Reference5Ideal.main_arg0) = Cert.Kernel5Ideal.Own.arg0 m c := e0
    have e1 : StableHlo.launchContents m' c (Proc.devRef .tc Cert.Reference5Ideal.main_arg1) = Cert.Kernel5Ideal.Own.arg1 m c := e1
    have e2 : StableHlo.launchContents m' c (Proc.devRef .tc Cert.Reference5Ideal.main_arg2) = Cert.Kernel5Ideal.Own.arg2 m c := e2
    have e3 : StableHlo.launchContents m' c (Proc.devRef .tc Cert.Reference5Ideal.main_arg3) = Cert.Kernel5Ideal.Own.arg3 m c := e3
    have e4 : StableHlo.launchContents m' c (Proc.devRef .tc Cert.Reference5Ideal.main_arg4) = Cert.Kernel5Ideal.Own.arg4 m c := e4
    have e5 : StableHlo.launchContents m' c (Proc.devRef .tc Cert.Reference5Ideal.main_arg5) = Cert.Kernel5Ideal.Own.arg5 m c := e5
    have e6 : StableHlo.launchContents m' c (Proc.devRef .tc Cert.Reference5Ideal.main_arg6) = Cert.Kernel5Ideal.Own.arg6 m c := e6
    have e7 : StableHlo.launchContents m' c (Proc.devRef .tc Cert.Reference5Ideal.main_arg7) = Cert.Kernel5Ideal.Own.arg7 m c := e7
    rw [e0, e1, e2, e3, e4, e5, e6, e7] at k0 k1 k2 k3 k4 k5
    refine ⟨k0.trans (funext fun (i : Cert.Reference5Ideal.S4096x1024.Idx) => ?_), k1.trans (funext fun (i : Cert.Reference5Ideal.S4096x1024.Idx) => ?_),
      k2.trans (funext fun (i : Cert.Reference5Ideal.S8x4096x128.Idx) => ?_), k3.trans (funext fun (i : Cert.Reference5Ideal.S4096x3072.Idx) => ?_),
      k4.trans (funext fun (i : Cert.Reference5Ideal.S4096x1024.Idx) => ?_), k5.trans (funext fun (i : Cert.Reference5Ideal.S8x1024.Idx) => ?_), h6⟩
    · obtain ⟨a, b, rfl⟩ : ∃ (a : Fin 4096) (b : Fin 1024), i = ix2 a b := ⟨i 0, i 1, eq_ix2 i⟩
      exact Cert.Reference5Ideal.Own.v105_at _ _ _ _ _ _ _ _ a b
    · obtain ⟨a, b, rfl⟩ : ∃ (a : Fin 4096) (b : Fin 1024), i = ix2 a b := ⟨i 0, i 1, eq_ix2 i⟩
      exact Cert.Reference5Ideal.Own.v113_at _ _ _ _ _ _ _ _ a b
    · obtain ⟨h, a, l, rfl⟩ : ∃ (h : Fin 8) (a : Fin 4096) (l : Fin 128), i = ix3 h a l := ⟨i 0, i 1, i 2, eq_ix3 i⟩
      exact Cert.Reference5Ideal.Own.v111_at _ _ _ _ _ _ _ _ h a l
    · obtain ⟨a, b, rfl⟩ : ∃ (a : Fin 4096) (b : Fin 3072), i = ix2 a b := ⟨i 0, i 1, eq_ix2 i⟩
      exact Cert.Reference5Ideal.Own.v114_at _ _ _ _ _ _ _ _ a b (hn a)
    · obtain ⟨a, b, rfl⟩ : ∃ (a : Fin 4096) (b : Fin 1024), i = ix2 a b := ⟨i 0, i 1, eq_ix2 i⟩
      exact Cert.Reference5Ideal.Own.v91_at _ _ _ _ _ _ _ _ a b
    · obtain ⟨k, b, rfl⟩ : ∃ (k : Fin 8) (b : Fin 1024), i = ix2 k b := ⟨i 0, i 1, eq_ix2 i⟩
      exact Cert.Reference5Ideal.Own.v192_at _ _ _ _ _ _ _ _ k b

end Cert.Proof.M

end
-- ==== Proof.AMath.lean ====
/- One entry of a step of AdamW. -/
module

public import Idealize.ShloMosaic.Lib.Pointwise

@[expose] public section

noncomputable section

namespace Cert.Own

open Idealize.ShloMosaic

/-- The new mean of the gradients and of their squares. -/
def newM (g m : EReal) : EReal := Ideal.ofBits .f32 0x3F666666#32 * m + Ideal.ofBits .f32 0x3DCCCCCD#32 * g
def newV (g v : EReal) : EReal := Ideal.ofBits .f32 0x3F7FBE77#32 * v + Ideal.ofBits .f32 0x3A83126F#32 * (g * g)

/-- What is added to the weight: the ratio of the two means, each without its bias, and the weight's decay. -/
def change (w m v : EReal) : EReal :=
  Ideal.ofBits .f32 0xBA83126F#32 *
    (Ideal.div (Ideal.div m (Ideal.ofBits .f32 0x3F26BD02#32)) (Ideal.sqrt (Ideal.div v (Ideal.ofBits .f32 0x3C231ACC#32)) + Ideal.ofBits .f32 0x322BCC77#32)
      + Ideal.ofBits .f32 0x3C23D70A#32 * w)

/-- The smooth rectifier, and the factor that makes it. -/
def silu (x : EReal) : EReal := x * Ideal.logistic x

end Cert.Own

end
-- ==== Proof.AVal.lean ====
/- The gradient of the conditioning's weights and its step: the arrays of the call and of the reference, entry by entry. -/
module

public import proofs.«01_k».proof.Proof.AMath
public import proofs.«01_k».proof.Proof.Gen.Kernel6Ideal.Value
public import proofs.«01_k».proof.Proof.Gen.Reference6Ideal.Read

@[expose] public section

set_option maxRecDepth 16384

noncomputable section

open Idealize.ShloMosaic Idealize.ShloMosaic.TcCoe Idealize.SL.Sem Cert.Own

namespace Cert.Kernel6Ideal.Own

open Cert.Kernel6Ideal Cert.Kernel6Ideal.Gen

variable (a0 : Vec Ideal S8x1024 .f32) (a1 : Vec Ideal S8x384 .f32) (w m v : Vec Ideal S1024x384 .f32) (n : Fin 1024) (j : Fin 384)

theorem pay1_at : k0_pay1 a0 a1 (ix2 n j) = ∑ k : Fin 8, silu (a0 (ix2 k n)) * a1 (ix2 k j) := by
  pointwise [k0_pay1, silu]
theorem pay2_at : k0_pay2 a0 a1 m (ix2 n j) = newM (k0_pay1 a0 a1 (ix2 n j)) (m (ix2 n j)) := by
  unfold k0_pay2
  generalize k0_pay1 (F := Ideal) a0 a1 = y
  pointwise [newM]
theorem pay3_at : k0_pay3 a0 a1 v (ix2 n j) = newV (k0_pay1 a0 a1 (ix2 n j)) (v (ix2 n j)) := by
  unfold k0_pay3
  generalize k0_pay1 (F := Ideal) a0 a1 = y
  pointwise [newV]
theorem pay4_at : k0_pay4 a0 a1 w m v (ix2 n j) = change (w (ix2 n j)) (k0_pay2 a0 a1 m (ix2 n j)) (k0_pay3 a0 a1 v (ix2 n j)) := by
  unfold k0_pay4
  generalize k0_pay2 (F := Ideal) a0 a1 m = y
  generalize k0_pay3 (F := Ideal) a0 a1 v = z
  pointwise [change]

end Cert.Kernel6Ideal.Own

namespace Cert.Reference6Ideal.Own

open Cert.Reference6Ideal Cert.Reference6Ideal.Read

variable (a0 : Vec Ideal S8x1024 .f32) (a1 : Vec Ideal S8x384 .f32) (w m v : Vec Ideal S1024x384 .f32) (n : Fin 1024) (j : Fin 384)

theorem v0_at (k : Fin 8) : val_main_v0 (F := Ideal) a0 (ix2 k n) = silu (a0 (ix2 k n)) := by
  pointwise [val_main_v0, val_main_call0_v5, val_main_call0_v4, val_main_call0_v3, val_main_call0_v2, val_main_call0_v1, val_main_call0_v0, val_main_call0_cst, val_main_call0_cst_0, silu]
  rfl
theorem v3_at : val_main_v3 (F := Ideal) a0 a1 (ix2 n j) = ∑ k : Fin 8, silu (a0 (ix2 k n)) * a1 (ix2 k j) := by
  have h : val_main_v3 (F := Ideal) a0 a1 (ix2 n j) = ∑ k : Fin 8, a1 (ix2 k j) * val_main_v0 (F := Ideal) a0 (ix2 k n) := by
    unfold val_main_v3 val_main_v2
    generalize val_main_v0 (F := Ideal) a0 = y
    pointwise []
  rw [h]
  exact Finset.sum_congr rfl fun k _ => by rw [v0_at, mul_comm]
theorem v8_at : val_main_v8 (F := Ideal) a0 a1 m (ix2 n j) = newM (val_main_v3 (F := Ideal) a0 a1 (ix2 n j)) (m (ix2 n j)) := by
  unfold val_main_v8 val_main_v7
  generalize val_main_v3 (F := Ideal) a0 a1 = y
  pointwise [val_main_v6, val_main_v5, val_main_v4, val_main_cst, val_main_cst_0, newM]
theorem v14_at : val_main_v14 (F := Ideal) a0 a1 v (ix2 n j) = newV (val_main_v3 (F := Ideal) a0 a1 (ix2 n j)) (v (ix2 n j)) := by
  unfold val_main_v14 val_main_v13 val_main_v11
  generalize val_main_v3 (F := Ideal) a0 a1 = y
  pointwise [val_main_v12, val_main_v10, val_main_v9, val_main_cst_1, val_main_cst_2, newV]
theorem v27_at : val_main_v27 (F := Ideal) a0 a1 w m v (ix2 n j)
    = change (w (ix2 n j)) (val_main_v8 (F := Ideal) a0 a1 m (ix2 n j)) (val_main_v14 (F := Ideal) a0 a1 v (ix2 n j)) := by
  unfold val_main_v27 val_main_v25 val_main_v22 val_main_v21 val_main_v19 val_main_v18 val_main_v16
  generalize val_main_v8 (F := Ideal) a0 a1 m = y
  generalize val_main_v14 (F := Ideal) a0 a1 v = z
  pointwise [val_main_v26, val_main_v24, val_main_v23, val_main_v20, val_main_v17, val_main_v15, val_main_cst_3, val_main_cst_4, val_main_cst_5, val_main_cst_6, val_main_cst_7, change]

end Cert.Reference6Ideal.Own

namespace Cert.Own

open Cert.Kernel6Ideal.Gen Cert.Kernel6Ideal.Own Cert.Reference6Ideal.Own Cert.Reference6Ideal.Read

variable (a0 : Vec Ideal Cert.Kernel6Ideal.S8x1024 .f32) (a1 : Vec Ideal Cert.Kernel6Ideal.S8x384 .f32) (w m v : Vec Ideal Cert.Kernel6Ideal.S1024x384 .f32)

/-- The reference's arrays are the call's. -/
theorem same_grad : val_main_v3 (F := Ideal) a0 a1 = k0_pay1 a0 a1 := funext fun i => by
  obtain ⟨n, j, rfl⟩ : ∃ (n : Fin 1024) (j : Fin 384), i = ix2 n j := ⟨i 0, i 1, eq_ix2 i⟩
  exact (v3_at a0 a1 n j).trans (pay1_at a0 a1 n j).symm
theorem same_m : val_main_v8 (F := Ideal) a0 a1 m = k0_pay2 a0 a1 m := funext fun i => by
  obtain ⟨n, j, rfl⟩ : ∃ (n : Fin 1024) (j : Fin 384), i = ix2 n j := ⟨i 0, i 1, eq_ix2 i⟩
  exact (v8_at a0 a1 m n j).trans (by rw [same_grad]; exact (pay2_at a0 a1 m n j).symm)
theorem same_v : val_main_v14 (F := Ideal) a0 a1 v = k0_pay3 a0 a1 v := funext fun i => by
  obtain ⟨n, j, rfl⟩ : ∃ (n : Fin 1024) (j : Fin 384), i = ix2 n j := ⟨i 0, i 1, eq_ix2 i⟩
  exact (v14_at a0 a1 v n j).trans (by rw [same_grad]; exact (pay3_at a0 a1 v n j).symm)
theorem same_change : val_main_v27 (F := Ideal) a0 a1 w m v = k0_pay4 a0 a1 w m v := funext fun i => by
  obtain ⟨n, j, rfl⟩ : ∃ (n : Fin 1024) (j : Fin 384), i = ix2 n j := ⟨i 0, i 1, eq_ix2 i⟩
  exact (v27_at a0 a1 w m v n j).trans (by rw [same_m, same_v]; exact (pay4_at a0 a1 w m v n j).symm)

end Cert.Own

end
-- ==== Proof.AClaim.lean ====
/- The gradient of the conditioning's weights and its step: the claims of the call. -/
module

public import proofs.«01_k».proof.Defs
public import proofs.«01_k».proof.Proof.Gen.Kernel6
public import proofs.«01_k».proof.Proof.AVal
public import Idealize.ShloMosaic.Adequacy
public import Idealize.ShloMosaic.Init

@[expose] public section

set_option maxRecDepth 16384

noncomputable section

namespace Cert.Proof.A

open Idealize.ShloMosaic Idealize.ShloMosaic.TcCoe Idealize.SL.Sem

/-- The kernel and the program read at the reals are the same text. -/
theorem body_eq (F : FTy → Type) [FloatOps F] : @Cert.Kernel6.cc0_ada_bwd F _ Cert.Kernel6.Gen.facts = @Cert.Kernel6Ideal.cc0_ada_bwd F _ Cert.Kernel6Ideal.Gen.facts := rfl

set_option maxHeartbeats 1600000 in
theorem defs₀_eq (F : FTy → Type) [FloatOps F] : @Cert.Kernel6.defs₀ F _ Cert.Kernel6.Gen.facts = @Cert.Kernel6Ideal.defs₀ F _ Cert.Kernel6Ideal.Gen.facts := by
  unfold Cert.Kernel6.defs₀ Cert.Kernel6Ideal.defs₀
  refine congrArg Defs.onTc (funext fun l => funext fun a => ?_)
  match l, a with
  | ⟨0, _⟩, (t, s) => dsimp only; rw [body_eq]

theorem defs_eq (F : FTy → Type) [FloatOps F] : @Cert.Kernel6.defs F _ Cert.Kernel6.Gen.facts = @Cert.Kernel6Ideal.defs F _ Cert.Kernel6Ideal.Gen.facts :=
  congrArg (Pipeline.defs Cert.Kernel6.pcfgs) (defs₀_eq F)

theorem main_eq (F : FTy → Type) [FloatOps F] : @Cert.Kernel6.main F _ = @Cert.Kernel6Ideal.main F _ := rfl

theorem kernelFrame : Cert.quiescent_Kernel6 (hKernel6 := Cert.Kernel6.Gen.facts) := fun m ρ _ => by
  have h := Cert.Kernel6Ideal.Gen.frame (F := Bits) m ρ
  rw [← defs_eq Bits, ← main_eq Bits] at h
  exact h

/-- The reference is one straight line of host operations and it has no counter. -/
theorem refFrame : Cert.quiescent_Reference6Ideal (hReference6Ideal := Cert.Reference6Ideal.Gen.facts) := fun m ρ _ =>
  (θ_run _ _ _).mono (fun r h => ⟨fun c => (h c).2.2.2.2, sem_eq_zero_of_no_sems (by decide) r.2⟩) (Cert.Reference6Ideal.Value.run m ρ)

open Cert.Kernel6Ideal Cert.Kernel6Ideal.Gen in
/-- The two programs leave the same four arrays. -/
theorem sameResults : Cert.algebraic_Kernel6Ideal_Reference6Ideal (hKernel6Ideal := Cert.Kernel6Ideal.Gen.facts)
    (hReference6Ideal := Cert.Reference6Ideal.Gen.facts) := fun m ρ m' ρ' _ hargs => by
  refine ⟨fun c => k0_pay1 (m ((c : Thread nD τ).loc main_arg0)) (m ((c : Thread nD τ).loc main_arg1)),
    fun c => k0_pay4 (m ((c : Thread nD τ).loc main_arg0)) (m ((c : Thread nD τ).loc main_arg1)) (m ((c : Thread nD τ).loc main_arg2)) (m ((c : Thread nD τ).loc main_arg3)) (m ((c : Thread nD τ).loc main_arg4)),
    fun c => k0_pay2 (m ((c : Thread nD τ).loc main_arg0)) (m ((c : Thread nD τ).loc main_arg1)) (m ((c : Thread nD τ).loc main_arg3)),
    fun c => k0_pay3 (m ((c : Thread nD τ).loc main_arg0)) (m ((c : Thread nD τ).loc main_arg1)) (m ((c : Thread nD τ).loc main_arg4)), ?_, ?_⟩
  · exact (θ_run _ _ _).mono (fun r h c => h c) (Cert.Kernel6Ideal.Value.run (F := Ideal) m ρ)
  · refine (θ_run _ _ _).mono (fun r h c => ?_) (Cert.Reference6Ideal.Value.run (F := Ideal) m' ρ')
    obtain ⟨h0, h1, h2, h3, h4⟩ := h c
    obtain ⟨e0, e1, e2, e3, e4⟩ := hargs c
    have k0 := h0.trans (Cert.Reference6Ideal.Read.val_main_v3_eq _ _)
    have k1 := h1.trans (Cert.Reference6Ideal.Read.val_main_v27_eq _ _ _ _ _)
    have k2 := h2.trans (Cert.Reference6Ideal.Read.val_main_v8_eq _ _ _)
    have k3 := h3.trans (Cert.Reference6Ideal.Read.val_main_v14_eq _ _ _)
    rw [e0, e1] at k0
    rw [e0, e1, e2, e3, e4] at k1
    rw [e0, e1, e3] at k2
    rw [e0, e1, e4] at k3
    exact ⟨k0.trans (Cert.Own.same_grad _ _), k1.trans (Cert.Own.same_change _ _ _ _ _), k2.trans (Cert.Own.same_m _ _ _), k3.trans (Cert.Own.same_v _ _ _), h4⟩

end Cert.Proof.A

end
-- ==== Proof.BVal.lean ====
/- The sum of the chips' gradients and its step: the arrays of the call and of the reference, entry by entry. -/
module

public import proofs.«01_k».proof.Proof.AMath
public import proofs.«01_k».proof.Proof.Gen.Kernel7Ideal.Value
public import proofs.«01_k».proof.Proof.Gen.Reference7Ideal.Read
public import Idealize.ShloMosaic.Lib.Pipeline.ValueKit

@[expose] public section

set_option maxRecDepth 16384

noncomputable section

open Idealize.ShloMosaic Idealize.ShloMosaic.TcCoe Idealize.SL.Sem Cert.Own

namespace Cert.Kernel7Ideal.Own

open Cert.Kernel7Ideal Cert.Kernel7Ideal.Gen

/-- A row of the weights among the rows of a chip's gradient. -/
def up (r : Fin 840) : Fin 896 := ⟨r.val, by omega⟩

section
variable (x : Vec Ideal S4x896x256 .bf16) (a b d e : Vec Ideal S1x896x256 .bf16) (w m v : Vec Ideal S840x256 .f32) (r : Fin 840) (s : Fin 256)

theorem pay2_at : k0_pay2 a b d e (ix2 r s) = a (ix3 0 (up r) s) + b (ix3 0 (up r) s) + d (ix3 0 (up r) s) + e (ix3 0 (up r) s) := by
  pointwise [k0_pay2, up]
theorem pay3_at : k0_pay3 a b d e m (ix2 r s) = newM (k0_pay2 a b d e (ix2 r s)) (m (ix2 r s)) := by
  unfold k0_pay3
  generalize k0_pay2 (F := Ideal) a b d e = y
  pointwise [newM]
theorem pay4_at : k0_pay4 a b d e v (ix2 r s) = newV (k0_pay2 a b d e (ix2 r s)) (v (ix2 r s)) := by
  unfold k0_pay4
  generalize k0_pay2 (F := Ideal) a b d e = y
  pointwise [newV]
theorem pay1_at : k0_pay1 w (k0_pay5 a b d e m) (k0_pay6 a b d e v) (ix2 r s)
    = change (w (ix2 r s)) (k0_pay3 a b d e m (ix2 r s)) (k0_pay4 a b d e v (ix2 r s)) := by
  unfold k0_pay1 k0_pay5 k0_pay6
  generalize k0_pay3 (F := Ideal) a b d e m = y
  generalize k0_pay4 (F := Ideal) a b d e v = z
  pointwise [change]

/-- The sum of the four chips' entries. -/
def total (f : Fin 4 → EReal) : EReal := ∑ p : Fin 4, f p

theorem slab_at (p : Fin 4) (inb) (q : Fin 896) :
    View.ld x (Rect.unit (s := S4x896x256) ![p.val, 0, 0] S1x896x256.size inb) (ix3 0 q s) = x (ix3 p q s) :=
  View.ld_unit_apply_of (Val := Elt Ideal) x _ _ _ _ _ fun a => by match a with
    | ⟨0, _⟩ => rfl
    | ⟨1, _⟩ => exact (Nat.zero_add _).symm
    | ⟨2, _⟩ => exact (Nat.zero_add _).symm

theorem total_at : k0_pay2 (View.ld x r0_0) (View.ld x r0_1) (View.ld x r0_2) (View.ld x r0_3) (ix2 r s) = total fun p => x (ix3 p (up r) s) := by
  rw [pay2_at]
  unfold total
  rw [Fin.sum_univ_four]
  exact congrArg₂ (· + ·) (congrArg₂ (· + ·) (congrArg₂ (· + ·) (slab_at x s 0 _ _) (slab_at x s 1 _ _)) (slab_at x s 2 _ _)) (slab_at x s 3 _ _)
end

theorem zero2 : (fun a : Fin 2 => (![0, 0] : Fin 2 → Nat) a) = fun _ => 0 := by decide

section
variable (x : Vec Ideal S4x896x256 .bf16) (w m v : Vec Ideal S840x256 .f32) (r : Fin 840) (s : Fin 256)

theorem out4_at : out0_4 x w m v (ix2 r s) = total fun p => x (ix3 p (up r) s) := by
  unfold out0_4
  rw [View.canon_unit_zero (S := S840x256) zero2, total_at]
theorem out6_at : out0_6 x w m v (ix2 r s) = newM (total fun p => x (ix3 p (up r) s)) (m (ix2 r s)) := by
  unfold out0_6
  rw [View.canon_unit_zero (S := S840x256) zero2, View.ld_unit_zero (S := S840x256) zero2, pay3_at, total_at]
theorem out7_at : out0_7 x w m v (ix2 r s) = newV (total fun p => x (ix3 p (up r) s)) (v (ix2 r s)) := by
  unfold out0_7
  rw [View.canon_unit_zero (S := S840x256) zero2, View.ld_unit_zero (S := S840x256) zero2, pay4_at, total_at]
theorem out5_at : out0_5 x w m v (ix2 r s)
    = change (w (ix2 r s)) (newM (total fun p => x (ix3 p (up r) s)) (m (ix2 r s))) (newV (total fun p => x (ix3 p (up r) s)) (v (ix2 r s))) := by
  unfold out0_5
  simp only [View.ld_unit_zero (S := S840x256) zero2]
  rw [View.canon_unit_zero (S := S840x256) zero2, pay1_at, pay3_at, pay4_at, total_at]
end

variable (m : (ℓ : Loc nD τ sig) → Buf (Elt Ideal) ℓ) (c : Dev nD)

/-- The call's arguments. -/
def argP : FVec Ideal S4x896x1024 .bf16 := m ((c : Thread nD τ).loc main_arg0)
def argW : FVec Ideal S840x1024 .f32 := m ((c : Thread nD τ).loc main_arg1)
def argM : FVec Ideal S840x1024 .f32 := m ((c : Thread nD τ).loc main_arg2)
def argV : FVec Ideal S840x1024 .f32 := m ((c : Thread nD τ).loc main_arg3)

/-- The four arrays that the call leaves. -/
def gArr : FVec Ideal S840x1024 .f32 := fun i => total fun p => argP m c (ix3 p (up (i 0)) (i 1))
def mArr : FVec Ideal S840x1024 .f32 := fun i => newM (gArr m c i) (argM m c i)
def vArr : FVec Ideal S840x1024 .f32 := fun i => newV (gArr m c i) (argV m c i)
def dArr : FVec Ideal S840x1024 .f32 := fun i => change (argW m c i) (mArr m c i) (vArr m c i)

/-- Where a point's blocks lie. -/
theorem idxP : ∀ t : Fin cfg0.N, win0_0.index t = ![0, 0, t.val] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, t.val] := (by decide +kernel : ∀ t : Fin grid0.N, _)
theorem idx6 : ∀ t : Fin cfg0.N, win0_6.index t = ![0, t.val] := (by decide +kernel : ∀ t : Fin grid0.N, _)
theorem idx7 : ∀ t : Fin cfg0.N, win0_7.index t = ![0, t.val] := (by decide +kernel : ∀ t : Fin grid0.N, _)

/-- Column s of a point's block. -/
def quarter (t : Fin cfg0.N) (s : Fin 256) : Fin 1024 := ⟨256 * t.val + s.val, by have hN : t.val < 4 := lt_of_lt_of_eq t.isLt N_0; omega⟩

theorem p_at (t : Fin cfg0.N) (p : Fin 4) (q : Fin 896) (s : Fin 256) : iblk m c 0 t (ix3 p q s) = argP m c (ix3 p q (quarter t s)) := by
  unfold iblk argP
  blk_ext [idxP t, quarter]
theorem w_at (t : Fin cfg0.N) (r : Fin 840) (s : Fin 256) : iblk m c 1 t (ix2 r s) = argW m c (ix2 r (quarter t s)) := by
  unfold iblk argW
  blk_ext [idx1 t, quarter]
theorem m_at (t : Fin cfg0.N) (r : Fin 840) (s : Fin 256) : iblk m c 2 t (ix2 r s) = argM m c (ix2 r (quarter t s)) := by
  unfold iblk argM
  blk_ext [idx2 t, quarter]
theorem v_at (t : Fin cfg0.N) (r : Fin 840) (s : Fin 256) : iblk m c 3 t (ix2 r s) = argV m c (ix2 r (quarter t s)) := by
  unfold iblk argV
  blk_ext [idx3 t, quarter]

/-- The sum of a point's blocks is its block of the sum. -/
theorem g_at (t : Fin cfg0.N) (r : Fin 840) (s : Fin 256) : (total fun p => iblk m c 0 t (ix3 p (up r) s)) = gArr m c (ix2 r (quarter t s)) :=
  congrArg total (funext fun p => p_at m c t p (up r) s)

theorem g_value : (dats m 0 c).arrAt 4 cfg0.N = gArr m c := by
  refine (dats m 0 c).arrAt_eq_of_covers 4 _ (by decide +kernel) fun t _ y => ?_
  have hN : t.val < 4 := lt_of_lt_of_eq t.isLt N_0
  blk_simp
  rw [after0_4]
  obtain ⟨r, s, rfl⟩ : ∃ (r : Fin 840) (s : Fin 256), y = ix2 r s := ⟨y 0, y 1, eq_ix2 y⟩
  refine (out4_at _ _ _ _ r s).trans ((g_at m c t r s).trans (congrArg (gArr m c) ?_))
  blk_ext [idx4 t, quarter]
theorem m_value : (dats m 0 c).arrAt 6 cfg0.N = mArr m c := by
  refine (dats m 0 c).arrAt_eq_of_covers 6 _ (by decide +kernel) fun t _ y => ?_
  have hN : t.val < 4 := lt_of_lt_of_eq t.isLt N_0
  blk_simp
  rw [after0_6]
  obtain ⟨r, s, rfl⟩ : ∃ (r : Fin 840) (s : Fin 256), y = ix2 r s := ⟨y 0, y 1, eq_ix2 y⟩
  refine (out6_at _ _ _ _ r s).trans ?_
  rw [g_at, m_at]
  refine congrArg (mArr m c) ?_
  blk_ext [idx6 t, quarter]
theorem v_value : (dats m 0 c).arrAt 7 cfg0.N = vArr m c := by
  refine (dats m 0 c).arrAt_eq_of_covers 7 _ (by decide +kernel) fun t _ y => ?_
  have hN : t.val < 4 := lt_of_lt_of_eq t.isLt N_0
  blk_simp
  rw [after0_7]
  obtain ⟨r, s, rfl⟩ : ∃ (r : Fin 840) (s : Fin 256), y = ix2 r s := ⟨y 0, y 1, eq_ix2 y⟩
  refine (out7_at _ _ _ _ r s).trans ?_
  rw [g_at, v_at]
  refine congrArg (vArr m c) ?_
  blk_ext [idx7 t, quarter]
theorem d_value : (dats m 0 c).arrAt 5 cfg0.N = dArr m c := by
  refine (dats m 0 c).arrAt_eq_of_covers 5 _ (by decide +kernel) fun t _ y => ?_
  have hN : t.val < 4 := lt_of_lt_of_eq t.isLt N_0
  blk_simp
  rw [after0_5]
  obtain ⟨r, s, rfl⟩ : ∃ (r : Fin 840) (s : Fin 256), y = ix2 r s := ⟨y 0, y 1, eq_ix2 y⟩
  refine (out5_at _ _ _ _ r s).trans ?_
  rw [g_at, w_at, m_at, v_at]
  refine congrArg (dArr m c) ?_
  blk_ext [idx5 t, quarter]

end Cert.Kernel7Ideal.Own

namespace Cert.Reference7Ideal.Own

open Cert.Reference7Ideal Cert.Reference7Ideal.Read Cert.Kernel7Ideal.Own

variable (a : FVec Ideal S4x896x1024 .bf16) (w m v : FVec Ideal S840x1024 .f32) (r : Fin 840) (j : Fin 1024)

theorem v2_at : val_main_v2 (F := Ideal) a (ix2 r j) = total fun p => a (ix3 p (up r) j) := by
  pointwise [val_main_v2, val_main_v1, val_main_v0, val_main_cst, total, up]
theorem v7_at : val_main_v7 (F := Ideal) a m (ix2 r j) = newM (val_main_v2 (F := Ideal) a (ix2 r j)) (m (ix2 r j)) := by
  unfold val_main_v7 val_main_v6
  generalize val_main_v2 (F := Ideal) a = y
  pointwise [val_main_v5, val_main_v4, val_main_v3, val_main_cst_0, val_main_cst_1, newM]
theorem v13_at : val_main_v13 (F := Ideal) a v (ix2 r j) = newV (val_main_v2 (F := Ideal) a (ix2 r j)) (v (ix2 r j)) := by
  unfold val_main_v13 val_main_v12 val_main_v10
  generalize val_main_v2 (F := Ideal) a = y
  pointwise [val_main_v11, val_main_v9, val_main_v8, val_main_cst_2, val_main_cst_3, newV]
theorem v26_at : val_main_v26 (F := Ideal) a w m v (ix2 r j)
    = change (w (ix2 r j)) (val_main_v7 (F := Ideal) a m (ix2 r j)) (val_main_v13 (F := Ideal) a v (ix2 r j)) := by
  unfold val_main_v26 val_main_v24 val_main_v21 val_main_v20 val_main_v18 val_main_v17 val_main_v15
  generalize val_main_v7 (F := Ideal) a m = y
  generalize val_main_v13 (F := Ideal) a v = z
  pointwise [val_main_v25, val_main_v23, val_main_v22, val_main_v19, val_main_v16, val_main_v14, val_main_cst_4, val_main_cst_5, val_main_cst_6, val_main_cst_7, val_main_cst_8, change]

end Cert.Reference7Ideal.Own

end
-- ==== Proof.BClaim.lean ====
/- The sum of the chips' gradients and its step: the claims of the call. -/
module

public import proofs.«01_k».proof.Defs
public import proofs.«01_k».proof.Proof.Gen.Kernel7
public import proofs.«01_k».proof.Proof.BVal
public import Idealize.ShloMosaic.Adequacy
public import Idealize.ShloMosaic.Init

@[expose] public section

set_option maxRecDepth 16384

noncomputable section

namespace Cert.Proof.B

open Idealize.ShloMosaic Idealize.ShloMosaic.TcCoe Idealize.SL.Sem

/-- The kernel and the program read at the reals are the same text. -/
theorem body_eq (F : FTy → Type) [FloatOps F] : @Cert.Kernel7.cc0_adam_w_in F _ Cert.Kernel7.Gen.facts = @Cert.Kernel7Ideal.cc0_adam_w_in F _ Cert.Kernel7Ideal.Gen.facts := rfl

set_option maxHeartbeats 1600000 in
theorem defs₀_eq (F : FTy → Type) [FloatOps F] : @Cert.Kernel7.defs₀ F _ Cert.Kernel7.Gen.facts = @Cert.Kernel7Ideal.defs₀ F _ Cert.Kernel7Ideal.Gen.facts := by
  unfold Cert.Kernel7.defs₀ Cert.Kernel7Ideal.defs₀
  refine congrArg Defs.onTc (funext fun l => funext fun a => ?_)
  match l, a with
  | ⟨0, _⟩, (t, s) => dsimp only; rw [body_eq]; rfl

theorem defs_eq (F : FTy → Type) [FloatOps F] : @Cert.Kernel7.defs F _ Cert.Kernel7.Gen.facts = @Cert.Kernel7Ideal.defs F _ Cert.Kernel7Ideal.Gen.facts :=
  congrArg (Pipeline.defs Cert.Kernel7.pcfgs) (defs₀_eq F)

theorem main_eq (F : FTy → Type) [FloatOps F] : @Cert.Kernel7.main F _ = @Cert.Kernel7Ideal.main F _ := rfl

theorem kernelFrame : Cert.quiescent_Kernel7 (hKernel7 := Cert.Kernel7.Gen.facts) := fun m ρ _ => by
  have h := Cert.Kernel7Ideal.Gen.frame (F := Bits) m ρ
  rw [← defs_eq Bits, ← main_eq Bits] at h
  exact h

/-- The reference is one straight line of host operations and it has no counter. -/
theorem refFrame : Cert.quiescent_Reference7Ideal (hReference7Ideal := Cert.Reference7Ideal.Gen.facts) := fun m ρ _ =>
  (θ_run _ _ _).mono (fun r h => ⟨fun c => (h c).2.2.2.2, sem_eq_zero_of_no_sems (by decide) r.2⟩) (Cert.Reference7Ideal.Value.run m ρ)

section
open Cert.Own Cert.Kernel7Ideal.Own Cert.Reference7Ideal.Own Cert.Reference7Ideal.Read

variable (m : (ℓ : Loc Cert.Kernel7Ideal.nD Cert.Kernel7Ideal.τ Cert.Kernel7Ideal.sig) → Buf (Elt Ideal) ℓ) (c : Dev Cert.Kernel7Ideal.nD)

/-- The reference's four arrays are the kernel's. -/
theorem ref_g : val_main_v2 (F := Ideal) (argP m c) = gArr m c := funext fun i => by
  obtain ⟨r, j, rfl⟩ : ∃ (r : Fin 840) (j : Fin 1024), i = ix2 r j := ⟨i 0, i 1, eq_ix2 i⟩
  exact v2_at _ r j
theorem ref_m : val_main_v7 (F := Ideal) (argP m c) (argM m c) = mArr m c := funext fun i => by
  obtain ⟨r, j, rfl⟩ : ∃ (r : Fin 840) (j : Fin 1024), i = ix2 r j := ⟨i 0, i 1, eq_ix2 i⟩
  exact (v7_at _ _ r j).trans (by rw [ref_g]; rfl)
theorem ref_v : val_main_v13 (F := Ideal) (argP m c) (argV m c) = vArr m c := funext fun i => by
  obtain ⟨r, j, rfl⟩ : ∃ (r : Fin 840) (j : Fin 1024), i = ix2 r j := ⟨i 0, i 1, eq_ix2 i⟩
  exact (v13_at _ _ r j).trans (by rw [ref_g]; rfl)
theorem ref_d : val_main_v26 (F := Ideal) (argP m c) (argW m c) (argM m c) (argV m c) = dArr m c := funext fun i => by
  obtain ⟨r, j, rfl⟩ : ∃ (r : Fin 840) (j : Fin 1024), i = ix2 r j := ⟨i 0, i 1, eq_ix2 i⟩
  exact (v26_at _ _ _ _ r j).trans (by rw [ref_m, ref_v]; rfl)
end

/-- The two programs leave the same four arrays. -/
theorem sameResults : Cert.algebraic_Kernel7Ideal_Reference7Ideal (hKernel7Ideal := Cert.Kernel7Ideal.Gen.facts)
    (hReference7Ideal := Cert.Reference7Ideal.Gen.facts) := fun m ρ m' ρ' _ hargs => by
  refine ⟨fun c => Cert.Kernel7Ideal.Own.gArr m c, fun c => Cert.Kernel7Ideal.Own.dArr m c, fun c => Cert.Kernel7Ideal.Own.mArr m c,
    fun c => Cert.Kernel7Ideal.Own.vArr m c, ?_, ?_⟩
  · refine (θ_run _ _ _).mono (fun r h c => ?_) (Cert.Kernel7Ideal.Value.run_blocks (F := Ideal) m ρ)
    obtain ⟨h0, h1, h2, h3, h4⟩ := h c
    exact ⟨h0.trans (Cert.Kernel7Ideal.Own.g_value m c), h1.trans (Cert.Kernel7Ideal.Own.d_value m c), h2.trans (Cert.Kernel7Ideal.Own.m_value m c),
      h3.trans (Cert.Kernel7Ideal.Own.v_value m c), h4⟩
  · refine (θ_run _ _ _).mono (fun r h c => ?_) (Cert.Reference7Ideal.Value.run (F := Ideal) m' ρ')
    obtain ⟨h0, h1, h2, h3, h4⟩ := h c
    obtain ⟨e0, e1, e2, e3⟩ := hargs c
    have k0 := h0.trans (Cert.Reference7Ideal.Read.val_main_v2_eq _)
    have k1 := h1.trans (Cert.Reference7Ideal.Read.val_main_v26_eq _ _ _ _)
    have k2 := h2.trans (Cert.Reference7Ideal.Read.val_main_v7_eq _ _)
    have k3 := h3.trans (Cert.Reference7Ideal.Read.val_main_v13_eq _ _)
    rw [e0] at k0
    rw [e0, e1, e2, e3] at k1
    rw [e0, e2] at k2
    rw [e0, e3] at k3
    exact ⟨k0.trans (ref_g m c), k1.trans (ref_d m c), k2.trans (ref_m m c), k3.trans (ref_v m c), h4⟩

end Cert.Proof.B

end
-- ==== Proof.CVal.lean ====
/- The shift, the scale and the gate of the conditioning: the array of the call and of the reference, entry by entry. -/
module

public import proofs.«01_k».proof.Proof.AMath
public import proofs.«01_k».proof.Proof.Gen.Kernel8Ideal.Value
public import proofs.«01_k».proof.Proof.Gen.Reference8Ideal.Read

@[expose] public section

set_option maxRecDepth 16384

noncomputable section

open Idealize.ShloMosaic Idealize.ShloMosaic.TcCoe Idealize.SL.Sem Cert.Own

namespace Cert.Kernel8Ideal.Own

open Cert.Kernel8Ideal Cert.Kernel8Ideal.Gen

variable (a0 : Vec Ideal S8x1024 .f32) (a1 : Vec Ideal S1024x384 .f32) (a2 : Vec Ideal S1x384 .f32) (n : Fin 8) (j : Fin 384)

theorem pay1_at : k0_pay1 a0 a1 a2 (ix2 n j) = (∑ k : Fin 1024, silu (a0 (ix2 n k)) * a1 (ix2 k j)) + a2 (ix2 0 j) := by
  pointwise [k0_pay1, silu]

end Cert.Kernel8Ideal.Own

namespace Cert.Reference8Ideal.Own

open Cert.Reference8Ideal Cert.Reference8Ideal.Read

variable (a0 : Vec Ideal S8x1024 .f32) (a1 : Vec Ideal S1024x384 .f32) (a2 : Vec Ideal S1x384 .f32) (n : Fin 8) (j : Fin 384)

theorem v0_at (k : Fin 1024) : val_main_v0 (F := Ideal) a0 (ix2 n k) = silu (a0 (ix2 n k)) := by
  pointwise [val_main_v0, val_main_call0_v5, val_main_call0_v4, val_main_call0_v3, val_main_call0_v2, val_main_call0_v1, val_main_call0_v0, val_main_call0_cst, val_main_call0_cst_0, silu]
  rfl
theorem v3_at : val_main_v3 (F := Ideal) a0 a1 a2 (ix2 n j) = (∑ k : Fin 1024, silu (a0 (ix2 n k)) * a1 (ix2 k j)) + a2 (ix2 0 j) := by
  have h : val_main_v3 (F := Ideal) a0 a1 a2 (ix2 n j) = (∑ k : Fin 1024, val_main_v0 (F := Ideal) a0 (ix2 n k) * a1 (ix2 k j)) + a2 (ix2 0 j) := by
    unfold val_main_v3 val_main_v1
    generalize val_main_v0 (F := Ideal) a0 = y
    pointwise [val_main_v2]
  rw [h]
  exact congrArg (· + _) (Finset.sum_congr rfl fun k _ => by rw [v0_at])

end Cert.Reference8Ideal.Own

namespace Cert.Own

open Cert.Kernel8Ideal.Gen Cert.Kernel8Ideal.Own Cert.Reference8Ideal.Own Cert.Reference8Ideal.Read

/-- The reference's array is the call's. -/
theorem same_shift (a0 : Vec Ideal Cert.Kernel8Ideal.S8x1024 .f32) (a1 : Vec Ideal Cert.Kernel8Ideal.S1024x384 .f32) (a2 : Vec Ideal Cert.Kernel8Ideal.S1x384 .f32) :
    val_main_v3 (F := Ideal) a0 a1 a2 = k0_pay1 a0 a1 a2 := funext fun i => by
  obtain ⟨n, j, rfl⟩ : ∃ (n : Fin 8) (j : Fin 384), i = ix2 n j := ⟨i 0, i 1, eq_ix2 i⟩
  exact (v3_at a0 a1 a2 n j).trans (pay1_at a0 a1 a2 n j).symm

end Cert.Own

end
-- ==== Proof.CClaim.lean ====
/- The shift, the scale and the gate of the conditioning: the claims of the call. -/
module

public import proofs.«01_k».proof.Defs
public import proofs.«01_k».proof.Proof.Gen.Kernel8
public import proofs.«01_k».proof.Proof.CVal
public import Idealize.ShloMosaic.Adequacy
public import Idealize.ShloMosaic.Init

@[expose] public section

set_option maxRecDepth 16384

noncomputable section

namespace Cert.Proof.C

open Idealize.ShloMosaic Idealize.ShloMosaic.TcCoe Idealize.SL.Sem

/-- The kernel and the program read at the reals are the same text. -/
theorem body_eq (F : FTy → Type) [FloatOps F] : @Cert.Kernel8.cc0_ada_mod F _ Cert.Kernel8.Gen.facts = @Cert.Kernel8Ideal.cc0_ada_mod F _ Cert.Kernel8Ideal.Gen.facts := rfl

set_option maxHeartbeats 1600000 in
theorem defs₀_eq (F : FTy → Type) [FloatOps F] : @Cert.Kernel8.defs₀ F _ Cert.Kernel8.Gen.facts = @Cert.Kernel8Ideal.defs₀ F _ Cert.Kernel8Ideal.Gen.facts := by
  unfold Cert.Kernel8.defs₀ Cert.Kernel8Ideal.defs₀
  refine congrArg Defs.onTc (funext fun l => funext fun a => ?_)
  match l, a with
  | ⟨0, _⟩, (t, s) => dsimp only; rw [body_eq]

theorem defs_eq (F : FTy → Type) [FloatOps F] : @Cert.Kernel8.defs F _ Cert.Kernel8.Gen.facts = @Cert.Kernel8Ideal.defs F _ Cert.Kernel8Ideal.Gen.facts :=
  congrArg (Pipeline.defs Cert.Kernel8.pcfgs) (defs₀_eq F)

theorem main_eq (F : FTy → Type) [FloatOps F] : @Cert.Kernel8.main F _ = @Cert.Kernel8Ideal.main F _ := rfl

theorem kernelFrame : Cert.quiescent_Kernel8 (hKernel8 := Cert.Kernel8.Gen.facts) := fun m ρ _ => by
  have h := Cert.Kernel8Ideal.Gen.frame (F := Bits) m ρ
  rw [← defs_eq Bits, ← main_eq Bits] at h
  exact h

/-- The reference is one straight line of host operations and it has no counter. -/
theorem refFrame : Cert.quiescent_Reference8Ideal (hReference8Ideal := Cert.Reference8Ideal.Gen.facts) := fun m ρ _ =>
  (θ_run _ _ _).mono (fun r h => ⟨fun c => (h c).2, sem_eq_zero_of_no_sems (by decide) r.2⟩) (Cert.Reference8Ideal.Value.run m ρ)

open Cert.Kernel8Ideal Cert.Kernel8Ideal.Gen in
/-- The two programs leave the same array. -/
theorem sameResults : Cert.algebraic_Kernel8Ideal_Reference8Ideal (hKernel8Ideal := Cert.Kernel8Ideal.Gen.facts)
    (hReference8Ideal := Cert.Reference8Ideal.Gen.facts) := fun m ρ m' ρ' _ hargs => by
  refine ⟨fun c => k0_pay1 (m ((c : Thread nD τ).loc main_arg0)) (m ((c : Thread nD τ).loc main_arg1)) (m ((c : Thread nD τ).loc main_arg2)), ?_, ?_⟩
  · exact (θ_run _ _ _).mono (fun r h c => h c) (Cert.Kernel8Ideal.Value.run (F := Ideal) m ρ)
  · refine (θ_run _ _ _).mono (fun r h c => ?_) (Cert.Reference8Ideal.Value.run (F := Ideal) m' ρ')
    obtain ⟨h0, h1⟩ := h c
    obtain ⟨e0, e1, e2⟩ := hargs c
    have k0 := h0.trans (Cert.Reference8Ideal.Read.val_main_v3_eq _ _ _)
    rw [e0, e1, e2] at k0
    exact ⟨k0.trans (Cert.Own.same_shift _ _ _), h1⟩

end Cert.Proof.C

end
-- ==== Proof.DVal.lean ====
/- The sum of the devices' small gradients and its step: the arrays of the call and of the reference, entry by entry. -/
module

public import proofs.«01_k».proof.Proof.AMath
public import proofs.«01_k».proof.Proof.Gen.Kernel9Ideal.Value
public import proofs.«01_k».proof.Proof.Gen.Reference9Ideal.Read
public import Idealize.ShloMosaic.Lib.Pipeline.ValueKit

@[expose] public section

set_option maxRecDepth 16384

noncomputable section

open Idealize.ShloMosaic Idealize.ShloMosaic.TcCoe Idealize.SL.Sem Cert.Own

namespace Cert.Kernel9Ideal.Own

open Cert.Kernel9Ideal Cert.Kernel9Ideal.Gen

variable (x : Vec Ideal S8x8x1152 .f32) (g w m v : Vec Ideal S8x1152 .f32) (r : Fin 8) (s : Fin 1152)

theorem slab_at (p : Fin 8) (inb) : View.ld x (Rect.unit (s := S8x8x1152) ![p.val, 0, 0] S1x8x1152.size inb) (ix3 0 r s) = x (ix3 p r s) :=
  View.ld_unit_apply_of (Val := Elt Ideal) x _ _ _ _ _ fun a => by match a with
    | ⟨0, _⟩ => rfl
    | ⟨1, _⟩ => exact (Nat.zero_add _).symm
    | ⟨2, _⟩ => exact (Nat.zero_add _).symm

theorem pay4_at (a b d e f h k l : Vec Ideal S1x8x1152 .f32) : k0_pay4 a b d e f h k l (ix2 r s)
    = a (ix3 0 r s) + b (ix3 0 r s) + d (ix3 0 r s) + e (ix3 0 r s) + f (ix3 0 r s) + h (ix3 0 r s) + k (ix3 0 r s) + l (ix3 0 r s) := by
  pointwise [k0_pay4]
theorem total_at : k0_pay6 x w m v (ix2 r s) = ∑ p : Fin 8, x (ix3 p r s) := by
  unfold k0_pay6
  rw [pay4_at, Fin.sum_univ_eight]
  exact congrArg₂ (· + ·) (congrArg₂ (· + ·) (congrArg₂ (· + ·) (congrArg₂ (· + ·) (congrArg₂ (· + ·) (congrArg₂ (· + ·) (congrArg₂ (· + ·)
    (slab_at x r s 0 _) (slab_at x r s 1 _)) (slab_at x r s 2 _)) (slab_at x r s 3 _)) (slab_at x r s 4 _)) (slab_at x r s 5 _)) (slab_at x r s 6 _)) (slab_at x r s 7 _)

theorem zero2 : (fun a : Fin 2 => (![0, 0] : Fin 2 → Nat) a) = fun _ => 0 := by decide

theorem whole_m : k0_pay7 x w m v = k0_pay5 m := by
  unfold k0_pay7
  rw [View.ld_unit_zero (S := S8x1152) zero2]
theorem pay1_at : k0_pay1 g (k0_pay5 m) (ix2 r s) = newM (g (ix2 r s)) (m (ix2 r s)) := by
  pointwise [k0_pay1, k0_pay5, newM]
theorem pay2_at : k0_pay2 g v (ix2 r s) = newV (g (ix2 r s)) (v (ix2 r s)) := by
  pointwise [k0_pay2, newV]
theorem pay3_at : k0_pay3 g w v (k0_pay5 m) (ix2 r s) = change (w (ix2 r s)) (k0_pay1 g (k0_pay5 m) (ix2 r s)) (k0_pay2 g v (ix2 r s)) := by
  unfold k0_pay3
  generalize k0_pay1 (F := Ideal) g (k0_pay5 m) = y
  generalize k0_pay2 (F := Ideal) g v = z
  pointwise [change]

end Cert.Kernel9Ideal.Own

namespace Cert.Reference9Ideal.Own

open Cert.Reference9Ideal Cert.Reference9Ideal.Read

variable (x : FVec Ideal S8x8x1152 .f32) (w m v : FVec Ideal S8x1152 .f32) (r : Fin 8) (j : Fin 1152)

theorem v0_at : val_main_v0 (F := Ideal) x (ix2 r j) = ∑ p : Fin 8, x (ix3 p r j) := by
  pointwise [val_main_v0, val_main_cst]
theorem v5_at : val_main_v5 (F := Ideal) x m (ix2 r j) = newM (val_main_v0 (F := Ideal) x (ix2 r j)) (m (ix2 r j)) := by
  unfold val_main_v5 val_main_v4
  generalize val_main_v0 (F := Ideal) x = y
  pointwise [val_main_v3, val_main_v2, val_main_v1, val_main_cst_0, val_main_cst_1, newM]
theorem v11_at : val_main_v11 (F := Ideal) x v (ix2 r j) = newV (val_main_v0 (F := Ideal) x (ix2 r j)) (v (ix2 r j)) := by
  unfold val_main_v11 val_main_v10 val_main_v8
  generalize val_main_v0 (F := Ideal) x = y
  pointwise [val_main_v9, val_main_v7, val_main_v6, val_main_cst_2, val_main_cst_3, newV]
theorem v24_at : val_main_v24 (F := Ideal) x w m v (ix2 r j)
    = change (w (ix2 r j)) (val_main_v5 (F := Ideal) x m (ix2 r j)) (val_main_v11 (F := Ideal) x v (ix2 r j)) := by
  unfold val_main_v24 val_main_v22 val_main_v19 val_main_v18 val_main_v16 val_main_v15 val_main_v13
  generalize val_main_v5 (F := Ideal) x m = y
  generalize val_main_v11 (F := Ideal) x v = z
  pointwise [val_main_v23, val_main_v21, val_main_v20, val_main_v17, val_main_v14, val_main_v12, val_main_cst_4, val_main_cst_5, val_main_cst_6, val_main_cst_7, val_main_cst_8, change]

end Cert.Reference9Ideal.Own

namespace Cert.Small

open Cert.Kernel9Ideal.Gen Cert.Kernel9Ideal.Value Cert.Kernel9Ideal.Own Cert.Reference9Ideal.Own Cert.Reference9Ideal.Read

variable (x : FVec Ideal Cert.Kernel9Ideal.S8x8x1152 .f32) (w m v : FVec Ideal Cert.Kernel9Ideal.S8x1152 .f32)

/-- The reference's arrays are the call's. -/
theorem same_grad : val_main_v0 (F := Ideal) x = G4 x w m v := funext fun i => by
  obtain ⟨r, j, rfl⟩ : ∃ (r : Fin 8) (j : Fin 1152), i = ix2 r j := ⟨i 0, i 1, eq_ix2 i⟩
  exact (v0_at x r j).trans (total_at x w m v r j).symm
theorem same_m : val_main_v5 (F := Ideal) x m = G6 x w m v := funext fun i => by
  obtain ⟨r, j, rfl⟩ : ∃ (r : Fin 8) (j : Fin 1152), i = ix2 r j := ⟨i 0, i 1, eq_ix2 i⟩
  refine (v5_at x m r j).trans ?_
  rw [same_grad x w m v]
  unfold G6
  rw [whole_m]
  exact (pay1_at _ m r j).symm
theorem same_v : val_main_v11 (F := Ideal) x v = G7 x w m v := funext fun i => by
  obtain ⟨r, j, rfl⟩ : ∃ (r : Fin 8) (j : Fin 1152), i = ix2 r j := ⟨i 0, i 1, eq_ix2 i⟩
  refine (v11_at x v r j).trans ?_
  rw [same_grad x w m v]
  exact (pay2_at _ v r j).symm
theorem same_change : val_main_v24 (F := Ideal) x w m v = G5 x w m v := funext fun i => by
  obtain ⟨r, j, rfl⟩ : ∃ (r : Fin 8) (j : Fin 1152), i = ix2 r j := ⟨i 0, i 1, eq_ix2 i⟩
  refine (v24_at x w m v r j).trans ?_
  rw [same_m x w m v, same_v x w m v]
  unfold G5 G6 G7
  rw [whole_m]
  exact (pay3_at _ w m v r j).symm

end Cert.Small

end
-- ==== Proof.DClaim.lean ====
/- The sum of the devices' small gradients and its step: the claims of the call. -/
module

public import proofs.«01_k».proof.Defs
public import proofs.«01_k».proof.Proof.Gen.Kernel9
public import proofs.«01_k».proof.Proof.DVal
public import Idealize.ShloMosaic.Adequacy
public import Idealize.ShloMosaic.Init

@[expose] public section

set_option maxRecDepth 16384

noncomputable section

namespace Cert.Proof.D

open Idealize.ShloMosaic Idealize.ShloMosaic.TcCoe Idealize.SL.Sem

/-- The kernel and the program read at the reals are the same text. -/
theorem body_eq (F : FTy → Type) [FloatOps F] : @Cert.Kernel9.cc0_adam_replicated F _ Cert.Kernel9.Gen.facts = @Cert.Kernel9Ideal.cc0_adam_replicated F _ Cert.Kernel9Ideal.Gen.facts := rfl

set_option maxHeartbeats 1600000 in
theorem defs₀_eq (F : FTy → Type) [FloatOps F] : @Cert.Kernel9.defs₀ F _ Cert.Kernel9.Gen.facts = @Cert.Kernel9Ideal.defs₀ F _ Cert.Kernel9Ideal.Gen.facts := by
  unfold Cert.Kernel9.defs₀ Cert.Kernel9Ideal.defs₀
  refine congrArg Defs.onTc (funext fun l => funext fun a => ?_)
  match l, a with
  | ⟨0, _⟩, (t, s) => dsimp only; rw [body_eq]; rfl

theorem defs_eq (F : FTy → Type) [FloatOps F] : @Cert.Kernel9.defs F _ Cert.Kernel9.Gen.facts = @Cert.Kernel9Ideal.defs F _ Cert.Kernel9Ideal.Gen.facts :=
  congrArg (Pipeline.defs Cert.Kernel9.pcfgs) (defs₀_eq F)

theorem main_eq (F : FTy → Type) [FloatOps F] : @Cert.Kernel9.main F _ = @Cert.Kernel9Ideal.main F _ := rfl

theorem kernelFrame : Cert.quiescent_Kernel9 (hKernel9 := Cert.Kernel9.Gen.facts) := fun m ρ _ => by
  have h := Cert.Kernel9Ideal.Gen.frame (F := Bits) m ρ
  rw [← defs_eq Bits, ← main_eq Bits] at h
  exact h

/-- The reference is one straight line of host operations and it has no counter. -/
theorem refFrame : Cert.quiescent_Reference9Ideal (hReference9Ideal := Cert.Reference9Ideal.Gen.facts) := fun m ρ _ =>
  (θ_run _ _ _).mono (fun r h => ⟨fun c => (h c).2.2.2.2, sem_eq_zero_of_no_sems (by decide) r.2⟩) (Cert.Reference9Ideal.Value.run m ρ)

open Cert.Kernel9Ideal Cert.Kernel9Ideal.Gen Cert.Kernel9Ideal.Value in
/-- The two programs leave the same four arrays. -/
theorem sameResults : Cert.algebraic_Kernel9Ideal_Reference9Ideal (hKernel9Ideal := Cert.Kernel9Ideal.Gen.facts)
    (hReference9Ideal := Cert.Reference9Ideal.Gen.facts) := fun m ρ m' ρ' _ hargs => by
  refine ⟨fun c => G4 (m ((c : Thread nD τ).loc main_arg0)) (m ((c : Thread nD τ).loc main_arg1)) (m ((c : Thread nD τ).loc main_arg2)) (m ((c : Thread nD τ).loc main_arg3)),
    fun c => G5 (m ((c : Thread nD τ).loc main_arg0)) (m ((c : Thread nD τ).loc main_arg1)) (m ((c : Thread nD τ).loc main_arg2)) (m ((c : Thread nD τ).loc main_arg3)),
    fun c => G6 (m ((c : Thread nD τ).loc main_arg0)) (m ((c : Thread nD τ).loc main_arg1)) (m ((c : Thread nD τ).loc main_arg2)) (m ((c : Thread nD τ).loc main_arg3)),
    fun c => G7 (m ((c : Thread nD τ).loc main_arg0)) (m ((c : Thread nD τ).loc main_arg1)) (m ((c : Thread nD τ).loc main_arg2)) (m ((c : Thread nD τ).loc main_arg3)), ?_, ?_⟩
  · exact (θ_run _ _ _).mono (fun r h c => h c) (Cert.Kernel9Ideal.Value.run (F := Ideal) m ρ)
  · refine (θ_run _ _ _).mono (fun r h c => ?_) (Cert.Reference9Ideal.Value.run (F := Ideal) m' ρ')
    obtain ⟨h0, h1, h2, h3, h4⟩ := h c
    obtain ⟨e0, e1, e2, e3⟩ := hargs c
    have k0 := h0.trans (Cert.Reference9Ideal.Read.val_main_v0_eq _)
    have k1 := h1.trans (Cert.Reference9Ideal.Read.val_main_v24_eq _ _ _ _)
    have k2 := h2.trans (Cert.Reference9Ideal.Read.val_main_v5_eq _ _)
    have k3 := h3.trans (Cert.Reference9Ideal.Read.val_main_v11_eq _ _)
    rw [e0] at k0
    rw [e0, e1, e2, e3] at k1
    rw [e0, e2] at k2
    rw [e0, e3] at k3
    exact ⟨k0.trans (Cert.Small.same_grad _ _ _ _), k1.trans (Cert.Small.same_change _ _ _ _), k2.trans (Cert.Small.same_m _ _ _ _), k3.trans (Cert.Small.same_v _ _ _ _), h4⟩

end Cert.Proof.D

end
-- ==== Proof.EVal.lean ====
/- The last rows of the sum of the chips' gradients and its step: the arrays of the call and of the reference, entry by entry. -/
module

public import proofs.«01_k».proof.Proof.AMath
public import proofs.«01_k».proof.Proof.Gen.Kernel11Ideal.Value
public import proofs.«01_k».proof.Proof.Gen.Reference11Ideal.Read
public import Idealize.ShloMosaic.Lib.Pipeline.ValueKit

@[expose] public section

set_option maxRecDepth 16384

noncomputable section

open Idealize.ShloMosaic Idealize.ShloMosaic.TcCoe Idealize.SL.Sem Cert.Own

namespace Cert.Kernel11Ideal.Own

open Cert.Kernel11Ideal Cert.Kernel11Ideal.Gen

/-- A row of the weights among the rows of a chip's gradient. -/
def up (r : Fin 128) : Fin 512 := ⟨384 + r.val, by omega⟩

section
variable (x : Vec Ideal S4x128x1024 .bf16) (a b d e : Vec Ideal S1x128x1024 .bf16) (w m v : Vec Ideal S128x1024 .f32) (r : Fin 128) (s : Fin 1024)

theorem pay2_at : k0_pay2 a b d e (ix2 r s) = a (ix3 0 r s) + b (ix3 0 r s) + d (ix3 0 r s) + e (ix3 0 r s) := by
  pointwise [k0_pay2]
theorem pay3_at : k0_pay3 a b d e m (ix2 r s) = newM (k0_pay2 a b d e (ix2 r s)) (m (ix2 r s)) := by
  unfold k0_pay3
  generalize k0_pay2 (F := Ideal) a b d e = y
  pointwise [newM]
theorem pay4_at : k0_pay4 a b d e v (ix2 r s) = newV (k0_pay2 a b d e (ix2 r s)) (v (ix2 r s)) := by
  unfold k0_pay4
  generalize k0_pay2 (F := Ideal) a b d e = y
  pointwise [newV]
theorem pay1_at : k0_pay1 w (k0_pay5 a b d e m) (k0_pay6 a b d e v) (Scalar.ofBits .f32 0x322BCC77#32) (ix2 r s)
    = change (w (ix2 r s)) (k0_pay3 a b d e m (ix2 r s)) (k0_pay4 a b d e v (ix2 r s)) := by
  unfold k0_pay1 k0_pay5 k0_pay6
  generalize k0_pay3 (F := Ideal) a b d e m = y
  generalize k0_pay4 (F := Ideal) a b d e v = z
  pointwise [change]

/-- The sum of the four chips' entries. -/
def total (f : Fin 4 → EReal) : EReal := ∑ p : Fin 4, f p

theorem slab_at (p : Fin 4) (inb) (q : Fin 128) :
    View.ld x (Rect.unit (s := S4x128x1024) ![p.val, 0, 0] S1x128x1024.size inb) (ix3 0 q s) = x (ix3 p q s) :=
  View.ld_unit_apply_of (Val := Elt Ideal) x _ _ _ _ _ fun a => by match a with
    | ⟨0, _⟩ => rfl
    | ⟨1, _⟩ => exact (Nat.zero_add _).symm
    | ⟨2, _⟩ => exact (Nat.zero_add _).symm

theorem total_at : k0_pay2 (View.ld x r0_0) (View.ld x r0_1) (View.ld x r0_2) (View.ld x r0_3) (ix2 r s) = total fun p => x (ix3 p r s) := by
  rw [pay2_at]
  unfold total
  rw [Fin.sum_univ_four]
  exact congrArg₂ (· + ·) (congrArg₂ (· + ·) (congrArg₂ (· + ·) (slab_at x s 0 _ _) (slab_at x s 1 _ _)) (slab_at x s 2 _ _)) (slab_at x s 3 _ _)
end

theorem zero2 : (fun a : Fin 2 => (![0, 0] : Fin 2 → Nat) a) = fun _ => 0 := by decide

section
variable (x : Vec Ideal S4x128x1024 .bf16) (w m v : Vec Ideal S128x1024 .f32) (r : Fin 128) (s : Fin 1024)

theorem out4_at : out0_4 x w m v (ix2 r s) = total fun p => x (ix3 p r s) := by
  unfold out0_4
  rw [View.canon_unit_zero (S := S128x1024) zero2, total_at]
theorem out6_at : out0_6 x w m v (ix2 r s) = newM (total fun p => x (ix3 p r s)) (m (ix2 r s)) := by
  unfold out0_6
  rw [View.canon_unit_zero (S := S128x1024) zero2, View.ld_unit_zero (S := S128x1024) zero2, pay3_at, total_at]
theorem out7_at : out0_7 x w m v (ix2 r s) = newV (total fun p => x (ix3 p r s)) (v (ix2 r s)) := by
  unfold out0_7
  rw [View.canon_unit_zero (S := S128x1024) zero2, View.ld_unit_zero (S := S128x1024) zero2, pay4_at, total_at]
theorem out5_at : out0_5 x w m v (ix2 r s)
    = change (w (ix2 r s)) (newM (total fun p => x (ix3 p r s)) (m (ix2 r s))) (newV (total fun p => x (ix3 p r s)) (v (ix2 r s))) := by
  unfold out0_5
  simp only [View.ld_unit_zero (S := S128x1024) zero2]
  rw [View.canon_unit_zero (S := S128x1024) zero2, pay1_at, pay3_at, pay4_at, total_at]
end

variable (m : (ℓ : Loc nD τ sig) → Buf (Elt Ideal) ℓ) (c : Dev nD)

/-- The call's arguments. -/
def argP : FVec Ideal S4x512x1024 .bf16 := m ((c : Thread nD τ).loc main_arg0)
def argW : FVec Ideal S128x1024 .f32 := m ((c : Thread nD τ).loc main_arg1)
def argM : FVec Ideal S128x1024 .f32 := m ((c : Thread nD τ).loc main_arg2)
def argV : FVec Ideal S128x1024 .f32 := m ((c : Thread nD τ).loc main_arg3)

/-- The four arrays that the call leaves. -/
def gArr : FVec Ideal S128x1024 .f32 := fun i => total fun p => argP m c (ix3 p (up (i 0)) (i 1))
def mArr : FVec Ideal S128x1024 .f32 := fun i => newM (gArr m c i) (argM m c i)
def vArr : FVec Ideal S128x1024 .f32 := fun i => newV (gArr m c i) (argV m c i)
def dArr : FVec Ideal S128x1024 .f32 := fun i => change (argW m c i) (mArr m c i) (vArr m c i)

/-- Where a point's blocks lie. -/
theorem idxP : ∀ t : Fin cfg0.N, win0_0.index t = ![0, 3, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

theorem p_at (t : Fin cfg0.N) (p : Fin 4) (q : Fin 128) (s : Fin 1024) : iblk m c 0 t (ix3 p q s) = argP m c (ix3 p (up q) s) := by
  unfold iblk argP
  blk_ext [idxP t, up]
theorem w_at (t : Fin cfg0.N) (r : Fin 128) (s : Fin 1024) : iblk m c 1 t (ix2 r s) = argW m c (ix2 r s) := by
  unfold iblk argW
  blk_ext [idx1 t]
theorem m_at (t : Fin cfg0.N) (r : Fin 128) (s : Fin 1024) : iblk m c 2 t (ix2 r s) = argM m c (ix2 r s) := by
  unfold iblk argM
  blk_ext [idx2 t]
theorem v_at (t : Fin cfg0.N) (r : Fin 128) (s : Fin 1024) : iblk m c 3 t (ix2 r s) = argV m c (ix2 r s) := by
  unfold iblk argV
  blk_ext [idx3 t]

/-- The sum of a point's blocks is its block of the sum. -/
theorem g_at (t : Fin cfg0.N) (r : Fin 128) (s : Fin 1024) : (total fun p => iblk m c 0 t (ix3 p r s)) = gArr m c (ix2 r s) :=
  congrArg total (funext fun p => p_at m c t p r s)

theorem g_value : (dats m 0 c).arrAt 4 cfg0.N = gArr m c := by
  refine (dats m 0 c).arrAt_eq_of_covers 4 _ (by decide +kernel) fun t _ y => ?_
  blk_simp
  rw [after0_4]
  obtain ⟨r, s, rfl⟩ : ∃ (r : Fin 128) (s : Fin 1024), y = ix2 r s := ⟨y 0, y 1, eq_ix2 y⟩
  refine (out4_at _ _ _ _ r s).trans ((g_at m c t r s).trans (congrArg (gArr m c) ?_))
  blk_ext [idx4 t]
theorem m_value : (dats m 0 c).arrAt 6 cfg0.N = mArr m c := by
  refine (dats m 0 c).arrAt_eq_of_covers 6 _ (by decide +kernel) fun t _ y => ?_
  blk_simp
  rw [after0_6]
  obtain ⟨r, s, rfl⟩ : ∃ (r : Fin 128) (s : Fin 1024), y = ix2 r s := ⟨y 0, y 1, eq_ix2 y⟩
  refine (out6_at _ _ _ _ r s).trans ?_
  rw [g_at, m_at]
  refine congrArg (mArr m c) ?_
  blk_ext [idx6 t]
theorem v_value : (dats m 0 c).arrAt 7 cfg0.N = vArr m c := by
  refine (dats m 0 c).arrAt_eq_of_covers 7 _ (by decide +kernel) fun t _ y => ?_
  blk_simp
  rw [after0_7]
  obtain ⟨r, s, rfl⟩ : ∃ (r : Fin 128) (s : Fin 1024), y = ix2 r s := ⟨y 0, y 1, eq_ix2 y⟩
  refine (out7_at _ _ _ _ r s).trans ?_
  rw [g_at, v_at]
  refine congrArg (vArr m c) ?_
  blk_ext [idx7 t]
theorem d_value : (dats m 0 c).arrAt 5 cfg0.N = dArr m c := by
  refine (dats m 0 c).arrAt_eq_of_covers 5 _ (by decide +kernel) fun t _ y => ?_
  blk_simp
  rw [after0_5]
  obtain ⟨r, s, rfl⟩ : ∃ (r : Fin 128) (s : Fin 1024), y = ix2 r s := ⟨y 0, y 1, eq_ix2 y⟩
  refine (out5_at _ _ _ _ r s).trans ?_
  rw [g_at, w_at, m_at, v_at]
  refine congrArg (dArr m c) ?_
  blk_ext [idx5 t]

end Cert.Kernel11Ideal.Own

namespace Cert.Reference11Ideal.Own

open Cert.Reference11Ideal Cert.Reference11Ideal.Read Cert.Kernel11Ideal.Own

variable (a : FVec Ideal S4x512x1024 .bf16) (w m v : FVec Ideal S128x1024 .f32) (r : Fin 128) (j : Fin 1024)

theorem v2_at : val_main_v2 (F := Ideal) a (ix2 r j) = total fun p => a (ix3 p (up r) j) := by
  pointwise [val_main_v2, val_main_v1, val_main_v0, val_main_cst, total, up]
theorem v7_at : val_main_v7 (F := Ideal) a m (ix2 r j) = newM (val_main_v2 (F := Ideal) a (ix2 r j)) (m (ix2 r j)) := by
  unfold val_main_v7 val_main_v6
  generalize val_main_v2 (F := Ideal) a = y
  pointwise [val_main_v5, val_main_v4, val_main_v3, val_main_cst_0, val_main_cst_1, newM]
theorem v13_at : val_main_v13 (F := Ideal) a v (ix2 r j) = newV (val_main_v2 (F := Ideal) a (ix2 r j)) (v (ix2 r j)) := by
  unfold val_main_v13 val_main_v12 val_main_v10
  generalize val_main_v2 (F := Ideal) a = y
  pointwise [val_main_v11, val_main_v9, val_main_v8, val_main_cst_2, val_main_cst_3, newV]
theorem v26_at : val_main_v26 (F := Ideal) a w m v (ix2 r j)
    = change (w (ix2 r j)) (val_main_v7 (F := Ideal) a m (ix2 r j)) (val_main_v13 (F := Ideal) a v (ix2 r j)) := by
  unfold val_main_v26 val_main_v24 val_main_v21 val_main_v20 val_main_v18 val_main_v17 val_main_v15
  generalize val_main_v7 (F := Ideal) a m = y
  generalize val_main_v13 (F := Ideal) a v = z
  pointwise [val_main_v25, val_main_v23, val_main_v22, val_main_v19, val_main_v16, val_main_v14, val_main_cst_4, val_main_cst_5, val_main_cst_6, val_main_cst_7, val_main_cst_8, change]

end Cert.Reference11Ideal.Own

end
-- ==== Proof.FVal.lean ====
/- The first rows of the sum of the chips' gradients and its step: the arrays of the call and of the reference, entry by entry. -/
module

public import proofs.«01_k».proof.Proof.EVal
public import proofs.«01_k».proof.Proof.Gen.Kernel10Ideal.Value
public import proofs.«01_k».proof.Proof.Gen.Reference10Ideal.Read
public import Idealize.ShloMosaic.Lib.Pipeline.ValueKit

@[expose] public section

set_option maxRecDepth 16384

noncomputable section

open Idealize.ShloMosaic Idealize.ShloMosaic.TcCoe Idealize.SL.Sem Cert.Own

namespace Cert.Kernel10Ideal.Own

open Cert.Kernel10Ideal Cert.Kernel10Ideal.Gen

/-- A row of the weights among the rows of a chip's gradient. -/
def up (r : Fin 128) : Fin 512 := ⟨r.val, by omega⟩

open Cert.Kernel11Ideal.Own (total)

section
variable (x : Vec Ideal S4x128x1024 .bf16) (w m v : Vec Ideal S128x1024 .f32) (r : Fin 128) (s : Fin 1024)

/- The text is that of the call for the last rows, so its entries are too. -/
theorem out4_at : out0_4 x w m v (ix2 r s) = total fun p => x (ix3 p r s) := Cert.Kernel11Ideal.Own.out4_at x w m v r s
theorem out6_at : out0_6 x w m v (ix2 r s) = newM (total fun p => x (ix3 p r s)) (m (ix2 r s)) := Cert.Kernel11Ideal.Own.out6_at x w m v r s
theorem out7_at : out0_7 x w m v (ix2 r s) = newV (total fun p => x (ix3 p r s)) (v (ix2 r s)) := Cert.Kernel11Ideal.Own.out7_at x w m v r s
theorem out5_at : out0_5 x w m v (ix2 r s)
    = change (w (ix2 r s)) (newM (total fun p => x (ix3 p r s)) (m (ix2 r s))) (newV (total fun p => x (ix3 p r s)) (v (ix2 r s))) :=
  Cert.Kernel11Ideal.Own.out5_at x w m v r s
end

variable (m : (ℓ : Loc nD τ sig) → Buf (Elt Ideal) ℓ) (c : Dev nD)

/-- The call's arguments. -/
def argP : FVec Ideal S4x512x1024 .bf16 := m ((c : Thread nD τ).loc main_arg0)
def argW : FVec Ideal S128x1024 .f32 := m ((c : Thread nD τ).loc main_arg1)
def argM : FVec Ideal S128x1024 .f32 := m ((c : Thread nD τ).loc main_arg2)
def argV : FVec Ideal S128x1024 .f32 := m ((c : Thread nD τ).loc main_arg3)

/-- The four arrays that the call leaves. -/
def gArr : FVec Ideal S128x1024 .f32 := fun i => total fun p => argP m c (ix3 p (up (i 0)) (i 1))
def mArr : FVec Ideal S128x1024 .f32 := fun i => newM (gArr m c i) (argM m c i)
def vArr : FVec Ideal S128x1024 .f32 := fun i => newV (gArr m c i) (argV m c i)
def dArr : FVec Ideal S128x1024 .f32 := fun i => change (argW m c i) (mArr m c i) (vArr m c i)

/-- Where a point's blocks lie. -/
theorem idxP : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

theorem p_at (t : Fin cfg0.N) (p : Fin 4) (q : Fin 128) (s : Fin 1024) : iblk m c 0 t (ix3 p q s) = argP m c (ix3 p (up q) s) := by
  unfold iblk argP
  blk_ext [idxP t, up]
theorem w_at (t : Fin cfg0.N) (r : Fin 128) (s : Fin 1024) : iblk m c 1 t (ix2 r s) = argW m c (ix2 r s) := by
  unfold iblk argW
  blk_ext [idx1 t]
theorem m_at (t : Fin cfg0.N) (r : Fin 128) (s : Fin 1024) : iblk m c 2 t (ix2 r s) = argM m c (ix2 r s) := by
  unfold iblk argM
  blk_ext [idx2 t]
theorem v_at (t : Fin cfg0.N) (r : Fin 128) (s : Fin 1024) : iblk m c 3 t (ix2 r s) = argV m c (ix2 r s) := by
  unfold iblk argV
  blk_ext [idx3 t]

/-- The sum of a point's blocks is its block of the sum. -/
theorem g_at (t : Fin cfg0.N) (r : Fin 128) (s : Fin 1024) : (total fun p => iblk m c 0 t (ix3 p r s)) = gArr m c (ix2 r s) :=
  congrArg total (funext fun p => p_at m c t p r s)

theorem g_value : (dats m 0 c).arrAt 4 cfg0.N = gArr m c := by
  refine (dats m 0 c).arrAt_eq_of_covers 4 _ (by decide +kernel) fun t _ y => ?_
  blk_simp
  rw [after0_4]
  obtain ⟨r, s, rfl⟩ : ∃ (r : Fin 128) (s : Fin 1024), y = ix2 r s := ⟨y 0, y 1, eq_ix2 y⟩
  refine (out4_at _ _ _ _ r s).trans ((g_at m c t r s).trans (congrArg (gArr m c) ?_))
  blk_ext [idx4 t]
theorem m_value : (dats m 0 c).arrAt 6 cfg0.N = mArr m c := by
  refine (dats m 0 c).arrAt_eq_of_covers 6 _ (by decide +kernel) fun t _ y => ?_
  blk_simp
  rw [after0_6]
  obtain ⟨r, s, rfl⟩ : ∃ (r : Fin 128) (s : Fin 1024), y = ix2 r s := ⟨y 0, y 1, eq_ix2 y⟩
  refine (out6_at _ _ _ _ r s).trans ?_
  rw [g_at, m_at]
  refine congrArg (mArr m c) ?_
  blk_ext [idx6 t]
theorem v_value : (dats m 0 c).arrAt 7 cfg0.N = vArr m c := by
  refine (dats m 0 c).arrAt_eq_of_covers 7 _ (by decide +kernel) fun t _ y => ?_
  blk_simp
  rw [after0_7]
  obtain ⟨r, s, rfl⟩ : ∃ (r : Fin 128) (s : Fin 1024), y = ix2 r s := ⟨y 0, y 1, eq_ix2 y⟩
  refine (out7_at _ _ _ _ r s).trans ?_
  rw [g_at, v_at]
  refine congrArg (vArr m c) ?_
  blk_ext [idx7 t]
theorem d_value : (dats m 0 c).arrAt 5 cfg0.N = dArr m c := by
  refine (dats m 0 c).arrAt_eq_of_covers 5 _ (by decide +kernel) fun t _ y => ?_
  blk_simp
  rw [after0_5]
  obtain ⟨r, s, rfl⟩ : ∃ (r : Fin 128) (s : Fin 1024), y = ix2 r s := ⟨y 0, y 1, eq_ix2 y⟩
  refine (out5_at _ _ _ _ r s).trans ?_
  rw [g_at, w_at, m_at, v_at]
  refine congrArg (dArr m c) ?_
  blk_ext [idx5 t]

end Cert.Kernel10Ideal.Own

namespace Cert.Reference10Ideal.Own

open Cert.Reference10Ideal Cert.Reference10Ideal.Read Cert.Kernel10Ideal.Own
open Cert.Kernel11Ideal.Own (total)

variable (a : FVec Ideal S4x512x1024 .bf16) (w m v : FVec Ideal S128x1024 .f32) (r : Fin 128) (j : Fin 1024)

theorem v2_at : val_main_v2 (F := Ideal) a (ix2 r j) = total fun p => a (ix3 p (up r) j) := by
  pointwise [val_main_v2, val_main_v1, val_main_v0, val_main_cst, total, up]
theorem v7_at : val_main_v7 (F := Ideal) a m (ix2 r j) = newM (val_main_v2 (F := Ideal) a (ix2 r j)) (m (ix2 r j)) := by
  unfold val_main_v7 val_main_v6
  generalize val_main_v2 (F := Ideal) a = y
  pointwise [val_main_v5, val_main_v4, val_main_v3, val_main_cst_0, val_main_cst_1, newM]
theorem v13_at : val_main_v13 (F := Ideal) a v (ix2 r j) = newV (val_main_v2 (F := Ideal) a (ix2 r j)) (v (ix2 r j)) := by
  unfold val_main_v13 val_main_v12 val_main_v10
  generalize val_main_v2 (F := Ideal) a = y
  pointwise [val_main_v11, val_main_v9, val_main_v8, val_main_cst_2, val_main_cst_3, newV]
theorem v26_at : val_main_v26 (F := Ideal) a w m v (ix2 r j)
    = change (w (ix2 r j)) (val_main_v7 (F := Ideal) a m (ix2 r j)) (val_main_v13 (F := Ideal) a v (ix2 r j)) := by
  unfold val_main_v26 val_main_v24 val_main_v21 val_main_v20 val_main_v18 val_main_v17 val_main_v15
  generalize val_main_v7 (F := Ideal) a m = y
  generalize val_main_v13 (F := Ideal) a v = z
  pointwise [val_main_v25, val_main_v23, val_main_v22, val_main_v19, val_main_v16, val_main_v14, val_main_cst_4, val_main_cst_5, val_main_cst_6, val_main_cst_7, val_main_cst_8, change]

end Cert.Reference10Ideal.Own

end
-- ==== Proof.FClaim.lean ====
/- The first rows of the sum of the chips' gradients and its step: the claims of the call. -/
module

public import proofs.«01_k».proof.Defs
public import proofs.«01_k».proof.Proof.Gen.Kernel10
public import proofs.«01_k».proof.Proof.FVal
public import Idealize.ShloMosaic.Adequacy
public import Idealize.ShloMosaic.Init

@[expose] public section

set_option maxRecDepth 16384

noncomputable section

namespace Cert.Proof.F

open Idealize.ShloMosaic Idealize.ShloMosaic.TcCoe Idealize.SL.Sem

/-- The kernel and the program read at the reals are the same text. -/
theorem body_eq (F : FTy → Type) [FloatOps F] : @Cert.Kernel10.cc0_adam_small_sharded F _ Cert.Kernel10.Gen.facts = @Cert.Kernel10Ideal.cc0_adam_small_sharded F _ Cert.Kernel10Ideal.Gen.facts := rfl

set_option maxHeartbeats 1600000 in
theorem defs₀_eq (F : FTy → Type) [FloatOps F] : @Cert.Kernel10.defs₀ F _ Cert.Kernel10.Gen.facts = @Cert.Kernel10Ideal.defs₀ F _ Cert.Kernel10Ideal.Gen.facts := by
  unfold Cert.Kernel10.defs₀ Cert.Kernel10Ideal.defs₀
  refine congrArg Defs.onTc (funext fun l => funext fun a => ?_)
  match l, a with
  | ⟨0, _⟩, (t, s) => dsimp only; rw [body_eq]; rfl

theorem defs_eq (F : FTy → Type) [FloatOps F] : @Cert.Kernel10.defs F _ Cert.Kernel10.Gen.facts = @Cert.Kernel10Ideal.defs F _ Cert.Kernel10Ideal.Gen.facts :=
  congrArg (Pipeline.defs Cert.Kernel10.pcfgs) (defs₀_eq F)

theorem main_eq (F : FTy → Type) [FloatOps F] : @Cert.Kernel10.main F _ = @Cert.Kernel10Ideal.main F _ := rfl

theorem kernelFrame : Cert.quiescent_Kernel10 (hKernel10 := Cert.Kernel10.Gen.facts) := fun m ρ _ => by
  have h := Cert.Kernel10Ideal.Gen.frame (F := Bits) m ρ
  rw [← defs_eq Bits, ← main_eq Bits] at h
  exact h

/-- The reference is one straight line of host operations and it has no counter. -/
theorem refFrame : Cert.quiescent_Reference10Ideal (hReference10Ideal := Cert.Reference10Ideal.Gen.facts) := fun m ρ _ =>
  (θ_run _ _ _).mono (fun r h => ⟨fun c => (h c).2.2.2.2, sem_eq_zero_of_no_sems (by decide) r.2⟩) (Cert.Reference10Ideal.Value.run m ρ)

section
open Cert.Own Cert.Kernel10Ideal.Own Cert.Reference10Ideal.Own Cert.Reference10Ideal.Read

variable (m : (ℓ : Loc Cert.Kernel10Ideal.nD Cert.Kernel10Ideal.τ Cert.Kernel10Ideal.sig) → Buf (Elt Ideal) ℓ) (c : Dev Cert.Kernel10Ideal.nD)

/-- The reference's four arrays are the kernel's. -/
theorem ref_g : val_main_v2 (F := Ideal) (argP m c) = gArr m c := funext fun i => by
  obtain ⟨r, j, rfl⟩ : ∃ (r : Fin 128) (j : Fin 1024), i = ix2 r j := ⟨i 0, i 1, eq_ix2 i⟩
  exact v2_at _ r j
theorem ref_m : val_main_v7 (F := Ideal) (argP m c) (argM m c) = mArr m c := funext fun i => by
  obtain ⟨r, j, rfl⟩ : ∃ (r : Fin 128) (j : Fin 1024), i = ix2 r j := ⟨i 0, i 1, eq_ix2 i⟩
  exact (v7_at _ _ r j).trans (by rw [ref_g]; rfl)
theorem ref_v : val_main_v13 (F := Ideal) (argP m c) (argV m c) = vArr m c := funext fun i => by
  obtain ⟨r, j, rfl⟩ : ∃ (r : Fin 128) (j : Fin 1024), i = ix2 r j := ⟨i 0, i 1, eq_ix2 i⟩
  exact (v13_at _ _ r j).trans (by rw [ref_g]; rfl)
theorem ref_d : val_main_v26 (F := Ideal) (argP m c) (argW m c) (argM m c) (argV m c) = dArr m c := funext fun i => by
  obtain ⟨r, j, rfl⟩ : ∃ (r : Fin 128) (j : Fin 1024), i = ix2 r j := ⟨i 0, i 1, eq_ix2 i⟩
  exact (v26_at _ _ _ _ r j).trans (by rw [ref_m, ref_v]; rfl)
end

/-- The two programs leave the same four arrays. -/
theorem sameResults : Cert.algebraic_Kernel10Ideal_Reference10Ideal (hKernel10Ideal := Cert.Kernel10Ideal.Gen.facts)
    (hReference10Ideal := Cert.Reference10Ideal.Gen.facts) := fun m ρ m' ρ' _ hargs => by
  refine ⟨fun c => Cert.Kernel10Ideal.Own.gArr m c, fun c => Cert.Kernel10Ideal.Own.dArr m c, fun c => Cert.Kernel10Ideal.Own.mArr m c,
    fun c => Cert.Kernel10Ideal.Own.vArr m c, ?_, ?_⟩
  · refine (θ_run _ _ _).mono (fun r h c => ?_) (Cert.Kernel10Ideal.Value.run_blocks (F := Ideal) m ρ)
    obtain ⟨h0, h1, h2, h3, h4⟩ := h c
    exact ⟨h0.trans (Cert.Kernel10Ideal.Own.g_value m c), h1.trans (Cert.Kernel10Ideal.Own.d_value m c), h2.trans (Cert.Kernel10Ideal.Own.m_value m c),
      h3.trans (Cert.Kernel10Ideal.Own.v_value m c), h4⟩
  · refine (θ_run _ _ _).mono (fun r h c => ?_) (Cert.Reference10Ideal.Value.run (F := Ideal) m' ρ')
    obtain ⟨h0, h1, h2, h3, h4⟩ := h c
    obtain ⟨e0, e1, e2, e3⟩ := hargs c
    have k0 := h0.trans (Cert.Reference10Ideal.Read.val_main_v2_eq _)
    have k1 := h1.trans (Cert.Reference10Ideal.Read.val_main_v26_eq _ _ _ _)
    have k2 := h2.trans (Cert.Reference10Ideal.Read.val_main_v7_eq _ _)
    have k3 := h3.trans (Cert.Reference10Ideal.Read.val_main_v13_eq _ _)
    rw [e0] at k0
    rw [e0, e1, e2, e3] at k1
    rw [e0, e2] at k2
    rw [e0, e3] at k3
    exact ⟨k0.trans (ref_g m c), k1.trans (ref_d m c), k2.trans (ref_m m c), k3.trans (ref_v m c), h4⟩

end Cert.Proof.F

end
-- ==== Proof.EClaim.lean ====
/- The last rows of the sum of the chips' gradients and its step: the claims of the call. -/
module

public import proofs.«01_k».proof.Defs
public import proofs.«01_k».proof.Proof.Gen.Kernel11
public import proofs.«01_k».proof.Proof.EVal
public import Idealize.ShloMosaic.Adequacy
public import Idealize.ShloMosaic.Init

@[expose] public section

set_option maxRecDepth 16384

noncomputable section

namespace Cert.Proof.E

open Idealize.ShloMosaic Idealize.ShloMosaic.TcCoe Idealize.SL.Sem

/-- The kernel and the program read at the reals are the same text. -/
theorem body_eq (F : FTy → Type) [FloatOps F] : @Cert.Kernel11.cc0_adam_w_out F _ Cert.Kernel11.Gen.facts = @Cert.Kernel11Ideal.cc0_adam_w_out F _ Cert.Kernel11Ideal.Gen.facts := rfl

set_option maxHeartbeats 1600000 in
theorem defs₀_eq (F : FTy → Type) [FloatOps F] : @Cert.Kernel11.defs₀ F _ Cert.Kernel11.Gen.facts = @Cert.Kernel11Ideal.defs₀ F _ Cert.Kernel11Ideal.Gen.facts := by
  unfold Cert.Kernel11.defs₀ Cert.Kernel11Ideal.defs₀
  refine congrArg Defs.onTc (funext fun l => funext fun a => ?_)
  match l, a with
  | ⟨0, _⟩, (t, s) => dsimp only; rw [body_eq]; rfl

theorem defs_eq (F : FTy → Type) [FloatOps F] : @Cert.Kernel11.defs F _ Cert.Kernel11.Gen.facts = @Cert.Kernel11Ideal.defs F _ Cert.Kernel11Ideal.Gen.facts :=
  congrArg (Pipeline.defs Cert.Kernel11.pcfgs) (defs₀_eq F)

theorem main_eq (F : FTy → Type) [FloatOps F] : @Cert.Kernel11.main F _ = @Cert.Kernel11Ideal.main F _ := rfl

theorem kernelFrame : Cert.quiescent_Kernel11 (hKernel11 := Cert.Kernel11.Gen.facts) := fun m ρ _ => by
  have h := Cert.Kernel11Ideal.Gen.frame (F := Bits) m ρ
  rw [← defs_eq Bits, ← main_eq Bits] at h
  exact h

/-- The reference is one straight line of host operations and it has no counter. -/
theorem refFrame : Cert.quiescent_Reference11Ideal (hReference11Ideal := Cert.Reference11Ideal.Gen.facts) := fun m ρ _ =>
  (θ_run _ _ _).mono (fun r h => ⟨fun c => (h c).2.2.2.2, sem_eq_zero_of_no_sems (by decide) r.2⟩) (Cert.Reference11Ideal.Value.run m ρ)

section
open Cert.Own Cert.Kernel11Ideal.Own Cert.Reference11Ideal.Own Cert.Reference11Ideal.Read

variable (m : (ℓ : Loc Cert.Kernel11Ideal.nD Cert.Kernel11Ideal.τ Cert.Kernel11Ideal.sig) → Buf (Elt Ideal) ℓ) (c : Dev Cert.Kernel11Ideal.nD)

/-- The reference's four arrays are the kernel's. -/
theorem ref_g : val_main_v2 (F := Ideal) (argP m c) = gArr m c := funext fun i => by
  obtain ⟨r, j, rfl⟩ : ∃ (r : Fin 128) (j : Fin 1024), i = ix2 r j := ⟨i 0, i 1, eq_ix2 i⟩
  exact v2_at _ r j
theorem ref_m : val_main_v7 (F := Ideal) (argP m c) (argM m c) = mArr m c := funext fun i => by
  obtain ⟨r, j, rfl⟩ : ∃ (r : Fin 128) (j : Fin 1024), i = ix2 r j := ⟨i 0, i 1, eq_ix2 i⟩
  exact (v7_at _ _ r j).trans (by rw [ref_g]; rfl)
theorem ref_v : val_main_v13 (F := Ideal) (argP m c) (argV m c) = vArr m c := funext fun i => by
  obtain ⟨r, j, rfl⟩ : ∃ (r : Fin 128) (j : Fin 1024), i = ix2 r j := ⟨i 0, i 1, eq_ix2 i⟩
  exact (v13_at _ _ r j).trans (by rw [ref_g]; rfl)
theorem ref_d : val_main_v26 (F := Ideal) (argP m c) (argW m c) (argM m c) (argV m c) = dArr m c := funext fun i => by
  obtain ⟨r, j, rfl⟩ : ∃ (r : Fin 128) (j : Fin 1024), i = ix2 r j := ⟨i 0, i 1, eq_ix2 i⟩
  exact (v26_at _ _ _ _ r j).trans (by rw [ref_m, ref_v]; rfl)
end

/-- The two programs leave the same four arrays. -/
theorem sameResults : Cert.algebraic_Kernel11Ideal_Reference11Ideal (hKernel11Ideal := Cert.Kernel11Ideal.Gen.facts)
    (hReference11Ideal := Cert.Reference11Ideal.Gen.facts) := fun m ρ m' ρ' _ hargs => by
  refine ⟨fun c => Cert.Kernel11Ideal.Own.gArr m c, fun c => Cert.Kernel11Ideal.Own.dArr m c, fun c => Cert.Kernel11Ideal.Own.mArr m c,
    fun c => Cert.Kernel11Ideal.Own.vArr m c, ?_, ?_⟩
  · refine (θ_run _ _ _).mono (fun r h c => ?_) (Cert.Kernel11Ideal.Value.run_blocks (F := Ideal) m ρ)
    obtain ⟨h0, h1, h2, h3, h4⟩ := h c
    exact ⟨h0.trans (Cert.Kernel11Ideal.Own.g_value m c), h1.trans (Cert.Kernel11Ideal.Own.d_value m c), h2.trans (Cert.Kernel11Ideal.Own.m_value m c),
      h3.trans (Cert.Kernel11Ideal.Own.v_value m c), h4⟩
  · refine (θ_run _ _ _).mono (fun r h c => ?_) (Cert.Reference11Ideal.Value.run (F := Ideal) m' ρ')
    obtain ⟨h0, h1, h2, h3, h4⟩ := h c
    obtain ⟨e0, e1, e2, e3⟩ := hargs c
    have k0 := h0.trans (Cert.Reference11Ideal.Read.val_main_v2_eq _)
    have k1 := h1.trans (Cert.Reference11Ideal.Read.val_main_v26_eq _ _ _ _)
    have k2 := h2.trans (Cert.Reference11Ideal.Read.val_main_v7_eq _ _)
    have k3 := h3.trans (Cert.Reference11Ideal.Read.val_main_v13_eq _ _)
    rw [e0] at k0
    rw [e0, e1, e2, e3] at k1
    rw [e0, e2] at k2
    rw [e0, e3] at k3
    exact ⟨k0.trans (ref_g m c), k1.trans (ref_d m c), k2.trans (ref_m m c), k3.trans (ref_v m c), h4⟩

end Cert.Proof.E

end
-- ==== Proof.lean ====
/- The proof of the claim: the frames from the one run of each @main, and the value of the calls against their references. -/
module

public import proofs.«01_k».proof.Defs
public import proofs.«01_k».proof.Proof.Gen.Kernel
public import proofs.«01_k».proof.Proof.Gen.Kernel2
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal.Points
public import proofs.«01_k».proof.Proof.Gen.Kernel4Ideal.Launch
public import proofs.«01_k».proof.Proof.Gen.Kernel4Ideal.Skeleton
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal.Points
public import proofs.«01_k».proof.Proof.Gen.Kernel5Ideal.Launch
public import proofs.«01_k».proof.Proof.Gen.Kernel5Ideal.Skeleton
public import proofs.«01_k».proof.Proof.Gen.Kernel5Ideal.Frame
public import proofs.«01_k».proof.Proof.Gen.Kernel5Ideal.Value
public import proofs.«01_k».proof.Proof.Gen.Pre_numbers
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal.Points
public import proofs.«01_k».proof.Proof.Gen.Kernel6Ideal.Launch
public import proofs.«01_k».proof.Proof.Gen.Kernel6Ideal.Skeleton
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal.Points
public import proofs.«01_k».proof.Proof.Gen.Kernel7Ideal.Launch
public import proofs.«01_k».proof.Proof.Gen.Kernel7Ideal.Skeleton
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal.Points
public import proofs.«01_k».proof.Proof.Gen.Kernel8Ideal.Launch
public import proofs.«01_k».proof.Proof.Gen.Kernel8Ideal.Skeleton
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal.Points
public import proofs.«01_k».proof.Proof.Gen.Kernel9Ideal.Launch
public import proofs.«01_k».proof.Proof.Gen.Kernel9Ideal.Skeleton
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal.Points
public import proofs.«01_k».proof.Proof.Gen.Kernel10Ideal.Launch
public import proofs.«01_k».proof.Proof.Gen.Kernel10Ideal.Skeleton
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal.Points
public import proofs.«01_k».proof.Proof.Gen.Kernel11Ideal.Launch
public import proofs.«01_k».proof.Proof.Gen.Kernel11Ideal.Skeleton
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Frames
public import proofs.«01_k».proof.Proof.Same
public import proofs.«01_k».proof.Proof.RefRun
public import proofs.«01_k».proof.Proof.Value
public import proofs.«01_k».proof.Proof.WClaim
public import proofs.«01_k».proof.Proof.XClaim
public import proofs.«01_k».proof.Proof.PClaim
public import proofs.«01_k».proof.Proof.MClaim
public import proofs.«01_k».proof.Proof.AClaim
public import proofs.«01_k».proof.Proof.BClaim
public import proofs.«01_k».proof.Proof.CClaim
public import proofs.«01_k».proof.Proof.DClaim
public import proofs.«01_k».proof.Proof.FClaim
public import proofs.«01_k».proof.Proof.EClaim
public import Idealize.ShloMosaic.Adequacy
public import Idealize.ShloMosaic.Init

@[expose] public section

noncomputable section

namespace Cert.Proof

open Idealize.ShloMosaic Idealize.SL.Sem

/-- The reference's run is one straight line of host operations and it has no counter. -/
theorem refFrame : Cert.quiescent_ReferenceIdeal (hReferenceIdeal := Cert.ReferenceIdeal.Gen.facts) := fun m ρ _ =>
  (θ_run _ _ _).mono (fun r h => ⟨fun c => (h c).2.2.2.2, sem_eq_zero_of_no_sems (by decide) r.2⟩) (Cert.ReferenceIdeal.Value.run m ρ)

/-- The kernel's own frame, by the one run of both programs. -/
theorem kernelFrame : Cert.quiescent_Kernel (hKernel := Cert.Kernel.Gen.facts) := fun m ρ _ => by
  have h := Cert.KernelIdeal.Own.frame (F := Bits) m ρ
  rw [← defs_eq Bits, ← main_eq Bits] at h
  exact h

/-- The two programs leave the same four arrays. -/
theorem sameResults : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m ρ m' ρ' hpre hargs => by
  have hr : ∀ c, Own.Real4 (Own.q0 m c) (Own.k0 m c) (Own.v0 m c) (Own.g0 m c) := fun c =>
    ⟨Own.finite0 _ _ _ _ (hpre c).1, Own.finite1 _ _ _ _ (hpre c).2.1, Own.finite2 _ _ _ _ (hpre c).2.2.1, fun h i e => Own.finite3 _ _ _ _ (hpre c).2.2.2 i _⟩
  refine ⟨fun c => KernelIdeal.Own.outArr (Own.realQ (Own.q0 m c)) (Own.realQ (Own.k0 m c)) (Own.realV (Own.v0 m c)),
    fun c => KernelIdeal.Own.dqArr (Own.realQ (Own.q0 m c)) (Own.realQ (Own.k0 m c)) (Own.realV (Own.v0 m c)) (Own.realG (Own.g0 m c)),
    fun c => KernelIdeal.Own.dkArr (Own.realQ (Own.q0 m c)) (Own.realQ (Own.k0 m c)) (Own.realV (Own.v0 m c)) (Own.realG (Own.g0 m c)),
    fun c => KernelIdeal.Own.dvArr (Own.realQ (Own.q0 m c)) (Own.realQ (Own.k0 m c)) (Own.realG (Own.g0 m c)), ?_, ?_⟩
  · refine (θ_run _ _ _).mono (fun r h c => ?_) (Cert.KernelIdeal.Own.results (F := Ideal) m ρ)
    obtain ⟨h0, h1, h2, h3, h4⟩ := h c
    exact ⟨h0.trans (Own.kernel_out m c (hr c)), h1.trans (Own.kernel_dq m c (hr c)), h2.trans (Own.kernel_dk m c (hr c)), h3.trans (Own.kernel_dv m c (hr c)), h4⟩
  · refine (θ_run _ _ _).mono (fun r h c => ?_) (Cert.ReferenceIdeal.Value.run (F := Ideal) m' ρ')
    obtain ⟨h0, h1, h2, h3, h4⟩ := h c
    obtain ⟨e0, e1, e2, e3⟩ := hargs c
    have ho := ReferenceIdeal.Own.res_out m' c
    have hdq := ReferenceIdeal.Own.res_dq m' c
    have hdk := ReferenceIdeal.Own.res_dk m' c
    have hdv := ReferenceIdeal.Own.res_dv m' c
    rw [e0, e1, e2] at ho
    rw [e0, e1, e2, e3] at hdq hdk
    rw [e0, e1, e3] at hdv
    exact ⟨(h0.trans ho).trans (Own.ref_out _ _ _ _ (hr c)), (h1.trans hdq).trans (Own.ref_dq _ _ _ _ (hr c)),
      (h2.trans hdk).trans (Own.ref_dk _ _ _ _ (hr c)), (h3.trans hdv).trans (Own.ref_dv _ _ _ _ (hr c)), h4⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite.Gen.facts, Cert.Pre_numbers.Gen.facts,
  kernelFrame,
  fun m ρ _ => Cert.KernelIdeal.Own.frame m ρ, fun m ρ _ => Cert.KernelIdeal.Own.frame m ρ,
  refFrame, fun m ρ _ => refFrame m ρ trivial,
  W.kernelFrame, fun m ρ _ => Cert.Kernel2Ideal.Gen.frame m ρ, W.refFrame,
  X.kernelFrame, fun m ρ _ => Cert.Kernel3Ideal.Gen.frame m ρ, X.refFrame,
  P.kernelFrame, fun m ρ _ => Cert.Kernel4Ideal.Own.frame m ρ, P.refFrame,
  M.kernelFrame, fun m ρ _ => Cert.Kernel5Ideal.Gen.frame m ρ, fun m ρ _ => Cert.Kernel5Ideal.Gen.frame m ρ, M.refFrame, fun m ρ _ => M.refFrame m ρ trivial,
  A.kernelFrame, fun m ρ _ => Cert.Kernel6Ideal.Gen.frame m ρ, A.refFrame,
  B.kernelFrame, fun m ρ _ => Cert.Kernel7Ideal.Gen.frame m ρ, B.refFrame,
  C.kernelFrame, fun m ρ _ => Cert.Kernel8Ideal.Gen.frame m ρ, C.refFrame,
  D.kernelFrame, fun m ρ _ => Cert.Kernel9Ideal.Gen.frame m ρ, D.refFrame,
  F.kernelFrame, fun m ρ _ => Cert.Kernel10Ideal.Gen.frame m ρ, F.refFrame,
  E.kernelFrame, fun m ρ _ => Cert.Kernel11Ideal.Gen.frame m ρ, E.refFrame,
  trivial, sameResults, trivial, W.sameResults, trivial, X.sameResults, trivial, P.sameResults, trivial, M.sameResults, trivial, A.sameResults, trivial, B.sameResults,
  trivial, C.sameResults, trivial, D.sameResults, trivial, F.sameResults, trivial, E.sameResults⟩

end Cert.Proof

end
